-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Slice (m : (ℓ : Loc Cert.Slice.nD Cert.Slice.τ Cert.Slice.sig) → Buf (Elt Bits) ℓ) : Prop :=
  True

def Pre_SliceIdeal (m : (ℓ : Loc Cert.SliceIdeal.nD Cert.SliceIdeal.τ Cert.SliceIdeal.sig) → Buf (Elt Ideal) ℓ) : Prop :=
  True

def Pre_NearIdeal (m : (ℓ : Loc Cert.NearIdeal.nD Cert.NearIdeal.τ Cert.NearIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Slice [hSlice : Cert.Slice.Facts] : Prop :=
  ∀ (m : (ℓ : Loc Cert.Slice.nD Cert.Slice.τ Cert.Slice.sig) → Buf (Elt Bits) ℓ) (g : Dev Cert.Slice.nD → PrngReg), Pre_Slice m →
    θ_run (Cert.Slice.defs (F := Bits)) (onTc (τ := Cert.Slice.τ) (Cert.Slice.main (F := Bits))) ⟨m, fun _ => 0, g⟩ (fun r => (∀ c : Dev Cert.Slice.nD,
      r.2.mem ((c.tc : Thread Cert.Slice.nD Cert.Slice.τ).loc Cert.Slice.main_arg0) = m ((c.tc : Thread Cert.Slice.nD Cert.Slice.τ).loc Cert.Slice.main_arg0)
      ∧ r.2.mem ((c.tc : Thread Cert.Slice.nD Cert.Slice.τ).loc Cert.Slice.main_arg1) = m ((c.tc : Thread Cert.Slice.nD Cert.Slice.τ).loc Cert.Slice.main_arg1)
      ∧ r.2.mem ((c.tc : Thread Cert.Slice.nD Cert.Slice.τ).loc Cert.Slice.main_arg2) = m ((c.tc : Thread Cert.Slice.nD Cert.Slice.τ).loc Cert.Slice.main_arg2)
      ∧ r.2.mem ((c.tc : Thread Cert.Slice.nD Cert.Slice.τ).loc Cert.Slice.main_arg3) = m ((c.tc : Thread Cert.Slice.nD Cert.Slice.τ).loc Cert.Slice.main_arg3)
      ∧ r.2.mem ((c.tc : Thread Cert.Slice.nD Cert.Slice.τ).loc Cert.Slice.main_arg4) = m ((c.tc : Thread Cert.Slice.nD Cert.Slice.τ).loc Cert.Slice.main_arg4))
      ∧ r.2.sem = fun _ => 0)

def quiescent_SliceIdeal [hSliceIdeal : Cert.SliceIdeal.Facts] : Prop :=
  ∀ (m : (ℓ : Loc Cert.SliceIdeal.nD Cert.SliceIdeal.τ Cert.SliceIdeal.sig) → Buf (Elt Ideal) ℓ) (g : Dev Cert.SliceIdeal.nD → PrngReg), Pre_SliceIdeal m →
    θ_run (Cert.SliceIdeal.defs (F := Ideal)) (onTc (τ := Cert.SliceIdeal.τ) (Cert.SliceIdeal.main (F := Ideal))) ⟨m, fun _ => 0, g⟩ (fun r => (∀ c : Dev Cert.SliceIdeal.nD,
      r.2.mem ((c.tc : Thread Cert.SliceIdeal.nD Cert.SliceIdeal.τ).loc Cert.SliceIdeal.main_arg0) = m ((c.tc : Thread Cert.SliceIdeal.nD Cert.SliceIdeal.τ).loc Cert.SliceIdeal.main_arg0)
      ∧ r.2.mem ((c.tc : Thread Cert.SliceIdeal.nD Cert.SliceIdeal.τ).loc Cert.SliceIdeal.main_arg1) = m ((c.tc : Thread Cert.SliceIdeal.nD Cert.SliceIdeal.τ).loc Cert.SliceIdeal.main_arg1)
      ∧ r.2.mem ((c.tc : Thread Cert.SliceIdeal.nD Cert.SliceIdeal.τ).loc Cert.SliceIdeal.main_arg2) = m ((c.tc : Thread Cert.SliceIdeal.nD Cert.SliceIdeal.τ).loc Cert.SliceIdeal.main_arg2)
      ∧ r.2.mem ((c.tc : Thread Cert.SliceIdeal.nD Cert.SliceIdeal.τ).loc Cert.SliceIdeal.main_arg3) = m ((c.tc : Thread Cert.SliceIdeal.nD Cert.SliceIdeal.τ).loc Cert.SliceIdeal.main_arg3)
      ∧ r.2.mem ((c.tc : Thread Cert.SliceIdeal.nD Cert.SliceIdeal.τ).loc Cert.SliceIdeal.main_arg4) = m ((c.tc : Thread Cert.SliceIdeal.nD Cert.SliceIdeal.τ).loc Cert.SliceIdeal.main_arg4))
      ∧ r.2.sem = fun _ => 0)

def quiescent_NearIdeal [hNearIdeal : Cert.NearIdeal.Facts] : Prop :=
  ∀ (m : (ℓ : Loc Cert.NearIdeal.nD Cert.NearIdeal.τ Cert.NearIdeal.sig) → Buf (Elt Ideal) ℓ) (g : Dev Cert.NearIdeal.nD → PrngReg), Pre_NearIdeal m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0)
      ∧ r.2.mem ((c.tc : Thread Cert.NearIdeal.nD Cert.NearIdeal.τ).loc Cert.NearIdeal.main_arg1) = m ((c.tc : Thread Cert.NearIdeal.nD Cert.NearIdeal.τ).loc Cert.NearIdeal.main_arg1)
      ∧ r.2.mem ((c.tc : Thread Cert.NearIdeal.nD Cert.NearIdeal.τ).loc Cert.NearIdeal.main_arg2) = m ((c.tc : Thread Cert.NearIdeal.nD Cert.NearIdeal.τ).loc Cert.NearIdeal.main_arg2)
      ∧ r.2.mem ((c.tc : Thread Cert.NearIdeal.nD Cert.NearIdeal.τ).loc Cert.NearIdeal.main_arg3) = m ((c.tc : Thread Cert.NearIdeal.nD Cert.NearIdeal.τ).loc Cert.NearIdeal.main_arg3)
      ∧ r.2.mem ((c.tc : Thread Cert.NearIdeal.nD Cert.NearIdeal.τ).loc Cert.NearIdeal.main_arg4) = m ((c.tc : Thread Cert.NearIdeal.nD Cert.NearIdeal.τ).loc Cert.NearIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![64, 128, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = Layout.block ⟨3, ![2, 128, 512]⟩ ⟨3, ![64, 128, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def preserves_Slice_SliceIdeal : Prop :=
  True

def algebraic_SliceIdeal_NearIdeal [hSliceIdeal : Cert.SliceIdeal.Facts] [hNearIdeal : Cert.NearIdeal.Facts] : Prop :=
  ∀ (m : (ℓ : Loc Cert.SliceIdeal.nD Cert.SliceIdeal.τ Cert.SliceIdeal.sig) → Buf (Elt Ideal) ℓ) (g : Dev Cert.SliceIdeal.nD → PrngReg)
    (m' : (ℓ : Loc Cert.NearIdeal.nD Cert.NearIdeal.τ Cert.NearIdeal.sig) → Buf (Elt Ideal) ℓ) (g' : Dev Cert.NearIdeal.nD → PrngReg), Pre_SliceIdeal m →
    (∀ c : Dev Cert.SliceIdeal.nD,
      m ((c.tc : Thread Cert.SliceIdeal.nD Cert.SliceIdeal.τ).loc Cert.SliceIdeal.main_arg0) = Layout.block ⟨3, ![2, 128, 512]⟩ ⟨3, ![64, 128, 512]⟩ 0 32 c (m' (((0 : Dev Cert.NearIdeal.nD).tc : Thread Cert.NearIdeal.nD Cert.NearIdeal.τ).loc Cert.NearIdeal.main_arg0))
      ∧ m ((c.tc : Thread Cert.SliceIdeal.nD Cert.SliceIdeal.τ).loc Cert.SliceIdeal.main_arg1) = Layout.block ⟨2, ![512, 256]⟩ ⟨2, ![512, 8192]⟩ 1 32 c (m' (((0 : Dev Cert.NearIdeal.nD).tc : Thread Cert.NearIdeal.nD Cert.NearIdeal.τ).loc Cert.NearIdeal.main_arg1))
      ∧ m ((c.tc : Thread Cert.SliceIdeal.nD Cert.SliceIdeal.τ).loc Cert.SliceIdeal.main_arg2) = m' (((0 : Dev Cert.NearIdeal.nD).tc : Thread Cert.NearIdeal.nD Cert.NearIdeal.τ).loc Cert.NearIdeal.main_arg2)
      ∧ m ((c.tc : Thread Cert.SliceIdeal.nD Cert.SliceIdeal.τ).loc Cert.SliceIdeal.main_arg3) = m' (((0 : Dev Cert.NearIdeal.nD).tc : Thread Cert.NearIdeal.nD Cert.NearIdeal.τ).loc Cert.NearIdeal.main_arg3)
      ∧ m ((c.tc : Thread Cert.SliceIdeal.nD Cert.SliceIdeal.τ).loc Cert.SliceIdeal.main_arg4) = Layout.block ⟨2, ![256, 512]⟩ ⟨2, ![8192, 512]⟩ 0 32 c (m' (((0 : Dev Cert.NearIdeal.nD).tc : Thread Cert.NearIdeal.nD Cert.NearIdeal.τ).loc Cert.NearIdeal.main_arg4))) →
    ∃ (v0 : Buf (Elt Ideal) (((0 : Dev Cert.NearIdeal.nD).tc : Thread Cert.NearIdeal.nD Cert.NearIdeal.τ).loc Cert.NearIdeal.main_v56)),
      θ_run (Cert.SliceIdeal.defs (F := Ideal)) (onTc (τ := Cert.SliceIdeal.τ) (Cert.SliceIdeal.main (F := Ideal))) ⟨m, fun _ => 0, g⟩ (fun r => ∀ c : Dev Cert.SliceIdeal.nD,
          r.2.mem ((c.tc : Thread Cert.SliceIdeal.nD Cert.SliceIdeal.τ).loc Cert.SliceIdeal.main_v24) = Layout.block ⟨3, ![2, 128, 512]⟩ ⟨3, ![64, 128, 512]⟩ 0 32 c v0
          ∧ r.2.mem ((c.tc : Thread Cert.SliceIdeal.nD Cert.SliceIdeal.τ).loc Cert.SliceIdeal.main_arg0) = m ((c.tc : Thread Cert.SliceIdeal.nD Cert.SliceIdeal.τ).loc Cert.SliceIdeal.main_arg0)
          ∧ r.2.mem ((c.tc : Thread Cert.SliceIdeal.nD Cert.SliceIdeal.τ).loc Cert.SliceIdeal.main_arg1) = m ((c.tc : Thread Cert.SliceIdeal.nD Cert.SliceIdeal.τ).loc Cert.SliceIdeal.main_arg1)
          ∧ r.2.mem ((c.tc : Thread Cert.SliceIdeal.nD Cert.SliceIdeal.τ).loc Cert.SliceIdeal.main_arg2) = m ((c.tc : Thread Cert.SliceIdeal.nD Cert.SliceIdeal.τ).loc Cert.SliceIdeal.main_arg2)
          ∧ r.2.mem ((c.tc : Thread Cert.SliceIdeal.nD Cert.SliceIdeal.τ).loc Cert.SliceIdeal.main_arg3) = m ((c.tc : Thread Cert.SliceIdeal.nD Cert.SliceIdeal.τ).loc Cert.SliceIdeal.main_arg3)
          ∧ r.2.mem ((c.tc : Thread Cert.SliceIdeal.nD Cert.SliceIdeal.τ).loc Cert.SliceIdeal.main_arg4) = m ((c.tc : Thread Cert.SliceIdeal.nD Cert.SliceIdeal.τ).loc Cert.SliceIdeal.main_arg4))
      ∧ θ_run (Cert.NearIdeal.defs (F := Ideal)) (onTc (τ := Cert.NearIdeal.τ) (Cert.NearIdeal.main (F := Ideal))) ⟨m', fun _ => 0, g'⟩ (fun r =>
          r.2.mem (((0 : Dev Cert.NearIdeal.nD).tc : Thread Cert.NearIdeal.nD Cert.NearIdeal.τ).loc Cert.NearIdeal.main_v56) = v0
          ∧ r.2.mem (((0 : Dev Cert.NearIdeal.nD).tc : Thread Cert.NearIdeal.nD Cert.NearIdeal.τ).loc Cert.NearIdeal.main_arg0) = m' (((0 : Dev Cert.NearIdeal.nD).tc : Thread Cert.NearIdeal.nD Cert.NearIdeal.τ).loc Cert.NearIdeal.main_arg0)
          ∧ r.2.mem (((0 : Dev Cert.NearIdeal.nD).tc : Thread Cert.NearIdeal.nD Cert.NearIdeal.τ).loc Cert.NearIdeal.main_arg1) = m' (((0 : Dev Cert.NearIdeal.nD).tc : Thread Cert.NearIdeal.nD Cert.NearIdeal.τ).loc Cert.NearIdeal.main_arg1)
          ∧ r.2.mem (((0 : Dev Cert.NearIdeal.nD).tc : Thread Cert.NearIdeal.nD Cert.NearIdeal.τ).loc Cert.NearIdeal.main_arg2) = m' (((0 : Dev Cert.NearIdeal.nD).tc : Thread Cert.NearIdeal.nD Cert.NearIdeal.τ).loc Cert.NearIdeal.main_arg2)
          ∧ r.2.mem (((0 : Dev Cert.NearIdeal.nD).tc : Thread Cert.NearIdeal.nD Cert.NearIdeal.τ).loc Cert.NearIdeal.main_arg3) = m' (((0 : Dev Cert.NearIdeal.nD).tc : Thread Cert.NearIdeal.nD Cert.NearIdeal.τ).loc Cert.NearIdeal.main_arg3)
          ∧ r.2.mem (((0 : Dev Cert.NearIdeal.nD).tc : Thread Cert.NearIdeal.nD Cert.NearIdeal.τ).loc Cert.NearIdeal.main_arg4) = m' (((0 : Dev Cert.NearIdeal.nD).tc : Thread Cert.NearIdeal.nD Cert.NearIdeal.τ).loc Cert.NearIdeal.main_arg4))

def Claim : Prop :=
  ∃ (hKernel : Cert.Kernel.Facts) (hKernelIdeal : Cert.KernelIdeal.Facts) (hReferenceIdeal : Cert.ReferenceIdeal.Facts) (hSlice : Cert.Slice.Facts) (hSliceIdeal : Cert.SliceIdeal.Facts) (hNearIdeal : Cert.NearIdeal.Facts),
    quiescent_Kernel (hKernel := hKernel)
    ∧ quiescent_KernelIdeal (hKernelIdeal := hKernelIdeal)
    ∧ quiescent_ReferenceIdeal (hReferenceIdeal := hReferenceIdeal)
    ∧ quiescent_Slice (hSlice := hSlice)
    ∧ quiescent_SliceIdeal (hSliceIdeal := hSliceIdeal)
    ∧ quiescent_NearIdeal (hNearIdeal := hNearIdeal)
    ∧ preserves_Kernel_KernelIdeal
    ∧ algebraic_KernelIdeal_ReferenceIdeal (hKernelIdeal := hKernelIdeal) (hReferenceIdeal := hReferenceIdeal)
    ∧ preserves_Slice_SliceIdeal
    ∧ algebraic_SliceIdeal_NearIdeal (hSliceIdeal := hSliceIdeal) (hNearIdeal := hNearIdeal)
-- ==== Kernel.lean ====
abbrev S2x128x512 : Shape := ⟨3, ![2, 128, 512]⟩
abbrev S512x256 : Shape := ⟨2, ![512, 256]⟩
abbrev S64x128x128x64 : Shape := ⟨4, ![64, 128, 128, 64]⟩
abbrev S256x512 : Shape := ⟨2, ![256, 512]⟩
abbrev S4x32 : Shape := ⟨2, ![4, 32]⟩
abbrev S_ : Shape := ⟨0, ![]⟩
abbrev S1x512x256 : Shape := ⟨3, ![1, 512, 256]⟩
abbrev S2x512x256 : Shape := ⟨3, ![2, 512, 256]⟩
abbrev S2x128x128x64 : Shape := ⟨4, ![2, 128, 128, 64]⟩
abbrev S128x2x128x64 : Shape := ⟨4, ![128, 2, 128, 64]⟩
abbrev S256x128x64 : Shape := ⟨3, ![256, 128, 64]⟩
abbrev S2x2x512x256 : Shape := ⟨4, ![2, 2, 512, 256]⟩
abbrev S256x256 : Shape := ⟨2, ![256, 256]⟩
abbrev S2 : Shape := ⟨1, ![2]⟩
abbrev S1x1 : Shape := ⟨2, ![1, 1]⟩
abbrev S1x2x512x256 : Shape := ⟨4, ![1, 2, 512, 256]⟩
abbrev S1 : Shape := ⟨1, ![1]⟩
abbrev S1x1x512x256 : Shape := ⟨4, ![1, 1, 512, 256]⟩
abbrev S128x64 : Shape := ⟨2, ![128, 64]⟩
abbrev S1x128x64 : Shape := ⟨3, ![1, 128, 64]⟩
abbrev S128x128 : Shape := ⟨2, ![128, 128]⟩
abbrev S128 : Shape := ⟨1, ![128]⟩
abbrev S128x1 : Shape := ⟨2, ![128, 1]⟩

abbrev nBuf : Space → Nat
  | .hbm => 44
  | .vmem => 8
  | .smem => 1
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S64x128x128x64, .bf16⟩
  | .hbm, ⟨3, _⟩ => ⟨S64x128x128x64, .bf16⟩
  | .hbm, ⟨4, _⟩ => ⟨S256x512, .bf16⟩
  | .hbm, ⟨5, _⟩ => ⟨S4x32, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S256x512, .bf16⟩
  | .hbm, ⟨13, _⟩ => ⟨S512x256, .bf16⟩
  | .hbm, ⟨14, _⟩ => ⟨S1x512x256, .bf16⟩
  | .hbm, ⟨15, _⟩ => ⟨S1x512x256, .bf16⟩
  | .hbm, ⟨16, _⟩ => ⟨S2x512x256, .bf16⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S2x128x128x64, .bf16⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S2x128x128x64, .bf16⟩
  | .hbm, ⟨39, _⟩ => ⟨S128x2x128x64, .bf16⟩
  | .hbm, ⟨40, _⟩ => ⟨S256x128x64, .bf16⟩
  | .hbm, ⟨41, _⟩ => ⟨S128x2x128x64, .bf16⟩
  | .hbm, ⟨42, _⟩ => ⟨S256x128x64, .bf16⟩
  | .hbm, ⟨43, _⟩ => ⟨S2x128x512, .f32⟩
  | .local _ .vmem, ⟨0, _⟩ => ⟨S256x512, .bf16⟩
  | .local _ .vmem, ⟨1, _⟩ => ⟨S2x512x256, .bf16⟩
  | .local _ .vmem, ⟨2, _⟩ => ⟨S256x128x64, .bf16⟩
  | .local _ .vmem, ⟨3, _⟩ => ⟨S256x128x64, .bf16⟩
  | .local _ .vmem, ⟨4, _⟩ => ⟨S2x128x512, .f32⟩
  | .local _ .vmem, ⟨5, _⟩ => ⟨S2x2x512x256, .bf16⟩
  | .local _ .vmem, ⟨6, _⟩ => ⟨S2x2x512x256, .bf16⟩
  | .local _ .vmem, ⟨7, _⟩ => ⟨S256x256, .bf16⟩
  | .local _ .smem, ⟨0, _⟩ => ⟨S4x32, .i32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_c_5 : Ref sig .tc := ⟨.hbm, 24, rfl⟩
abbrev main_c_6 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_c_9 : Ref sig .tc := ⟨.hbm, 30, rfl⟩
abbrev main_v16 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_c_11 : Ref sig .tc := ⟨.hbm, 35, rfl⟩
abbrev main_c_12 : Ref sig .tc := ⟨.hbm, 36, rfl⟩
abbrev main_c_13 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c0 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![0, v3.toNat]
def k0_off2 (d0 : Dev nD) : Fin 2 → Nat :=
  let c1 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : Index := Scalar.indexCast v2
  ![1, v5.toNat]
def k0_off3 (d0 : Dev nD) : Fin 2 → Nat :=
  let c2 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v7 : Index := Scalar.indexCast v2
  ![2, v7.toNat]
def k0_dev1 (v6 : BitVec 32) : Nat :=
  let c0_i32 : BitVec 32 := 0#32
  let c1_i32_1 : BitVec 32 := 1#32
  let v10 : BitVec 32 := Scalar.muli v6 c1_i32_1
  let v11 : BitVec 32 := Scalar.addi c0_i32 v10
  v11.toNat

def k0_dev2 (v4 : BitVec 32) : Nat :=
  let c0_i32_4 : BitVec 32 := 0#32
  let c1_i32_3 : BitVec 32 := 1#32
  let v12 : BitVec 32 := Scalar.muli v4 c1_i32_3
  let v13 : BitVec 32 := Scalar.addi c0_i32_4 v12
  v13.toNat

@[reducible] def k0_t1_loop : Scf.Loop 32 :=
  let c0_i32_22 : BitVec 32 := 0#32
  let c17_i32 : BitVec 32 := 17#32
  let v26 : BitVec 32 := Scalar.addi c0_i32_22 c17_i32
  let c1_i32_23 : BitVec 32 := 1#32
  ⟨c0_i32_22, v26, c1_i32_23⟩
def k0_cond1 (k0_t1 : Fin k0_t1_loop.trips) : BitVec 1 :=
  let c0_i32_22 : BitVec 32 := 0#32
  let c1_i32_23 : BitVec 32 := 1#32
  let arg13 : BitVec 32 := Scf.iv c0_i32_22 c1_i32_23 k0_t1
  let c1_i32_28 : BitVec 32 := 1#32
  let v30 : BitVec 1 := Scalar.cmpi .sge arg13 c1_i32_28
  let c16_i32 : BitVec 32 := 16#32
  let v31 : BitVec 1 := Scalar.cmpi .slt arg13 c16_i32
  let v32 : BitVec 1 := Scalar.andi v30 v31
  let v33 : BitVec 32 := Scalar.extui v32
  let c0_i32_29 : BitVec 32 := 0#32
  let v34 : BitVec 1 := Scalar.cmpi .ne v33 c0_i32_29
  v34

def k0_dev3 (v6 : BitVec 32) : Nat :=
  let c0_i32_177 : BitVec 32 := 0#32
  let c1_i32_176 : BitVec 32 := 1#32
  let v313 : BitVec 32 := Scalar.muli v6 c1_i32_176
  let v314 : BitVec 32 := Scalar.addi c0_i32_177 v313
  v314.toNat
def k0_dev4 (v4 : BitVec 32) : Nat :=
  let c0_i32_180 : BitVec 32 := 0#32
  let c1_i32_179 : BitVec 32 := 1#32
  let v315 : BitVec 32 := Scalar.muli v4 c1_i32_179
  let v316 : BitVec 32 := Scalar.addi c0_i32_180 v315
  v316.toNat
def k0_cond2 (k0_t1 : Fin k0_t1_loop.trips) : BitVec 1 :=
  let c0_i32_22 : BitVec 32 := 0#32
  let c1_i32_23 : BitVec 32 := 1#32
  let arg13 : BitVec 32 := Scf.iv c0_i32_22 c1_i32_23 k0_t1
  let c16_i32_30 : BitVec 32 := 16#32
  let v35 : BitVec 1 := Scalar.cmpi .slt arg13 c16_i32_30
  let v36 : BitVec 32 := Scalar.extui v35
  let c0_i32_31 : BitVec 32 := 0#32
  let v37 : BitVec 1 := Scalar.cmpi .ne v36 c0_i32_31
  v37

def k0_off4 (k0_t1 : Fin k0_t1_loop.trips) : Fin 1 → Nat :=
  let c0_i32_22 : BitVec 32 := 0#32
  let c1_i32_23 : BitVec 32 := 1#32
  let arg13 : BitVec 32 := Scf.iv c0_i32_22 c1_i32_23 k0_t1
  let c2_i32_25 : BitVec 32 := 2#32
  let v27 : BitVec 32 := Scalar.remsi arg13 c2_i32_25
  ![v27.toNat]
def k0_off5 (k0_t1 : Fin k0_t1_loop.trips) : Fin 1 → Nat :=
  let c0_i32_22 : BitVec 32 := 0#32
  let c1_i32_23 : BitVec 32 := 1#32
  let arg13 : BitVec 32 := Scf.iv c0_i32_22 c1_i32_23 k0_t1
  let c1_i32_26 : BitVec 32 := 1#32
  let v28 : BitVec 32 := Scalar.addi arg13 c1_i32_26
  let c2_i32_27 : BitVec 32 := 2#32
  let v29 : BitVec 32 := Scalar.remsi v28 c2_i32_27
  ![v29.toNat]
def k0_off6 (k0_t1 : Fin k0_t1_loop.trips) : Fin 4 → Nat :=
  let c0_i32_22 : BitVec 32 := 0#32
  let c1_i32_23 : BitVec 32 := 1#32
  let arg13 : BitVec 32 := Scf.iv c0_i32_22 c1_i32_23 k0_t1
  let c1_i32_26 : BitVec 32 := 1#32
  let v28 : BitVec 32 := Scalar.addi arg13 c1_i32_26
  let c2_i32_27 : BitVec 32 := 2#32
  let v29 : BitVec 32 := Scalar.remsi v28 c2_i32_27
  let c0_i32_177 : BitVec 32 := 0#32
  let c0_i32_178 : BitVec 32 := 0#32
  let c0_i32_179 : BitVec 32 := 0#32
  ![v29.toNat, 0, 0, 0]
def k0_off7 (k0_t1 : Fin k0_t1_loop.trips) : Fin 4 → Nat :=
  let c0_i32_22 : BitVec 32 := 0#32
  let c1_i32_23 : BitVec 32 := 1#32
  let arg13 : BitVec 32 := Scf.iv c0_i32_22 c1_i32_23 k0_t1
  let c2_i32_25 : BitVec 32 := 2#32
  let v27 : BitVec 32 := Scalar.remsi arg13 c2_i32_25
  let c0_i32_180 : BitVec 32 := 0#32
  let c0_i32_181 : BitVec 32 := 0#32
  let c0_i32_182 : BitVec 32 := 0#32
  ![v27.toNat, 0, 0, 0]
def k0_dev5 (v4 : BitVec 32) : Nat :=
  let c0_i32_176 : BitVec 32 := 0#32
  let c1_i32_175 : BitVec 32 := 1#32
  let v313 : BitVec 32 := Scalar.muli v4 c1_i32_175
  let v314 : BitVec 32 := Scalar.addi c0_i32_176 v313
  v314.toNat

def k0_chk2 (v4 : BitVec 32) : Prop :=
  ((k0_dev2 v4) < nD) ∧
  (∀ k0_t1 : Fin k0_t1_loop.trips, ∀ (k0_h1 : k0_cond1 k0_t1 = 1#1), (k0_dev4 v4) < nD) ∧
  (∀ k0_t1 : Fin k0_t1_loop.trips, ∀ (k0_h2 : k0_cond2 k0_t1 = 1#1), (k0_dev5 v4) < nD)
theorem k0_dev2_lt : ∀ (v4 : BitVec 32) (k0_hw2 : k0_chk2 v4), (k0_dev2 v4) < nD := fun v4 k0_hw2 => k0_hw2.1
theorem k0_dev4_lt : ∀ (v4 : BitVec 32) (k0_hw2 : k0_chk2 v4) (k0_t1 : Fin k0_t1_loop.trips), ∀ (k0_h1 : k0_cond1 k0_t1 = 1#1), (k0_dev4 v4) < nD := fun v4 k0_hw2 k0_t1 k0_h1 => k0_hw2.2.1 k0_t1 k0_h1
theorem k0_dev5_lt : ∀ (v4 : BitVec 32) (k0_hw2 : k0_chk2 v4) (k0_t1 : Fin k0_t1_loop.trips), ∀ (k0_h2 : k0_cond2 k0_t1 = 1#1), (k0_dev5 v4) < nD := fun v4 k0_hw2 k0_t1 k0_h2 => k0_hw2.2.2 k0_t1 k0_h2

def k0_cond3 (k0_t1 : Fin k0_t1_loop.trips) : BitVec 1 :=
  let c0_i32_22 : BitVec 32 := 0#32
  let c1_i32_23 : BitVec 32 := 1#32
  let arg13 : BitVec 32 := Scf.iv c0_i32_22 c1_i32_23 k0_t1
  let c15_i32 : BitVec 32 := 15#32
  let v38 : BitVec 1 := Scalar.cmpi .slt arg13 c15_i32
  let v39 : BitVec 32 := Scalar.extui v38
  let c0_i32_32 : BitVec 32 := 0#32
  let v40 : BitVec 1 := Scalar.cmpi .ne v39 c0_i32_32
  v40

def k0_off8 (k0_t1 : Fin k0_t1_loop.trips) : Fin 1 → Nat :=
  let c0_i32_22 : BitVec 32 := 0#32
  let c1_i32_23 : BitVec 32 := 1#32
  let arg13 : BitVec 32 := Scf.iv c0_i32_22 c1_i32_23 k0_t1
  let c2_i32_25 : BitVec 32 := 2#32
  let v27 : BitVec 32 := Scalar.remsi arg13 c2_i32_25
  ![v27.toNat]
def k0_off9 (k0_t1 : Fin k0_t1_loop.trips) : Fin 1 → Nat :=
  let c0_i32_22 : BitVec 32 := 0#32
  let c1_i32_23 : BitVec 32 := 1#32
  let arg13 : BitVec 32 := Scf.iv c0_i32_22 c1_i32_23 k0_t1
  let c1_i32_26 : BitVec 32 := 1#32
  let v28 : BitVec 32 := Scalar.addi arg13 c1_i32_26
  let c2_i32_27 : BitVec 32 := 2#32
  let v29 : BitVec 32 := Scalar.remsi v28 c2_i32_27
  ![v29.toNat]
def k0_off10 (k0_t1 : Fin k0_t1_loop.trips) : Fin 4 → Nat :=
  let c0_i32_22 : BitVec 32 := 0#32
  let c1_i32_23 : BitVec 32 := 1#32
  let arg13 : BitVec 32 := Scf.iv c0_i32_22 c1_i32_23 k0_t1
  let c1_i32_26 : BitVec 32 := 1#32
  let v28 : BitVec 32 := Scalar.addi arg13 c1_i32_26
  let c2_i32_27 : BitVec 32 := 2#32
  let v29 : BitVec 32 := Scalar.remsi v28 c2_i32_27
  let c0_i32_177 : BitVec 32 := 0#32
  let c0_i32_178 : BitVec 32 := 0#32
  let c0_i32_179 : BitVec 32 := 0#32
  ![v29.toNat, 0, 0, 0]
def k0_off11 (k0_t1 : Fin k0_t1_loop.trips) : Fin 4 → Nat :=
  let c0_i32_22 : BitVec 32 := 0#32
  let c1_i32_23 : BitVec 32 := 1#32
  let arg13 : BitVec 32 := Scf.iv c0_i32_22 c1_i32_23 k0_t1
  let c2_i32_25 : BitVec 32 := 2#32
  let v27 : BitVec 32 := Scalar.remsi arg13 c2_i32_25
  let c0_i32_180 : BitVec 32 := 0#32
  let c0_i32_181 : BitVec 32 := 0#32
  let c0_i32_182 : BitVec 32 := 0#32
  ![v27.toNat, 0, 0, 0]
def k0_dev6 (v6 : BitVec 32) : Nat :=
  let c0_i32_176 : BitVec 32 := 0#32
  let c1_i32_175 : BitVec 32 := 1#32
  let v313 : BitVec 32 := Scalar.muli v6 c1_i32_175
  let v314 : BitVec 32 := Scalar.addi c0_i32_176 v313
  v314.toNat

def k0_chk1 (v6 : BitVec 32) : Prop :=
  ((k0_dev1 v6) < nD) ∧
  (∀ k0_t1 : Fin k0_t1_loop.trips, ∀ (k0_h1 : k0_cond1 k0_t1 = 1#1), (k0_dev3 v6) < nD) ∧
  (∀ k0_t1 : Fin k0_t1_loop.trips, ∀ (k0_h3 : k0_cond3 k0_t1 = 1#1), (k0_dev6 v6) < nD)
theorem k0_dev1_lt : ∀ (v6 : BitVec 32) (k0_hw1 : k0_chk1 v6), (k0_dev1 v6) < nD := fun v6 k0_hw1 => k0_hw1.1
theorem k0_dev3_lt : ∀ (v6 : BitVec 32) (k0_hw1 : k0_chk1 v6) (k0_t1 : Fin k0_t1_loop.trips), ∀ (k0_h1 : k0_cond1 k0_t1 = 1#1), (k0_dev3 v6) < nD := fun v6 k0_hw1 k0_t1 k0_h1 => k0_hw1.2.1 k0_t1 k0_h1
theorem k0_dev6_lt : ∀ (v6 : BitVec 32) (k0_hw1 : k0_chk1 v6) (k0_t1 : Fin k0_t1_loop.trips), ∀ (k0_h3 : k0_cond3 k0_t1 = 1#1), (k0_dev6 v6) < nD := fun v6 k0_hw1 k0_t1 k0_h3 => k0_hw1.2.2 k0_t1 k0_h3

def k0_off12 (v8 : BitVec 32) (k0_t1 : Fin k0_t1_loop.trips) : Fin 2 → Nat :=
  let c3 : Index := 3#32
  let c0_i32_22 : BitVec 32 := 0#32
  let c1_i32_23 : BitVec 32 := 1#32
  let arg13 : BitVec 32 := Scf.iv c0_i32_22 c1_i32_23 k0_t1
  let v41 : BitVec 32 := Scalar.subi v8 arg13
  let c32_i32_33 : BitVec 32 := 32#32
  let v42 : BitVec 32 := Scalar.addi v41 c32_i32_33
  let c32_i32_34 : BitVec 32 := 32#32
  let v43 : BitVec 32 := Scalar.remsi v42 c32_i32_34
  let v44 : Index := Scalar.indexCast v43
  ![3, v44.toNat]

def k0_off13 (k0_t1 : Fin k0_t1_loop.trips) : Fin 4 → Nat :=
  let c0_i32_22 : BitVec 32 := 0#32
  let c1_i32_23 : BitVec 32 := 1#32
  let arg13 : BitVec 32 := Scf.iv c0_i32_22 c1_i32_23 k0_t1
  let c2_i32_25 : BitVec 32 := 2#32
  let v27 : BitVec 32 := Scalar.remsi arg13 c2_i32_25
  let v46 : Index := Scalar.indexCast v27
  let c0_35 : Index := 0#32
  let c0_36 : Index := 0#32
  let c0_37 : Index := 0#32
  ![v46.toNat, 0, 0, 0]
def k0_off14 (k0_t1 : Fin k0_t1_loop.trips) : Fin 4 → Nat :=
  let c0_i32_22 : BitVec 32 := 0#32
  let c1_i32_23 : BitVec 32 := 1#32
  let arg13 : BitVec 32 := Scf.iv c0_i32_22 c1_i32_23 k0_t1
  let c2_i32_25 : BitVec 32 := 2#32
  let v27 : BitVec 32 := Scalar.remsi arg13 c2_i32_25
  let v49 : Index := Scalar.indexCast v27
  let c1_38 : Index := 1#32
  let c0_39 : Index := 0#32
  let c0_40 : Index := 0#32
  ![v49.toNat, 1, 0, 0]
def k0_off15 (v45 : BitVec 32) (c0_i32_44 : BitVec 32) (c0_i32_46 : BitVec 32) : Fin 3 → Nat :=
  let c4_i32 : BitVec 32 := 4#32
  let v57 : BitVec 32 := Scalar.muli v45 c4_i32
  let v58 : BitVec 32 := Scalar.addi v57 c0_i32_44
  let c2_i32_45 : BitVec 32 := 2#32
  let v59 : BitVec 32 := Scalar.muli v58 c2_i32_45
  let v60 : BitVec 32 := Scalar.addi v59 c0_i32_46
  let v61 : Index := Scalar.indexCast v60
  let c0_47 : Index := 0#32
  let c0_48 : Index := 0#32
  ![v61.toNat, 0, 0]

def k0_chk4 (v45 : BitVec 32) : Prop :=
  (∀ (r₁ : Fin 4) (r₂ : Fin 2), ∀ a, (k0_off15 v45 (BitVec.ofNat 32 r₁.val) (BitVec.ofNat 32 r₂.val)) a + S1x128x64.size a ≤ S256x128x64.size a)
theorem k0_off15_inb : ∀ (v45 : BitVec 32) (k0_hw4 : k0_chk4 v45), ∀ (r₁ : Fin 4) (r₂ : Fin 2), ∀ a, (k0_off15 v45 (BitVec.ofNat 32 r₁.val) (BitVec.ofNat 32 r₂.val)) a + S1x128x64.size a ≤ S256x128x64.size a := fun v45 k0_hw4 r₁ r₂ => k0_hw4 r₁ r₂

def k0_cond4 (k0_t1 : Fin k0_t1_loop.trips) : BitVec 1 :=
  let c0_i32_22 : BitVec 32 := 0#32
  let c1_i32_23 : BitVec 32 := 1#32
  let arg13 : BitVec 32 := Scf.iv c0_i32_22 c1_i32_23 k0_t1
  let c1_i32_168 : BitVec 32 := 1#32
  let v302 : BitVec 1 := Scalar.cmpi .sge arg13 c1_i32_168
  let c16_i32_169 : BitVec 32 := 16#32
  let v303 : BitVec 1 := Scalar.cmpi .slt arg13 c16_i32_169
  let v304 : BitVec 1 := Scalar.andi v302 v303
  let v305 : BitVec 32 := Scalar.extui v304
  let c0_i32_170 : BitVec 32 := 0#32
  let v306 : BitVec 1 := Scalar.cmpi .ne v305 c0_i32_170
  v306

def k0_off16 (v8 : BitVec 32) (k0_t1 : Fin k0_t1_loop.trips) : Fin 2 → Nat :=
  let c3_176 : Index := 3#32
  let c0_i32_22 : BitVec 32 := 0#32
  let c1_i32_23 : BitVec 32 := 1#32
  let arg13 : BitVec 32 := Scf.iv c0_i32_22 c1_i32_23 k0_t1
  let v313 : BitVec 32 := Scalar.addi v8 arg13
  let c32_i32_175 : BitVec 32 := 32#32
  let v314 : BitVec 32 := Scalar.remsi v313 c32_i32_175
  let v315 : Index := Scalar.indexCast v314
  ![3, v315.toNat]

def k0_chk3 (v8 : BitVec 32) : Prop :=
  (∀ k0_t1 : Fin k0_t1_loop.trips, ∀ a, (k0_off12 v8 k0_t1) a + S1x1.size a ≤ S4x32.size a) ∧
  (∀ k0_t1 : Fin k0_t1_loop.trips, ∀ (k0_h4 : k0_cond4 k0_t1 = 1#1), ∀ a, (k0_off16 v8 k0_t1) a + S1x1.size a ≤ S4x32.size a)
theorem k0_off12_inb : ∀ (v8 : BitVec 32) (k0_hw3 : k0_chk3 v8) (k0_t1 : Fin k0_t1_loop.trips), ∀ a, (k0_off12 v8 k0_t1) a + S1x1.size a ≤ S4x32.size a := fun v8 k0_hw3 k0_t1 => k0_hw3.1 k0_t1
theorem k0_off16_inb : ∀ (v8 : BitVec 32) (k0_hw3 : k0_chk3 v8) (k0_t1 : Fin k0_t1_loop.trips), ∀ (k0_h4 : k0_cond4 k0_t1 = 1#1), ∀ a, (k0_off16 v8 k0_t1) a + S1x1.size a ≤ S4x32.size a := fun v8 k0_hw3 k0_t1 k0_h4 => k0_hw3.2 k0_t1 k0_h4

def k0_off17 (k0_t1 : Fin k0_t1_loop.trips) : Fin 4 → Nat :=
  let c0_i32_22 : BitVec 32 := 0#32
  let c1_i32_23 : BitVec 32 := 1#32
  let arg13 : BitVec 32 := Scf.iv c0_i32_22 c1_i32_23 k0_t1
  let c2_i32_25 : BitVec 32 := 2#32
  let v27 : BitVec 32 := Scalar.remsi arg13 c2_i32_25
  let v317 : Index := Scalar.indexCast v27
  let c0_177 : Index := 0#32
  let c0_178 : Index := 0#32
  let c0_179 : Index := 0#32
  ![v317.toNat, 0, 0, 0]
def k0_off18 (k0_t1 : Fin k0_t1_loop.trips) : Fin 4 → Nat :=
  let c0_i32_22 : BitVec 32 := 0#32
  let c1_i32_23 : BitVec 32 := 1#32
  let arg13 : BitVec 32 := Scf.iv c0_i32_22 c1_i32_23 k0_t1
  let c2_i32_25 : BitVec 32 := 2#32
  let v27 : BitVec 32 := Scalar.remsi arg13 c2_i32_25
  let v320 : Index := Scalar.indexCast v27
  let c1_180 : Index := 1#32
  let c0_181 : Index := 0#32
  let c0_182 : Index := 0#32
  ![v320.toNat, 1, 0, 0]
def k0_off19 (v316 : BitVec 32) (c0_i32_187 : BitVec 32) (c0_i32_189 : BitVec 32) : Fin 3 → Nat :=
  let c4_i32_186 : BitVec 32 := 4#32
  let v328 : BitVec 32 := Scalar.muli v316 c4_i32_186
  let v329 : BitVec 32 := Scalar.addi v328 c0_i32_187
  let c2_i32_188 : BitVec 32 := 2#32
  let v330 : BitVec 32 := Scalar.muli v329 c2_i32_188
  let v331 : BitVec 32 := Scalar.addi v330 c0_i32_189
  let v332 : Index := Scalar.indexCast v331
  let c0_190 : Index := 0#32
  let c0_191 : Index := 0#32
  ![v332.toNat, 0, 0]

def k0_chk5 (k0_t1 : Fin k0_t1_loop.trips) (v316 : BitVec 32) : Prop :=
  (∀ (k0_h4 : k0_cond4 k0_t1 = 1#1), ∀ (r₁ : Fin 4) (r₂ : Fin 2), ∀ a, (k0_off19 v316 (BitVec.ofNat 32 r₁.val) (BitVec.ofNat 32 r₂.val)) a + S1x128x64.size a ≤ S256x128x64.size a)
theorem k0_off19_inb : ∀ (k0_t1 : Fin k0_t1_loop.trips) (v316 : BitVec 32) (k0_hw5 : k0_chk5 k0_t1 v316), ∀ (k0_h4 : k0_cond4 k0_t1 = 1#1), ∀ (r₁ : Fin 4) (r₂ : Fin 2), ∀ a, (k0_off19 v316 (BitVec.ofNat 32 r₁.val) (BitVec.ofNat 32 r₂.val)) a + S1x128x64.size a ≤ S256x128x64.size a := fun k0_t1 v316 k0_hw5 k0_h4 r₁ r₂ => k0_hw5 k0_h4 r₁ r₂

def k0_cond5 (k0_t1 : Fin k0_t1_loop.trips) : BitVec 1 :=
  let c0_i32_22 : BitVec 32 := 0#32
  let c1_i32_23 : BitVec 32 := 1#32
  let arg13 : BitVec 32 := Scf.iv c0_i32_22 c1_i32_23 k0_t1
  let c16_i32_171 : BitVec 32 := 16#32
  let v307 : BitVec 1 := Scalar.cmpi .slt arg13 c16_i32_171
  let v308 : BitVec 32 := Scalar.extui v307
  let c0_i32_172 : BitVec 32 := 0#32
  let v309 : BitVec 1 := Scalar.cmpi .ne v308 c0_i32_172
  v309

def k0_off20 (k0_t1 : Fin k0_t1_loop.trips) : Fin 1 → Nat :=
  let c0_i32_22 : BitVec 32 := 0#32
  let c1_i32_23 : BitVec 32 := 1#32
  let arg13 : BitVec 32 := Scf.iv c0_i32_22 c1_i32_23 k0_t1
  let c2_i32_25 : BitVec 32 := 2#32
  let v27 : BitVec 32 := Scalar.remsi arg13 c2_i32_25
  ![v27.toNat]
def k0_off21 (k0_t1 : Fin k0_t1_loop.trips) : Fin 4 → Nat :=
  let c0_i32_22 : BitVec 32 := 0#32
  let c1_i32_23 : BitVec 32 := 1#32
  let arg13 : BitVec 32 := Scf.iv c0_i32_22 c1_i32_23 k0_t1
  let c2_i32_25 : BitVec 32 := 2#32
  let v27 : BitVec 32 := Scalar.remsi arg13 c2_i32_25
  let c0_i32_176 : BitVec 32 := 0#32
  let c0_i32_177 : BitVec 32 := 0#32
  let c0_i32_178 : BitVec 32 := 0#32
  ![v27.toNat, 0, 0, 0]
def k0_off22 (k0_t1 : Fin k0_t1_loop.trips) : Fin 4 → Nat :=
  let c0_i32_22 : BitVec 32 := 0#32
  let c1_i32_23 : BitVec 32 := 1#32
  let arg13 : BitVec 32 := Scf.iv c0_i32_22 c1_i32_23 k0_t1
  let c1_i32_26 : BitVec 32 := 1#32
  let v28 : BitVec 32 := Scalar.addi arg13 c1_i32_26
  let c2_i32_27 : BitVec 32 := 2#32
  let v29 : BitVec 32 := Scalar.remsi v28 c2_i32_27
  let c0_i32_179 : BitVec 32 := 0#32
  let c0_i32_180 : BitVec 32 := 0#32
  let c0_i32_181 : BitVec 32 := 0#32
  ![v29.toNat, 0, 0, 0]
def k0_off23 (k0_t1 : Fin k0_t1_loop.trips) : Fin 1 → Nat :=
  let c0_i32_22 : BitVec 32 := 0#32
  let c1_i32_23 : BitVec 32 := 1#32
  let arg13 : BitVec 32 := Scf.iv c0_i32_22 c1_i32_23 k0_t1
  let c1_i32_26 : BitVec 32 := 1#32
  let v28 : BitVec 32 := Scalar.addi arg13 c1_i32_26
  let c2_i32_27 : BitVec 32 := 2#32
  let v29 : BitVec 32 := Scalar.remsi v28 c2_i32_27
  ![v29.toNat]
def k0_cond6 (k0_t1 : Fin k0_t1_loop.trips) : BitVec 1 :=
  let c0_i32_22 : BitVec 32 := 0#32
  let c1_i32_23 : BitVec 32 := 1#32
  let arg13 : BitVec 32 := Scf.iv c0_i32_22 c1_i32_23 k0_t1
  let c15_i32_173 : BitVec 32 := 15#32
  let v310 : BitVec 1 := Scalar.cmpi .slt arg13 c15_i32_173
  let v311 : BitVec 32 := Scalar.extui v310
  let c0_i32_174 : BitVec 32 := 0#32
  let v312 : BitVec 1 := Scalar.cmpi .ne v311 c0_i32_174
  v312

def k0_off24 (k0_t1 : Fin k0_t1_loop.trips) : Fin 1 → Nat :=
  let c0_i32_22 : BitVec 32 := 0#32
  let c1_i32_23 : BitVec 32 := 1#32
  let arg13 : BitVec 32 := Scf.iv c0_i32_22 c1_i32_23 k0_t1
  let c2_i32_25 : BitVec 32 := 2#32
  let v27 : BitVec 32 := Scalar.remsi arg13 c2_i32_25
  ![v27.toNat]
def k0_off25 (k0_t1 : Fin k0_t1_loop.trips) : Fin 4 → Nat :=
  let c0_i32_22 : BitVec 32 := 0#32
  let c1_i32_23 : BitVec 32 := 1#32
  let arg13 : BitVec 32 := Scf.iv c0_i32_22 c1_i32_23 k0_t1
  let c2_i32_25 : BitVec 32 := 2#32
  let v27 : BitVec 32 := Scalar.remsi arg13 c2_i32_25
  let c0_i32_176 : BitVec 32 := 0#32
  let c0_i32_177 : BitVec 32 := 0#32
  let c0_i32_178 : BitVec 32 := 0#32
  ![v27.toNat, 0, 0, 0]
def k0_off26 (k0_t1 : Fin k0_t1_loop.trips) : Fin 4 → Nat :=
  let c0_i32_22 : BitVec 32 := 0#32
  let c1_i32_23 : BitVec 32 := 1#32
  let arg13 : BitVec 32 := Scf.iv c0_i32_22 c1_i32_23 k0_t1
  let c1_i32_26 : BitVec 32 := 1#32
  let v28 : BitVec 32 := Scalar.addi arg13 c1_i32_26
  let c2_i32_27 : BitVec 32 := 2#32
  let v29 : BitVec 32 := Scalar.remsi v28 c2_i32_27
  let c0_i32_179 : BitVec 32 := 0#32
  let c0_i32_180 : BitVec 32 := 0#32
  let c0_i32_181 : BitVec 32 := 0#32
  ![v29.toNat, 0, 0, 0]
def k0_off27 (k0_t1 : Fin k0_t1_loop.trips) : Fin 1 → Nat :=
  let c0_i32_22 : BitVec 32 := 0#32
  let c1_i32_23 : BitVec 32 := 1#32
  let arg13 : BitVec 32 := Scf.iv c0_i32_22 c1_i32_23 k0_t1
  let c1_i32_26 : BitVec 32 := 1#32
  let v28 : BitVec 32 := Scalar.addi arg13 c1_i32_26
  let c2_i32_27 : BitVec 32 := 2#32
  let v29 : BitVec 32 := Scalar.remsi v28 c2_i32_27
  ![v29.toNat]
abbrev stage0_0 : Fin 1 → Memref sig .tc .smem S4x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S64x128x512 : Shape := ⟨3, ![64, 128, 512]⟩
abbrev S512x8192 : Shape := ⟨2, ![512, 8192]⟩
abbrev S64x128x128x64 : Shape := ⟨4, ![64, 128, 128, 64]⟩
abbrev S8192x512 : Shape := ⟨2, ![8192, 512]⟩
abbrev S64x128x8192 : Shape := ⟨3, ![64, 128, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S64x128x128x128 : Shape := ⟨4, ![64, 128, 128, 128]⟩
abbrev S1x1x128x128 : Shape := ⟨4, ![1, 1, 128, 128]⟩
abbrev S64x128x128 : Shape := ⟨3, ![64, 128, 128]⟩
abbrev S64x128x128x1 : Shape := ⟨4, ![64, 128, 128, 1]⟩
abbrev S1x1x128x1 : Shape := ⟨4, ![1, 1, 128, 1]⟩
abbrev S64x128x64x128 : Shape := ⟨4, ![64, 128, 64, 128]⟩

abbrev nBuf : Space → Nat
  | .hbm => 62
  | .vmem => 0
  | .smem => 0
  | _ => 0

abbrev bufTy : (tb : Table) → Fin (tcTables nBuf tb) → BufTy
  | .hbm, ⟨0, _⟩ => ⟨S64x128x512, .bf16⟩
  | .hbm, ⟨1, _⟩ => ⟨S512x8192, .bf16⟩
  | .hbm, ⟨2, _⟩ => ⟨S64x128x128x64, .bf16⟩
  | .hbm, ⟨3, _⟩ => ⟨S64x128x128x64, .bf16⟩
  | .hbm, ⟨4, _⟩ => ⟨S8192x512, .bf16⟩
  | .hbm, ⟨5, _⟩ => ⟨S64x128x512, .f32⟩
  | .hbm, ⟨6, _⟩ => ⟨S512x8192, .f32⟩
  | .hbm, ⟨7, _⟩ => ⟨S64x128x128x64, .f32⟩
  | .hbm, ⟨8, _⟩ => ⟨S64x128x128x64, .f32⟩
  | .hbm, ⟨9, _⟩ => ⟨S8192x512, .f32⟩
  | .hbm, ⟨10, _⟩ => ⟨S64x128x8192, .f32⟩
  | .hbm, ⟨11, _⟩ => ⟨S64x128x128x64, .f32⟩
  | .hbm, ⟨12, _⟩ => ⟨S128, .i32⟩
  | .hbm, ⟨13, _⟩ => ⟨S128x1, .i32⟩
  | .hbm, ⟨14, _⟩ => ⟨S128, .i32⟩
  | .hbm, ⟨15, _⟩ => ⟨S1x128, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i1⟩
  | .hbm, ⟨23, _⟩ => ⟨S64x128x128x128, .f32⟩
  | .hbm, ⟨24, _⟩ => ⟨S_, .f32⟩
  | .hbm, ⟨25, _⟩ => ⟨S64x128x128x128, .f32⟩
  | .hbm, ⟨26, _⟩ => ⟨S64x128x128x128, .f32⟩
  | .hbm, ⟨27, _⟩ => ⟨S1x1x128x128, .i1⟩
  | .hbm, ⟨28, _⟩ => ⟨S_, .f32⟩
  | .hbm, ⟨29, _⟩ => ⟨S_, .f32⟩
  | .hbm, ⟨30, _⟩ => ⟨S64x128x128x128, .i1⟩
  | .hbm, ⟨31, _⟩ => ⟨S64x128x128x128, .f32⟩
  | .hbm, ⟨32, _⟩ => ⟨S64x128x128x128, .f32⟩
  | .hbm, ⟨33, _⟩ => ⟨S_, .f32⟩
  | .hbm, ⟨34, _⟩ => ⟨S64x128x128, .f32⟩
  | .hbm, ⟨35, _⟩ => ⟨S64x128x128x1, .f32⟩
  | .hbm, ⟨36, _⟩ => ⟨S64x128x128x128, .f32⟩
  | .hbm, ⟨37, _⟩ => ⟨S64x128x128x128, .f32⟩
  | .hbm, ⟨38, _⟩ => ⟨S64x128x128x128, .f32⟩
  | .hbm, ⟨39, _⟩ => ⟨S_, .i1⟩
  | .hbm, ⟨40, _⟩ => ⟨S128, .i1⟩
  | .hbm, ⟨41, _⟩ => ⟨S1x1x128x1, .i1⟩
  | .hbm, ⟨42, _⟩ => ⟨S_, .f32⟩
  | .hbm, ⟨43, _⟩ => ⟨S64x128x128, .f32⟩
  | .hbm, ⟨44, _⟩ => ⟨S64x128x128x1, .f32⟩
  | .hbm, ⟨45, _⟩ => ⟨S_, .f32⟩
  | .hbm, ⟨46, _⟩ => ⟨S_, .f32⟩
  | .hbm, ⟨47, _⟩ => ⟨S64x128x128x1, .i1⟩
  | .hbm, ⟨48, _⟩ => ⟨S64x128x128x1, .f32⟩
  | .hbm, ⟨49, _⟩ => ⟨S64x128x128x1, .f32⟩
  | .hbm, ⟨50, _⟩ => ⟨S64x128x128x128, .f32⟩
  | .hbm, ⟨51, _⟩ => ⟨S64x128x128x128, .f32⟩
  | .hbm, ⟨52, _⟩ => ⟨S1x1x128x1, .i1⟩
  | .hbm, ⟨53, _⟩ => ⟨S_, .f32⟩
  | .hbm, ⟨54, _⟩ => ⟨S_, .f32⟩
  | .hbm, ⟨55, _⟩ => ⟨S64x128x128x128, .i1⟩
  | .hbm, ⟨56, _⟩ => ⟨S64x128x128x128, .f32⟩
  | .hbm, ⟨57, _⟩ => ⟨S64x128x128x128, .f32⟩
  | .hbm, ⟨58, _⟩ => ⟨S64x128x64x128, .f32⟩
  | .hbm, ⟨59, _⟩ => ⟨S64x128x128x64, .f32⟩
  | .hbm, ⟨60, _⟩ => ⟨S64x128x8192, .f32⟩
  | .hbm, ⟨61, _⟩ => ⟨S64x128x512, .f32⟩
  | _, _ => ⟨S64x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Slice.lean ====
abbrev S2x128x512 : Shape := ⟨3, ![2, 128, 512]⟩
abbrev S512x256 : Shape := ⟨2, ![512, 256]⟩
abbrev S64x128x128x64 : Shape := ⟨4, ![64, 128, 128, 64]⟩
abbrev S256x512 : Shape := ⟨2, ![256, 512]⟩
abbrev S4x32 : Shape := ⟨2, ![4, 32]⟩
abbrev S_ : Shape := ⟨0, ![]⟩
abbrev S1x512x256 : Shape := ⟨3, ![1, 512, 256]⟩
abbrev S2x512x256 : Shape := ⟨3, ![2, 512, 256]⟩
abbrev S2x128x128x64 : Shape := ⟨4, ![2, 128, 128, 64]⟩
abbrev S128x2x128x64 : Shape := ⟨4, ![128, 2, 128, 64]⟩
abbrev S256x128x64 : Shape := ⟨3, ![256, 128, 64]⟩
abbrev S2x2x512x256 : Shape := ⟨4, ![2, 2, 512, 256]⟩
abbrev S256x256 : Shape := ⟨2, ![256, 256]⟩
abbrev S2 : Shape := ⟨1, ![2]⟩
abbrev S1x1 : Shape := ⟨2, ![1, 1]⟩
abbrev S1x2x512x256 : Shape := ⟨4, ![1, 2, 512, 256]⟩
abbrev S1 : Shape := ⟨1, ![1]⟩
abbrev S1x1x512x256 : Shape := ⟨4, ![1, 1, 512, 256]⟩
abbrev S128x64 : Shape := ⟨2, ![128, 64]⟩
abbrev S1x128x64 : Shape := ⟨3, ![1, 128, 64]⟩
abbrev S128x128 : Shape := ⟨2, ![128, 128]⟩
abbrev S128 : Shape := ⟨1, ![128]⟩
abbrev S128x1 : Shape := ⟨2, ![128, 1]⟩

abbrev nBuf : Space → Nat
  | .hbm => 44
  | .vmem => 8
  | .smem => 1
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S64x128x128x64, .bf16⟩
  | .hbm, ⟨3, _⟩ => ⟨S64x128x128x64, .bf16⟩
  | .hbm, ⟨4, _⟩ => ⟨S256x512, .bf16⟩
  | .hbm, ⟨5, _⟩ => ⟨S4x32, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S256x512, .bf16⟩
  | .hbm, ⟨13, _⟩ => ⟨S512x256, .bf16⟩
  | .hbm, ⟨14, _⟩ => ⟨S1x512x256, .bf16⟩
  | .hbm, ⟨15, _⟩ => ⟨S1x512x256, .bf16⟩
  | .hbm, ⟨16, _⟩ => ⟨S2x512x256, .bf16⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S2x128x128x64, .bf16⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S2x128x128x64, .bf16⟩
  | .hbm, ⟨39, _⟩ => ⟨S128x2x128x64, .bf16⟩
  | .hbm, ⟨40, _⟩ => ⟨S256x128x64, .bf16⟩
  | .hbm, ⟨41, _⟩ => ⟨S128x2x128x64, .bf16⟩
  | .hbm, ⟨42, _⟩ => ⟨S256x128x64, .bf16⟩
  | .hbm, ⟨43, _⟩ => ⟨S2x128x512, .f32⟩
  | .local _ .vmem, ⟨0, _⟩ => ⟨S256x512, .bf16⟩
  | .local _ .vmem, ⟨1, _⟩ => ⟨S2x512x256, .bf16⟩
  | .local _ .vmem, ⟨2, _⟩ => ⟨S256x128x64, .bf16⟩
  | .local _ .vmem, ⟨3, _⟩ => ⟨S256x128x64, .bf16⟩
  | .local _ .vmem, ⟨4, _⟩ => ⟨S2x128x512, .f32⟩
  | .local _ .vmem, ⟨5, _⟩ => ⟨S2x2x512x256, .bf16⟩
  | .local _ .vmem, ⟨6, _⟩ => ⟨S2x2x512x256, .bf16⟩
  | .local _ .vmem, ⟨7, _⟩ => ⟨S256x256, .bf16⟩
  | .local _ .smem, ⟨0, _⟩ => ⟨S4x32, .i32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_c_5 : Ref sig .tc := ⟨.hbm, 24, rfl⟩
abbrev main_c_6 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_c_9 : Ref sig .tc := ⟨.hbm, 30, rfl⟩
abbrev main_v16 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_c_11 : Ref sig .tc := ⟨.hbm, 35, rfl⟩
abbrev main_c_12 : Ref sig .tc := ⟨.hbm, 36, rfl⟩
abbrev main_c_13 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c0 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![0, v3.toNat]
def k0_off2 (d0 : Dev nD) : Fin 2 → Nat :=
  let c1 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : Index := Scalar.indexCast v2
  ![1, v5.toNat]
def k0_off3 (d0 : Dev nD) : Fin 2 → Nat :=
  let c2 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v7 : Index := Scalar.indexCast v2
  ![2, v7.toNat]
def k0_dev1 (v6 : BitVec 32) : Nat :=
  let c0_i32 : BitVec 32 := 0#32
  let c1_i32_1 : BitVec 32 := 1#32
  let v10 : BitVec 32 := Scalar.muli v6 c1_i32_1
  let v11 : BitVec 32 := Scalar.addi c0_i32 v10
  v11.toNat

def k0_dev2 (v4 : BitVec 32) : Nat :=
  let c0_i32_4 : BitVec 32 := 0#32
  let c1_i32_3 : BitVec 32 := 1#32
  let v12 : BitVec 32 := Scalar.muli v4 c1_i32_3
  let v13 : BitVec 32 := Scalar.addi c0_i32_4 v12
  v13.toNat

@[reducible] def k0_t1_loop : Scf.Loop 32 :=
  let c0_i32_22 : BitVec 32 := 0#32
  let c2_i32_23 : BitVec 32 := 2#32
  let v26 : BitVec 32 := Scalar.addi c0_i32_22 c2_i32_23
  let c1_i32_24 : BitVec 32 := 1#32
  ⟨c0_i32_22, v26, c1_i32_24⟩
def k0_cond1 (k0_t1 : Fin k0_t1_loop.trips) : BitVec 1 :=
  let c0_i32_22 : BitVec 32 := 0#32
  let c1_i32_24 : BitVec 32 := 1#32
  let arg13 : BitVec 32 := Scf.iv c0_i32_22 c1_i32_24 k0_t1
  let c1_i32_29 : BitVec 32 := 1#32
  let v30 : BitVec 1 := Scalar.cmpi .slt arg13 c1_i32_29
  let v31 : BitVec 32 := Scalar.extui v30
  let c0_i32_30 : BitVec 32 := 0#32
  let v32 : BitVec 1 := Scalar.cmpi .ne v31 c0_i32_30
  v32

def k0_off4 (k0_t1 : Fin k0_t1_loop.trips) : Fin 1 → Nat :=
  let c0_i32_22 : BitVec 32 := 0#32
  let c1_i32_24 : BitVec 32 := 1#32
  let arg13 : BitVec 32 := Scf.iv c0_i32_22 c1_i32_24 k0_t1
  let c2_i32_26 : BitVec 32 := 2#32
  let v27 : BitVec 32 := Scalar.remsi arg13 c2_i32_26
  ![v27.toNat]
def k0_off5 (k0_t1 : Fin k0_t1_loop.trips) : Fin 1 → Nat :=
  let c0_i32_22 : BitVec 32 := 0#32
  let c1_i32_24 : BitVec 32 := 1#32
  let arg13 : BitVec 32 := Scf.iv c0_i32_22 c1_i32_24 k0_t1
  let c1_i32_27 : BitVec 32 := 1#32
  let v28 : BitVec 32 := Scalar.addi arg13 c1_i32_27
  let c2_i32_28 : BitVec 32 := 2#32
  let v29 : BitVec 32 := Scalar.remsi v28 c2_i32_28
  ![v29.toNat]
def k0_off6 (k0_t1 : Fin k0_t1_loop.trips) : Fin 4 → Nat :=
  let c0_i32_22 : BitVec 32 := 0#32
  let c1_i32_24 : BitVec 32 := 1#32
  let arg13 : BitVec 32 := Scf.iv c0_i32_22 c1_i32_24 k0_t1
  let c1_i32_27 : BitVec 32 := 1#32
  let v28 : BitVec 32 := Scalar.addi arg13 c1_i32_27
  let c2_i32_28 : BitVec 32 := 2#32
  let v29 : BitVec 32 := Scalar.remsi v28 c2_i32_28
  let c0_i32_177 : BitVec 32 := 0#32
  let c0_i32_178 : BitVec 32 := 0#32
  let c0_i32_179 : BitVec 32 := 0#32
  ![v29.toNat, 0, 0, 0]
def k0_off7 (k0_t1 : Fin k0_t1_loop.trips) : Fin 4 → Nat :=
  let c0_i32_22 : BitVec 32 := 0#32
  let c1_i32_24 : BitVec 32 := 1#32
  let arg13 : BitVec 32 := Scf.iv c0_i32_22 c1_i32_24 k0_t1
  let c2_i32_26 : BitVec 32 := 2#32
  let v27 : BitVec 32 := Scalar.remsi arg13 c2_i32_26
  let c0_i32_180 : BitVec 32 := 0#32
  let c0_i32_181 : BitVec 32 := 0#32
  let c0_i32_182 : BitVec 32 := 0#32
  ![v27.toNat, 0, 0, 0]
def k0_dev3 (v4 : BitVec 32) : Nat :=
  let c0_i32_176 : BitVec 32 := 0#32
  let c1_i32_175 : BitVec 32 := 1#32
  let v308 : BitVec 32 := Scalar.muli v4 c1_i32_175
  let v309 : BitVec 32 := Scalar.addi c0_i32_176 v308
  v309.toNat

def k0_chk2 (v4 : BitVec 32) : Prop :=
  ((k0_dev2 v4) < nD) ∧
  (∀ k0_t1 : Fin k0_t1_loop.trips, ∀ (k0_h1 : k0_cond1 k0_t1 = 1#1), (k0_dev3 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4) (k0_t1 : Fin k0_t1_loop.trips), ∀ (k0_h1 : k0_cond1 k0_t1 = 1#1), (k0_dev3 v4) < nD := fun v4 k0_hw2 k0_t1 k0_h1 => k0_hw2.2 k0_t1 k0_h1

def k0_cond2 (k0_t1 : Fin k0_t1_loop.trips) : BitVec 1 :=
  let c0_i32_22 : BitVec 32 := 0#32
  let c1_i32_24 : BitVec 32 := 1#32
  let arg13 : BitVec 32 := Scf.iv c0_i32_22 c1_i32_24 k0_t1
  let c1_i32_31 : BitVec 32 := 1#32
  let v33 : BitVec 1 := Scalar.cmpi .slt arg13 c1_i32_31
  let v34 : BitVec 32 := Scalar.extui v33
  let c0_i32_32 : BitVec 32 := 0#32
  let v35 : BitVec 1 := Scalar.cmpi .ne v34 c0_i32_32
  v35

def k0_off8 (k0_t1 : Fin k0_t1_loop.trips) : Fin 1 → Nat :=
  let c0_i32_22 : BitVec 32 := 0#32
  let c1_i32_24 : BitVec 32 := 1#32
  let arg13 : BitVec 32 := Scf.iv c0_i32_22 c1_i32_24 k0_t1
  let c2_i32_26 : BitVec 32 := 2#32
  let v27 : BitVec 32 := Scalar.remsi arg13 c2_i32_26
  ![v27.toNat]
def k0_off9 (k0_t1 : Fin k0_t1_loop.trips) : Fin 1 → Nat :=
  let c0_i32_22 : BitVec 32 := 0#32
  let c1_i32_24 : BitVec 32 := 1#32
  let arg13 : BitVec 32 := Scf.iv c0_i32_22 c1_i32_24 k0_t1
  let c1_i32_27 : BitVec 32 := 1#32
  let v28 : BitVec 32 := Scalar.addi arg13 c1_i32_27
  let c2_i32_28 : BitVec 32 := 2#32
  let v29 : BitVec 32 := Scalar.remsi v28 c2_i32_28
  ![v29.toNat]
def k0_off10 (k0_t1 : Fin k0_t1_loop.trips) : Fin 4 → Nat :=
  let c0_i32_22 : BitVec 32 := 0#32
  let c1_i32_24 : BitVec 32 := 1#32
  let arg13 : BitVec 32 := Scf.iv c0_i32_22 c1_i32_24 k0_t1
  let c1_i32_27 : BitVec 32 := 1#32
  let v28 : BitVec 32 := Scalar.addi arg13 c1_i32_27
  let c2_i32_28 : BitVec 32 := 2#32
  let v29 : BitVec 32 := Scalar.remsi v28 c2_i32_28
  let c0_i32_177 : BitVec 32 := 0#32
  let c0_i32_178 : BitVec 32 := 0#32
  let c0_i32_179 : BitVec 32 := 0#32
  ![v29.toNat, 0, 0, 0]
def k0_off11 (k0_t1 : Fin k0_t1_loop.trips) : Fin 4 → Nat :=
  let c0_i32_22 : BitVec 32 := 0#32
  let c1_i32_24 : BitVec 32 := 1#32
  let arg13 : BitVec 32 := Scf.iv c0_i32_22 c1_i32_24 k0_t1
  let c2_i32_26 : BitVec 32 := 2#32
  let v27 : BitVec 32 := Scalar.remsi arg13 c2_i32_26
  let c0_i32_180 : BitVec 32 := 0#32
  let c0_i32_181 : BitVec 32 := 0#32
  let c0_i32_182 : BitVec 32 := 0#32
  ![v27.toNat, 0, 0, 0]
def k0_dev4 (v6 : BitVec 32) : Nat :=
  let c0_i32_176 : BitVec 32 := 0#32
  let c1_i32_175 : BitVec 32 := 1#32
  let v308 : BitVec 32 := Scalar.muli v6 c1_i32_175
  let v309 : BitVec 32 := Scalar.addi c0_i32_176 v308
  v309.toNat

def k0_chk1 (v6 : BitVec 32) : Prop :=
  ((k0_dev1 v6) < nD) ∧
  (∀ k0_t1 : Fin k0_t1_loop.trips, ∀ (k0_h2 : k0_cond2 k0_t1 = 1#1), (k0_dev4 v6) < nD)
theorem k0_dev1_lt : ∀ (v6 : BitVec 32) (k0_hw1 : k0_chk1 v6), (k0_dev1 v6) < nD := fun v6 k0_hw1 => k0_hw1.1
theorem k0_dev4_lt : ∀ (v6 : BitVec 32) (k0_hw1 : k0_chk1 v6) (k0_t1 : Fin k0_t1_loop.trips), ∀ (k0_h2 : k0_cond2 k0_t1 = 1#1), (k0_dev4 v6) < nD := fun v6 k0_hw1 k0_t1 k0_h2 => k0_hw1.2 k0_t1 k0_h2

def k0_off12 (v8 : BitVec 32) (k0_t1 : Fin k0_t1_loop.trips) : Fin 2 → Nat :=
  let c3 : Index := 3#32
  let c0_i32_22 : BitVec 32 := 0#32
  let c1_i32_24 : BitVec 32 := 1#32
  let arg13 : BitVec 32 := Scf.iv c0_i32_22 c1_i32_24 k0_t1
  let v36 : BitVec 32 := Scalar.subi v8 arg13
  let c32_i32_33 : BitVec 32 := 32#32
  let v37 : BitVec 32 := Scalar.addi v36 c32_i32_33
  let c32_i32_34 : BitVec 32 := 32#32
  let v38 : BitVec 32 := Scalar.remsi v37 c32_i32_34
  let v39 : Index := Scalar.indexCast v38
  ![3, v39.toNat]

def k0_off13 (k0_t1 : Fin k0_t1_loop.trips) : Fin 4 → Nat :=
  let c0_i32_22 : BitVec 32 := 0#32
  let c1_i32_24 : BitVec 32 := 1#32
  let arg13 : BitVec 32 := Scf.iv c0_i32_22 c1_i32_24 k0_t1
  let c2_i32_26 : BitVec 32 := 2#32
  let v27 : BitVec 32 := Scalar.remsi arg13 c2_i32_26
  let v41 : Index := Scalar.indexCast v27
  let c0_35 : Index := 0#32
  let c0_36 : Index := 0#32
  let c0_37 : Index := 0#32
  ![v41.toNat, 0, 0, 0]
def k0_off14 (k0_t1 : Fin k0_t1_loop.trips) : Fin 4 → Nat :=
  let c0_i32_22 : BitVec 32 := 0#32
  let c1_i32_24 : BitVec 32 := 1#32
  let arg13 : BitVec 32 := Scf.iv c0_i32_22 c1_i32_24 k0_t1
  let c2_i32_26 : BitVec 32 := 2#32
  let v27 : BitVec 32 := Scalar.remsi arg13 c2_i32_26
  let v44 : Index := Scalar.indexCast v27
  let c1_38 : Index := 1#32
  let c0_39 : Index := 0#32
  let c0_40 : Index := 0#32
  ![v44.toNat, 1, 0, 0]
def k0_off15 (v40 : BitVec 32) (c0_i32_44 : BitVec 32) (c0_i32_46 : BitVec 32) : Fin 3 → Nat :=
  let c4_i32 : BitVec 32 := 4#32
  let v52 : BitVec 32 := Scalar.muli v40 c4_i32
  let v53 : BitVec 32 := Scalar.addi v52 c0_i32_44
  let c2_i32_45 : BitVec 32 := 2#32
  let v54 : BitVec 32 := Scalar.muli v53 c2_i32_45
  let v55 : BitVec 32 := Scalar.addi v54 c0_i32_46
  let v56 : Index := Scalar.indexCast v55
  let c0_47 : Index := 0#32
  let c0_48 : Index := 0#32
  ![v56.toNat, 0, 0]

def k0_chk4 (v40 : BitVec 32) : Prop :=
  (∀ (r₁ : Fin 4) (r₂ : Fin 2), ∀ a, (k0_off15 v40 (BitVec.ofNat 32 r₁.val) (BitVec.ofNat 32 r₂.val)) a + S1x128x64.size a ≤ S256x128x64.size a)
theorem k0_off15_inb : ∀ (v40 : BitVec 32) (k0_hw4 : k0_chk4 v40), ∀ (r₁ : Fin 4) (r₂ : Fin 2), ∀ a, (k0_off15 v40 (BitVec.ofNat 32 r₁.val) (BitVec.ofNat 32 r₂.val)) a + S1x128x64.size a ≤ S256x128x64.size a := fun v40 k0_hw4 r₁ r₂ => k0_hw4 r₁ r₂

def k0_cond3 (k0_t1 : Fin k0_t1_loop.trips) : BitVec 1 :=
  let c0_i32_22 : BitVec 32 := 0#32
  let c1_i32_24 : BitVec 32 := 1#32
  let arg13 : BitVec 32 := Scf.iv c0_i32_22 c1_i32_24 k0_t1
  let c1_i32_168 : BitVec 32 := 1#32
  let v297 : BitVec 1 := Scalar.cmpi .sge arg13 c1_i32_168
  let c2_i32_169 : BitVec 32 := 2#32
  let v298 : BitVec 1 := Scalar.cmpi .slt arg13 c2_i32_169
  let v299 : BitVec 1 := Scalar.andi v297 v298
  let v300 : BitVec 32 := Scalar.extui v299
  let c0_i32_170 : BitVec 32 := 0#32
  let v301 : BitVec 1 := Scalar.cmpi .ne v300 c0_i32_170
  v301

def k0_off16 (v8 : BitVec 32) (k0_t1 : Fin k0_t1_loop.trips) : Fin 2 → Nat :=
  let c3_176 : Index := 3#32
  let c0_i32_22 : BitVec 32 := 0#32
  let c1_i32_24 : BitVec 32 := 1#32
  let arg13 : BitVec 32 := Scf.iv c0_i32_22 c1_i32_24 k0_t1
  let v308 : BitVec 32 := Scalar.addi v8 arg13
  let c32_i32_175 : BitVec 32 := 32#32
  let v309 : BitVec 32 := Scalar.remsi v308 c32_i32_175
  let v310 : Index := Scalar.indexCast v309
  ![3, v310.toNat]

def k0_chk3 (v8 : BitVec 32) : Prop :=
  (∀ k0_t1 : Fin k0_t1_loop.trips, ∀ a, (k0_off12 v8 k0_t1) a + S1x1.size a ≤ S4x32.size a) ∧
  (∀ k0_t1 : Fin k0_t1_loop.trips, ∀ (k0_h3 : k0_cond3 k0_t1 = 1#1), ∀ a, (k0_off16 v8 k0_t1) a + S1x1.size a ≤ S4x32.size a)
theorem k0_off12_inb : ∀ (v8 : BitVec 32) (k0_hw3 : k0_chk3 v8) (k0_t1 : Fin k0_t1_loop.trips), ∀ a, (k0_off12 v8 k0_t1) a + S1x1.size a ≤ S4x32.size a := fun v8 k0_hw3 k0_t1 => k0_hw3.1 k0_t1
theorem k0_off16_inb : ∀ (v8 : BitVec 32) (k0_hw3 : k0_chk3 v8) (k0_t1 : Fin k0_t1_loop.trips), ∀ (k0_h3 : k0_cond3 k0_t1 = 1#1), ∀ a, (k0_off16 v8 k0_t1) a + S1x1.size a ≤ S4x32.size a := fun v8 k0_hw3 k0_t1 k0_h3 => k0_hw3.2 k0_t1 k0_h3

def k0_off17 (k0_t1 : Fin k0_t1_loop.trips) : Fin 4 → Nat :=
  let c0_i32_22 : BitVec 32 := 0#32
  let c1_i32_24 : BitVec 32 := 1#32
  let arg13 : BitVec 32 := Scf.iv c0_i32_22 c1_i32_24 k0_t1
  let c2_i32_26 : BitVec 32 := 2#32
  let v27 : BitVec 32 := Scalar.remsi arg13 c2_i32_26
  let v312 : Index := Scalar.indexCast v27
  let c0_177 : Index := 0#32
  let c0_178 : Index := 0#32
  let c0_179 : Index := 0#32
  ![v312.toNat, 0, 0, 0]
def k0_off18 (k0_t1 : Fin k0_t1_loop.trips) : Fin 4 → Nat :=
  let c0_i32_22 : BitVec 32 := 0#32
  let c1_i32_24 : BitVec 32 := 1#32
  let arg13 : BitVec 32 := Scf.iv c0_i32_22 c1_i32_24 k0_t1
  let c2_i32_26 : BitVec 32 := 2#32
  let v27 : BitVec 32 := Scalar.remsi arg13 c2_i32_26
  let v315 : Index := Scalar.indexCast v27
  let c1_180 : Index := 1#32
  let c0_181 : Index := 0#32
  let c0_182 : Index := 0#32
  ![v315.toNat, 1, 0, 0]
def k0_off19 (v311 : BitVec 32) (c0_i32_187 : BitVec 32) (c0_i32_189 : BitVec 32) : Fin 3 → Nat :=
  let c4_i32_186 : BitVec 32 := 4#32
  let v323 : BitVec 32 := Scalar.muli v311 c4_i32_186
  let v324 : BitVec 32 := Scalar.addi v323 c0_i32_187
  let c2_i32_188 : BitVec 32 := 2#32
  let v325 : BitVec 32 := Scalar.muli v324 c2_i32_188
  let v326 : BitVec 32 := Scalar.addi v325 c0_i32_189
  let v327 : Index := Scalar.indexCast v326
  let c0_190 : Index := 0#32
  let c0_191 : Index := 0#32
  ![v327.toNat, 0, 0]

def k0_chk5 (k0_t1 : Fin k0_t1_loop.trips) (v311 : BitVec 32) : Prop :=
  (∀ (k0_h3 : k0_cond3 k0_t1 = 1#1), ∀ (r₁ : Fin 4) (r₂ : Fin 2), ∀ a, (k0_off19 v311 (BitVec.ofNat 32 r₁.val) (BitVec.ofNat 32 r₂.val)) a + S1x128x64.size a ≤ S256x128x64.size a)
theorem k0_off19_inb : ∀ (k0_t1 : Fin k0_t1_loop.trips) (v311 : BitVec 32) (k0_hw5 : k0_chk5 k0_t1 v311), ∀ (k0_h3 : k0_cond3 k0_t1 = 1#1), ∀ (r₁ : Fin 4) (r₂ : Fin 2), ∀ a, (k0_off19 v311 (BitVec.ofNat 32 r₁.val) (BitVec.ofNat 32 r₂.val)) a + S1x128x64.size a ≤ S256x128x64.size a := fun k0_t1 v311 k0_hw5 k0_h3 r₁ r₂ => k0_hw5 k0_h3 r₁ r₂

def k0_cond4 (k0_t1 : Fin k0_t1_loop.trips) : BitVec 1 :=
  let c0_i32_22 : BitVec 32 := 0#32
  let c1_i32_24 : BitVec 32 := 1#32
  let arg13 : BitVec 32 := Scf.iv c0_i32_22 c1_i32_24 k0_t1
  let c1_i32_171 : BitVec 32 := 1#32
  let v302 : BitVec 1 := Scalar.cmpi .slt arg13 c1_i32_171
  let v303 : BitVec 32 := Scalar.extui v302
  let c0_i32_172 : BitVec 32 := 0#32
  let v304 : BitVec 1 := Scalar.cmpi .ne v303 c0_i32_172
  v304

def k0_off20 (k0_t1 : Fin k0_t1_loop.trips) : Fin 1 → Nat :=
  let c0_i32_22 : BitVec 32 := 0#32
  let c1_i32_24 : BitVec 32 := 1#32
  let arg13 : BitVec 32 := Scf.iv c0_i32_22 c1_i32_24 k0_t1
  let c2_i32_26 : BitVec 32 := 2#32
  let v27 : BitVec 32 := Scalar.remsi arg13 c2_i32_26
  ![v27.toNat]
def k0_off21 (k0_t1 : Fin k0_t1_loop.trips) : Fin 4 → Nat :=
  let c0_i32_22 : BitVec 32 := 0#32
  let c1_i32_24 : BitVec 32 := 1#32
  let arg13 : BitVec 32 := Scf.iv c0_i32_22 c1_i32_24 k0_t1
  let c2_i32_26 : BitVec 32 := 2#32
  let v27 : BitVec 32 := Scalar.remsi arg13 c2_i32_26
  let c0_i32_176 : BitVec 32 := 0#32
  let c0_i32_177 : BitVec 32 := 0#32
  let c0_i32_178 : BitVec 32 := 0#32
  ![v27.toNat, 0, 0, 0]
def k0_off22 (k0_t1 : Fin k0_t1_loop.trips) : Fin 4 → Nat :=
  let c0_i32_22 : BitVec 32 := 0#32
  let c1_i32_24 : BitVec 32 := 1#32
  let arg13 : BitVec 32 := Scf.iv c0_i32_22 c1_i32_24 k0_t1
  let c1_i32_27 : BitVec 32 := 1#32
  let v28 : BitVec 32 := Scalar.addi arg13 c1_i32_27
  let c2_i32_28 : BitVec 32 := 2#32
  let v29 : BitVec 32 := Scalar.remsi v28 c2_i32_28
  let c0_i32_179 : BitVec 32 := 0#32
  let c0_i32_180 : BitVec 32 := 0#32
  let c0_i32_181 : BitVec 32 := 0#32
  ![v29.toNat, 0, 0, 0]
def k0_off23 (k0_t1 : Fin k0_t1_loop.trips) : Fin 1 → Nat :=
  let c0_i32_22 : BitVec 32 := 0#32
  let c1_i32_24 : BitVec 32 := 1#32
  let arg13 : BitVec 32 := Scf.iv c0_i32_22 c1_i32_24 k0_t1
  let c1_i32_27 : BitVec 32 := 1#32
  let v28 : BitVec 32 := Scalar.addi arg13 c1_i32_27
  let c2_i32_28 : BitVec 32 := 2#32
  let v29 : BitVec 32 := Scalar.remsi v28 c2_i32_28
  ![v29.toNat]
def k0_cond5 (k0_t1 : Fin k0_t1_loop.trips) : BitVec 1 :=
  let c0_i32_22 : BitVec 32 := 0#32
  let c1_i32_24 : BitVec 32 := 1#32
  let arg13 : BitVec 32 := Scf.iv c0_i32_22 c1_i32_24 k0_t1
  let c1_i32_173 : BitVec 32 := 1#32
  let v305 : BitVec 1 := Scalar.cmpi .slt arg13 c1_i32_173
  let v306 : BitVec 32 := Scalar.extui v305
  let c0_i32_174 : BitVec 32 := 0#32
  let v307 : BitVec 1 := Scalar.cmpi .ne v306 c0_i32_174
  v307

def k0_off24 (k0_t1 : Fin k0_t1_loop.trips) : Fin 1 → Nat :=
  let c0_i32_22 : BitVec 32 := 0#32
  let c1_i32_24 : BitVec 32 := 1#32
  let arg13 : BitVec 32 := Scf.iv c0_i32_22 c1_i32_24 k0_t1
  let c2_i32_26 : BitVec 32 := 2#32
  let v27 : BitVec 32 := Scalar.remsi arg13 c2_i32_26
  ![v27.toNat]
def k0_off25 (k0_t1 : Fin k0_t1_loop.trips) : Fin 4 → Nat :=
  let c0_i32_22 : BitVec 32 := 0#32
  let c1_i32_24 : BitVec 32 := 1#32
  let arg13 : BitVec 32 := Scf.iv c0_i32_22 c1_i32_24 k0_t1
  let c2_i32_26 : BitVec 32 := 2#32
  let v27 : BitVec 32 := Scalar.remsi arg13 c2_i32_26
  let c0_i32_176 : BitVec 32 := 0#32
  let c0_i32_177 : BitVec 32 := 0#32
  let c0_i32_178 : BitVec 32 := 0#32
  ![v27.toNat, 0, 0, 0]
def k0_off26 (k0_t1 : Fin k0_t1_loop.trips) : Fin 4 → Nat :=
  let c0_i32_22 : BitVec 32 := 0#32
  let c1_i32_24 : BitVec 32 := 1#32
  let arg13 : BitVec 32 := Scf.iv c0_i32_22 c1_i32_24 k0_t1
  let c1_i32_27 : BitVec 32 := 1#32
  let v28 : BitVec 32 := Scalar.addi arg13 c1_i32_27
  let c2_i32_28 : BitVec 32 := 2#32
  let v29 : BitVec 32 := Scalar.remsi v28 c2_i32_28
  let c0_i32_179 : BitVec 32 := 0#32
  let c0_i32_180 : BitVec 32 := 0#32
  let c0_i32_181 : BitVec 32 := 0#32
  ![v29.toNat, 0, 0, 0]
def k0_off27 (k0_t1 : Fin k0_t1_loop.trips) : Fin 1 → Nat :=
  let c0_i32_22 : BitVec 32 := 0#32
  let c1_i32_24 : BitVec 32 := 1#32
  let arg13 : BitVec 32 := Scf.iv c0_i32_22 c1_i32_24 k0_t1
  let c1_i32_27 : BitVec 32 := 1#32
  let v28 : BitVec 32 := Scalar.addi arg13 c1_i32_27
  let c2_i32_28 : BitVec 32 := 2#32
  let v29 : BitVec 32 := Scalar.remsi v28 c2_i32_28
  ![v29.toNat]
abbrev stage0_0 : Fin 1 → Memref sig .tc .smem S4x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== NearIdeal.lean ====
abbrev S64x128x512 : Shape := ⟨3, ![64, 128, 512]⟩
abbrev S512x8192 : Shape := ⟨2, ![512, 8192]⟩
abbrev S64x128x128x64 : Shape := ⟨4, ![64, 128, 128, 64]⟩
abbrev S8192x512 : Shape := ⟨2, ![8192, 512]⟩
abbrev S32 : Shape := ⟨1, ![32]⟩
abbrev S64x128x8192 : Shape := ⟨3, ![64, 128, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S64x128x128x128 : Shape := ⟨4, ![64, 128, 128, 128]⟩
abbrev S1x1x128x128 : Shape := ⟨4, ![1, 1, 128, 128]⟩
abbrev S64x128x128 : Shape := ⟨3, ![64, 128, 128]⟩
abbrev S64x128x128x1 : Shape := ⟨4, ![64, 128, 128, 1]⟩
abbrev S1x1x128x1 : Shape := ⟨4, ![1, 1, 128, 1]⟩
abbrev S64x128x64x128 : Shape := ⟨4, ![64, 128, 64, 128]⟩
abbrev S32x1 : Shape := ⟨2, ![32, 1]⟩
abbrev S32x2 : Shape := ⟨2, ![32, 2]⟩
abbrev S64x1 : Shape := ⟨2, ![64, 1]⟩
abbrev S32x4 : Shape := ⟨2, ![32, 4]⟩
abbrev S64x128 : Shape := ⟨2, ![64, 128]⟩
abbrev S64x1x128x1 : Shape := ⟨4, ![64, 1, 128, 1]⟩

abbrev nBuf : Space → Nat
  | .hbm => 86
  | .vmem => 0
  | .smem => 0
  | _ => 0

abbrev bufTy : (tb : Table) → Fin (tcTables nBuf tb) → BufTy
  | .hbm, ⟨0, _⟩ => ⟨S64x128x512, .bf16⟩
  | .hbm, ⟨1, _⟩ => ⟨S512x8192, .bf16⟩
  | .hbm, ⟨2, _⟩ => ⟨S64x128x128x64, .bf16⟩
  | .hbm, ⟨3, _⟩ => ⟨S64x128x128x64, .bf16⟩
  | .hbm, ⟨4, _⟩ => ⟨S8192x512, .bf16⟩
  | .hbm, ⟨5, _⟩ => ⟨S32, .i32⟩
  | .hbm, ⟨6, _⟩ => ⟨S64x128x512, .f32⟩
  | .hbm, ⟨7, _⟩ => ⟨S512x8192, .f32⟩
  | .hbm, ⟨8, _⟩ => ⟨S64x128x128x64, .f32⟩
  | .hbm, ⟨9, _⟩ => ⟨S64x128x128x64, .f32⟩
  | .hbm, ⟨10, _⟩ => ⟨S8192x512, .f32⟩
  | .hbm, ⟨11, _⟩ => ⟨S64x128x8192, .f32⟩
  | .hbm, ⟨12, _⟩ => ⟨S64x128x128x64, .f32⟩
  | .hbm, ⟨13, _⟩ => ⟨S128, .i32⟩
  | .hbm, ⟨14, _⟩ => ⟨S128x1, .i32⟩
  | .hbm, ⟨15, _⟩ => ⟨S128, .i32⟩
  | .hbm, ⟨16, _⟩ => ⟨S1x128, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i1⟩
  | .hbm, ⟨24, _⟩ => ⟨S64x128x128x128, .f32⟩
  | .hbm, ⟨25, _⟩ => ⟨S_, .f32⟩
  | .hbm, ⟨26, _⟩ => ⟨S64x128x128x128, .f32⟩
  | .hbm, ⟨27, _⟩ => ⟨S64x128x128x128, .f32⟩
  | .hbm, ⟨28, _⟩ => ⟨S1x1x128x128, .i1⟩
  | .hbm, ⟨29, _⟩ => ⟨S_, .f32⟩
  | .hbm, ⟨30, _⟩ => ⟨S_, .f32⟩
  | .hbm, ⟨31, _⟩ => ⟨S64x128x128x128, .i1⟩
  | .hbm, ⟨32, _⟩ => ⟨S64x128x128x128, .f32⟩
  | .hbm, ⟨33, _⟩ => ⟨S64x128x128x128, .f32⟩
  | .hbm, ⟨34, _⟩ => ⟨S_, .f32⟩
  | .hbm, ⟨35, _⟩ => ⟨S64x128x128, .f32⟩
  | .hbm, ⟨36, _⟩ => ⟨S64x128x128x1, .f32⟩
  | .hbm, ⟨37, _⟩ => ⟨S64x128x128x128, .f32⟩
  | .hbm, ⟨38, _⟩ => ⟨S64x128x128x128, .f32⟩
  | .hbm, ⟨39, _⟩ => ⟨S64x128x128x128, .f32⟩
  | .hbm, ⟨40, _⟩ => ⟨S_, .i1⟩
  | .hbm, ⟨41, _⟩ => ⟨S128, .i1⟩
  | .hbm, ⟨42, _⟩ => ⟨S1x1x128x1, .i1⟩
  | .hbm, ⟨43, _⟩ => ⟨S_, .f32⟩
  | .hbm, ⟨44, _⟩ => ⟨S64x128x128, .f32⟩
  | .hbm, ⟨45, _⟩ => ⟨S64x128x128x1, .f32⟩
  | .hbm, ⟨46, _⟩ => ⟨S_, .f32⟩
  | .hbm, ⟨47, _⟩ => ⟨S_, .f32⟩
  | .hbm, ⟨48, _⟩ => ⟨S64x128x128x1, .i1⟩
  | .hbm, ⟨49, _⟩ => ⟨S64x128x128x1, .f32⟩
  | .hbm, ⟨50, _⟩ => ⟨S64x128x128x1, .f32⟩
  | .hbm, ⟨51, _⟩ => ⟨S64x128x128x128, .f32⟩
  | .hbm, ⟨52, _⟩ => ⟨S64x128x128x128, .f32⟩
  | .hbm, ⟨53, _⟩ => ⟨S1x1x128x1, .i1⟩
  | .hbm, ⟨54, _⟩ => ⟨S_, .f32⟩
  | .hbm, ⟨55, _⟩ => ⟨S_, .f32⟩
  | .hbm, ⟨56, _⟩ => ⟨S64x128x128x128, .i1⟩
  | .hbm, ⟨57, _⟩ => ⟨S64x128x128x128, .f32⟩
  | .hbm, ⟨58, _⟩ => ⟨S64x128x128x128, .f32⟩
  | .hbm, ⟨59, _⟩ => ⟨S64x128x64x128, .f32⟩
  | .hbm, ⟨60, _⟩ => ⟨S64x128x128x64, .f32⟩
  | .hbm, ⟨61, _⟩ => ⟨S32x1, .i32⟩
  | .hbm, ⟨62, _⟩ => ⟨S32x2, .i32⟩
  | .hbm, ⟨63, _⟩ => ⟨S64x1, .i32⟩
  | .hbm, ⟨64, _⟩ => ⟨S32x1, .i32⟩
  | .hbm, ⟨65, _⟩ => ⟨S32x4, .i32⟩
  | .hbm, ⟨66, _⟩ => ⟨S1x128, .i32⟩
  | .hbm, ⟨67, _⟩ => ⟨S64x128, .i32⟩
  | .hbm, ⟨68, _⟩ => ⟨S64x128, .i32⟩
  | .hbm, ⟨69, _⟩ => ⟨S64x128, .i32⟩
  | .hbm, ⟨70, _⟩ => ⟨S64x128, .i32⟩
  | .hbm, ⟨71, _⟩ => ⟨S_, .i32⟩
  | .hbm, ⟨72, _⟩ => ⟨S64x128, .i32⟩
  | .hbm, ⟨73, _⟩ => ⟨S64x128, .i1⟩
  | .hbm, ⟨74, _⟩ => ⟨S_, .i32⟩
  | .hbm, ⟨75, _⟩ => ⟨S64x128, .i32⟩
  | .hbm, ⟨76, _⟩ => ⟨S64x128, .i1⟩
  | .hbm, ⟨77, _⟩ => ⟨S64x128, .i1⟩
  | .hbm, ⟨78, _⟩ => ⟨S64x1x128x1, .i1⟩
  | .hbm, ⟨79, _⟩ => ⟨S_, .f32⟩
  | .hbm, ⟨80, _⟩ => ⟨S_, .f32⟩
  | .hbm, ⟨81, _⟩ => ⟨S64x128x128x64, .i1⟩
  | .hbm, ⟨82, _⟩ => ⟨S64x128x128x64, .f32⟩
  | .hbm, ⟨83, _⟩ => ⟨S64x128x128x64, .f32⟩
  | .hbm, ⟨84, _⟩ => ⟨S64x128x8192, .f32⟩
  | .hbm, ⟨85, _⟩ => ⟨S64x128x512, .f32⟩
  | _, _ => ⟨S64x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]
-- ==== Proof.Tiles.lean ====
/-
The values one trip of the attention loop computes, as plain functions of what it loads: the two weight blocks that
travel together in a ring slot, a head's tile of the keys and of the values, the eight context tiles of a group of
four heads and two batch rows, and the group's contribution to the result. Every statement is for any float carrier.
-/
module

public import proofs.«01_k».proof.Proof.Gen.KernelIdeal
public import proofs.«01_k».proof.Proof.Gen.KernelIdeal.Skeleton
public import Idealize.ShloMosaic.Lib.VecWindow
public import Idealize.ShloMosaic.Lib.ValueLayout
public import Idealize.ShloMosaic.Lib.Tactic

@[expose] public section

noncomputable section

namespace Cert.KernelIdeal.Hop

open Cert.KernelIdeal Cert.KernelIdeal.Gen
open Idealize.ShloMosaic
open Idealize.ShloMosaic.TcCoe
open Idealize.ShloMosaic.ValueIdx
open Idealize.SL Idealize.SL.RA Idealize.SL.BI

variable {F : FTy → Type} [FloatOps F]

/-! ## A ring slot's contents -/

/-- A block of weights repeated in both slots: each slot's elements of it are the block. -/
def spread {α : Type} (X : S2x512x256.Idx → α) : S2x2x512x256.Idx → α := fun i => X (ix3 (i 1) (i 2) (i 3))

/-- One of the two matrices of a block of weights, as the loads of it return it. -/
def part {α : Type} (X : S2x512x256.Idx → α) (p : Fin 2) : S1x1x512x256.Idx → α := fun y => X (ix3 p (y 2) (y 3))

/-- The elements of slot `b`. -/
def slotSet (b : Fin 2) : Finset S2x2x512x256.Idx := Finset.univ.filter fun i => (i 0).val = b.val

theorem mem_slotSet {b : Fin 2} {i : S2x2x512x256.Idx} : i ∈ slotSet b ↔ (i 0).val = b.val := by simp [slotSet]

theorem slotSet_disjoint : Disjoint (slotSet 0) (slotSet 1) := by
  rw [Finset.disjoint_left]; intro i h0 h1
  rw [mem_slotSet] at h0 h1; rw [h0] at h1; exact absurd h1 (by decide)

theorem slotSet_union : slotSet 0 ∪ slotSet 1 = Finset.univ := by
  ext i; simp only [Finset.mem_union, mem_slotSet, Finset.mem_univ, iff_true]
  have h : (i 0).val < 2 := (i 0).isLt
  show (i 0).val = 0 ∨ (i 0).val = 1
  omega

/-- The box of slot `b` is its elements. -/
theorem slot_box (b : Fin 2) (off : Fin 4 → ℕ) (h : off = ![b.val, 0, 0, 0]) (inb : ∀ a, off a + S1x2x512x256.size a ≤ S2x2x512x256.size a) :
    (Rect.unit (s := S2x2x512x256) off S1x2x512x256.size inb).set = slotSet b := by
  subst h; ext i
  rw [Rect.mem_set_unit, mem_slotSet]
  constructor
  · intro h; have := h 0
    have h0 : ((![b.val, 0, 0, 0] : Fin 4 → ℕ) 0) = b.val := rfl
    have h1 : S1x2x512x256.size 0 = 1 := rfl
    omega
  · intro h a
    fin_cases a
    · show b.val ≤ (i 0).val ∧ (i 0).val < b.val + 1
      rw [h]; omega
    · exact ⟨Nat.zero_le _, by show (i 1).val < 0 + 2; have := (i 1).isLt; change (i 1).val < 2 at this; omega⟩
    · exact ⟨Nat.zero_le _, by show (i 2).val < 0 + 512; have := (i 2).isLt; change (i 2).val < 512 at this; omega⟩
    · exact ⟨Nat.zero_le _, by show (i 3).val < 0 + 256; have := (i 3).isLt; change (i 3).val < 256 at this; omega⟩

/-- The box of one of the two matrices of slot `b` lies in the slot. -/
theorem part_box (b p : Fin 2) (off : Fin 4 → ℕ) (h : off = ![b.val, p.val, 0, 0]) (inb : ∀ a, off a + S1x1x512x256.size a ≤ S2x2x512x256.size a) :
    (Rect.unit (s := S2x2x512x256) off S1x1x512x256.size inb).set ⊆ slotSet b := by
  subst h; intro i hi
  rw [Rect.mem_set_unit] at hi
  have := hi 0
  rw [mem_slotSet]
  have h0 : ((![b.val, p.val, 0, 0] : Fin 4 → ℕ) 0) = b.val := rfl
  have h1 : S1x1x512x256.size 0 = 1 := rfl
  omega

/-- A load of one matrix of a spread block is that matrix. -/
theorem part_read {α : Type} (X : S2x512x256.Idx → α) (b p : Fin 2) (off : Fin 4 → ℕ) (h : off = ![b.val, p.val, 0, 0])
    (inb : ∀ a, off a + S1x1x512x256.size a ≤ S2x2x512x256.size a) :
    VecWindow.window (spread X) off S1x1x512x256.size inb = part X p := by
  subst h; funext y
  refine congrArg X ?_
  have h1 : (y 1).val = 0 := by have := (y 1).isLt; change (y 1).val < 1 at this; omega
  funext a
  fin_cases a <;> apply Fin.ext
  · show p.val + 1 * (y 1).val = p.val; omega
  · show 0 + 1 * (y 2).val = (y 2).val; omega
  · show 0 + 1 * (y 3).val = (y 3).val; omega

/-! ## One head's tile -/

/-- Tile `n` of a stack of 256 head tiles, as the loads of it return it. -/
def headTile {α : Type} (K : S256x128x64.Idx → α) (n : Fin 256) : S1x128x64.Idx → α := fun y => K (ix3 n (y 1) (y 2))

theorem headTile_read {α : Type} (K : S256x128x64.Idx → α) (n : Fin 256) (off : Fin 3 → ℕ) (h : off = ![n.val, 0, 0])
    (inb : ∀ a, off a + S1x128x64.size a ≤ S256x128x64.size a) :
    VecWindow.window K off S1x128x64.size inb = headTile K n := by
  subst h; funext y
  refine congrArg K ?_
  have h1 : (y 0).val = 0 := by have := (y 0).isLt; change (y 0).val < 1 at this; omega
  funext a
  fin_cases a <;> apply Fin.ext
  · show n.val + 1 * (y 0).val = n.val; omega
  · show 0 + 1 * (y 1).val = (y 1).val; omega
  · show 0 + 1 * (y 2).val = (y 2).val; omega

/-- Tile of head `h` (of four) and batch row `b` (of two) of device `d`'s group. -/
def tileIx (d : Fin 32) (h : Fin 4) (b : Fin 2) : Fin 256 := ⟨(d.val * 4 + h.val) * 2 + b.val, by omega⟩

/-- The queries of a group: the rows against its block of the query weights. -/
def queries (x : S256x512.Idx → Elt F .bf16) (X : S2x512x256.Idx → Elt F .bf16) : FVec F S256x256 .f32 := k0_pay25 (part X 0) x

/-- One head's queries, cut out of the group's. -/
def headQ (q : FVec F S256x256 .f32) : Fin 2 → Fin 4 → FVec F S128x64 .bf16
  | 0, 0 => truncf .bf16 (extractStridedSlice S128x64 ![0, 0] q slices_S256x256_o0_0_S128x64) bitsLt_bf16_f32
  | 0, 1 => truncf .bf16 (extractStridedSlice S128x64 ![0, 64] q slices_S256x256_o0_64_S128x64) bitsLt_bf16_f32
  | 0, 2 => truncf .bf16 (extractStridedSlice S128x64 ![0, 128] q slices_S256x256_o0_128_S128x64) bitsLt_bf16_f32
  | 0, 3 => truncf .bf16 (extractStridedSlice S128x64 ![0, 192] q slices_S256x256_o0_192_S128x64) bitsLt_bf16_f32
  | 1, 0 => truncf .bf16 (extractStridedSlice S128x64 ![128, 0] q slices_S256x256_o128_0_S128x64) bitsLt_bf16_f32
  | 1, 1 => truncf .bf16 (extractStridedSlice S128x64 ![128, 64] q slices_S256x256_o128_64_S128x64) bitsLt_bf16_f32
  | 1, 2 => truncf .bf16 (extractStridedSlice S128x64 ![128, 128] q slices_S256x256_o128_128_S128x64) bitsLt_bf16_f32
  | 1, 3 => truncf .bf16 (extractStridedSlice S128x64 ![128, 192] q slices_S256x256_o128_192_S128x64) bitsLt_bf16_f32

/-- One head's context: softmax of the scaled scores, against the values. -/
def headCtx (q : FVec F S128x64 .bf16) (k v : S1x128x64.Idx → Elt F .bf16) : FVec F S128x64 .bf16 := k0_pay27 q k v

/-- The context tile of batch row `b` and head `h` of device `d`'s group. -/
def tile (x : S256x512.Idx → Elt F .bf16) (K V : S256x128x64.Idx → Elt F .bf16) (X : S2x512x256.Idx → Elt F .bf16)
    (d : Fin 32) (b : Fin 2) (h : Fin 4) : FVec F S128x64 .bf16 :=
  headCtx (headQ (queries x X) b h) (headTile K (tileIx d h b)) (headTile V (tileIx d h b))

/-! ## The context of a group, assembled from its eight tiles -/

/-- Eight tiles side by side. -/
def assemble {α : Type} (T : Fin 2 → Fin 4 → S128x64.Idx → α) : S256x256.Idx → α := fun i =>
  T ⟨(i 0).val / 128, by have := (i 0).isLt; change (i 0).val < 256 at this; omega⟩
    ⟨(i 1).val / 64, by have := (i 1).isLt; change (i 1).val < 256 at this; omega⟩
    (ix2 ⟨(i 0).val % 128, Nat.mod_lt _ (by decide)⟩ ⟨(i 1).val % 64, Nat.mod_lt _ (by decide)⟩)

/-- A store of a tile through the context buffer. -/
theorem put_write (f : (cc0_scratch2 : Ref sig .tc).ty.Contents (Elt F)) (off : Fin 2 → ℕ) (inb : ∀ a, off a + S128x64.size a ≤ S256x256.size a)
    (w : S128x64.Idx → Elt F .bf16) :
    ((Memref.whole cc0_scratch2 : Memref sig .tc .vmem S256x256 .bf16).access (Rect.unit (s := S256x256) off S128x64.size inb)).write (Elt F) f w Finset.univ
      = VecWindow.put (s := S256x256) f off S128x64.size w := by
  have h := View.read_writes_cons_put (Val := Elt F) (View.whole (cc0_scratch2 : Ref sig .tc)) f (off := off) (off' := off) (size := S128x64.size) inb w [] rfl
  rw [View.writes_nil] at h
  exact h

theorem put_apply {α : Type} (x : S256x256.Idx → α) (r c : ℕ) (w : S128x64.Idx → α) (i : S256x256.Idx) :
    VecWindow.put x ![r, c] S128x64.size w i
      = if h : (r ≤ (i 0).val ∧ (i 0).val < r + 128) ∧ (c ≤ (i 1).val ∧ (i 1).val < c + 64) then
          w (ix2 ⟨(i 0).val - r, by omega⟩ ⟨(i 1).val - c, by omega⟩) else x i := by
  unfold VecWindow.put
  by_cases h : (r ≤ (i 0).val ∧ (i 0).val < r + 128) ∧ (c ≤ (i 1).val ∧ (i 1).val < c + 64)
  · rw [dif_pos h, dif_pos (fun a => by fin_cases a; exacts [h.1, h.2])]
    exact congrArg w (funext fun a => by fin_cases a <;> rfl)
  · rw [dif_neg h, dif_neg (fun h' => h ⟨h' 0, h' 1⟩)]

/-- Eight tiles put over any contents cover them. -/
theorem put_tiles {α : Type} (f : S256x256.Idx → α) (T : Fin 2 → Fin 4 → S128x64.Idx → α) :
    VecWindow.put (VecWindow.put (VecWindow.put (VecWindow.put (VecWindow.put (VecWindow.put (VecWindow.put (VecWindow.put f
      ![0, 0] S128x64.size (T 0 0)) ![0, 64] S128x64.size (T 0 1)) ![0, 128] S128x64.size (T 0 2)) ![0, 192] S128x64.size (T 0 3))
      ![128, 0] S128x64.size (T 1 0)) ![128, 64] S128x64.size (T 1 1)) ![128, 128] S128x64.size (T 1 2)) ![128, 192] S128x64.size (T 1 3)
      = assemble T := by
  funext i
  have h0 : (i 0).val < 256 := (i 0).isLt
  have h1 : (i 1).val < 256 := (i 1).isLt
  have key : ∀ (b : Fin 2) (h : Fin 4) (p : (128 * b.val ≤ (i 0).val ∧ (i 0).val < 128 * b.val + 128) ∧ (64 * h.val ≤ (i 1).val ∧ (i 1).val < 64 * h.val + 64)),
      T b h (ix2 ⟨(i 0).val - 128 * b.val, by omega⟩ ⟨(i 1).val - 64 * h.val, by omega⟩) = assemble T i := by
    intro b h p
    unfold assemble
    have e0 : (⟨(i 0).val / 128, by omega⟩ : Fin 2) = b := Fin.ext (by show (i 0).val / 128 = b.val; omega)
    have e1 : (⟨(i 1).val / 64, by omega⟩ : Fin 4) = h := Fin.ext (by show (i 1).val / 64 = h.val; omega)
    have e2 : (⟨(i 0).val % 128, Nat.mod_lt _ (by decide)⟩ : Fin 128) = ⟨(i 0).val - 128 * b.val, by omega⟩ := Fin.ext (by show (i 0).val % 128 = _; dsimp only; omega)
    have e3 : (⟨(i 1).val % 64, Nat.mod_lt _ (by decide)⟩ : Fin 64) = ⟨(i 1).val - 64 * h.val, by omega⟩ := Fin.ext (by show (i 1).val % 64 = _; dsimp only; omega)
    rw [e0, e1, e2, e3]
  have S : (S128x64.size : Fin 2 → ℕ) = ![128, 64] := rfl
  repeat rw [put_apply]
  split_ifs with p1 p2 p3 p4 p5 p6 p7 p8
  · exact key 1 3 p1
  · exact key 1 2 p2
  · exact key 1 1 p3
  · exact key 1 0 p4
  · exact key 0 3 p5
  · exact key 0 2 p6
  · exact key 0 1 p7
  · exact key 0 0 p8
  · exfalso; omega

/-- The context of device `d`'s group. -/
def context (x : S256x512.Idx → Elt F .bf16) (K V : S256x128x64.Idx → Elt F .bf16) (X : S2x512x256.Idx → Elt F .bf16)
    (d : Fin 32) : S256x256.Idx → Elt F .bf16 := assemble (tile x K V X d)

/-- The accumulated result after device `d`'s group is added. -/
def addGroup (x : S256x512.Idx → Elt F .bf16) (K V : S256x128x64.Idx → Elt F .bf16) (X : S2x512x256.Idx → Elt F .bf16)
    (d : Fin 32) (acc : S2x128x512.Idx → Elt F .f32) : S2x128x512.Idx → Elt F .f32 :=
  k0_pay3 (k0_pay24 (part X 1)) (context x K V X d) acc

end Cert.KernelIdeal.Hop
-- ==== Proof.Table.lean ====
/-
The ring the devices stand on, read off the table the kernel is given: a device's two neighbours and its place, the
device standing at each place; with them the offsets, the peers and the side conditions of the body, decided over the
32 devices.
-/
module

public import proofs.«01_k».proof.Proof.Tiles

@[expose] public section

noncomputable section

namespace Cert.KernelIdeal.Hop

open Cert.KernelIdeal Cert.KernelIdeal.Gen
open Idealize.ShloMosaic
open Idealize.ShloMosaic.TcCoe
open Idealize.ShloMosaic.ValueIdx

/-- The table's words. -/
def word (r : Fin 4) (c : Fin 32) : BitVec 32 := lit0 ⟨r.val * 32 + c.val, by omega⟩

set_option backward.proofsInPublic true in
/-- The neighbour a device's clockwise copies go to. -/
def nxt (c : Dev nD) : Dev nD := ⟨(word 0 c).toNat % 32, Nat.mod_lt _ (by decide)⟩
set_option backward.proofsInPublic true in
/-- The neighbour its counter-clockwise copies go to. -/
def prv (c : Dev nD) : Dev nD := ⟨(word 1 c).toNat % 32, Nat.mod_lt _ (by decide)⟩
/-- Its place on the ring. -/
def place (c : Dev nD) : ℕ := (word 2 c).toNat

theorem prv_nxt (c : Dev nD) : prv (nxt c) = c := by revert c; decide +kernel
theorem nxt_prv (c : Dev nD) : nxt (prv c) = c := by revert c; decide +kernel
theorem nxt_ne_prv (c : Dev nD) : nxt c ≠ prv c := by revert c; decide +kernel
theorem nxt_ne (c : Dev nD) : nxt c ≠ c := by revert c; decide +kernel
theorem prv_ne (c : Dev nD) : prv c ≠ c := by revert c; decide +kernel

/-- A number as a table word. -/
def asWord (d : Dev nD) : BitVec 32 := BitVec.ofNat 32 d.val

theorem word0 (c : Dev nD) : word 0 c = asWord (nxt c) := by revert c; decide +kernel
theorem word1 (c : Dev nD) : word 1 c = asWord (prv c) := by revert c; decide +kernel

/-- The side conditions of the words. -/
theorem chk1 (d : Dev nD) : k0_chk1 (asWord d) := by revert d; decide +kernel
theorem chk2 (d : Dev nD) : k0_chk2 (asWord d) := by revert d; decide +kernel
theorem chk3 (c : Dev nD) : k0_chk3 (word 2 c) := by revert c; decide +kernel
theorem chk4 (d : Dev nD) : k0_chk4 (asWord d) := by revert d; decide +kernel
theorem chk5 (t : Fin k0_t1_loop.trips) (d : Dev nD) : k0_chk5 t (asWord d) := by revert t d; decide +kernel

/-- The peers named by the words. -/
theorem dev1_eq (d : Dev nD) (h) : (⟨k0_dev1 (asWord d), h⟩ : Dev nD) = d := Fin.ext (by revert d; decide +kernel)
theorem dev2_eq (d : Dev nD) (h) : (⟨k0_dev2 (asWord d), h⟩ : Dev nD) = d := Fin.ext (by revert d; decide +kernel)
theorem dev3_eq (d : Dev nD) (h) : (⟨k0_dev3 (asWord d), h⟩ : Dev nD) = d := Fin.ext (by revert d; decide +kernel)
theorem dev4_eq (d : Dev nD) (h) : (⟨k0_dev4 (asWord d), h⟩ : Dev nD) = d := Fin.ext (by revert d; decide +kernel)
theorem dev5_eq (d : Dev nD) (h) : (⟨k0_dev5 (asWord d), h⟩ : Dev nD) = d := Fin.ext (by revert d; decide +kernel)
theorem dev6_eq (d : Dev nD) (h) : (⟨k0_dev6 (asWord d), h⟩ : Dev nD) = d := Fin.ext (by revert d; decide +kernel)

/-- Where the words are read. -/
theorem off1_eq (c : Dev nD) : k0_off1 c = ![0, c.val] := by revert c; decide +kernel
theorem off2_eq (c : Dev nD) : k0_off2 c = ![1, c.val] := by revert c; decide +kernel
theorem off3_eq (c : Dev nD) : k0_off3 c = ![2, c.val] := by revert c; decide +kernel

/-- The head tiles of a device's group. -/
theorem off15_eq (d : Dev nD) (h : Fin 4) (b : Fin 2) :
    k0_off15 (asWord d) (BitVec.ofNat 32 h.val) (BitVec.ofNat 32 b.val) = ![(tileIx d h b).val, 0, 0] := by revert d h b; decide +kernel
theorem off19_eq (d : Dev nD) (h : Fin 4) (b : Fin 2) :
    k0_off19 (asWord d) (BitVec.ofNat 32 h.val) (BitVec.ofNat 32 b.val) = ![(tileIx d h b).val, 0, 0] := by revert d h b; decide +kernel

end Cert.KernelIdeal.Hop
-- ==== Proof.Trips.lean ====
/-
The loop's seventeen trips: which stages run at which trip, the slots and the semaphores a trip names by its parity,
and the words naming the groups a trip adds: the one that has come so many steps clockwise, and the one that has come
as many steps counter-clockwise.
-/
module

public import proofs.«01_k».proof.Proof.Table

@[expose] public section

noncomputable section

namespace Cert.KernelIdeal.Hop

open Cert.KernelIdeal Cert.KernelIdeal.Gen
open Idealize.ShloMosaic
open Idealize.ShloMosaic.TcCoe
open Idealize.ShloMosaic.ValueIdx
open Idealize.SL Idealize.SL.RA Idealize.SL.BI

abbrev Trip : Type := Fin k0_t1_loop.trips

/-- A trip's slot. -/
def par (s : ℕ) : Fin 2 := ⟨s % 2, Nat.mod_lt _ (by decide)⟩

theorem par_two (s : ℕ) : par (s + 1 + 1) = par s := Fin.ext (by show (s + 1 + 1) % 2 = s % 2; omega)
theorem half_two (s : ℕ) : (s + 1 + 1) / 2 = s / 2 + 1 := by omega

/-! ## The stages -/

theorem c1_on (s : Trip) (h : 1 ≤ s.val ∧ s.val < 16) : k0_cond1 s = 1#1 := by revert s; decide +kernel
theorem c1_off (s : Trip) (h : ¬ (1 ≤ s.val ∧ s.val < 16)) : ¬ k0_cond1 s = 1#1 := by revert s; decide +kernel
theorem c2_on (s : Trip) (h : s.val < 16) : k0_cond2 s = 1#1 := by revert s; decide +kernel
theorem c2_off (s : Trip) (h : ¬ s.val < 16) : ¬ k0_cond2 s = 1#1 := by revert s; decide +kernel
theorem c3_on (s : Trip) (h : s.val < 15) : k0_cond3 s = 1#1 := by revert s; decide +kernel
theorem c3_off (s : Trip) (h : ¬ s.val < 15) : ¬ k0_cond3 s = 1#1 := by revert s; decide +kernel
theorem c4_on (s : Trip) (h : 1 ≤ s.val ∧ s.val < 16) : k0_cond4 s = 1#1 := by revert s; decide +kernel
theorem c4_off (s : Trip) (h : ¬ (1 ≤ s.val ∧ s.val < 16)) : ¬ k0_cond4 s = 1#1 := by revert s; decide +kernel
theorem c5_on (s : Trip) (h : s.val < 16) : k0_cond5 s = 1#1 := by revert s; decide +kernel
theorem c5_off (s : Trip) (h : ¬ s.val < 16) : ¬ k0_cond5 s = 1#1 := by revert s; decide +kernel
theorem c6_on (s : Trip) (h : s.val < 15) : k0_cond6 s = 1#1 := by revert s; decide +kernel
theorem c6_off (s : Trip) (h : ¬ s.val < 15) : ¬ k0_cond6 s = 1#1 := by revert s; decide +kernel

/-! ## The slots -/

theorem o7 (s : Trip) : k0_off7 s = ![(par s.val).val, 0, 0, 0] := by revert s; decide +kernel
theorem o6 (s : Trip) : k0_off6 s = ![(par (s.val + 1)).val, 0, 0, 0] := by revert s; decide +kernel
theorem o11 (s : Trip) : k0_off11 s = ![(par s.val).val, 0, 0, 0] := by revert s; decide +kernel
theorem o10 (s : Trip) : k0_off10 s = ![(par (s.val + 1)).val, 0, 0, 0] := by revert s; decide +kernel
theorem o21 (s : Trip) : k0_off21 s = ![(par s.val).val, 0, 0, 0] := by revert s; decide +kernel
theorem o22 (s : Trip) : k0_off22 s = ![(par (s.val + 1)).val, 0, 0, 0] := by revert s; decide +kernel
theorem o25 (s : Trip) : k0_off25 s = ![(par s.val).val, 0, 0, 0] := by revert s; decide +kernel
theorem o26 (s : Trip) : k0_off26 s = ![(par (s.val + 1)).val, 0, 0, 0] := by revert s; decide +kernel
theorem o13 (s : Trip) : k0_off13 s = ![(par s.val).val, ((0 : Fin 2)).val, 0, 0] := by revert s; decide +kernel
theorem o14 (s : Trip) : k0_off14 s = ![(par s.val).val, ((1 : Fin 2)).val, 0, 0] := by revert s; decide +kernel
theorem o17 (s : Trip) : k0_off17 s = ![(par s.val).val, ((0 : Fin 2)).val, 0, 0] := by revert s; decide +kernel
theorem o18 (s : Trip) : k0_off18 s = ![(par s.val).val, ((1 : Fin 2)).val, 0, 0] := by revert s; decide +kernel

/-! ## The semaphores -/

theorem o4 (s : Trip) : k0_off4 s = ![(par s.val).val] := by revert s; decide +kernel
theorem o5 (s : Trip) : k0_off5 s = ![(par (s.val + 1)).val] := by revert s; decide +kernel
theorem o8 (s : Trip) : k0_off8 s = ![(par s.val).val] := by revert s; decide +kernel
theorem o9 (s : Trip) : k0_off9 s = ![(par (s.val + 1)).val] := by revert s; decide +kernel
theorem o20 (s : Trip) : k0_off20 s = ![(par s.val).val] := by revert s; decide +kernel
theorem o23 (s : Trip) : k0_off23 s = ![(par (s.val + 1)).val] := by revert s; decide +kernel
theorem o24 (s : Trip) : k0_off24 s = ![(par s.val).val] := by revert s; decide +kernel
theorem o27 (s : Trip) : k0_off27 s = ![(par (s.val + 1)).val] := by revert s; decide +kernel

/-- The semaphores of the four arrays, by slot. -/
theorem sem_at (base : ℕ) (hb) (b : Fin 2) (off : Fin 1 → ℕ) (h : off = ![b.val]) (inb) (e : (Rect.unit (s := S2) off S1.size inb).shape.Squeezes S_) :
    ((((SemArray.consecutive base S2 hb : DmaSems sig S2).slice (Rect.unit (s := S2) off S1.size inb)).squeeze S_ e).sem).val = base + b.val := by
  subst h
  show base + (S2.rowMajor _).val = _
  rw [Shape.rowMajor_val_one]
  congr 1
  generalize Shape.reshapeEquiv _ _ = j
  have h0 : (j 0).val = 0 := by have := (j 0).isLt; have e : S1.size 0 = 1 := rfl; exact Nat.lt_one_iff.mp (by exact this)
  show b.val + 1 * (j 0).val = b.val
  rw [h0]; omega
theorem sem3 (b : Fin 2) (off : Fin 1 → ℕ) (h : off = ![b.val]) (inb) (e : (Rect.unit (s := S2) off S1.size inb).shape.Squeezes S_) :
    ((cc0_scratch3.slice (Rect.unit (s := S2) off S1.size inb)).squeeze S_ e).sem = (⟨6 + b.val, by have := b.isLt; show _ < 14; omega⟩ : DmaSem sig) :=
  Fin.ext (sem_at 6 _ b off h inb e)
theorem sem4 (b : Fin 2) (off : Fin 1 → ℕ) (h : off = ![b.val]) (inb) (e : (Rect.unit (s := S2) off S1.size inb).shape.Squeezes S_) :
    ((cc0_scratch4.slice (Rect.unit (s := S2) off S1.size inb)).squeeze S_ e).sem = (⟨8 + b.val, by have := b.isLt; show _ < 14; omega⟩ : DmaSem sig) :=
  Fin.ext (sem_at 8 _ b off h inb e)
theorem sem5 (b : Fin 2) (off : Fin 1 → ℕ) (h : off = ![b.val]) (inb) (e : (Rect.unit (s := S2) off S1.size inb).shape.Squeezes S_) :
    ((cc0_scratch5.slice (Rect.unit (s := S2) off S1.size inb)).squeeze S_ e).sem = (⟨10 + b.val, by have := b.isLt; show _ < 14; omega⟩ : DmaSem sig) :=
  Fin.ext (sem_at 10 _ b off h inb e)
theorem sem6 (b : Fin 2) (off : Fin 1 → ℕ) (h : off = ![b.val]) (inb) (e : (Rect.unit (s := S2) off S1.size inb).shape.Squeezes S_) :
    ((cc0_scratch6.slice (Rect.unit (s := S2) off S1.size inb)).squeeze S_ e).sem = (⟨12 + b.val, by have := b.isLt; show _ < 14; omega⟩ : DmaSem sig) :=
  Fin.ext (sem_at 12 _ b off h inb e)

/-! ## The groups -/

/-- The word naming the group the clockwise stage of a trip adds. -/
theorem pos_R (s : Trip) (c : Dev nD) : ∃ p : Fin 32, k0_off12 (word 2 c) s = ![3, p.val] ∧ word 3 p = asWord (prv^[s.val] c) := by revert s c; decide +kernel
/-- The word naming the group the counter-clockwise stage of a trip adds. -/
theorem pos_L (s : Trip) (h : 1 ≤ s.val ∧ s.val < 16) (c : Dev nD) : ∃ p : Fin 32, k0_off16 (word 2 c) s = ![3, p.val] ∧ word 3 p = asWord (nxt^[s.val] c) := by revert s c; decide +kernel

end Cert.KernelIdeal.Hop
-- ==== Proof.Talk.lean ====
/-
How the devices talk: at every trip of the loop a device meets its two neighbours at the barrier and then copies the
weights it holds on, one pair to each. As a schedule of rounds: a trip's meeting is a round of the barrier, and a copy
takes a round of the semaphore of the slot it is read from and one of the slot it lands in. The meeting's two signals
hand a device the slots it copies into, one at each neighbour; a copy's arrival hands its receiver the slot at the
weights that come, with the word that the sender has come past the meeting; its departure hands back the half share of
the slot it was read from.
-/
module

public import proofs.«01_k».proof.Proof.Trips
public import proofs.«01_k».proof.Proof.Gen.KernelIdeal.Launch
public import Idealize.ShloMosaic.Lib.Pipeline.Launch
public import Idealize.ShloMosaic.Lib.Pipeline.Kit
public import Mathlib.Algebra.Order.BigOperators.Group.LocallyFinite
public import Mathlib.Tactic.Abel

@[expose] public section

noncomputable section

namespace Cert.KernelIdeal.Hop

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The buffers -/

abbrev tM : Memref sig .tc .smem S4x32 .i32 := Memref.whole cc0_stg0_0
abbrev xM : Memref sig .tc .vmem S256x512 .bf16 := Memref.whole cc0_stg1_0
abbrev wM : Memref sig .tc .vmem S2x512x256 .bf16 := Memref.whole cc0_stg2_0
abbrev kM : Memref sig .tc .vmem S256x128x64 .bf16 := Memref.whole cc0_stg3_0
abbrev vM : Memref sig .tc .vmem S256x128x64 .bf16 := Memref.whole cc0_stg4_0
abbrev oM : Memref sig .tc .vmem S2x128x512 .f32 := Memref.whole cc0_stg5_0
/-- The two rings' slots, clockwise and counter-clockwise, and the context buffer. -/
abbrev aM : Memref sig .tc .vmem S2x2x512x256 .bf16 := Memref.whole cc0_scratch0
abbrev bM : Memref sig .tc .vmem S2x2x512x256 .bf16 := Memref.whole cc0_scratch1
abbrev gM : Memref sig .tc .vmem S256x256 .bf16 := Memref.whole cc0_scratch2

/-- The slot of a ring buffer at offsets `off`, as the copies name it. -/
abbrev slotM (M : Memref sig .tc .vmem S2x2x512x256 .bf16) (off : Fin 4 → ℕ) (h : ∀ a, off a + S1x2x512x256.size a ≤ S2x2x512x256.size a) :
    Memref sig .tc .vmem S2x512x256 .bf16 :=
  (M.slice (Rect.unit (s := S2x2x512x256) off S1x2x512x256.size h) (fun _ => rfl)).squeeze S2x512x256 squeezes_S1x2x512x256_S2x512x256

/-! ## The semaphores -/

abbrev barS : Sem sig := barrier0
abbrev sR (b : Fin 2) : DmaSem sig := ⟨6 + b.val, by have := b.isLt; show _ < 14; omega⟩
abbrev vR (b : Fin 2) : DmaSem sig := ⟨8 + b.val, by have := b.isLt; show _ < 14; omega⟩
abbrev sL (b : Fin 2) : DmaSem sig := ⟨10 + b.val, by have := b.isLt; show _ < 14; omega⟩
abbrev vL (b : Fin 2) : DmaSem sig := ⟨12 + b.val, by have := b.isLt; show _ < 14; omega⟩

abbrev cell (c : Dev nD) (q : DmaSem sig) : GSem nD τ sig := ((c : Thread nD τ), .dma q)
abbrev barCell (c : Dev nD) : GSem nD τ sig := ((c : Thread nD τ), .reg barS)

/-- The eight the launch hands over with the kernel's own scope. -/
abbrev osem : Fin 8 → SemLoc sig := fun k => .dma ⟨6 + k.val, by have := k.isLt; show 6 + k.val < 14; omega⟩

abbrev slot1 : ∀ a, (![1, 0, 0, 0] : Fin 4 → ℕ) a + S1x2x512x256.size a ≤ S2x2x512x256.size a := by decide
/-- What one copy moves, in the units its semaphores count. -/
abbrev N : ℕ := (slotM aM ![1, 0, 0, 0] slot1).view.dmaCredit
theorem N_pos : 0 < N := View.dmaCredit_pos _ (by decide)

/-! ## The slots as assertions -/

/-- A slot of a ring buffer, at a share, holding `f`. -/
def aPts (q : PosShare TreeShare) (c : Dev nD) (b : Fin 2) (f : S2x2x512x256.Idx → Elt F .bf16) : sProp 𝕄 :=
  ((c : Thread nD τ).loc cc0_scratch0) ↦[slotSet b]{q} f
def bPts (q : PosShare TreeShare) (c : Dev nD) (b : Fin 2) (f : S2x2x512x256.Idx → Elt F .bf16) : sProp 𝕄 :=
  ((c : Thread nD τ).loc cc0_scratch1) ↦[slotSet b]{q} f

omit [FloatOps F] in
instance aPts_storable (q) (c : Dev nD) (b f) : BI.Storable (upEmb : UEmb _ 𝕄) (aPts (F := F) q c b f) := by unfold aPts; infer_instance
omit [FloatOps F] in
instance bPts_storable (q) (c : Dev nD) (b f) : BI.Storable (upEmb : UEmb _ 𝕄) (bPts (F := F) q c b f) := by unfold bPts; infer_instance

omit [FloatOps F] in
/-- A slot at the whole share is the slot at each half. -/
theorem a_halves (c : Dev nD) (b f) : aPts (F := F) fullShare c b f ⊣⊢ iprop(aPts fullShare.left c b f ∗ aPts fullShare.right c b f) := by
  unfold aPts; exact pointsTo_share (PosShare.mem_left_op_right fullShare)
omit [FloatOps F] in
theorem b_halves (c : Dev nD) (b f) : bPts (F := F) fullShare c b f ⊣⊢ iprop(bPts fullShare.left c b f ∗ bPts fullShare.right c b f) := by
  unfold bPts; exact pointsTo_share (PosShare.mem_left_op_right fullShare)

omit [FloatOps F] in
/-- A slot's memref covers its elements. -/
theorem aSet (b : Fin 2) (off) (h : off = ![b.val, 0, 0, 0]) (inb) : (slotM aM off inb).view.set = slotSet b := by
  show ((((View.whole cc0_scratch0).slice _).reshape _ _).set) = _
  rw [View.set_reshape, View.set_slice_whole]; exact slot_box b off h inb
omit [FloatOps F] in
theorem bSet (b : Fin 2) (off) (h : off = ![b.val, 0, 0, 0]) (inb) : (slotM bM off inb).view.set = slotSet b := by
  show ((((View.whole cc0_scratch1).slice _).reshape _ _).set) = _
  rw [View.set_reshape, View.set_slice_whole]; exact slot_box b off h inb

omit [FloatOps F] in
/-- Where the slot's memref places an index. -/
theorem aEmb (b : Fin 2) (off) (h : off = ![b.val, 0, 0, 0]) (inb) (y : S2x512x256.Idx) :
    (slotM aM off inb).view.emb y = ix4 b (y 0) (y 1) (y 2) := by
  subst h
  show (Rect.unit (s := S2x2x512x256) _ S1x2x512x256.size inb).emb (Shape.reshapeEquiv _ y) = _
  have e : Shape.reshapeEquiv (s := S1x2x512x256) (s' := S2x512x256) (by decide) y = ix4 (0 : Fin 1) (y 0) (y 1) (y 2) :=
    (congrArg _ (eq_ix3 y)).trans (reshapeEquiv_ix3_1abc _ (y 0) (y 1) (y 2))
  rw [e]
  funext a; fin_cases a <;> apply Fin.ext
  · show b.val + 1 * 0 = b.val; omega
  · show 0 + 1 * (y 0).val = (y 0).val; omega
  · show 0 + 1 * (y 1).val = (y 1).val; omega
  · show 0 + 1 * (y 2).val = (y 2).val; omega
omit [FloatOps F] in
theorem bEmb (b : Fin 2) (off) (h : off = ![b.val, 0, 0, 0]) (inb) (y : S2x512x256.Idx) :
    (slotM bM off inb).view.emb y = ix4 b (y 0) (y 1) (y 2) := aEmb b off h inb y

/-- What a copy of a slot leaves in the slot it lands in. -/
theorem aLands (b b' : Fin 2) (off off') (h : off = ![b.val, 0, 0, 0]) (h' : off' = ![b'.val, 0, 0, 0]) (inb inb')
    (fd : S2x2x512x256.Idx → Elt F .bf16) (X : S2x512x256.Idx → Elt F .bf16) (i : S2x2x512x256.Idx) (hi : i ∈ (slotM aM off' inb').view.set) :
    (slotM aM off' inb').view.write (Elt F) fd ((slotM aM off inb).view.read (Elt F) (spread X)) Finset.univ i = spread X i := by
  obtain ⟨y, -, rfl⟩ := Finset.mem_map.mp hi
  rw [View.write_emb_of_mem _ _ (Finset.mem_univ y), View.read_apply, cast_cast, cast_eq]
  show spread X ((slotM aM off inb).view.emb y) = spread X ((slotM aM off' inb').view.emb y)
  rw [aEmb b off h inb y, aEmb b' off' h' inb' y]; rfl
theorem bLands (b b' : Fin 2) (off off') (h : off = ![b.val, 0, 0, 0]) (h' : off' = ![b'.val, 0, 0, 0]) (inb inb')
    (fd : S2x2x512x256.Idx → Elt F .bf16) (X : S2x512x256.Idx → Elt F .bf16) (i : S2x2x512x256.Idx) (hi : i ∈ (slotM bM off' inb').view.set) :
    (slotM bM off' inb').view.write (Elt F) fd ((slotM bM off inb).view.read (Elt F) (spread X)) Finset.univ i = spread X i :=
  aLands b b' off off' h h' inb inb' fd X i hi

/-! ## The schedule -/

variable (w : Dev nD → S2x512x256.Idx → Elt F .bf16)

/-- What the meeting of trip `r` hands device `d`: `nxt d`'s clockwise landing slot, `prv d`'s counter-clockwise one. -/
def barPayT (r : ℕ) (d : Dev nD) : sProp 𝕄 := iprop((∃ f, aPts fullShare (nxt d) (par (r + 1)) f) ∗ reached ER (cell (nxt d) (vR (par (r + 1)))) (r / 2))
def barPayF (r : ℕ) (d : Dev nD) : sProp 𝕄 :=
  if r < 15 then iprop((∃ f, bPts fullShare (prv d) (par (r + 1)) f) ∗ reached ER (cell (prv d) (vL (par (r + 1)))) (r / 2)) else iprop(emp)

def sRPay (b : Fin 2) (r : ℕ) (d : Dev nD) : sProp 𝕄 := aPts fullShare.right d b (spread (w (prv^[2 * r + b.val] d)))
def vRPay (b : Fin 2) (r : ℕ) (d : Dev nD) : sProp 𝕄 :=
  iprop(aPts fullShare d b (spread (w (prv^[2 * r + 1 - b.val + 1] d))) ∗ reached ER (barCell (prv d)) (2 * r + 1 - b.val + 1))
def sLPay (b : Fin 2) (r : ℕ) (d : Dev nD) : sProp 𝕄 := bPts fullShare.right d b (spread (w (nxt^[2 * r + b.val] d)))
def vLPay (b : Fin 2) (r : ℕ) (d : Dev nD) : sProp 𝕄 :=
  iprop(bPts fullShare d b (spread (w (nxt^[2 * r + 1 - b.val + 1] d))) ∗ reached ER (barCell (nxt d)) (2 * r + 1 - b.val + 1))

/-- The payload of a copy semaphore, by its number. -/
def copyPay (q : ℕ) (r : ℕ) (d : Dev nD) : sProp 𝕄 :=
  if q = 6 then sRPay w 0 r d else if q = 7 then sRPay w 1 r d else if q = 8 then vRPay w 0 r d else if q = 9 then vRPay w 1 r d
  else if q = 10 then sLPay w 0 r d else if q = 11 then sLPay w 1 r d else if q = 12 then vLPay w 0 r d else if q = 13 then vLPay w 1 r d
  else iprop(emp)

/-- How many rounds a copy semaphore has, by its number. -/
def rounds (q : ℕ) : ℕ := if q < 6 then 0 else if q = 11 ∨ q = 12 then 7 else 8

def sched : Rounds.Schedule (GSem nD τ sig) Bool 𝕄 where
  duties g r := if g.1.2 = .tc then (match g.2 with
    | .reg s => if s = barS ∧ r < 16 then Finset.univ else ∅
    | .dma q => if r < rounds q.val then {false} else ∅) else ∅
  unitless _ := False
  amount g _ _ := if g.2 = .reg barS then 1 else N
  payload g r d := match g.2 with
    | .reg _ => if d then barPayT r g.1.1 else barPayF r g.1.1
    | .dma q => copyPay w q.val r g.1.1
  amount_pos g _ _ _ := by
    by_cases h : g.2 = .reg barS
    · rw [if_pos h]; exact Nat.one_pos
    · rw [if_neg h]; exact N_pos

instance sched_storable (g : GSem nD τ sig) (r : ℕ) (d : Bool) : BI.Storable (upEmb : UEmb _ 𝕄) ((sched (F := F) w).payload g r d) := by
  obtain ⟨t, _ | _⟩ := g <;> dsimp only [sched]
  · unfold barPayT barPayF
    (repeat' split) <;> infer_instance
  · unfold copyPay sRPay vRPay sLPay vLPay
    (repeat' split) <;> infer_instance

section Sched
variable (c : Dev nD)

theorem duties_bar (r : ℕ) (h : r < 16) : (sched (F := F) w).duties (barCell c) r = Finset.univ := if_pos ⟨rfl, h⟩
theorem duties_copy (q : DmaSem sig) (r : ℕ) (h : r < rounds q.val) : (sched (F := F) w).duties (cell c q) r = {false} := if_pos h
theorem later_bar (r : ℕ) (h : 16 ≤ r) : (sched (F := F) w).duties (barCell c) r = ∅ := if_neg (fun h' => by omega)
theorem later_copy (q : DmaSem sig) (r : ℕ) (h : rounds q.val ≤ r) : (sched (F := F) w).duties (cell c q) r = ∅ := if_neg (by omega)

theorem amount_bar (r : ℕ) (d : Bool) : (sched (F := F) w).amount (barCell c) r d = 1 := by dsimp only [sched]; exact if_pos rfl
theorem amount_copy (q : DmaSem sig) (r : ℕ) (d : Bool) : (sched (F := F) w).amount (cell c q) r d = N := by dsimp only [sched]; exact if_neg (fun h => by cases h)

theorem expect_bar (r : ℕ) (h : r < 16) : (sched (F := F) w).expect (barCell c) r = 2 := by
  unfold Schedule.expect Schedule.amountOf
  rw [duties_bar w c r h, Finset.sum_congr rfl fun d _ => amount_bar w c r d, Finset.sum_const, Finset.card_univ, Fintype.card_bool, smul_eq_mul]
theorem expect_copy (q : DmaSem sig) (r : ℕ) (h : r < rounds q.val) : (sched (F := F) w).expect (cell c q) r = N := by
  unfold Schedule.expect Schedule.amountOf; rw [duties_copy w c q r h, Finset.sum_singleton, amount_copy]

theorem payload_bar_true (r : ℕ) : (sched (F := F) w).payload (barCell c) r true = barPayT r c := rfl
theorem payload_bar_false (r : ℕ) : (sched (F := F) w).payload (barCell c) r false = barPayF r c := rfl

/-- The rounds a trip's two copies take. -/
theorem rounds_sR (s : ℕ) (h : s < 16) : s / 2 < rounds (sR (par s)).val := by
  rcases Nat.mod_two_eq_zero_or_one s with e | e <;> simp only [rounds, par, e] <;> (norm_num; omega)
theorem rounds_vR (s : ℕ) (h : s < 16) : s / 2 < rounds (vR (par (s + 1))).val := by
  rcases Nat.mod_two_eq_zero_or_one (s + 1) with e | e <;> simp only [rounds, par, e] <;> (norm_num; omega)
theorem rounds_sL (s : ℕ) (h : s < 15) : s / 2 < rounds (sL (par s)).val := by
  rcases Nat.mod_two_eq_zero_or_one s with e | e <;> simp only [rounds, par, e] <;> (norm_num; omega)
theorem rounds_vL (s : ℕ) (h : s < 15) : s / 2 < rounds (vL (par (s + 1))).val := by
  rcases Nat.mod_two_eq_zero_or_one (s + 1) with e | e <;> simp only [rounds, par, e] <;> (norm_num; omega)

theorem pay_sR (b : Fin 2) (r : ℕ) (d : Bool) : (sched (F := F) w).payload (cell c (sR b)) r d = sRPay w b r c := by fin_cases b <;> rfl
theorem pay_vR (b : Fin 2) (r : ℕ) (d : Bool) : (sched (F := F) w).payload (cell c (vR b)) r d = vRPay w b r c := by fin_cases b <;> rfl
theorem pay_sL (b : Fin 2) (r : ℕ) (d : Bool) : (sched (F := F) w).payload (cell c (sL b)) r d = sLPay w b r c := by fin_cases b <;> rfl
theorem pay_vL (b : Fin 2) (r : ℕ) (d : Bool) : (sched (F := F) w).payload (cell c (vL b)) r d = vLPay w b r c := by fin_cases b <;> rfl

theorem trip_s (s : ℕ) : 2 * (s / 2) + (par s).val = s := by show 2 * (s / 2) + s % 2 = s; omega
theorem trip_v (s : ℕ) : 2 * (s / 2) + 1 - (par (s + 1)).val = s := by show 2 * (s / 2) + 1 - (s + 1) % 2 = s; omega

theorem payload_sR (s : ℕ) (d : Bool) : (sched (F := F) w).payload (cell c (sR (par s))) (s / 2) d = aPts fullShare.right c (par s) (spread (w (prv^[s] c))) := by
  rw [pay_sR, sRPay, trip_s]
theorem payload_vR (s : ℕ) (d : Bool) : (sched (F := F) w).payload (cell c (vR (par (s + 1)))) (s / 2) d
    = iprop(aPts fullShare c (par (s + 1)) (spread (w (prv^[s + 1] c))) ∗ reached ER (barCell (prv c)) (s + 1)) := by
  rw [pay_vR, vRPay, trip_v]
theorem payload_sL (s : ℕ) (d : Bool) : (sched (F := F) w).payload (cell c (sL (par s))) (s / 2) d = bPts fullShare.right c (par s) (spread (w (nxt^[s] c))) := by
  rw [pay_sL, sLPay, trip_s]
theorem payload_vL (s : ℕ) (d : Bool) : (sched (F := F) w).payload (cell c (vL (par (s + 1)))) (s / 2) d
    = iprop(bPts fullShare c (par (s + 1)) (spread (w (nxt^[s + 1] c))) ∗ reached ER (barCell (nxt c)) (s + 1)) := by
  rw [pay_vL, vLPay, trip_v]

theorem rest_bar (r : ℕ) (h : r < 16) : bigSep ((sched (F := F) w).duties (barCell c) r \ ∅) (fun d => (sched (F := F) w).payload (barCell c) r d) = iprop(barPayF r c ∗ barPayT r c) := by
  rw [Finset.sdiff_empty, duties_bar w c r h, bigSep_univ_eq_bigSepL [false, true] (by decide) (by decide), bigSepL_cons_cons, bigSepL_singleton,
    payload_bar_false, payload_bar_true]
  rfl
theorem rest_copy (q : DmaSem sig) (r : ℕ) (h : r < rounds q.val) :
    bigSep ((sched (F := F) w).duties (cell c q) r \ ∅) (fun d => (sched (F := F) w).payload (cell c q) r d) = (sched (F := F) w).payload (cell c q) r false := by
  rw [Finset.sdiff_empty, duties_copy w c q r h, bigSep_singleton]

end Sched

/-! ## What a device owes, and the levels its waits are ordered by -/

/-- What a device owes for one trip: a unit to each neighbour's barrier, a copy's worth to each neighbour's arrival semaphore. -/
def dP (c : Dev nD) (t : ℕ) : CellTallies nD τ sig ℕ := tallyAt (barCell (prv c)) t 1
def dN (c : Dev nD) (t : ℕ) : CellTallies nD τ sig ℕ := tallyAt (barCell (nxt c)) t 1
def dR (c : Dev nD) (t : ℕ) : CellTallies nD τ sig ℕ := tallyAt (cell (nxt c) (vR (par (t + 1)))) t N
def dL (c : Dev nD) (t : ℕ) : CellTallies nD τ sig ℕ := tallyAt (cell (prv c) (vL (par (t + 1)))) t N

/-- What it owes from clockwise trip `n` on and from counter-clockwise trip `m` on. -/
def owed (c : Dev nD) (n m : ℕ) : CellTallies nD τ sig ℕ :=
  (∑ t ∈ Finset.Ico n 16, (dR c t + dN c t + dP c t)) + ∑ t ∈ Finset.Ico m 15, dL c t

/-- In a trip, after the first signal, after the second, after the clockwise copy. -/
def owedN (c : Dev nD) (s m : ℕ) : CellTallies nD τ sig ℕ := owed c (s + 1) m + dR c s + dN c s
def owedR (c : Dev nD) (s m : ℕ) : CellTallies nD τ sig ℕ := owed c (s + 1) m + dR c s

theorem owed_trip (c : Dev nD) (s m : ℕ) (h : s < 16) : owed c s m = owedN c s m + dP c s := by
  unfold owedN owed
  rw [Finset.sum_eq_sum_Ico_succ_bot h]
  abel
theorem owed_left (c : Dev nD) (n m : ℕ) (h : m < 15) : owed c n m = owed c n (m + 1) + dL c m := by
  unfold owed
  rw [Finset.sum_eq_sum_Ico_succ_bot h]
  abel
theorem owed_done (c : Dev nD) : owed c 16 15 = 0 := by
  unfold owed; rw [Finset.Ico_self, Finset.Ico_self, Finset.sum_empty, Finset.sum_empty, add_zero]

def L (g : GSem nD τ sig) : Finset ℕ := if g.1.2 = .tc then Finset.range 17 else ∅
def lv (g : GSem nD τ sig) (u : ℕ) : ℕ :=
  if g.2 = .reg barS then 3 * u + 1 else if g.2 = .dma (vR 0) ∨ g.2 = .dma (vR 1) ∨ g.2 = .dma (vL 0) ∨ g.2 = .dma (vL 1) then 3 * u + 2 else 0

theorem lv_bar (c : Dev nD) (u : ℕ) : lv (barCell c) u = 3 * u + 1 := if_pos rfl
theorem lv_vR (c : Dev nD) (b : Fin 2) (u : ℕ) : lv (cell c (vR b)) u = 3 * u + 2 := by
  unfold lv; rw [if_neg (fun h => by cases h), if_pos (by dsimp only; revert b; decide)]
theorem lv_vL (c : Dev nD) (b : Fin 2) (u : ℕ) : lv (cell c (vL b)) u = 3 * u + 2 := by
  unfold lv; rw [if_neg (fun h => by cases h), if_pos (by dsimp only; revert b; decide)]
theorem lv_sR (c : Dev nD) (b : Fin 2) (u : ℕ) : lv (cell c (sR b)) u = 0 := by
  unfold lv; rw [if_neg (fun h => by cases h), if_neg (by dsimp only; revert b; decide)]
theorem lv_sL (c : Dev nD) (b : Fin 2) (u : ℕ) : lv (cell c (sL b)) u = 0 := by
  unfold lv; rw [if_neg (fun h => by cases h), if_neg (by dsimp only; revert b; decide)]

theorem L_of_ne (g : GSem nD τ sig) (h : g.1.2 ≠ .tc) : L g = ∅ := if_neg h
theorem L_tc (c : Dev nD) (sm : SemLoc sig) : L ((c : Thread nD τ), sm) = Finset.range 17 := if_pos rfl

/-- A tag of a cell, at a level at or above a bound. -/
abbrev Above (k : ℕ) (g : GSem nD τ sig) (u : ℕ) : Prop := u ∈ L g ∧ k ≤ lv g u

theorem at_pos {g g' : GSem nD τ sig} {u u' k : ℕ} (h : 0 < (tallyAt g u k : CellTallies nD τ sig ℕ) g' u') : g' = g ∧ u' = u := by
  rw [tallyAt_apply] at h
  by_contra hn
  rw [if_neg hn] at h
  exact Nat.lt_irrefl 0 h

theorem dP_above {c : Dev nD} {t k : ℕ} (ht : t < 16) (hk : k ≤ 3 * t + 1) {g : GSem nD τ sig} {u : ℕ} (h : 0 < dP c t g u) : Above k g u := by
  obtain ⟨rfl, rfl⟩ := at_pos h
  exact ⟨by rw [L_tc]; exact Finset.mem_range.mpr (by omega), by rw [lv_bar]; omega⟩
theorem dN_above {c : Dev nD} {t k : ℕ} (ht : t < 16) (hk : k ≤ 3 * t + 1) {g : GSem nD τ sig} {u : ℕ} (h : 0 < dN c t g u) : Above k g u := by
  obtain ⟨rfl, rfl⟩ := at_pos h
  exact ⟨by rw [L_tc]; exact Finset.mem_range.mpr (by omega), by rw [lv_bar]; omega⟩
theorem dR_above {c : Dev nD} {t k : ℕ} (ht : t < 16) (hk : k ≤ 3 * t + 2) {g : GSem nD τ sig} {u : ℕ} (h : 0 < dR c t g u) : Above k g u := by
  obtain ⟨rfl, rfl⟩ := at_pos h
  exact ⟨by rw [L_tc]; exact Finset.mem_range.mpr (by omega), by rw [lv_vR]; omega⟩
theorem dL_above {c : Dev nD} {t k : ℕ} (ht : t < 16) (hk : k ≤ 3 * t + 2) {g : GSem nD τ sig} {u : ℕ} (h : 0 < dL c t g u) : Above k g u := by
  obtain ⟨rfl, rfl⟩ := at_pos h
  exact ⟨by rw [L_tc]; exact Finset.mem_range.mpr (by omega), by rw [lv_vL]; omega⟩

theorem add_above {k : ℕ} {A B : CellTallies nD τ sig ℕ} {g : GSem nD τ sig} {u : ℕ} (hA : 0 < A g u → Above k g u) (hB : 0 < B g u → Above k g u)
    (h : 0 < (A + B) g u) : Above k g u := by
  rw [Pi.add_apply, Finsupp.add_apply] at h
  rcases Nat.eq_zero_or_pos (A g u) with e | e
  · rw [e, Nat.zero_add] at h; exact hB h
  · exact hA e
theorem sum_above {k : ℕ} {S : Finset ℕ} {A : ℕ → CellTallies nD τ sig ℕ} {g : GSem nD τ sig} {u : ℕ} (hA : ∀ t ∈ S, 0 < A t g u → Above k g u)
    (h : 0 < (∑ t ∈ S, A t) g u) : Above k g u := by
  induction S using Finset.induction_on with
  | empty => exact absurd h (Nat.lt_irrefl 0)
  | insert a S ha ih =>
    rw [Finset.sum_insert ha] at h
    exact add_above (hA a (Finset.mem_insert_self a S)) (ih fun t ht => hA t (Finset.mem_insert_of_mem ht)) h

theorem owed_above {c : Dev nD} {n m k : ℕ} (hn : k ≤ 3 * n + 1) (hm : k ≤ 3 * m + 2 ∨ 15 ≤ m) {g : GSem nD τ sig} {u : ℕ} (h : 0 < owed c n m g u) : Above k g u := by
  unfold owed at h
  refine add_above (sum_above fun t ht => ?_) (sum_above fun t ht => ?_) h
  · have ht := Finset.mem_Ico.mp ht
    exact add_above (add_above (dR_above ht.2 (by omega)) (dN_above ht.2 (by omega))) (dP_above ht.2 (by omega))
  · have ht := Finset.mem_Ico.mp ht
    exact dL_above (by omega) (by omega)
theorem owedR_above {c : Dev nD} {s m k : ℕ} (hs : s < 16) (hn : k ≤ 3 * s + 2) (hm : k ≤ 3 * m + 2 ∨ 15 ≤ m) {g : GSem nD τ sig} {u : ℕ} (h : 0 < owedR c s m g u) : Above k g u := by
  unfold owedR at h
  exact add_above (owed_above (by omega) hm) (dR_above hs hn) h

omit [FloatOps F] in
/-- A wait at tag `t` of one of its own cells, below everything the device owes. -/
theorem mayWait (c : Dev nD) (sm : SemLoc sig) (t : ℕ) (ht : t < 17) (O : CellTallies nD τ sig ℕ)
    (hO : ∀ g u, 0 < O g u → Above (lv ((c : Thread nD τ), sm) t + 1) g u) : (levAts L lv : sProp 𝕄) ⊢ MayWait (c : Thread nD τ) sm t O :=
  MayOwe.of_cut (L := L) (lev := lv) (lv ((c : Thread nD τ), sm) t)
    (fun p hp => by rw [Finset.mem_singleton.mp hp, L_tc]; exact Finset.mem_range.mpr ht)
    (fun g u hg => (hO g u hg).1)
    (fun p hp => by rw [Finset.mem_singleton.mp hp])
    (fun g u hg => (hO g u hg).2)

end Cert.KernelIdeal.Hop
-- ==== Proof.Steps.lean ====
/-
The steps of the kernel's body that touch memory, each as one rule: a word of the table, one matrix of a ring slot,
a whole buffer, and a head's tile (the loads of its keys and values, the dead load and the store of its context).
-/
module

public import proofs.«01_k».proof.Proof.Talk

@[expose] public section

noncomputable section

namespace Cert.KernelIdeal.Hop

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ
abbrev 𝒱₀ : Variants := Variants.none

/-- A program of device `c`'s core leads to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The whole table, as a buffer's contents. -/
def table : S4x32.Idx → BitVec 32 := fun i => word (i 0) (i 1)

/-- A whole buffer of device `c`. -/
def buf (c : Dev nD) (b : Ref sig .tc) (f : b.ty.Contents (Elt F)) : sProp 𝕄 := ((c : Thread nD τ).loc b) ↦{fullShare} f

section
variable (c : Dev nD)

/-- A word of the table. -/
theorem wp_word {α : Type} {Q : α → sProp 𝕄} (r : Fin 4) (p : Fin 32) (v : BitVec 32) (hv : word r p = v) (off : Fin 2 → ℕ) (h : off = ![r.val, p.val]) (inb : ∀ a, off a + S1x1.size a ≤ S4x32.size a)
    {hl : tM.view.LoadsAt (Rect.unit (s := S4x32) off S1x1.size inb).toLoadRect} {k : (S1x1.Idx → Elt F .i32) → Prog (TpuEff nD τ sig (Elt F) Λ₀ .tc) α} :
    buf (F := F) c cc0_stg0_0 table
      ⊢ iprop((buf (F := F) c cc0_stg0_0 table -∗ WP c (k (fun _ => v)) Q)
        -∗ WP c (.op (.load tM (Rect.unit (s := S4x32) off S1x1.size inb).toLoadRect hl) k) Q) := by
  subst h hv
  have e : ((tM.access (Rect.unit (s := S4x32) ![r.val, p.val] S1x1.size inb)).read (Elt F) (table : (cc0_stg0_0 : Ref sig .tc).ty.Contents (Elt F))) = fun _ => word r p := by
    funext j
    have h0 : (j 0).val = 0 := Nat.lt_one_iff.mp (j 0).isLt
    have h1 : (j 1).val = 0 := Nat.lt_one_iff.mp (j 1).isLt
    show word _ _ = _
    congr 1 <;> apply Fin.ext
    · show r.val + 1 * (j 0).val = r.val; omega
    · show p.val + 1 * (j 1).val = p.val; omega
  unfold buf
  iintro H Hk
  iapply (wp_load_rect 𝒱₀ (c : Thread nD τ) none Set.univ (m := tM) (r := Rect.unit (s := S4x32) ![r.val, p.val] S1x1.size inb) (Finset.subset_univ _)) $$ H
  iintro H
  rw [e]
  iapply Hk; iexact H

/-- One matrix of a clockwise slot, and of a counter-clockwise one. -/
theorem wp_matR {α : Type} {Q : α → sProp 𝕄} (b p : Fin 2) (q : PosShare TreeShare) (X : S2x512x256.Idx → Elt F .bf16) (off : Fin 4 → ℕ) (h : off = ![b.val, p.val, 0, 0])
    (inb : ∀ a, off a + S1x1x512x256.size a ≤ S2x2x512x256.size a) {hl : aM.view.LoadsAt (Rect.unit (s := S2x2x512x256) off S1x1x512x256.size inb).toLoadRect}
    {k : (S1x1x512x256.Idx → Elt F .bf16) → Prog (TpuEff nD τ sig (Elt F) Λ₀ .tc) α} :
    aPts q c b (spread X)
      ⊢ iprop((aPts q c b (spread X) -∗ WP c (k (part X p)) Q)
        -∗ WP c (.op (.load aM (Rect.unit (s := S2x2x512x256) off S1x1x512x256.size inb).toLoadRect hl) k) Q) := by
  have e : ((aM.access (Rect.unit (s := S2x2x512x256) off S1x1x512x256.size inb)).read (Elt F) (spread X)) = part X p :=
    part_read X b p off h inb
  have hs : (aM.access (Rect.unit (s := S2x2x512x256) off S1x1x512x256.size inb)).set ⊆ slotSet b := by
    rw [View.set_slice_whole]; exact part_box b p off h inb
  unfold aPts
  iintro H Hk
  iapply (wp_load_rect 𝒱₀ (c : Thread nD τ) none Set.univ (m := aM) (r := Rect.unit (s := S2x2x512x256) off S1x1x512x256.size inb) hs) $$ H
  iintro H
  rw [e]
  iapply Hk; iexact H
theorem wp_matL {α : Type} {Q : α → sProp 𝕄} (b p : Fin 2) (q : PosShare TreeShare) (X : S2x512x256.Idx → Elt F .bf16) (off : Fin 4 → ℕ) (h : off = ![b.val, p.val, 0, 0])
    (inb : ∀ a, off a + S1x1x512x256.size a ≤ S2x2x512x256.size a) {hl : bM.view.LoadsAt (Rect.unit (s := S2x2x512x256) off S1x1x512x256.size inb).toLoadRect}
    {k : (S1x1x512x256.Idx → Elt F .bf16) → Prog (TpuEff nD τ sig (Elt F) Λ₀ .tc) α} :
    bPts q c b (spread X)
      ⊢ iprop((bPts q c b (spread X) -∗ WP c (k (part X p)) Q)
        -∗ WP c (.op (.load bM (Rect.unit (s := S2x2x512x256) off S1x1x512x256.size inb).toLoadRect hl) k) Q) := by
  have e : ((bM.access (Rect.unit (s := S2x2x512x256) off S1x1x512x256.size inb)).read (Elt F) (spread X)) = part X p :=
    part_read X b p off h inb
  have hs : (bM.access (Rect.unit (s := S2x2x512x256) off S1x1x512x256.size inb)).set ⊆ slotSet b := by
    rw [View.set_slice_whole]; exact part_box b p off h inb
  unfold bPts
  iintro H Hk
  iapply (wp_load_rect 𝒱₀ (c : Thread nD τ) none Set.univ (m := bM) (r := Rect.unit (s := S2x2x512x256) off S1x1x512x256.size inb) hs) $$ H
  iintro H
  rw [e]
  iapply Hk; iexact H

/-- The rows, the result, the context. -/
theorem wp_x {α : Type} {Q : α → sProp 𝕄} (f : S256x512.Idx → Elt F .bf16) (off : Fin 2 → ℕ) (h : off = fun _ => 0) (inb : ∀ a, off a + S256x512.size a ≤ S256x512.size a)
    {hl : xM.view.LoadsAt (Rect.unit (s := S256x512) off S256x512.size inb).toLoadRect} {k : (S256x512.Idx → Elt F .bf16) → Prog (TpuEff nD τ sig (Elt F) Λ₀ .tc) α} :
    buf (F := F) c cc0_stg1_0 f
      ⊢ iprop((buf (F := F) c cc0_stg1_0 f -∗ WP c (k f) Q) -∗ WP c (.op (.load xM (Rect.unit (s := S256x512) off S256x512.size inb).toLoadRect hl) k) Q) := by
  have e := Memref.readAt_unit_zero (Elt F) cc0_stg1_0 h inb f
  unfold buf
  iintro H Hk
  iapply (wp_load_rect 𝒱₀ (c : Thread nD τ) none Set.univ (m := xM) (r := Rect.unit (s := S256x512) off S256x512.size inb) (Finset.subset_univ _)) $$ H
  iintro H
  rw [show ((xM.access (Rect.unit (s := S256x512) off S256x512.size inb)).read (Elt F) f) = f from e]
  iapply Hk; iexact H
theorem wp_w {α : Type} {Q : α → sProp 𝕄} (f : S2x512x256.Idx → Elt F .bf16) (off : Fin 3 → ℕ) (h : off = fun _ => 0) (inb : ∀ a, off a + S2x512x256.size a ≤ S2x512x256.size a)
    {hl : wM.view.LoadsAt (Rect.unit (s := S2x512x256) off S2x512x256.size inb).toLoadRect} {k : (S2x512x256.Idx → Elt F .bf16) → Prog (TpuEff nD τ sig (Elt F) Λ₀ .tc) α} :
    buf (F := F) c cc0_stg2_0 f
      ⊢ iprop((buf (F := F) c cc0_stg2_0 f -∗ WP c (k f) Q) -∗ WP c (.op (.load wM (Rect.unit (s := S2x512x256) off S2x512x256.size inb).toLoadRect hl) k) Q) := by
  have e := Memref.readAt_unit_zero (Elt F) cc0_stg2_0 h inb f
  unfold buf
  iintro H Hk
  iapply (wp_load_rect 𝒱₀ (c : Thread nD τ) none Set.univ (m := wM) (r := Rect.unit (s := S2x512x256) off S2x512x256.size inb) (Finset.subset_univ _)) $$ H
  iintro H
  rw [show ((wM.access (Rect.unit (s := S2x512x256) off S2x512x256.size inb)).read (Elt F) f) = f from e]
  iapply Hk; iexact H
theorem wp_o {α : Type} {Q : α → sProp 𝕄} (f : S2x128x512.Idx → Elt F .f32) (off : Fin 3 → ℕ) (h : off = fun _ => 0) (inb : ∀ a, off a + S2x128x512.size a ≤ S2x128x512.size a)
    {hl : oM.view.LoadsAt (Rect.unit (s := S2x128x512) off S2x128x512.size inb).toLoadRect} {k : (S2x128x512.Idx → Elt F .f32) → Prog (TpuEff nD τ sig (Elt F) Λ₀ .tc) α} :
    buf (F := F) c cc0_stg5_0 f
      ⊢ iprop((buf (F := F) c cc0_stg5_0 f -∗ WP c (k f) Q) -∗ WP c (.op (.load oM (Rect.unit (s := S2x128x512) off S2x128x512.size inb).toLoadRect hl) k) Q) := by
  have e := Memref.readAt_unit_zero (Elt F) cc0_stg5_0 h inb f
  unfold buf
  iintro H Hk
  iapply (wp_load_rect 𝒱₀ (c : Thread nD τ) none Set.univ (m := oM) (r := Rect.unit (s := S2x128x512) off S2x128x512.size inb) (Finset.subset_univ _)) $$ H
  iintro H
  rw [show ((oM.access (Rect.unit (s := S2x128x512) off S2x128x512.size inb)).read (Elt F) f) = f from e]
  iapply Hk; iexact H
theorem wp_g {α : Type} {Q : α → sProp 𝕄} (f : S256x256.Idx → Elt F .bf16) (off : Fin 2 → ℕ) (h : off = fun _ => 0) (inb : ∀ a, off a + S256x256.size a ≤ S256x256.size a)
    {hl : gM.view.LoadsAt (Rect.unit (s := S256x256) off S256x256.size inb).toLoadRect} {k : (S256x256.Idx → Elt F .bf16) → Prog (TpuEff nD τ sig (Elt F) Λ₀ .tc) α} :
    buf (F := F) c cc0_scratch2 f
      ⊢ iprop((buf (F := F) c cc0_scratch2 f -∗ WP c (k f) Q) -∗ WP c (.op (.load gM (Rect.unit (s := S256x256) off S256x256.size inb).toLoadRect hl) k) Q) := by
  have e := Memref.readAt_unit_zero (Elt F) cc0_scratch2 h inb f
  unfold buf
  iintro H Hk
  iapply (wp_load_rect 𝒱₀ (c : Thread nD τ) none Set.univ (m := gM) (r := Rect.unit (s := S256x256) off S256x256.size inb) (Finset.subset_univ _)) $$ H
  iintro H
  rw [show ((gM.access (Rect.unit (s := S256x256) off S256x256.size inb)).read (Elt F) f) = f from e]
  iapply Hk; iexact H
theorem wp_oput {α : Type} {Q : α → sProp 𝕄} (f w : S2x128x512.Idx → Elt F .f32) (off : Fin 3 → ℕ) (h : off = fun _ => 0) (inb : ∀ a, off a + S2x128x512.size a ≤ S2x128x512.size a)
    {hx : (oM.access (Rect.unit (s := S2x128x512) off S2x128x512.size inb)).Stores Finset.univ} {hm} {k : PUnit → Prog (TpuEff nD τ sig (Elt F) Λ₀ .tc) α} :
    buf (F := F) c cc0_stg5_0 f
      ⊢ iprop((buf (F := F) c cc0_stg5_0 w -∗ WP c (k ⟨⟩) Q) -∗ WP c (.op (.store oM (Rect.unit (s := S2x128x512) off S2x128x512.size inb) w Finset.univ hx hm) k) Q) := by
  have e := Memref.write_access_unit_zero_univ (Elt F) cc0_stg5_0 h inb f w
  unfold buf
  iintro H Hk
  iapply (wp_store 𝒱₀ (c : Thread nD τ) none Set.univ (m := oM) (r := Rect.unit (s := S2x128x512) off S2x128x512.size inb) (Finset.subset_univ _)) $$ H
  iintro H
  rw [show ((oM.access (Rect.unit (s := S2x128x512) off S2x128x512.size inb)).write (Elt F) f w Finset.univ) = w from e]
  iapply Hk; iexact H

/-- A head's keys, its values, and its context put in place (behind a load whose value is dropped). -/
theorem wp_k {α : Type} {Q : α → sProp 𝕄} (n : Fin 256) (K : S256x128x64.Idx → Elt F .bf16) (off : Fin 3 → ℕ) (h : off = ![n.val, 0, 0]) (inb : ∀ a, off a + S1x128x64.size a ≤ S256x128x64.size a)
    {hl : kM.view.LoadsAt (Rect.unit (s := S256x128x64) off S1x128x64.size inb).toLoadRect} {k : (S1x128x64.Idx → Elt F .bf16) → Prog (TpuEff nD τ sig (Elt F) Λ₀ .tc) α} :
    buf (F := F) c cc0_stg3_0 K
      ⊢ iprop((buf (F := F) c cc0_stg3_0 K -∗ WP c (k (headTile K n)) Q) -∗ WP c (.op (.load kM (Rect.unit (s := S256x128x64) off S1x128x64.size inb).toLoadRect hl) k) Q) := by
  unfold buf
  iintro H Hk
  iapply (wp_load_rect 𝒱₀ (c : Thread nD τ) none Set.univ (m := kM) (r := Rect.unit (s := S256x128x64) off S1x128x64.size inb) (Finset.subset_univ _)) $$ H
  iintro H
  rw [show ((kM.access (Rect.unit (s := S256x128x64) off S1x128x64.size inb)).read (Elt F) K) = headTile K n from headTile_read K n off h inb]
  iapply Hk; iexact H
theorem wp_v {α : Type} {Q : α → sProp 𝕄} (n : Fin 256) (K : S256x128x64.Idx → Elt F .bf16) (off : Fin 3 → ℕ) (h : off = ![n.val, 0, 0]) (inb : ∀ a, off a + S1x128x64.size a ≤ S256x128x64.size a)
    {hl : vM.view.LoadsAt (Rect.unit (s := S256x128x64) off S1x128x64.size inb).toLoadRect} {k : (S1x128x64.Idx → Elt F .bf16) → Prog (TpuEff nD τ sig (Elt F) Λ₀ .tc) α} :
    buf (F := F) c cc0_stg4_0 K
      ⊢ iprop((buf (F := F) c cc0_stg4_0 K -∗ WP c (k (headTile K n)) Q) -∗ WP c (.op (.load vM (Rect.unit (s := S256x128x64) off S1x128x64.size inb).toLoadRect hl) k) Q) := by
  unfold buf
  iintro H Hk
  iapply (wp_load_rect 𝒱₀ (c : Thread nD τ) none Set.univ (m := vM) (r := Rect.unit (s := S256x128x64) off S1x128x64.size inb) (Finset.subset_univ _)) $$ H
  iintro H
  rw [show ((vM.access (Rect.unit (s := S256x128x64) off S1x128x64.size inb)).read (Elt F) K) = headTile K n from headTile_read K n off h inb]
  iapply Hk; iexact H
theorem wp_gput {α : Type} {Q : α → sProp 𝕄} (g : S256x256.Idx → Elt F .bf16) (v : S128x64.Idx → Elt F .bf16) (off : Fin 2 → ℕ) (inb : ∀ a, off a + S128x64.size a ≤ S256x256.size a)
    {hl : gM.view.LoadsAt (Rect.unit (s := S256x256) off S128x64.size inb).toLoadRect} {hx : (gM.access (Rect.unit (s := S256x256) off S128x64.size inb)).Stores Finset.univ} {hm}
    {k : PUnit → Prog (TpuEff nD τ sig (Elt F) Λ₀ .tc) α} :
    buf (F := F) c cc0_scratch2 g
      ⊢ iprop((buf (F := F) c cc0_scratch2 (VecWindow.put g off S128x64.size v) -∗ WP c (k ⟨⟩) Q)
        -∗ WP c (.op (.load gM (Rect.unit (s := S256x256) off S128x64.size inb).toLoadRect hl) fun _ =>
            .op (.store gM (Rect.unit (s := S256x256) off S128x64.size inb) v Finset.univ hx hm) k) Q) := by
  unfold buf
  iintro H Hk
  iapply (wp_load_rect 𝒱₀ (c : Thread nD τ) none Set.univ (m := gM) (r := Rect.unit (s := S256x256) off S128x64.size inb) (Finset.subset_univ _)) $$ H; iintro H
  iapply (wp_store 𝒱₀ (c : Thread nD τ) none Set.univ (m := gM) (r := Rect.unit (s := S256x256) off S128x64.size inb) (Finset.subset_univ _)) $$ H; iintro H
  rw [put_write]
  iapply Hk; iexact H

end

end Cert.KernelIdeal.Hop
-- ==== Proof.Moves.lean ====
/-
What a device holds of the protocol, and the steps that use it: the first fill of a ring slot, the meeting
of the neighbours, the two copies, the waits.
-/
module

public import proofs.«01_k».proof.Proof.Steps

@[expose] public section

noncomputable section

namespace Cert.KernelIdeal.Hop

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The first fill of a slot -/

/-- A matrix pair with a leading 1. -/
theorem pay46_apply (X : S2x512x256.Idx → Elt F .bf16) (y : S1x2x512x256.Idx) : k0_pay46 (F := F) X y = X (ix3 (y 1) (y 2) (y 3)) := by
  have h0 : (y 0).val = 0 := Nat.lt_one_iff.mp (y 0).isLt
  have e : Shape.reshapeEquiv (s := S1x2x512x256) (s' := S2x512x256) (by decide) (ix3 (y 1) (y 2) (y 3) : S2x512x256.Idx) = y :=
    (reshapeEquiv_ix3_1abc _ (y 1) (y 2) (y 3)).trans (by
      funext a; fin_cases a
      · exact Fin.ext h0.symm
      · rfl
      · rfl
      · rfl)
  show X (Shape.reshapeEquiv _ (Shape.reshapeEquiv _ y)) = _
  rw [Shape.reshapeEquiv_reshapeEquiv]
  conv_lhs => rw [← e]
  rw [Shape.reshapeEquiv_reshapeEquiv, Shape.reshapeEquiv_self]

/-- A write of a pair over a slot leaves the pair there. -/
theorem fill_apply (b : Fin 2) (off : Fin 4 → ℕ) (h : off = ![b.val, 0, 0, 0]) (inb : ∀ a, off a + S1x2x512x256.size a ≤ S2x2x512x256.size a)
    (f : S2x2x512x256.Idx → Elt F .bf16) (X : S2x512x256.Idx → Elt F .bf16) (i : S2x2x512x256.Idx) (hi : i ∈ slotSet b) :
    (aM.access (Rect.unit (s := S2x2x512x256) off S1x2x512x256.size inb)).write (Elt F) f (k0_pay46 (F := F) X) Finset.univ i = spread X i := by
  subst h
  rw [mem_slotSet] at hi
  have e : (aM.access (Rect.unit (s := S2x2x512x256) ![b.val, 0, 0, 0] S1x2x512x256.size inb)).emb (ix4 (⟨0, Nat.one_pos⟩ : Fin 1) (i 1) (i 2) (i 3)) = i := by
    funext a; fin_cases a <;> apply Fin.ext
    · show b.val + 1 * 0 = (i 0).val; omega
    · show 0 + 1 * (i 1).val = (i 1).val; omega
    · show 0 + 1 * (i 2).val = (i 2).val; omega
    · show 0 + 1 * (i 3).val = (i 3).val; omega
  conv_lhs => rw [← e]
  refine (View.write_emb_of_mem (v := aM.access (Rect.unit (s := S2x2x512x256) ![b.val, 0, 0, 0] S1x2x512x256.size inb)) _ _ (Finset.mem_univ _)).trans ?_
  rw [cast_eq, pay46_apply]
  rfl

theorem pay47_apply (X : S2x512x256.Idx → Elt F .bf16) (y : S1x2x512x256.Idx) : k0_pay47 (F := F) X y = X (ix3 (y 1) (y 2) (y 3)) := pay46_apply X y
theorem fill_apply' (b : Fin 2) (off : Fin 4 → ℕ) (h : off = ![b.val, 0, 0, 0]) (inb : ∀ a, off a + S1x2x512x256.size a ≤ S2x2x512x256.size a)
    (f : S2x2x512x256.Idx → Elt F .bf16) (X : S2x512x256.Idx → Elt F .bf16) (i : S2x2x512x256.Idx) (hi : i ∈ slotSet b) :
    (bM.access (Rect.unit (s := S2x2x512x256) off S1x2x512x256.size inb)).write (Elt F) f (k0_pay47 (F := F) X) Finset.univ i = spread X i := by
  subst h
  rw [mem_slotSet] at hi
  have e : (bM.access (Rect.unit (s := S2x2x512x256) ![b.val, 0, 0, 0] S1x2x512x256.size inb)).emb (ix4 (⟨0, Nat.one_pos⟩ : Fin 1) (i 1) (i 2) (i 3)) = i := by
    funext a; fin_cases a <;> apply Fin.ext
    · show b.val + 1 * 0 = (i 0).val; omega
    · show 0 + 1 * (i 1).val = (i 1).val; omega
    · show 0 + 1 * (i 2).val = (i 2).val; omega
    · show 0 + 1 * (i 3).val = (i 3).val; omega
  conv_lhs => rw [← e]
  refine (View.write_emb_of_mem (v := bM.access (Rect.unit (s := S2x2x512x256) ![b.val, 0, 0, 0] S1x2x512x256.size inb)) _ _ (Finset.mem_univ _)).trans ?_
  rw [cast_eq, pay47_apply]
  rfl

section
variable (c : Dev nD)

theorem aPts_congr (q : PosShare TreeShare) (b : Fin 2) (f g : S2x2x512x256.Idx → Elt F .bf16) (h : ∀ i ∈ slotSet b, f i = g i) : aPts q c b f = aPts q c b g := by
  unfold aPts; exact pointsTo_congr h
theorem bPts_congr (q : PosShare TreeShare) (b : Fin 2) (f g : S2x2x512x256.Idx → Elt F .bf16) (h : ∀ i ∈ slotSet b, f i = g i) : bPts q c b f = bPts q c b g := by
  unfold bPts; exact pointsTo_congr h

theorem wp_fillR {α : Type} {Q : α → sProp 𝕄} (f : S2x2x512x256.Idx → Elt F .bf16) (X : S2x512x256.Idx → Elt F .bf16) (off : Fin 4 → ℕ) (h : off = ![0, 0, 0, 0])
    (inb : ∀ a, off a + S1x2x512x256.size a ≤ S2x2x512x256.size a) {hl : aM.view.LoadsAt (Rect.unit (s := S2x2x512x256) off S1x2x512x256.size inb).toLoadRect}
    {hx : (aM.access (Rect.unit (s := S2x2x512x256) off S1x2x512x256.size inb)).Stores Finset.univ} {hm}
    {k : PUnit → Prog (TpuEff nD τ sig (Elt F) Λ₀ .tc) α} :
    aPts (F := F) fullShare c 0 f
      ⊢ iprop((aPts fullShare c 0 (spread X) -∗ WP c (k ⟨⟩) Q)
        -∗ WP c (.op (.load aM (Rect.unit (s := S2x2x512x256) off S1x2x512x256.size inb).toLoadRect hl) fun _ =>
            .op (.store aM (Rect.unit (s := S2x2x512x256) off S1x2x512x256.size inb) (k0_pay46 X) Finset.univ hx hm) k) Q) := by
  have hs : (aM.access (Rect.unit (s := S2x2x512x256) off S1x2x512x256.size inb)).set ⊆ slotSet 0 := by
    rw [View.set_slice_whole]; exact (slot_box 0 off h inb).le
  unfold aPts
  iintro H Hk
  iapply (wp_load_rect 𝒱₀ (c : Thread nD τ) none Set.univ (m := aM) (r := Rect.unit (s := S2x2x512x256) off S1x2x512x256.size inb) hs) $$ H; iintro H
  iapply (wp_store 𝒱₀ (c : Thread nD τ) none Set.univ (m := aM) (r := Rect.unit (s := S2x2x512x256) off S1x2x512x256.size inb) hs) $$ H; iintro H
  iapply Hk
  have e := aPts_congr c fullShare 0 _ _ (fill_apply 0 off h inb f X)
  unfold aPts at e
  iapply (Entails.of_eq e)
  iexact H
theorem wp_fillL {α : Type} {Q : α → sProp 𝕄} (f : S2x2x512x256.Idx → Elt F .bf16) (X : S2x512x256.Idx → Elt F .bf16) (off : Fin 4 → ℕ) (h : off = ![0, 0, 0, 0])
    (inb : ∀ a, off a + S1x2x512x256.size a ≤ S2x2x512x256.size a) {hl : bM.view.LoadsAt (Rect.unit (s := S2x2x512x256) off S1x2x512x256.size inb).toLoadRect}
    {hx : (bM.access (Rect.unit (s := S2x2x512x256) off S1x2x512x256.size inb)).Stores Finset.univ} {hm}
    {k : PUnit → Prog (TpuEff nD τ sig (Elt F) Λ₀ .tc) α} :
    bPts (F := F) fullShare c 0 f
      ⊢ iprop((bPts fullShare c 0 (spread X) -∗ WP c (k ⟨⟩) Q)
        -∗ WP c (.op (.load bM (Rect.unit (s := S2x2x512x256) off S1x2x512x256.size inb).toLoadRect hl) fun _ =>
            .op (.store bM (Rect.unit (s := S2x2x512x256) off S1x2x512x256.size inb) (k0_pay47 X) Finset.univ hx hm) k) Q) := by
  have hs : (bM.access (Rect.unit (s := S2x2x512x256) off S1x2x512x256.size inb)).set ⊆ slotSet 0 := by
    rw [View.set_slice_whole]; exact (slot_box 0 off h inb).le
  unfold bPts
  iintro H Hk
  iapply (wp_load_rect 𝒱₀ (c : Thread nD τ) none Set.univ (m := bM) (r := Rect.unit (s := S2x2x512x256) off S1x2x512x256.size inb) hs) $$ H; iintro H
  iapply (wp_store 𝒱₀ (c : Thread nD τ) none Set.univ (m := bM) (r := Rect.unit (s := S2x2x512x256) off S1x2x512x256.size inb) hs) $$ H; iintro H
  iapply Hk
  have e := bPts_congr c fullShare 0 _ _ (fill_apply' 0 off h inb f X)
  unfold bPts at e
  iapply (Entails.of_eq e)
  iexact H

/-! ## What a device holds of the protocol -/

variable (w : Dev nD → S2x512x256.Idx → Elt F .bf16)

def barEmb : Dev nD ↪ GSem nD τ sig := ⟨fun c => barCell c, fun _ _ h => congrArg (fun g : GSem nD τ sig => g.1.1) h⟩
theorem osem_inj : Function.Injective osem := by decide
theorem osem_ne_bar : ∀ k : Fin 8, osem k ≠ .reg barS := by decide
def copyEmb : Dev nD × Fin 8 ↪ GSem nD τ sig :=
  ⟨fun p => ((p.1 : Thread nD τ), osem p.2), fun _ _ h => Prod.ext (congrArg (fun g : GSem nD τ sig => g.1.1) h) (osem_inj (congrArg Prod.snd h))⟩
abbrev barCells : Finset (GSem nD τ sig) := Finset.univ.map barEmb
abbrev copyCells : Finset (GSem nD τ sig) := Finset.univ.map copyEmb

theorem bar_in (c : Dev nD) : barCell c ∈ (barCells ∪ copyCells : Finset (GSem nD τ sig)) :=
  Finset.mem_union_left _ (Finset.mem_map_of_mem barEmb (Finset.mem_univ c))
theorem copy_in (c : Dev nD) (k : Fin 8) : ((c : Thread nD τ), osem k) ∈ (barCells ∪ copyCells : Finset (GSem nD τ sig)) :=
  Finset.mem_union_right _ (Finset.mem_map_of_mem copyEmb (Finset.mem_univ (c, k)))
theorem copy_cell (c : Dev nD) (q : DmaSem sig) (h : 6 ≤ q.val) : cell c q ∈ (barCells ∪ copyCells : Finset (GSem nD τ sig)) := by
  have hq : q.val < 14 := q.isLt
  have e : cell c q = ((c : Thread nD τ), osem ⟨q.val - 6, by omega⟩) := by
    show ((c : Thread nD τ), SemLoc.dma q) = ((c : Thread nD τ), SemLoc.dma _)
    congr 2
    apply Fin.ext
    show q.val = 6 + (q.val - 6)
    omega
  rw [e]; exact copy_in c _

/-- The names of all the cells. -/
def invs (K : GSem nD τ sig → ℕ) : sProp 𝕄 := bigSep (barCells ∪ copyCells) fun g => cellInv ER (sched w) (K g) g
instance invs_persistent (K : GSem nD τ sig → ℕ) : BI.Persistent (invs w K) := by unfold invs; infer_instance
theorem inv_bar (K : GSem nD τ sig → ℕ) (d : Dev nD) : invs w K ⊢ cellInv ER (sched w) (K (barCell d)) (barCell d) := bigSep_elim (bar_in d)
theorem inv_copy (K : GSem nD τ sig → ℕ) (d : Dev nD) (q : DmaSem sig) (h : 6 ≤ q.val) : invs w K ⊢ cellInv ER (sched w) (K (cell d q)) (cell d q) :=
  bigSep_elim (copy_cell d q h)

/-- A cell of its own at a round. -/
def at_ (g : GSem nD τ sig) (r : ℕ) : sProp 𝕄 := iprop(atPos ER g r ∅ 0 ∗ reached ER g r)
omit [FloatOps F] in
theorem at_reached (g : GSem nD τ sig) (r : ℕ) : (at_ (F := F) g r : sProp 𝕄) ⊢ iprop(at_ g r ∗ reached ER g r) := by
  unfold at_
  iintro ⟨H, #Hr⟩
  isplitl [H]
  · isplitl [H]; · iexact H
    iexact Hr
  iexact Hr

theorem close (κ : ℕ) (g : GSem nD τ sig) (R : ℕ) (h : ∀ r, R ≤ r → (sched (F := F) w).duties g r = ∅) :
    iprop(cellInv ER (sched w) κ g ∗ at_ g R) ⊢ (|={Set.univ}=> semVal g 0 : sProp 𝕄) := by
  unfold at_
  iintro ⟨#HI, H, -⟩
  iapply (Rounds.cell_close ER (sched w) (Set.mem_univ κ) id h)
  isplitr; · iexact HI
  iexact H
theorem open_cell (κ : ℕ) (g : GSem nD τ sig) :
    iprop(cellInv ER (sched w) κ g ∗ openTok ER g ∗ semVal g 0) ⊢ (|={Set.univ}=> at_ g 0 : sProp 𝕄) := by
  unfold at_
  iintro ⟨#HI, Ho, Hs⟩
  iapply (Rounds.cell_open ER (sched w) (g := g) (Set.mem_univ κ))
  isplitr; · iexact HI
  isplitl [Ho]; · iexact Ho
  iexact Hs

variable (K : GSem nD τ sig → ℕ)

theorem amountA (b : Fin 2) (off : Fin 4 → ℕ) (h : off = ![b.val, 0, 0, 0]) (inb) : (slotM aM off inb).view.dmaCredit = N := by subst h; fin_cases b <;> rfl
theorem amountB (b : Fin 2) (off : Fin 4 → ℕ) (h : off = ![b.val, 0, 0, 0]) (inb) : (slotM bM off inb).view.dmaCredit = N := by subst h; fin_cases b <;> rfl

/-! ## The meeting -/

theorem wp_tellP {α : Type} {Q : α → sProp 𝕄} (s : ℕ) (hs : s < 16) (m : ℕ) (d : Dev nD) (hd : d = prv c) (a : ℕ) (ha : a = 1) (W : Waits sig ℕ)
    {k : PUnit → Prog (TpuEff nD τ sig (Elt F) Λ₀ .tc) α} :
    iprop(invs w K ∗ owes (c : Thread nD τ) (owed c s m) W ∗ dutyTok ER (barCell (prv c)) s true ∗ barPayT (F := F) s (prv c) ∗ reached ER (barCell (prv c)) s)
      ⊢ iprop((owes (c : Thread nD τ) (owedN c s m) W -∗ WP c (k ⟨⟩) Q) -∗ WP c (.op (.semSignal (d : Thread nD τ) barS a) k) Q) := by
  subst hd ha
  iintro ⟨#HI, HO, Hd, HP, Hr⟩ Hk
  iapply (Rounds.wp_signal 𝒱₀ ER (sched w) (c : Thread nD τ) none (dst := (prv c : Thread nD τ)) (κ := K (barCell (prv c)))
      (d := true) (r := s) (by rw [duties_bar w _ s hs]; exact Finset.mem_univ _) (amount_bar w (prv c) s true) s (owedN c s m) (owed_trip c s m hs)) $$ [HO Hd HP Hr]
  · isplitr; · iapply (inv_bar w K (prv c)); iexact HI
    isplitl [HO]; · iexact HO
    isplitl [Hd]; · iexact Hd
    isplitl [HP]; · rw [payload_bar_true]; iexact HP
    iexact Hr
  iexact Hk

theorem wp_tellN {α : Type} {Q : α → sProp 𝕄} (s : ℕ) (hs : s < 16) (m : ℕ) (d : Dev nD) (hd : d = nxt c) (a : ℕ) (ha : a = 1) (W : Waits sig ℕ)
    {k : PUnit → Prog (TpuEff nD τ sig (Elt F) Λ₀ .tc) α} :
    iprop(invs w K ∗ owes (c : Thread nD τ) (owedN c s m) W ∗ dutyTok ER (barCell (nxt c)) s false ∗ barPayF (F := F) s (nxt c) ∗ reached ER (barCell (nxt c)) s)
      ⊢ iprop((owes (c : Thread nD τ) (owedR c s m) W -∗ WP c (k ⟨⟩) Q) -∗ WP c (.op (.semSignal (d : Thread nD τ) barS a) k) Q) := by
  subst hd ha
  iintro ⟨#HI, HO, Hd, HP, Hr⟩ Hk
  iapply (Rounds.wp_signal 𝒱₀ ER (sched w) (c : Thread nD τ) none (dst := (nxt c : Thread nD τ)) (κ := K (barCell (nxt c)))
      (d := false) (r := s) (by rw [duties_bar w _ s hs]; exact Finset.mem_univ _) (amount_bar w (nxt c) s false) s (owedR c s m) rfl) $$ [HO Hd HP Hr]
  · isplitr; · iapply (inv_bar w K (nxt c)); iexact HI
    isplitl [HO]; · iexact HO
    isplitl [Hd]; · iexact Hd
    isplitl [HP]; · rw [payload_bar_false]; iexact HP
    iexact Hr
  iexact Hk

theorem wp_barrier {α : Type} {Q : α → sProp 𝕄} (s : ℕ) (hs : s < 16) (m : ℕ) (hm : s ≤ m) (a : ℕ) (ha : a = 2) (W : Waits sig ℕ)
    {k : PUnit → Prog (TpuEff nD τ sig (Elt F) Λ₀ .tc) α} :
    iprop(invs w K ∗ levAts L lv ∗ cred (tallyAt (barCell c) s 2) ∗ owes (c : Thread nD τ) (owedR c s m) W ∗ at_ (F := F) (barCell c) s)
      ⊢ iprop(((owes (c : Thread nD τ) (owedR c s m) (insert (SemLoc.reg barS, s) W) ∗ at_ (F := F) (barCell c) (s + 1) ∗ barPayF (F := F) s c ∗ barPayT s c) -∗ WP c (k ⟨⟩) Q)
          -∗ WP c (.op (.semWait barS a) k) Q) := by
  subst ha
  unfold at_
  iintro ⟨#HI, #Hlev, Hc, HO, Hat, -⟩ Hk
  iapply (Rounds.wp_wait_rest_token 𝒱₀ ER (sched w) (c : Thread nD τ) none (κ := K (barCell c))
      (wpE_semWait_eq 𝒱₀ (c : Thread nD τ) none Set.univ) (Set.mem_univ _) s (O := owedR c s m) (W := W) (R := s) (m := 0) (T := ∅)
      (by rw [expect_bar w c s hs])) $$ [Hc HO Hat]
  · isplitr; · iapply (inv_bar w K c); iexact HI
    isplitl [Hc]; · iexact Hc
    isplitl [HO]; · iexact HO
    isplitr
    · iapply (mayWait c (.reg barS) s (by omega) _ (fun g u h => owedR_above hs (by rw [lv_bar]) (.inl (by rw [lv_bar]; omega)) h)); iexact Hlev
    iexact Hat
  iintro ⟨HO, Hat, Hr, Hpay⟩
  iapply Hk
  isplitl [HO]; · iexact HO
  isplitl [Hat Hr]
  · isplitl [Hat]; · iexact Hat
    iexact Hr
  iapply (Entails.of_eq (rest_bar w c s hs)); iexact Hpay

/-! ## The two copies -/

theorem wp_sendR {α : Type} {Q : α → sProp 𝕄} (s : ℕ) (hs : s < 16) (m : ℕ) (n : Dev nD) (hn : n = nxt c) (off off' : Fin 4 → ℕ)
    (h : off = ![(par s).val, 0, 0, 0]) (h' : off' = ![(par (s + 1)).val, 0, 0, 0]) (inb inb')
    (sS sV : DmaSem sig) (hS : sS = sR (par s)) (hV : sV = vR (par (s + 1))) {hsc hsrc hdst}
    {hsem : DmaTarget.Typed .vmem (.dma sV) (.remote (Dev.tc n : Thread nD τ) (slotM aM off' inb') (.dma sS) hsc)}
    {k : PUnit → Prog (TpuEff nD τ sig (Elt F) Λ₀ .tc) α} (W : Waits sig ℕ) :
    iprop(invs w K ∗ aPts fullShare.right c (par s) (spread (w (prv^[s] c))) ∗ barPayT (F := F) s c ∗ reached ER (barCell c) (s + 1) ∗ owes (c : Thread nD τ) (owedR c s m) W
        ∗ dutyTok ER (cell c (sR (par s))) (s / 2) false ∗ reached ER (cell c (sR (par s))) (s / 2) ∗ dutyTok ER (cell (nxt c) (vR (par (s + 1)))) (s / 2) false)
      ⊢ iprop(((cred (tallyAt (cell c (sR (par s))) 0 N) ∗ owes (c : Thread nD τ) (owed c (s + 1) m) W) -∗ WP c (k ⟨⟩) Q)
          -∗ WP c (.op (.enqueueDma (slotM aM off inb) (.remote (Dev.tc n : Thread nD τ) (slotM aM off' inb') (.dma sS) hsc) (.dma sV) hsrc hdst hsem) k) Q) := by
  subst hn hS hV
  have hsS := aSet (par s) off h inb
  have hd := aSet (par (s + 1)) off' h' inb'
  unfold barPayT
  iintro ⟨#HI, Ha, ⟨⟨%fn, Hn⟩, HrV⟩, HrB, HO, Hd1, Hr1, Hd2⟩
  have e := aPts_congr (nxt c) fullShare (par (s + 1)) _ _ (fun i hi => aLands (par s) (par (s + 1)) off off' h h' inb inb' fn (w (prv^[s] c)) i (hd.symm ▸ hi))
  unfold aPts at e
  rw [← hd] at e
  unfold aPts
  rw [← hsS, ← hd]
  iapply (Rounds.wp_send_pointsTo_with 𝒱₀ ER (sched w) (c : Thread nD τ) none (κ₁ := K (cell c (sR (par s)))) (κ₂ := K (cell (nxt c) (vR (par (s + 1)))))
    (c' := (nxt c : Thread nD τ)) (src := slotM aM off inb) (dst := slotM aM off' inb') (sS := .dma (sR (par s))) (sem := .dma (vR (par (s + 1)))) (q := fullShare.right) (fs := spread (w (prv^[s] c)))
    (F := reached ER (barCell c) (s + 1)) (r₁ := s / 2) (r₂ := s / 2) (d₁ := false) (d₂ := false) (fd := fn)
    (by rw [duties_copy w c _ _ (rounds_sR s hs)]; exact Finset.mem_singleton_self _)
    (by rw [duties_copy w (nxt c) _ _ (rounds_vR s hs)]; exact Finset.mem_singleton_self _)
    s 0 N (amountA (par (s + 1)) off' h' inb') (amount_copy w c _ _ false) (amount_copy w (nxt c) _ _ false) (owed c (s + 1) m) rfl (W := W)
    (by rw [payload_sR]; unfold aPts; rw [← hsS])
    (by
      rw [payload_vR, prv_nxt, Function.iterate_succ_apply, prv_nxt]; unfold aPts; rw [← hd, ← e]))
  isplitr; · iapply (inv_copy w K c (sR (par s)) (by show 6 ≤ 6 + _; omega)); iexact HI
  isplitr; · iapply (inv_copy w K (nxt c) (vR (par (s + 1))) (by show 6 ≤ 8 + _; omega)); iexact HI
  isplitl [Ha]; · iexact Ha
  isplitl [Hn HrB]
  · isplitl [Hn]; · iexact Hn
    iexact HrB
  isplitl [HO]; · iexact HO
  isplitl [Hd1]; · iexact Hd1
  isplitl [Hr1]; · iexact Hr1
  isplitl [Hd2]; · iexact Hd2
  iexact HrV

theorem wp_sendL {α : Type} {Q : α → sProp 𝕄} (s : ℕ) (hs : s < 15) (m : ℕ) (n : Dev nD) (hn : n = prv c) (off off' : Fin 4 → ℕ)
    (h : off = ![(par s).val, 0, 0, 0]) (h' : off' = ![(par (s + 1)).val, 0, 0, 0]) (inb inb')
    (sS sV : DmaSem sig) (hS : sS = sL (par s)) (hV : sV = vL (par (s + 1))) {hsc hsrc hdst}
    {hsem : DmaTarget.Typed .vmem (.dma sV) (.remote (Dev.tc n : Thread nD τ) (slotM bM off' inb') (.dma sS) hsc)}
    {k : PUnit → Prog (TpuEff nD τ sig (Elt F) Λ₀ .tc) α} (W : Waits sig ℕ) :
    iprop(invs w K ∗ bPts fullShare.right c (par s) (spread (w (nxt^[s] c))) ∗ barPayF (F := F) s c ∗ reached ER (barCell c) (s + 1) ∗ owes (c : Thread nD τ) (owed c m s) W
        ∗ dutyTok ER (cell c (sL (par s))) (s / 2) false ∗ reached ER (cell c (sL (par s))) (s / 2) ∗ dutyTok ER (cell (prv c) (vL (par (s + 1)))) (s / 2) false)
      ⊢ iprop(((cred (tallyAt (cell c (sL (par s))) 0 N) ∗ owes (c : Thread nD τ) (owed c m (s + 1)) W) -∗ WP c (k ⟨⟩) Q)
          -∗ WP c (.op (.enqueueDma (slotM bM off inb) (.remote (Dev.tc n : Thread nD τ) (slotM bM off' inb') (.dma sS) hsc) (.dma sV) hsrc hdst hsem) k) Q) := by
  subst hn hS hV
  have hsS := bSet (par s) off h inb
  have hd := bSet (par (s + 1)) off' h' inb'
  unfold barPayF
  rw [if_pos hs]
  iintro ⟨#HI, Ha, ⟨⟨%fn, Hn⟩, HrV⟩, HrB, HO, Hd1, Hr1, Hd2⟩
  have e := bPts_congr (prv c) fullShare (par (s + 1)) _ _ (fun i hi => bLands (par s) (par (s + 1)) off off' h h' inb inb' fn (w (nxt^[s] c)) i (hd.symm ▸ hi))
  unfold bPts at e
  rw [← hd] at e
  unfold bPts
  rw [← hsS, ← hd]
  iapply (Rounds.wp_send_pointsTo_with 𝒱₀ ER (sched w) (c : Thread nD τ) none (κ₁ := K (cell c (sL (par s)))) (κ₂ := K (cell (prv c) (vL (par (s + 1)))))
    (c' := (prv c : Thread nD τ)) (src := slotM bM off inb) (dst := slotM bM off' inb') (sS := .dma (sL (par s))) (sem := .dma (vL (par (s + 1)))) (q := fullShare.right) (fs := spread (w (nxt^[s] c)))
    (F := reached ER (barCell c) (s + 1)) (r₁ := s / 2) (r₂ := s / 2) (d₁ := false) (d₂ := false) (fd := fn)
    (by rw [duties_copy w c _ _ (rounds_sL s hs)]; exact Finset.mem_singleton_self _)
    (by rw [duties_copy w (prv c) _ _ (rounds_vL s hs)]; exact Finset.mem_singleton_self _)
    s 0 N (amountB (par (s + 1)) off' h' inb') (amount_copy w c _ _ false) (amount_copy w (prv c) _ _ false) (owed c m (s + 1)) (owed_left c m s hs) (W := W)
    (by rw [payload_sL]; unfold bPts; rw [← hsS])
    (by
      rw [payload_vL, nxt_prv, Function.iterate_succ_apply, nxt_prv]; unfold bPts; rw [← hd, ← e]))
  isplitr; · iapply (inv_copy w K c (sL (par s)) (by show 6 ≤ 10 + _; omega)); iexact HI
  isplitr; · iapply (inv_copy w K (prv c) (vL (par (s + 1))) (by show 6 ≤ 12 + _; omega)); iexact HI
  isplitl [Ha]; · iexact Ha
  isplitl [Hn HrB]
  · isplitl [Hn]; · iexact Hn
    iexact HrB
  isplitl [HO]; · iexact HO
  isplitl [Hd1]; · iexact Hd1
  isplitl [Hr1]; · iexact Hr1
  isplitl [Hd2]; · iexact Hd2
  iexact HrV

/-! ## The waits -/

theorem wp_landed {α : Type} {Q : α → sProp 𝕄} (q : DmaSem sig) (hq : 6 ≤ q.val) (q' : DmaSem sig) (e : q' = q) (r : ℕ) (hr : r < rounds q.val) (t : ℕ) (ht : t < 17)
    (O : CellTallies nD τ sig ℕ) (hO : ∀ g u, 0 < O g u → Above (lv (cell c q) t + 1) g u) (W : Waits sig ℕ)
    {src dst : Memref sig .tc .vmem S2x512x256 .bf16} {hsrc : src.view.WordExact} {hdst : dst.view.WordExact} (hN : dst.view.dmaCredit = N)
    {k : PUnit → Prog (TpuEff nD τ sig (Elt F) Λ₀ .tc) α} :
    iprop(invs w K ∗ levAts L lv ∗ cred (tallyAt (cell c q) t N) ∗ owes (c : Thread nD τ) O W ∗ at_ (F := F) (cell c q) r)
      ⊢ iprop(((owes (c : Thread nD τ) O (insert (SemLoc.dma q, t) W) ∗ at_ (F := F) (cell c q) (r + 1)
            ∗ (sched (F := F) w).payload (cell c q) r false) -∗ WP c (k ⟨⟩) Q)
          -∗ WP c (.op (.waitDma2 q' src dst hsrc hdst) k) Q) := by
  subst e
  unfold at_
  iintro ⟨#HI, #Hlev, Hc, HO, Hat, -⟩ Hk
  iapply (Rounds.wp_wait_rest_token 𝒱₀ ER (sched w) (c : Thread nD τ) none (κ := K (cell c q'))
      (wpE_waitDma2_eq 𝒱₀ (c : Thread nD τ) none Set.univ) (Set.mem_univ _) t (O := O) (W := W) (R := r) (m := 0) (T := ∅)
      (by rw [Nat.zero_add, hN, expect_copy w c q' r hr])) $$ [Hc HO Hat]
  · isplitr; · iapply (inv_copy w K c q' hq); iexact HI
    isplitl [Hc]; · iexact Hc
    isplitl [HO]; · iexact HO
    isplitr; · iapply (mayWait c (.dma q') t ht O hO); iexact Hlev
    iexact Hat
  iintro ⟨HO, Hat, Hr, Hpay⟩
  iapply Hk
  isplitl [HO]; · iexact HO
  isplitl [Hat Hr]
  · isplitl [Hat]; · iexact Hat
    iexact Hr
  iapply (Entails.of_eq (rest_copy w c q' r hr)); iexact Hpay

theorem wp_landed_sR {α : Type} {Q : α → sProp 𝕄} (s : ℕ) (hs : s < 16) (q' : DmaSem sig) (e : q' = sR (par s)) (n m : ℕ) (W : Waits sig ℕ)
    {src dst : Memref sig .tc .vmem S2x512x256 .bf16} {hsrc : src.view.WordExact} {hdst : dst.view.WordExact} (hN : dst.view.dmaCredit = N)
    {k : PUnit → Prog (TpuEff nD τ sig (Elt F) Λ₀ .tc) α} :
    iprop(invs w K ∗ levAts L lv ∗ cred (tallyAt (cell c (sR (par s))) 0 N) ∗ owes (c : Thread nD τ) (owed c n m) W ∗ at_ (F := F) (cell c (sR (par s))) (s / 2))
      ⊢ iprop((((∃ W, owes (c : Thread nD τ) (owed c n m) W) ∗ at_ (F := F) (cell c (sR (par s))) (s / 2 + 1)
            ∗ aPts fullShare.right c (par s) (spread (w (prv^[s] c)))) -∗ WP c (k ⟨⟩) Q)
          -∗ WP c (.op (.waitDma2 q' src dst hsrc hdst) k) Q) := by
  iintro H Hk
  iapply (wp_landed c w K (sR (par s)) (by show 6 ≤ 6 + _; omega) q' e (s / 2) (rounds_sR s hs) 0 (by omega) (owed c n m)
    (fun g u h => owed_above (by rw [lv_sR]; omega) (.inl (by rw [lv_sR]; omega)) h) W hN) $$ H
  rw [payload_sR]
  iintro ⟨HO, H⟩
  iapply Hk
  isplitl [HO]; · iexists _; iexact HO
  iexact H

theorem wp_landed_vR {α : Type} {Q : α → sProp 𝕄} (s : ℕ) (hs : s < 16) (q' : DmaSem sig) (e : q' = vR (par (s + 1))) (m : ℕ) (hm : s < m ∨ 15 ≤ m) (W : Waits sig ℕ)
    {src dst : Memref sig .tc .vmem S2x512x256 .bf16} {hsrc : src.view.WordExact} {hdst : dst.view.WordExact} (hN : dst.view.dmaCredit = N)
    {k : PUnit → Prog (TpuEff nD τ sig (Elt F) Λ₀ .tc) α} :
    iprop(invs w K ∗ levAts L lv ∗ cred (tallyAt (cell c (vR (par (s + 1)))) s N) ∗ owes (c : Thread nD τ) (owed c (s + 1) m) W ∗ at_ (F := F) (cell c (vR (par (s + 1)))) (s / 2))
      ⊢ iprop((((∃ W, owes (c : Thread nD τ) (owed c (s + 1) m) W) ∗ at_ (F := F) (cell c (vR (par (s + 1)))) (s / 2 + 1)
            ∗ aPts fullShare c (par (s + 1)) (spread (w (prv^[s + 1] c))) ∗ reached ER (barCell (prv c)) (s + 1)) -∗ WP c (k ⟨⟩) Q)
          -∗ WP c (.op (.waitDma2 q' src dst hsrc hdst) k) Q) := by
  iintro H Hk
  iapply (wp_landed c w K (vR (par (s + 1))) (by show 6 ≤ 8 + _; omega) q' e (s / 2) (rounds_vR s hs) s (by omega) (owed c (s + 1) m)
    (fun g u h => owed_above (by rw [lv_vR]; omega) (by rw [lv_vR]; omega) h) W hN) $$ H
  rw [payload_vR]
  iintro ⟨HO, H⟩
  iapply Hk
  isplitl [HO]; · iexists _; iexact HO
  iexact H

theorem wp_landed_sL {α : Type} {Q : α → sProp 𝕄} (s : ℕ) (hs : s < 15) (q' : DmaSem sig) (e : q' = sL (par s)) (n m : ℕ) (W : Waits sig ℕ)
    {src dst : Memref sig .tc .vmem S2x512x256 .bf16} {hsrc : src.view.WordExact} {hdst : dst.view.WordExact} (hN : dst.view.dmaCredit = N)
    {k : PUnit → Prog (TpuEff nD τ sig (Elt F) Λ₀ .tc) α} :
    iprop(invs w K ∗ levAts L lv ∗ cred (tallyAt (cell c (sL (par s))) 0 N) ∗ owes (c : Thread nD τ) (owed c n m) W ∗ at_ (F := F) (cell c (sL (par s))) (s / 2))
      ⊢ iprop((((∃ W, owes (c : Thread nD τ) (owed c n m) W) ∗ at_ (F := F) (cell c (sL (par s))) (s / 2 + 1)
            ∗ bPts fullShare.right c (par s) (spread (w (nxt^[s] c)))) -∗ WP c (k ⟨⟩) Q)
          -∗ WP c (.op (.waitDma2 q' src dst hsrc hdst) k) Q) := by
  iintro H Hk
  iapply (wp_landed c w K (sL (par s)) (by show 6 ≤ 10 + _; omega) q' e (s / 2) (rounds_sL s hs) 0 (by omega) (owed c n m)
    (fun g u h => owed_above (by rw [lv_sL]; omega) (.inl (by rw [lv_sL]; omega)) h) W hN) $$ H
  rw [payload_sL]
  iintro ⟨HO, H⟩
  iapply Hk
  isplitl [HO]; · iexists _; iexact HO
  iexact H

theorem wp_landed_vL {α : Type} {Q : α → sProp 𝕄} (s : ℕ) (hs : s < 15) (q' : DmaSem sig) (e : q' = vL (par (s + 1))) (W : Waits sig ℕ)
    {src dst : Memref sig .tc .vmem S2x512x256 .bf16} {hsrc : src.view.WordExact} {hdst : dst.view.WordExact} (hN : dst.view.dmaCredit = N)
    {k : PUnit → Prog (TpuEff nD τ sig (Elt F) Λ₀ .tc) α} :
    iprop(invs w K ∗ levAts L lv ∗ cred (tallyAt (cell c (vL (par (s + 1)))) s N) ∗ owes (c : Thread nD τ) (owed c (s + 1) (s + 1)) W ∗ at_ (F := F) (cell c (vL (par (s + 1)))) (s / 2))
      ⊢ iprop((((∃ W, owes (c : Thread nD τ) (owed c (s + 1) (s + 1)) W) ∗ at_ (F := F) (cell c (vL (par (s + 1)))) (s / 2 + 1)
            ∗ bPts fullShare c (par (s + 1)) (spread (w (nxt^[s + 1] c))) ∗ reached ER (barCell (nxt c)) (s + 1)) -∗ WP c (k ⟨⟩) Q)
          -∗ WP c (.op (.waitDma2 q' src dst hsrc hdst) k) Q) := by
  iintro H Hk
  iapply (wp_landed c w K (vL (par (s + 1))) (by show 6 ≤ 12 + _; omega) q' e (s / 2) (rounds_vL s hs) s (by omega) (owed c (s + 1) (s + 1))
    (fun g u h => owed_above (by rw [lv_vL]; omega) (.inl (by rw [lv_vL]; omega)) h) W hN) $$ H
  rw [payload_vL]
  iintro ⟨HO, H⟩
  iapply Hk
  isplitl [HO]; · iexists _; iexact HO
  iexact H

end

end Cert.KernelIdeal.Hop
-- ==== Proof.Mid.lean ====
/-
What a device holds between two trips of the loop, and the sums of a stage.
-/
module

public import proofs.«01_k».proof.Proof.Moves
public import Idealize.SL.BI.BigOpNat

@[expose] public section

noncomputable section

namespace Cert.KernelIdeal.Hop

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (w : Dev nD → S2x512x256.Idx → Elt F .bf16)

/-- The clockwise stage's eight stores and its sum are the group's share. -/
theorem stageR (x : S256x512.Idx → Elt F .bf16) (kh vh : S256x128x64.Idx → Elt F .bf16) (X : S2x512x256.Idx → Elt F .bf16) (d : Fin 32) (acc : S2x128x512.Idx → Elt F .f32)
    (g : S256x256.Idx → Elt F .bf16) :
    k0_pay3 (k0_pay24 (part X 1))
      (VecWindow.put (VecWindow.put (VecWindow.put (VecWindow.put (VecWindow.put (VecWindow.put (VecWindow.put (VecWindow.put g
        ![0, 0] S128x64.size (k0_pay27 (k0_pay26 (part X 0) x) (headTile kh (tileIx d 0 0)) (headTile vh (tileIx d 0 0))))
        ![0, 64] S128x64.size (k0_pay30 (k0_pay28 (k0_pay25 (part X 0) x)) (k0_pay29 (headTile kh (tileIx d 1 0))) (headTile vh (tileIx d 1 0))))
        ![0, 128] S128x64.size (k0_pay34 (k0_pay31 (headTile vh (tileIx d 2 0))) (k0_pay32 (k0_pay25 (part X 0) x) (headTile kh (tileIx d 2 0))) (k0_pay33 (k0_pay25 (part X 0) x) (headTile kh (tileIx d 2 0)))))
        ![0, 192] S128x64.size (k0_pay35 (k0_pay25 (part X 0) x) (headTile kh (tileIx d 3 0)) (headTile vh (tileIx d 3 0))))
        ![128, 0] S128x64.size (k0_pay37 (k0_pay36 (k0_pay25 (part X 0) x)) (headTile kh (tileIx d 0 1)) (headTile vh (tileIx d 0 1))))
        ![128, 64] S128x64.size (k0_pay40 (k0_pay38 (k0_pay25 (part X 0) x)) (k0_pay39 (headTile kh (tileIx d 1 1))) (headTile vh (tileIx d 1 1))))
        ![128, 128] S128x64.size (k0_pay44 (k0_pay41 (headTile vh (tileIx d 2 1))) (k0_pay42 (k0_pay25 (part X 0) x) (headTile kh (tileIx d 2 1))) (k0_pay43 (k0_pay25 (part X 0) x) (headTile kh (tileIx d 2 1)))))
        ![128, 192] S128x64.size (k0_pay2 (k0_pay45 (k0_pay25 (part X 0) x) (headTile kh (tileIx d 3 1)) (headTile vh (tileIx d 3 1))))) acc
      = addGroup x kh vh X d acc := by
  unfold addGroup context
  rw [← put_tiles g (tile x kh vh X d)]
  rfl

/-- The counter-clockwise stage cuts the same expressions at other places. -/
theorem stageL (x : S256x512.Idx → Elt F .bf16) (kh vh : S256x128x64.Idx → Elt F .bf16) (X : S2x512x256.Idx → Elt F .bf16) (d : Fin 32) (acc : S2x128x512.Idx → Elt F .f32)
    (g : S256x256.Idx → Elt F .bf16) :
    k0_pay5 (k0_pay6 (part X 1))
      (VecWindow.put (VecWindow.put (VecWindow.put (VecWindow.put (VecWindow.put (VecWindow.put (VecWindow.put (VecWindow.put g
        ![0, 0] S128x64.size (k0_pay11 (k0_pay8 (headTile vh (tileIx d 0 0))) (k0_pay9 (part X 0) x (headTile kh (tileIx d 0 0))) (k0_pay10 (part X 0) x (headTile kh (tileIx d 0 0)))))
        ![0, 64] S128x64.size (k0_pay12 (k0_pay7 (part X 0) x) (headTile kh (tileIx d 1 0)) (headTile vh (tileIx d 1 0))))
        ![0, 128] S128x64.size (k0_pay14 (k0_pay13 (k0_pay7 (part X 0) x)) (headTile kh (tileIx d 2 0)) (headTile vh (tileIx d 2 0))))
        ![0, 192] S128x64.size (k0_pay17 (k0_pay15 (k0_pay7 (part X 0) x)) (k0_pay16 (headTile kh (tileIx d 3 0))) (headTile vh (tileIx d 3 0))))
        ![128, 0] S128x64.size (k0_pay20 (k0_pay18 (headTile vh (tileIx d 0 1))) (k0_pay19 (k0_pay7 (part X 0) x) (headTile kh (tileIx d 0 1)))))
        ![128, 64] S128x64.size (k0_pay21 (k0_pay7 (part X 0) x) (headTile kh (tileIx d 1 1)) (headTile vh (tileIx d 1 1))))
        ![128, 128] S128x64.size (k0_pay22 (k0_pay7 (part X 0) x) (headTile kh (tileIx d 2 1)) (headTile vh (tileIx d 2 1))))
        ![128, 192] S128x64.size (k0_pay4 (k0_pay23 (k0_pay7 (part X 0) x)) (headTile kh (tileIx d 3 1)) (headTile vh (tileIx d 3 1)))) acc
      = addGroup x kh vh X d acc := by
  unfold addGroup context
  rw [← put_tiles g (tile x kh vh X d)]
  rfl

/-! ## Between two trips -/

/-- What a trip reads and the sum it adds to. -/
def bufs (c : Dev nD) (x : S256x512.Idx → Elt F .bf16) (kh vh : S256x128x64.Idx → Elt F .bf16) (acc : S2x128x512.Idx → Elt F .f32) : sProp 𝕄 :=
  iprop(buf (F := F) c cc0_stg0_0 table ∗ buf c cc0_stg1_0 x ∗ buf c cc0_stg3_0 kh ∗ buf c cc0_stg4_0 vh ∗ buf c cc0_stg5_0 acc ∗ (∃ g, buf c cc0_scratch2 g))

/-- The copy cells of a direction after `n` of its copies. -/
def posR (c : Dev nD) (n : ℕ) : sProp 𝕄 :=
  iprop(at_ (F := F) (cell c (sR (par n))) (n / 2) ∗ at_ (cell c (sR (par (n + 1)))) ((n + 1) / 2) ∗ at_ (cell c (vR (par (n + 1)))) (n / 2) ∗ at_ (cell c (vR (par n))) ((n + 1) / 2))
def posL (c : Dev nD) (n : ℕ) : sProp 𝕄 :=
  iprop(at_ (F := F) (cell c (sL (par n))) (n / 2) ∗ at_ (cell c (sL (par (n + 1)))) ((n + 1) / 2) ∗ at_ (cell c (vL (par (n + 1)))) (n / 2) ∗ at_ (cell c (vL (par n))) ((n + 1) / 2))

omit [FloatOps F] in
theorem posR_open (c : Dev nD) (n : ℕ) : (posR (F := F) c n : sProp 𝕄) ⊢
    iprop(at_ (F := F) (cell c (sR (par n))) (n / 2) ∗ at_ (cell c (sR (par (n + 1)))) ((n + 1) / 2) ∗ at_ (cell c (vR (par (n + 1)))) (n / 2) ∗ at_ (cell c (vR (par n))) ((n + 1) / 2)) := Entails.of_eq rfl
omit [FloatOps F] in
theorem posL_open (c : Dev nD) (n : ℕ) : (posL (F := F) c n : sProp 𝕄) ⊢
    iprop(at_ (F := F) (cell c (sL (par n))) (n / 2) ∗ at_ (cell c (sL (par (n + 1)))) ((n + 1) / 2) ∗ at_ (cell c (vL (par (n + 1)))) (n / 2) ∗ at_ (cell c (vL (par n))) ((n + 1) / 2)) := Entails.of_eq rfl
omit [FloatOps F] in
theorem posR_next (c : Dev nD) (n : ℕ) :
    iprop(at_ (F := F) (cell c (sR (par n))) (n / 2 + 1) ∗ at_ (cell c (sR (par (n + 1)))) ((n + 1) / 2) ∗ at_ (cell c (vR (par (n + 1)))) (n / 2 + 1) ∗ at_ (cell c (vR (par n))) ((n + 1) / 2))
      ⊢ (posR c (n + 1) : sProp 𝕄) := by
  unfold posR
  rw [par_two, half_two]
  iintro ⟨H1, H2, H3, H4⟩
  isplitl [H2]; · iexact H2
  isplitl [H1]; · iexact H1
  isplitl [H4]; · iexact H4
  iexact H3
omit [FloatOps F] in
theorem posL_next (c : Dev nD) (n : ℕ) :
    iprop(at_ (F := F) (cell c (sL (par n))) (n / 2 + 1) ∗ at_ (cell c (sL (par (n + 1)))) ((n + 1) / 2) ∗ at_ (cell c (vL (par (n + 1)))) (n / 2 + 1) ∗ at_ (cell c (vL (par n))) ((n + 1) / 2))
      ⊢ (posL c (n + 1) : sProp 𝕄) := by
  unfold posL
  rw [par_two, half_two]
  iintro ⟨H1, H2, H3, H4⟩
  isplitl [H2]; · iexact H2
  isplitl [H1]; · iexact H1
  isplitl [H4]; · iexact H4
  iexact H3

/-- What a device pays and collects with in a trip: the meeting's and the clockwise copy's, the counter-clockwise copy's. -/
def payB (c : Dev nD) (t : ℕ) : sProp 𝕄 :=
  iprop(dutyTok ER (barCell (prv c)) t true ∗ dutyTok ER (barCell (nxt c)) t false ∗ cred (tallyAt (barCell c) t 2))
def payR (c : Dev nD) (t : ℕ) : sProp 𝕄 :=
  iprop(dutyTok ER (cell c (sR (par t))) (t / 2) false ∗ dutyTok ER (cell (nxt c) (vR (par (t + 1)))) (t / 2) false ∗ cred (tallyAt (cell c (vR (par (t + 1)))) t N))
def payL (c : Dev nD) (t : ℕ) : sProp 𝕄 :=
  iprop(dutyTok ER (cell c (sL (par t))) (t / 2) false ∗ dutyTok ER (cell (prv c) (vL (par (t + 1)))) (t / 2) false ∗ cred (tallyAt (cell c (vL (par (t + 1)))) t N))
def tokB (c : Dev nD) (n : ℕ) : sProp 𝕄 := bigSep (Finset.Ico n 16) (payB (F := F) c)
def tokR (c : Dev nD) (n : ℕ) : sProp 𝕄 := bigSep (Finset.Ico n 16) (payR (F := F) c)
def tokL (c : Dev nD) (n : ℕ) : sProp 𝕄 := bigSep (Finset.Ico n 15) (payL (F := F) c)
omit [FloatOps F] in
theorem tokB_take (c : Dev nD) (n : ℕ) (h : n < 16) : (tokB (F := F) c n : sProp 𝕄) ⊢ iprop(payB c n ∗ tokB c (n + 1)) := by
  unfold tokB; exact Entails.of_eq (bigSep_Ico_succ_bot h _)
omit [FloatOps F] in
theorem tokR_take (c : Dev nD) (n : ℕ) (h : n < 16) : (tokR (F := F) c n : sProp 𝕄) ⊢ iprop(payR c n ∗ tokR c (n + 1)) := by
  unfold tokR; exact Entails.of_eq (bigSep_Ico_succ_bot h _)
omit [FloatOps F] in
theorem tokL_take (c : Dev nD) (n : ℕ) (h : n < 15) : (tokL (F := F) c n : sProp 𝕄) ⊢ iprop(payL c n ∗ tokL c (n + 1)) := by
  unfold tokL; exact Entails.of_eq (bigSep_Ico_succ_bot h _)

omit [FloatOps F] in
theorem giveT (c : Dev nD) (s : ℕ) : iprop((∃ f, aPts (F := F) fullShare c (par (s + 1)) f) ∗ reached ER (cell c (vR (par (s + 1)))) (s / 2)) ⊢ (barPayT s (prv c) : sProp 𝕄) := by
  unfold barPayT; rw [nxt_prv]
omit [FloatOps F] in
theorem giveF (c : Dev nD) (s : ℕ) (h : s < 15) : iprop((∃ f, bPts (F := F) fullShare c (par (s + 1)) f) ∗ reached ER (cell c (vL (par (s + 1)))) (s / 2)) ⊢ (barPayF s (nxt c) : sProp 𝕄) := by
  unfold barPayF; rw [if_pos h, prv_nxt]
omit [FloatOps F] in
theorem giveF_last (c : Dev nD) (s : ℕ) (h : ¬ s < 15) : iprop(emp) ⊢ (barPayF s (nxt c) : sProp 𝕄) := by
  unfold barPayF; rw [if_neg h]

/-- Before a trip, after `n` clockwise hops and `m` counter-clockwise ones. -/
def mid (c : Dev nD) (x : S256x512.Idx → Elt F .bf16) (kh vh : S256x128x64.Idx → Elt F .bf16) (acc : S2x128x512.Idx → Elt F .f32) (n m : ℕ) : sProp 𝕄 :=
  iprop(bufs c x kh vh acc
    ∗ (aPts fullShare c (par n) (spread (w (prv^[n] c))) ∗ (∃ f, aPts fullShare c (par (n + 1)) f)
      ∗ bPts fullShare c (par m) (spread (w (nxt^[m] c))) ∗ (∃ f, bPts fullShare c (par (m + 1)) f))
    ∗ (∃ W, owes (c : Thread nD τ) (owed c n m) W) ∗ at_ (barCell c) n ∗ posR c n ∗ posL c m
    ∗ (reached ER (barCell (prv c)) n ∗ reached ER (barCell (nxt c)) m) ∗ tokB c n ∗ tokR c n ∗ tokL c m)

/-- Before the first trip: the neighbours have met, their slots are in hand. -/
def start (c : Dev nD) (x : S256x512.Idx → Elt F .bf16) (kh vh : S256x128x64.Idx → Elt F .bf16) (acc : S2x128x512.Idx → Elt F .f32) : sProp 𝕄 :=
  iprop(bufs c x kh vh acc
    ∗ (aPts fullShare c (par 0) (spread (w (prv^[0] c))) ∗ barPayT 0 c ∗ bPts fullShare c (par 0) (spread (w (nxt^[0] c))) ∗ barPayF 0 c)
    ∗ (∃ W, owes (c : Thread nD τ) (owedR c 0 0) W) ∗ at_ (barCell c) (0 + 1) ∗ posR c 0 ∗ posL c 0 ∗ tokB c (0 + 1) ∗ tokR c 0 ∗ tokL c 0)

omit [FloatOps F] in
theorem slotR_next (c : Dev nD) (s : ℕ) (f) : iprop(aPts (F := F) fullShare.left c (par s) f ∗ aPts fullShare.right c (par s) f) ⊢ iprop(∃ f, aPts fullShare c (par (s + 1 + 1)) f) := by
  rw [par_two]
  iintro H
  iexists f
  iapply (a_halves (F := F) c (par s) f).2 $$ H
omit [FloatOps F] in
theorem slotL_next (c : Dev nD) (s : ℕ) (f) : iprop(bPts (F := F) fullShare.left c (par s) f ∗ bPts fullShare.right c (par s) f) ⊢ iprop(∃ f, bPts fullShare c (par (s + 1 + 1)) f) := by
  rw [par_two]
  iintro H
  iexists f
  iapply (b_halves (F := F) c (par s) f).2 $$ H

end Cert.KernelIdeal.Hop
-- ==== Proof.First.lean ====
/-
The first trip: two copies start, the own group is added, the copies are waited for.
-/
module

public import proofs.«01_k».proof.Proof.Mid

@[expose] public section

noncomputable section

namespace Cert.KernelIdeal.Hop

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (w : Dev nD → S2x512x256.Idx → Elt F .bf16)

set_option maxHeartbeats 4000000 in
set_option maxRecDepth 65536 in
/-- The first trip: two copies start, the own group is added, the copies are waited for. -/
theorem tripZero (K : GSem nD τ sig → ℕ) (c : Dev nD) (Q : Unit → sProp 𝕄) (s : Trip) (h0s : s.val = 0)
    (x : S256x512.Idx → Elt F .bf16) (kh vh : S256x128x64.Idx → Elt F .bf16) (acc : S2x128x512.Idx → Elt F .f32)
    (h0 : tM.IsWhole) (h1 : xM.IsWhole) (h2 : wM.IsWhole) (h3 : kM.IsWhole) (h4 : vM.IsWhole) (h5 : oM.IsWhole) (h6 : aM.IsWhole) (h7 : bM.IsWhole) (h8 : gM.IsWhole)
    (w2) (w1) (w3) :
    iprop(invs w K ∗ levAts L lv ∗ start w c x kh vh acc)
      ⊢ iprop((mid w c x kh vh (addGroup x kh vh (w (prv^[s.val] c)) (prv^[s.val] c) acc) (s.val + 1) (s.val + 1) -∗ Q ())
        -∗ WP c (k0_t1_body (F := F) tM h0 xM h1 wM h2 kM h3 vM h4 oM h5 aM h6 bM h7 gM h8 cc0_scratch3 cc0_scratch4 cc0_scratch5 cc0_scratch6 (asWord (nxt c)) w2 (asWord (prv c)) w1 (word 2 c) w3 (SemArray.scalar (sig.barrier 0 rfl)) s ()) Q) := by
  have hs : s.val < 16 := by omega
  have hs5 : s.val < 15 := by omega
  unfold k0_t1_body
  simp only [k0_part7_eq_skeleton, k0_part8_eq_skeleton, k0_part9_eq_skeleton, k0_part10_eq_skeleton, k0_part11_eq_skeleton, k0_part12_eq_skeleton, k0_part13_eq_skeleton]
  unfold k0_part7_skel k0_part8_skel k0_part9_skel k0_part10_skel k0_part11_skel k0_part12_skel k0_part13_skel
  simp only [dif_neg (c1_off s (by omega)), dif_pos (c2_on s (by omega)), dif_pos (c3_on s (by omega)), dif_neg (c4_off s (by omega)), dif_pos (c5_on s (by omega)), dif_pos (c6_on s (by omega)), semSignalWord, semWaitWord, smemLoad, smemLoadElt, Prog.lift, Prog.bind_op, Prog.bind_ret, Prog.pure_eq_ret, Prog.bind_assoc]
  have e0 : start w c x kh vh acc = iprop(bufs c x kh vh acc
      ∗ (aPts fullShare c (par s.val) (spread (w (prv^[s.val] c))) ∗ barPayT s.val c ∗ bPts fullShare c (par s.val) (spread (w (nxt^[s.val] c))) ∗ barPayF s.val c)
      ∗ (∃ W, owes (c : Thread nD τ) (owedR c s.val s.val) W) ∗ at_ (barCell c) (s.val + 1) ∗ posR c s.val ∗ posL c s.val ∗ tokB c (s.val + 1) ∗ tokR c s.val ∗ tokL c s.val) := by
    rw [h0s]; rfl
  rw [e0]
  unfold bufs posR posL
  iintro ⟨#HI, #Hlev, ⟨Ht, Hx, HK, HV, Ho, ⟨%g0, Hg⟩⟩, ⟨Ha, HpT, Hb, HpF⟩, ⟨%W, HO⟩, HatB, ⟨HsR, HsR', HvR, HvR'⟩, ⟨HsL, HsL', HvL, HvL'⟩, HtB, HtR, HtL⟩ Hk
  ihave HatB := (at_reached (F := F) (barCell c) (s.val + 1)) $$ HatB
  icases HatB with ⟨HatB, #HrB⟩
  -- the copies start
  ihave Htok := (tokR_take (F := F) c s.val hs) $$ HtR
  unfold payR
  icases Htok with ⟨⟨HdSR, HdVR, HcVR⟩, HtR⟩
  ihave HsR := (at_reached (F := F) (cell c (sR (par s.val))) (s.val / 2)) $$ HsR
  icases HsR with ⟨HsR, #HrSR⟩
  ihave Hh := (a_halves (F := F) c (par s.val) _).1 $$ Ha
  icases Hh with ⟨HaL, HaR⟩
  iapply (wp_sendR c w K s.val hs s.val _ (dev5_eq (nxt c) _) _ _ (o7 s) (o6 s) _ _ _ _ (sem3 (par s.val) _ (o4 s) _ _) (sem4 (par (s.val + 1)) _ (o5 s) _ _) _) $$ [HaR HpT HO HdSR HdVR]
  · isplitr; · iexact HI
    isplitl [HaR]; · iexact HaR
    isplitl [HpT]; · iexact HpT
    isplitr; · iexact HrB
    isplitl [HO]; · iexact HO
    isplitl [HdSR]; · iexact HdSR
    isplitr; · iexact HrSR
    iexact HdVR
  iintro ⟨HcSR, HO⟩
  ihave Htok := (tokL_take (F := F) c s.val hs5) $$ HtL
  unfold payL
  icases Htok with ⟨⟨HdSL, HdVL, HcVL⟩, HtL⟩
  ihave HsL := (at_reached (F := F) (cell c (sL (par s.val))) (s.val / 2)) $$ HsL
  icases HsL with ⟨HsL, #HrSL⟩
  ihave Hh := (b_halves (F := F) c (par s.val) _).1 $$ Hb
  icases Hh with ⟨HbL, HbR⟩
  iapply (wp_sendL c w K s.val hs5 (s.val + 1) _ (dev6_eq (prv c) _) _ _ (o11 s) (o10 s) _ _ _ _ (sem5 (par s.val) _ (o8 s) _ _) (sem6 (par (s.val + 1)) _ (o9 s) _ _) _) $$ [HbR HpF HO HdSL HdVL]
  · isplitr; · iexact HI
    isplitl [HbR]; · iexact HbR
    isplitl [HpF]; · iexact HpF
    isplitr; · iexact HrB
    isplitl [HO]; · iexact HO
    isplitl [HdSL]; · iexact HdSL
    isplitr; · iexact HrSL
    iexact HdVL
  iintro ⟨HcSL, HO⟩
  -- the groups in hand are added
  obtain ⟨p, hp, hw⟩ := pos_R s c
  iapply (wp_word c 3 p _ hw _ hp _) $$ Ht
  iintro Ht
  simp only [wp_assume_of _ _ _ _ (d := k0_chk4.dec _) (chk4 (prv^[s.val] c))]
  iapply (wp_matR c (par s.val) 0 fullShare.left (w (prv^[s.val] c)) _ (o13 s) _) $$ HaL; iintro HaL
  iapply (wp_matR c (par s.val) 1 fullShare.left (w (prv^[s.val] c)) _ (o14 s) _) $$ HaL; iintro HaL
  iapply (wp_x c x _ (by decide) _) $$ Hx; iintro Hx
  iapply (wp_k c (tileIx (prv^[s.val] c) 0 0) kh _ (off15_eq (prv^[s.val] c) 0 0) _) $$ HK; iintro HK
  iapply (wp_v c (tileIx (prv^[s.val] c) 0 0) vh _ (off15_eq (prv^[s.val] c) 0 0) _) $$ HV; iintro HV
  iapply (wp_gput c _ _ ![0, 0] _) $$ Hg; iintro Hg
  iapply (wp_k c (tileIx (prv^[s.val] c) 1 0) kh _ (off15_eq (prv^[s.val] c) 1 0) _) $$ HK; iintro HK
  iapply (wp_v c (tileIx (prv^[s.val] c) 1 0) vh _ (off15_eq (prv^[s.val] c) 1 0) _) $$ HV; iintro HV
  iapply (wp_gput c _ _ ![0, 64] _) $$ Hg; iintro Hg
  iapply (wp_k c (tileIx (prv^[s.val] c) 2 0) kh _ (off15_eq (prv^[s.val] c) 2 0) _) $$ HK; iintro HK
  iapply (wp_v c (tileIx (prv^[s.val] c) 2 0) vh _ (off15_eq (prv^[s.val] c) 2 0) _) $$ HV; iintro HV
  iapply (wp_gput c _ _ ![0, 128] _) $$ Hg; iintro Hg
  iapply (wp_k c (tileIx (prv^[s.val] c) 3 0) kh _ (off15_eq (prv^[s.val] c) 3 0) _) $$ HK; iintro HK
  iapply (wp_v c (tileIx (prv^[s.val] c) 3 0) vh _ (off15_eq (prv^[s.val] c) 3 0) _) $$ HV; iintro HV
  iapply (wp_gput c _ _ ![0, 192] _) $$ Hg; iintro Hg
  iapply (wp_k c (tileIx (prv^[s.val] c) 0 1) kh _ (off15_eq (prv^[s.val] c) 0 1) _) $$ HK; iintro HK
  iapply (wp_v c (tileIx (prv^[s.val] c) 0 1) vh _ (off15_eq (prv^[s.val] c) 0 1) _) $$ HV; iintro HV
  iapply (wp_gput c _ _ ![128, 0] _) $$ Hg; iintro Hg
  iapply (wp_k c (tileIx (prv^[s.val] c) 1 1) kh _ (off15_eq (prv^[s.val] c) 1 1) _) $$ HK; iintro HK
  iapply (wp_v c (tileIx (prv^[s.val] c) 1 1) vh _ (off15_eq (prv^[s.val] c) 1 1) _) $$ HV; iintro HV
  iapply (wp_gput c _ _ ![128, 64] _) $$ Hg; iintro Hg
  iapply (wp_k c (tileIx (prv^[s.val] c) 2 1) kh _ (off15_eq (prv^[s.val] c) 2 1) _) $$ HK; iintro HK
  iapply (wp_v c (tileIx (prv^[s.val] c) 2 1) vh _ (off15_eq (prv^[s.val] c) 2 1) _) $$ HV; iintro HV
  iapply (wp_gput c _ _ ![128, 128] _) $$ Hg; iintro Hg
  iapply (wp_k c (tileIx (prv^[s.val] c) 3 1) kh _ (off15_eq (prv^[s.val] c) 3 1) _) $$ HK; iintro HK
  iapply (wp_v c (tileIx (prv^[s.val] c) 3 1) vh _ (off15_eq (prv^[s.val] c) 3 1) _) $$ HV; iintro HV
  iapply (wp_gput c _ _ ![128, 192] _) $$ Hg; iintro Hg
  iapply (wp_g c _ _ (by decide) _) $$ Hg; iintro Hg
  iapply (wp_o c _ _ (by decide) _) $$ Ho; iintro Ho
  iapply (wp_o c _ _ (by decide) _) $$ Ho; iintro Ho
  iapply (wp_oput c _ _ _ (by decide) _) $$ Ho; iintro Ho
  rw [stageR]
  -- the ends of the copies
  iapply (wp_landed_sR c w K s.val hs _ (sem3 (par s.val) _ (o20 s) _ _) (s.val + 1) (s.val + 1) _ (amountA (par s.val) _ (o21 s) _)) $$ [HcSR HO HsR]
  · isplitr; · iexact HI
    isplitr; · iexact Hlev
    isplitl [HcSR]; · iexact HcSR
    isplitl [HO]; · iexact HO
    iexact HsR
  iintro ⟨⟨%W1R, HO⟩, HsR, HaR⟩
  iapply (wp_landed_vR c w K s.val hs _ (sem4 (par (s.val + 1)) _ (o23 s) _ _) (s.val + 1) (by omega) _ (amountA (par (s.val + 1)) _ (o22 s) _)) $$ [HcVR HO HvR]
  · isplitr; · iexact HI
    isplitr; · iexact Hlev
    isplitl [HcVR]; · iexact HcVR
    isplitl [HO]; · iexact HO
    iexact HvR
  iintro ⟨⟨%W2R, HO⟩, HvR, HaN, #HrP1⟩
  iapply (wp_landed_sL c w K s.val hs5 _ (sem5 (par s.val) _ (o24 s) _ _) (s.val + 1) (s.val + 1) _ (amountB (par s.val) _ (o25 s) _)) $$ [HcSL HO HsL]
  · isplitr; · iexact HI
    isplitr; · iexact Hlev
    isplitl [HcSL]; · iexact HcSL
    isplitl [HO]; · iexact HO
    iexact HsL
  iintro ⟨⟨%W1L, HO⟩, HsL, HbR⟩
  iapply (wp_landed_vL c w K s.val hs5 _ (sem6 (par (s.val + 1)) _ (o27 s) _ _)  _ (amountB (par (s.val + 1)) _ (o26 s) _)) $$ [HcVL HO HvL]
  · isplitr; · iexact HI
    isplitr; · iexact Hlev
    isplitl [HcVL]; · iexact HcVL
    isplitl [HO]; · iexact HO
    iexact HvL
  iintro ⟨⟨%W2L, HO⟩, HvL, HbN, #HrN1⟩
  unfold WP
  rw [wp_ret]
  imodintro
  iapply Hk
  unfold mid
  isplitl [Ht Hx HK HV Ho Hg]
  · unfold bufs
    isplitl [Ht]; · iexact Ht
    isplitl [Hx]; · iexact Hx
    isplitl [HK]; · iexact HK
    isplitl [HV]; · iexact HV
    isplitl [Ho]; · iexact Ho
    iexists _; iexact Hg
  isplitl [HaN HaL HaR HbN HbL HbR]
  · isplitl [HaN]; · iexact HaN
    isplitl [HaL HaR]
    · iapply (slotR_next (F := F) c s.val _)
      isplitl [HaL]; · iexact HaL
      iexact HaR
    isplitl [HbN]; · iexact HbN
    iapply (slotL_next (F := F) c s.val _)
    isplitl [HbL]; · iexact HbL
    iexact HbR
  isplitl [HO]; · iexists _; iexact HO
  isplitl [HatB]; · iexact HatB
  isplitl [HsR HsR' HvR HvR']
  · iapply (posR_next (F := F) c s.val)
    isplitl [HsR]; · iexact HsR
    isplitl [HsR']; · iexact HsR'
    isplitl [HvR]; · iexact HvR
    iexact HvR'
  isplitl [HsL HsL' HvL HvL']
  · iapply (posL_next (F := F) c s.val)
    isplitl [HsL]; · iexact HsL
    isplitl [HsL']; · iexact HsL'
    isplitl [HvL]; · iexact HvL
    iexact HvL'
  isplitr
  · isplitr; · iexact HrP1
    iexact HrN1
  isplitl [HtB]; · iexact HtB
  isplitl [HtR]; · iexact HtR
  iexact HtL

end Cert.KernelIdeal.Hop
-- ==== Proof.Amid.lean ====
/-
A trip in the middle: the neighbours meet, two copies start, two groups are added, the copies are waited for.
-/
module

public import proofs.«01_k».proof.Proof.Mid

@[expose] public section

noncomputable section

namespace Cert.KernelIdeal.Hop

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (w : Dev nD → S2x512x256.Idx → Elt F .bf16)

set_option maxHeartbeats 4000000 in
set_option maxRecDepth 65536 in
/-- A trip in the middle: the neighbours meet, two copies start, two groups are added, the copies are waited for. -/
theorem tripAmid (K : GSem nD τ sig → ℕ) (c : Dev nD) (Q : Unit → sProp 𝕄) (s : Trip) (hm : 1 ≤ s.val ∧ s.val < 15)
    (x : S256x512.Idx → Elt F .bf16) (kh vh : S256x128x64.Idx → Elt F .bf16) (acc : S2x128x512.Idx → Elt F .f32)
    (h0 : tM.IsWhole) (h1 : xM.IsWhole) (h2 : wM.IsWhole) (h3 : kM.IsWhole) (h4 : vM.IsWhole) (h5 : oM.IsWhole) (h6 : aM.IsWhole) (h7 : bM.IsWhole) (h8 : gM.IsWhole)
    (w2) (w1) (w3) :
    iprop(invs w K ∗ levAts L lv ∗ mid w c x kh vh acc s.val s.val)
      ⊢ iprop((mid w c x kh vh (addGroup x kh vh (w (nxt^[s.val] c)) (nxt^[s.val] c) (addGroup x kh vh (w (prv^[s.val] c)) (prv^[s.val] c) acc)) (s.val + 1) (s.val + 1) -∗ Q ())
        -∗ WP c (k0_t1_body (F := F) tM h0 xM h1 wM h2 kM h3 vM h4 oM h5 aM h6 bM h7 gM h8 cc0_scratch3 cc0_scratch4 cc0_scratch5 cc0_scratch6 (asWord (nxt c)) w2 (asWord (prv c)) w1 (word 2 c) w3 (SemArray.scalar (sig.barrier 0 rfl)) s ()) Q) := by
  have hs : s.val < 16 := by omega
  have hs5 : s.val < 15 := by omega
  have HL : 1 ≤ s.val ∧ s.val < 16 := by omega
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  simp only [dif_pos (c1_on s (by omega)), dif_pos (c2_on s (by omega)), dif_pos (c3_on s (by omega)), dif_pos (c4_on s (by omega)), dif_pos (c5_on s (by omega)), dif_pos (c6_on s (by omega)), semSignalWord, semWaitWord, smemLoad, smemLoadElt, Prog.lift, Prog.bind_op, Prog.bind_ret, Prog.pure_eq_ret, Prog.bind_assoc]
  unfold mid bufs
  iintro ⟨#HI, #Hlev, ⟨Ht, Hx, HK, HV, Ho, ⟨%g0, Hg⟩⟩, ⟨Ha, HaN, Hb, HbN⟩, ⟨%W, HO⟩, HatB, HposR, HposL, ⟨#HrP, #HrN⟩, HtB, HtR, HtL⟩ Hk
  ihave HposR := (posR_open (F := F) c s.val) $$ HposR
  icases HposR with ⟨HsR, HsR', HvR, HvR'⟩
  ihave HposL := (posL_open (F := F) c s.val) $$ HposL
  icases HposL with ⟨HsL, HsL', HvL, HvL'⟩
  -- the neighbours meet
  ihave HtB := (tokB_take (F := F) c s.val hs) $$ HtB
  unfold payB
  icases HtB with ⟨⟨HdBP, HdBN, HcB⟩, HtB⟩
  ihave HvR := (at_reached (F := F) (cell c (vR (par (s.val + 1)))) (s.val / 2)) $$ HvR
  icases HvR with ⟨HvR, #HrVR⟩
  ihave HvL := (at_reached (F := F) (cell c (vL (par (s.val + 1)))) (s.val / 2)) $$ HvL
  icases HvL with ⟨HvL, #HrVL⟩
  iapply (wp_tellP c w K s.val hs s.val _ (dev3_eq (prv c) _) _ (by decide) W) $$ [HO HdBP HaN]
  · isplitr; · iexact HI
    isplitl [HO]; · iexact HO
    isplitl [HdBP]; · iexact HdBP
    isplitl [HaN]
    · iapply (giveT (F := F) c s.val)
      isplitl [HaN]; · iexact HaN
      iexact HrVR
    iexact HrP
  iintro HO
  iapply (wp_tellN c w K s.val hs s.val _ (dev4_eq (nxt c) _) _ (by decide) W) $$ [HO HdBN HbN]
  · isplitr; · iexact HI
    isplitl [HO]; · iexact HO
    isplitl [HdBN]; · iexact HdBN
    isplitl [HbN]
    · iapply (giveF (F := F) c s.val (by omega))
      isplitl [HbN]; · iexact HbN
      iexact HrVL
    iexact HrN
  iintro HO
  iapply (wp_barrier c w K s.val hs s.val (by omega) _ (by decide) W) $$ [HcB HO HatB]
  · isplitr; · iexact HI
    isplitr; · iexact Hlev
    isplitl [HcB]; · iexact HcB
    isplitl [HO]; · iexact HO
    iexact HatB
  iintro ⟨HO, HatB, HpF, HpT⟩
  ihave HatB := (at_reached (F := F) (barCell c) (s.val + 1)) $$ HatB
  icases HatB with ⟨HatB, #HrB⟩
  -- the copies start
  ihave Htok := (tokR_take (F := F) c s.val hs) $$ HtR
  unfold payR
  icases Htok with ⟨⟨HdSR, HdVR, HcVR⟩, HtR⟩
  ihave HsR := (at_reached (F := F) (cell c (sR (par s.val))) (s.val / 2)) $$ HsR
  icases HsR with ⟨HsR, #HrSR⟩
  ihave Hh := (a_halves (F := F) c (par s.val) _).1 $$ Ha
  icases Hh with ⟨HaL, HaR⟩
  iapply (wp_sendR c w K s.val hs s.val _ (dev5_eq (nxt c) _) _ _ (o7 s) (o6 s) _ _ _ _ (sem3 (par s.val) _ (o4 s) _ _) (sem4 (par (s.val + 1)) _ (o5 s) _ _) _) $$ [HaR HpT HO HdSR HdVR]
  · isplitr; · iexact HI
    isplitl [HaR]; · iexact HaR
    isplitl [HpT]; · iexact HpT
    isplitr; · iexact HrB
    isplitl [HO]; · iexact HO
    isplitl [HdSR]; · iexact HdSR
    isplitr; · iexact HrSR
    iexact HdVR
  iintro ⟨HcSR, HO⟩
  ihave Htok := (tokL_take (F := F) c s.val hs5) $$ HtL
  unfold payL
  icases Htok with ⟨⟨HdSL, HdVL, HcVL⟩, HtL⟩
  ihave HsL := (at_reached (F := F) (cell c (sL (par s.val))) (s.val / 2)) $$ HsL
  icases HsL with ⟨HsL, #HrSL⟩
  ihave Hh := (b_halves (F := F) c (par s.val) _).1 $$ Hb
  icases Hh with ⟨HbL, HbR⟩
  iapply (wp_sendL c w K s.val hs5 (s.val + 1) _ (dev6_eq (prv c) _) _ _ (o11 s) (o10 s) _ _ _ _ (sem5 (par s.val) _ (o8 s) _ _) (sem6 (par (s.val + 1)) _ (o9 s) _ _) _) $$ [HbR HpF HO HdSL HdVL]
  · isplitr; · iexact HI
    isplitl [HbR]; · iexact HbR
    isplitl [HpF]; · iexact HpF
    isplitr; · iexact HrB
    isplitl [HO]; · iexact HO
    isplitl [HdSL]; · iexact HdSL
    isplitr; · iexact HrSL
    iexact HdVL
  iintro ⟨HcSL, HO⟩
  -- the groups in hand are added
  obtain ⟨p, hp, hw⟩ := pos_R s c
  iapply (wp_word c 3 p _ hw _ hp _) $$ Ht
  iintro Ht
  simp only [wp_assume_of _ _ _ _ (d := k0_chk4.dec _) (chk4 (prv^[s.val] c))]
  iapply (wp_matR c (par s.val) 0 fullShare.left (w (prv^[s.val] c)) _ (o13 s) _) $$ HaL; iintro HaL
  iapply (wp_matR c (par s.val) 1 fullShare.left (w (prv^[s.val] c)) _ (o14 s) _) $$ HaL; iintro HaL
  iapply (wp_x c x _ (by decide) _) $$ Hx; iintro Hx
  iapply (wp_k c (tileIx (prv^[s.val] c) 0 0) kh _ (off15_eq (prv^[s.val] c) 0 0) _) $$ HK; iintro HK
  iapply (wp_v c (tileIx (prv^[s.val] c) 0 0) vh _ (off15_eq (prv^[s.val] c) 0 0) _) $$ HV; iintro HV
  iapply (wp_gput c _ _ ![0, 0] _) $$ Hg; iintro Hg
  iapply (wp_k c (tileIx (prv^[s.val] c) 1 0) kh _ (off15_eq (prv^[s.val] c) 1 0) _) $$ HK; iintro HK
  iapply (wp_v c (tileIx (prv^[s.val] c) 1 0) vh _ (off15_eq (prv^[s.val] c) 1 0) _) $$ HV; iintro HV
  iapply (wp_gput c _ _ ![0, 64] _) $$ Hg; iintro Hg
  iapply (wp_k c (tileIx (prv^[s.val] c) 2 0) kh _ (off15_eq (prv^[s.val] c) 2 0) _) $$ HK; iintro HK
  iapply (wp_v c (tileIx (prv^[s.val] c) 2 0) vh _ (off15_eq (prv^[s.val] c) 2 0) _) $$ HV; iintro HV
  iapply (wp_gput c _ _ ![0, 128] _) $$ Hg; iintro Hg
  iapply (wp_k c (tileIx (prv^[s.val] c) 3 0) kh _ (off15_eq (prv^[s.val] c) 3 0) _) $$ HK; iintro HK
  iapply (wp_v c (tileIx (prv^[s.val] c) 3 0) vh _ (off15_eq (prv^[s.val] c) 3 0) _) $$ HV; iintro HV
  iapply (wp_gput c _ _ ![0, 192] _) $$ Hg; iintro Hg
  iapply (wp_k c (tileIx (prv^[s.val] c) 0 1) kh _ (off15_eq (prv^[s.val] c) 0 1) _) $$ HK; iintro HK
  iapply (wp_v c (tileIx (prv^[s.val] c) 0 1) vh _ (off15_eq (prv^[s.val] c) 0 1) _) $$ HV; iintro HV
  iapply (wp_gput c _ _ ![128, 0] _) $$ Hg; iintro Hg
  iapply (wp_k c (tileIx (prv^[s.val] c) 1 1) kh _ (off15_eq (prv^[s.val] c) 1 1) _) $$ HK; iintro HK
  iapply (wp_v c (tileIx (prv^[s.val] c) 1 1) vh _ (off15_eq (prv^[s.val] c) 1 1) _) $$ HV; iintro HV
  iapply (wp_gput c _ _ ![128, 64] _) $$ Hg; iintro Hg
  iapply (wp_k c (tileIx (prv^[s.val] c) 2 1) kh _ (off15_eq (prv^[s.val] c) 2 1) _) $$ HK; iintro HK
  iapply (wp_v c (tileIx (prv^[s.val] c) 2 1) vh _ (off15_eq (prv^[s.val] c) 2 1) _) $$ HV; iintro HV
  iapply (wp_gput c _ _ ![128, 128] _) $$ Hg; iintro Hg
  iapply (wp_k c (tileIx (prv^[s.val] c) 3 1) kh _ (off15_eq (prv^[s.val] c) 3 1) _) $$ HK; iintro HK
  iapply (wp_v c (tileIx (prv^[s.val] c) 3 1) vh _ (off15_eq (prv^[s.val] c) 3 1) _) $$ HV; iintro HV
  iapply (wp_gput c _ _ ![128, 192] _) $$ Hg; iintro Hg
  iapply (wp_g c _ _ (by decide) _) $$ Hg; iintro Hg
  iapply (wp_o c _ _ (by decide) _) $$ Ho; iintro Ho
  iapply (wp_o c _ _ (by decide) _) $$ Ho; iintro Ho
  iapply (wp_oput c _ _ _ (by decide) _) $$ Ho; iintro Ho
  rw [stageR]
  obtain ⟨p', hp', hw'⟩ := pos_L s HL c
  iapply (wp_word c 3 p' _ hw' _ hp' _) $$ Ht
  iintro Ht
  simp only [wp_assume_of _ _ _ _ (d := k0_chk5.dec _ _) (chk5 s (nxt^[s.val] c))]
  iapply (wp_matL c (par s.val) 0 fullShare.left (w (nxt^[s.val] c)) _ (o17 s) _) $$ HbL; iintro HbL
  iapply (wp_matL c (par s.val) 1 fullShare.left (w (nxt^[s.val] c)) _ (o18 s) _) $$ HbL; iintro HbL
  iapply (wp_x c x _ (by decide) _) $$ Hx; iintro Hx
  iapply (wp_k c (tileIx (nxt^[s.val] c) 0 0) kh _ (off19_eq (nxt^[s.val] c) 0 0) _) $$ HK; iintro HK
  iapply (wp_v c (tileIx (nxt^[s.val] c) 0 0) vh _ (off19_eq (nxt^[s.val] c) 0 0) _) $$ HV; iintro HV
  iapply (wp_gput c _ _ ![0, 0] _) $$ Hg; iintro Hg
  iapply (wp_k c (tileIx (nxt^[s.val] c) 1 0) kh _ (off19_eq (nxt^[s.val] c) 1 0) _) $$ HK; iintro HK
  iapply (wp_v c (tileIx (nxt^[s.val] c) 1 0) vh _ (off19_eq (nxt^[s.val] c) 1 0) _) $$ HV; iintro HV
  iapply (wp_gput c _ _ ![0, 64] _) $$ Hg; iintro Hg
  iapply (wp_k c (tileIx (nxt^[s.val] c) 2 0) kh _ (off19_eq (nxt^[s.val] c) 2 0) _) $$ HK; iintro HK
  iapply (wp_v c (tileIx (nxt^[s.val] c) 2 0) vh _ (off19_eq (nxt^[s.val] c) 2 0) _) $$ HV; iintro HV
  iapply (wp_gput c _ _ ![0, 128] _) $$ Hg; iintro Hg
  iapply (wp_k c (tileIx (nxt^[s.val] c) 3 0) kh _ (off19_eq (nxt^[s.val] c) 3 0) _) $$ HK; iintro HK
  iapply (wp_v c (tileIx (nxt^[s.val] c) 3 0) vh _ (off19_eq (nxt^[s.val] c) 3 0) _) $$ HV; iintro HV
  iapply (wp_gput c _ _ ![0, 192] _) $$ Hg; iintro Hg
  iapply (wp_k c (tileIx (nxt^[s.val] c) 0 1) kh _ (off19_eq (nxt^[s.val] c) 0 1) _) $$ HK; iintro HK
  iapply (wp_v c (tileIx (nxt^[s.val] c) 0 1) vh _ (off19_eq (nxt^[s.val] c) 0 1) _) $$ HV; iintro HV
  iapply (wp_gput c _ _ ![128, 0] _) $$ Hg; iintro Hg
  iapply (wp_k c (tileIx (nxt^[s.val] c) 1 1) kh _ (off19_eq (nxt^[s.val] c) 1 1) _) $$ HK; iintro HK
  iapply (wp_v c (tileIx (nxt^[s.val] c) 1 1) vh _ (off19_eq (nxt^[s.val] c) 1 1) _) $$ HV; iintro HV
  iapply (wp_gput c _ _ ![128, 64] _) $$ Hg; iintro Hg
  iapply (wp_k c (tileIx (nxt^[s.val] c) 2 1) kh _ (off19_eq (nxt^[s.val] c) 2 1) _) $$ HK; iintro HK
  iapply (wp_v c (tileIx (nxt^[s.val] c) 2 1) vh _ (off19_eq (nxt^[s.val] c) 2 1) _) $$ HV; iintro HV
  iapply (wp_gput c _ _ ![128, 128] _) $$ Hg; iintro Hg
  iapply (wp_k c (tileIx (nxt^[s.val] c) 3 1) kh _ (off19_eq (nxt^[s.val] c) 3 1) _) $$ HK; iintro HK
  iapply (wp_v c (tileIx (nxt^[s.val] c) 3 1) vh _ (off19_eq (nxt^[s.val] c) 3 1) _) $$ HV; iintro HV
  iapply (wp_gput c _ _ ![128, 192] _) $$ Hg; iintro Hg
  iapply (wp_g c _ _ (by decide) _) $$ Hg; iintro Hg
  iapply (wp_o c _ _ (by decide) _) $$ Ho; iintro Ho
  iapply (wp_o c _ _ (by decide) _) $$ Ho; iintro Ho
  iapply (wp_oput c _ _ _ (by decide) _) $$ Ho; iintro Ho
  rw [stageL]
  -- the ends of the copies
  iapply (wp_landed_sR c w K s.val hs _ (sem3 (par s.val) _ (o20 s) _ _) (s.val + 1) (s.val + 1) _ (amountA (par s.val) _ (o21 s) _)) $$ [HcSR HO HsR]
  · isplitr; · iexact HI
    isplitr; · iexact Hlev
    isplitl [HcSR]; · iexact HcSR
    isplitl [HO]; · iexact HO
    iexact HsR
  iintro ⟨⟨%W1R, HO⟩, HsR, HaR⟩
  iapply (wp_landed_vR c w K s.val hs _ (sem4 (par (s.val + 1)) _ (o23 s) _ _) (s.val + 1) (by omega) _ (amountA (par (s.val + 1)) _ (o22 s) _)) $$ [HcVR HO HvR]
  · isplitr; · iexact HI
    isplitr; · iexact Hlev
    isplitl [HcVR]; · iexact HcVR
    isplitl [HO]; · iexact HO
    iexact HvR
  iintro ⟨⟨%W2R, HO⟩, HvR, HaN, #HrP1⟩
  iapply (wp_landed_sL c w K s.val hs5 _ (sem5 (par s.val) _ (o24 s) _ _) (s.val + 1) (s.val + 1) _ (amountB (par s.val) _ (o25 s) _)) $$ [HcSL HO HsL]
  · isplitr; · iexact HI
    isplitr; · iexact Hlev
    isplitl [HcSL]; · iexact HcSL
    isplitl [HO]; · iexact HO
    iexact HsL
  iintro ⟨⟨%W1L, HO⟩, HsL, HbR⟩
  iapply (wp_landed_vL c w K s.val hs5 _ (sem6 (par (s.val + 1)) _ (o27 s) _ _)  _ (amountB (par (s.val + 1)) _ (o26 s) _)) $$ [HcVL HO HvL]
  · isplitr; · iexact HI
    isplitr; · iexact Hlev
    isplitl [HcVL]; · iexact HcVL
    isplitl [HO]; · iexact HO
    iexact HvL
  iintro ⟨⟨%W2L, HO⟩, HvL, HbN, #HrN1⟩
  unfold WP
  rw [wp_ret]
  imodintro
  iapply Hk
  isplitl [Ht Hx HK HV Ho Hg]
  · isplitl [Ht]; · iexact Ht
    isplitl [Hx]; · iexact Hx
    isplitl [HK]; · iexact HK
    isplitl [HV]; · iexact HV
    isplitl [Ho]; · iexact Ho
    iexists _; iexact Hg
  isplitl [HaN HaL HaR HbN HbL HbR]
  · isplitl [HaN]; · iexact HaN
    isplitl [HaL HaR]
    · iapply (slotR_next (F := F) c s.val _)
      isplitl [HaL]; · iexact HaL
      iexact HaR
    isplitl [HbN]; · iexact HbN
    iapply (slotL_next (F := F) c s.val _)
    isplitl [HbL]; · iexact HbL
    iexact HbR
  isplitl [HO]; · iexists _; iexact HO
  isplitl [HatB]; · iexact HatB
  isplitl [HsR HsR' HvR HvR']
  · iapply (posR_next (F := F) c s.val)
    isplitl [HsR]; · iexact HsR
    isplitl [HsR']; · iexact HsR'
    isplitl [HvR]; · iexact HvR
    iexact HvR'
  isplitl [HsL HsL' HvL HvL']
  · iapply (posL_next (F := F) c s.val)
    isplitl [HsL]; · iexact HsL
    isplitl [HsL']; · iexact HsL'
    isplitl [HvL]; · iexact HvL
    iexact HvL'
  isplitr
  · isplitr; · iexact HrP1
    iexact HrN1
  isplitl [HtB]; · iexact HtB
  isplitl [HtR]; · iexact HtR
  iexact HtL

end Cert.KernelIdeal.Hop
-- ==== Proof.Last.lean ====
/-
The last trip with a copy: the neighbours meet, the clockwise copy starts, two groups are added.
-/
module

public import proofs.«01_k».proof.Proof.Mid

@[expose] public section

noncomputable section

namespace Cert.KernelIdeal.Hop

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (w : Dev nD → S2x512x256.Idx → Elt F .bf16)

set_option maxHeartbeats 4000000 in
set_option maxRecDepth 65536 in
/-- The last trip with a copy: the neighbours meet, the clockwise copy starts, two groups are added. -/
theorem tripLast (K : GSem nD τ sig → ℕ) (c : Dev nD) (Q : Unit → sProp 𝕄) (s : Trip) (hl : s.val = 15)
    (x : S256x512.Idx → Elt F .bf16) (kh vh : S256x128x64.Idx → Elt F .bf16) (acc : S2x128x512.Idx → Elt F .f32)
    (h0 : tM.IsWhole) (h1 : xM.IsWhole) (h2 : wM.IsWhole) (h3 : kM.IsWhole) (h4 : vM.IsWhole) (h5 : oM.IsWhole) (h6 : aM.IsWhole) (h7 : bM.IsWhole) (h8 : gM.IsWhole)
    (w2) (w1) (w3) :
    iprop(invs w K ∗ levAts L lv ∗ mid w c x kh vh acc s.val 15)
      ⊢ iprop((mid w c x kh vh (addGroup x kh vh (w (nxt^[s.val] c)) (nxt^[s.val] c) (addGroup x kh vh (w (prv^[s.val] c)) (prv^[s.val] c) acc)) (s.val + 1) 15 -∗ Q ())
        -∗ WP c (k0_t1_body (F := F) tM h0 xM h1 wM h2 kM h3 vM h4 oM h5 aM h6 bM h7 gM h8 cc0_scratch3 cc0_scratch4 cc0_scratch5 cc0_scratch6 (asWord (nxt c)) w2 (asWord (prv c)) w1 (word 2 c) w3 (SemArray.scalar (sig.barrier 0 rfl)) s ()) Q) := by
  have hs : s.val < 16 := by omega
  have HL : 1 ≤ s.val ∧ s.val < 16 := by omega
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  simp only [dif_pos (c1_on s (by omega)), dif_pos (c2_on s (by omega)), dif_neg (c3_off s (by omega)), dif_pos (c4_on s (by omega)), dif_pos (c5_on s (by omega)), dif_neg (c6_off s (by omega)), semSignalWord, semWaitWord, smemLoad, smemLoadElt, Prog.lift, Prog.bind_op, Prog.bind_ret, Prog.pure_eq_ret, Prog.bind_assoc]
  have e15 : (15 : ℕ) = s.val := hl.symm
  unfold mid bufs
  iintro ⟨#HI, #Hlev, ⟨Ht, Hx, HK, HV, Ho, ⟨%g0, Hg⟩⟩, ⟨Ha, HaN, Hb, HbN⟩, ⟨%W, HO⟩, HatB, HposR, HposL, ⟨#HrP, #HrN⟩, HtB, HtR, HtL⟩ Hk
  ihave HposR := (posR_open (F := F) c s.val) $$ HposR
  icases HposR with ⟨HsR, HsR', HvR, HvR'⟩
  have eb : (bPts fullShare c (par 15) (spread (w (nxt^[15] c))) : sProp 𝕄) = bPts fullShare c (par s.val) (spread (w (nxt^[s.val] c))) := by rw [hl]
  ihave HbL := (Entails.of_eq eb) $$ Hb
  have er : (reached ER (barCell (nxt c)) 15 : sProp 𝕄) = reached ER (barCell (nxt c)) s.val := by rw [hl]
  ihave HrN' := (Entails.of_eq er) $$ HrN
  icases HrN' with #HrN'
  -- the neighbours meet
  ihave HtB := (tokB_take (F := F) c s.val hs) $$ HtB
  unfold payB
  icases HtB with ⟨⟨HdBP, HdBN, HcB⟩, HtB⟩
  ihave HvR := (at_reached (F := F) (cell c (vR (par (s.val + 1)))) (s.val / 2)) $$ HvR
  icases HvR with ⟨HvR, #HrVR⟩
  iapply (wp_tellP c w K s.val hs 15 _ (dev3_eq (prv c) _) _ (by decide) W) $$ [HO HdBP HaN]
  · isplitr; · iexact HI
    isplitl [HO]; · iexact HO
    isplitl [HdBP]; · iexact HdBP
    isplitl [HaN]
    · iapply (giveT (F := F) c s.val)
      isplitl [HaN]; · iexact HaN
      iexact HrVR
    iexact HrP
  iintro HO
  iapply (wp_tellN c w K s.val hs 15 _ (dev4_eq (nxt c) _) _ (by decide) W) $$ [HO HdBN]
  · isplitr; · iexact HI
    isplitl [HO]; · iexact HO
    isplitl [HdBN]; · iexact HdBN
    isplitr
    · iapply (giveF_last (F := F) c s.val (by omega)); iempintro
    iexact HrN'
  iintro HO
  iapply (wp_barrier c w K s.val hs 15 (by omega) _ (by decide) W) $$ [HcB HO HatB]
  · isplitr; · iexact HI
    isplitr; · iexact Hlev
    isplitl [HcB]; · iexact HcB
    isplitl [HO]; · iexact HO
    iexact HatB
  iintro ⟨HO, HatB, HpF, HpT⟩
  ihave HatB := (at_reached (F := F) (barCell c) (s.val + 1)) $$ HatB
  icases HatB with ⟨HatB, #HrB⟩
  -- the copies start
  ihave Htok := (tokR_take (F := F) c s.val hs) $$ HtR
  unfold payR
  icases Htok with ⟨⟨HdSR, HdVR, HcVR⟩, HtR⟩
  ihave HsR := (at_reached (F := F) (cell c (sR (par s.val))) (s.val / 2)) $$ HsR
  icases HsR with ⟨HsR, #HrSR⟩
  ihave Hh := (a_halves (F := F) c (par s.val) _).1 $$ Ha
  icases Hh with ⟨HaL, HaR⟩
  iapply (wp_sendR c w K s.val hs 15 _ (dev5_eq (nxt c) _) _ _ (o7 s) (o6 s) _ _ _ _ (sem3 (par s.val) _ (o4 s) _ _) (sem4 (par (s.val + 1)) _ (o5 s) _ _) _) $$ [HaR HpT HO HdSR HdVR]
  · isplitr; · iexact HI
    isplitl [HaR]; · iexact HaR
    isplitl [HpT]; · iexact HpT
    isplitr; · iexact HrB
    isplitl [HO]; · iexact HO
    isplitl [HdSR]; · iexact HdSR
    isplitr; · iexact HrSR
    iexact HdVR
  iintro ⟨HcSR, HO⟩
  -- the groups in hand are added
  obtain ⟨p, hp, hw⟩ := pos_R s c
  iapply (wp_word c 3 p _ hw _ hp _) $$ Ht
  iintro Ht
  simp only [wp_assume_of _ _ _ _ (d := k0_chk4.dec _) (chk4 (prv^[s.val] c))]
  iapply (wp_matR c (par s.val) 0 fullShare.left (w (prv^[s.val] c)) _ (o13 s) _) $$ HaL; iintro HaL
  iapply (wp_matR c (par s.val) 1 fullShare.left (w (prv^[s.val] c)) _ (o14 s) _) $$ HaL; iintro HaL
  iapply (wp_x c x _ (by decide) _) $$ Hx; iintro Hx
  iapply (wp_k c (tileIx (prv^[s.val] c) 0 0) kh _ (off15_eq (prv^[s.val] c) 0 0) _) $$ HK; iintro HK
  iapply (wp_v c (tileIx (prv^[s.val] c) 0 0) vh _ (off15_eq (prv^[s.val] c) 0 0) _) $$ HV; iintro HV
  iapply (wp_gput c _ _ ![0, 0] _) $$ Hg; iintro Hg
  iapply (wp_k c (tileIx (prv^[s.val] c) 1 0) kh _ (off15_eq (prv^[s.val] c) 1 0) _) $$ HK; iintro HK
  iapply (wp_v c (tileIx (prv^[s.val] c) 1 0) vh _ (off15_eq (prv^[s.val] c) 1 0) _) $$ HV; iintro HV
  iapply (wp_gput c _ _ ![0, 64] _) $$ Hg; iintro Hg
  iapply (wp_k c (tileIx (prv^[s.val] c) 2 0) kh _ (off15_eq (prv^[s.val] c) 2 0) _) $$ HK; iintro HK
  iapply (wp_v c (tileIx (prv^[s.val] c) 2 0) vh _ (off15_eq (prv^[s.val] c) 2 0) _) $$ HV; iintro HV
  iapply (wp_gput c _ _ ![0, 128] _) $$ Hg; iintro Hg
  iapply (wp_k c (tileIx (prv^[s.val] c) 3 0) kh _ (off15_eq (prv^[s.val] c) 3 0) _) $$ HK; iintro HK
  iapply (wp_v c (tileIx (prv^[s.val] c) 3 0) vh _ (off15_eq (prv^[s.val] c) 3 0) _) $$ HV; iintro HV
  iapply (wp_gput c _ _ ![0, 192] _) $$ Hg; iintro Hg
  iapply (wp_k c (tileIx (prv^[s.val] c) 0 1) kh _ (off15_eq (prv^[s.val] c) 0 1) _) $$ HK; iintro HK
  iapply (wp_v c (tileIx (prv^[s.val] c) 0 1) vh _ (off15_eq (prv^[s.val] c) 0 1) _) $$ HV; iintro HV
  iapply (wp_gput c _ _ ![128, 0] _) $$ Hg; iintro Hg
  iapply (wp_k c (tileIx (prv^[s.val] c) 1 1) kh _ (off15_eq (prv^[s.val] c) 1 1) _) $$ HK; iintro HK
  iapply (wp_v c (tileIx (prv^[s.val] c) 1 1) vh _ (off15_eq (prv^[s.val] c) 1 1) _) $$ HV; iintro HV
  iapply (wp_gput c _ _ ![128, 64] _) $$ Hg; iintro Hg
  iapply (wp_k c (tileIx (prv^[s.val] c) 2 1) kh _ (off15_eq (prv^[s.val] c) 2 1) _) $$ HK; iintro HK
  iapply (wp_v c (tileIx (prv^[s.val] c) 2 1) vh _ (off15_eq (prv^[s.val] c) 2 1) _) $$ HV; iintro HV
  iapply (wp_gput c _ _ ![128, 128] _) $$ Hg; iintro Hg
  iapply (wp_k c (tileIx (prv^[s.val] c) 3 1) kh _ (off15_eq (prv^[s.val] c) 3 1) _) $$ HK; iintro HK
  iapply (wp_v c (tileIx (prv^[s.val] c) 3 1) vh _ (off15_eq (prv^[s.val] c) 3 1) _) $$ HV; iintro HV
  iapply (wp_gput c _ _ ![128, 192] _) $$ Hg; iintro Hg
  iapply (wp_g c _ _ (by decide) _) $$ Hg; iintro Hg
  iapply (wp_o c _ _ (by decide) _) $$ Ho; iintro Ho
  iapply (wp_o c _ _ (by decide) _) $$ Ho; iintro Ho
  iapply (wp_oput c _ _ _ (by decide) _) $$ Ho; iintro Ho
  rw [stageR]
  obtain ⟨p', hp', hw'⟩ := pos_L s HL c
  iapply (wp_word c 3 p' _ hw' _ hp' _) $$ Ht
  iintro Ht
  simp only [wp_assume_of _ _ _ _ (d := k0_chk5.dec _ _) (chk5 s (nxt^[s.val] c))]
  iapply (wp_matL c (par s.val) 0 fullShare (w (nxt^[s.val] c)) _ (o17 s) _) $$ HbL; iintro HbL
  iapply (wp_matL c (par s.val) 1 fullShare (w (nxt^[s.val] c)) _ (o18 s) _) $$ HbL; iintro HbL
  iapply (wp_x c x _ (by decide) _) $$ Hx; iintro Hx
  iapply (wp_k c (tileIx (nxt^[s.val] c) 0 0) kh _ (off19_eq (nxt^[s.val] c) 0 0) _) $$ HK; iintro HK
  iapply (wp_v c (tileIx (nxt^[s.val] c) 0 0) vh _ (off19_eq (nxt^[s.val] c) 0 0) _) $$ HV; iintro HV
  iapply (wp_gput c _ _ ![0, 0] _) $$ Hg; iintro Hg
  iapply (wp_k c (tileIx (nxt^[s.val] c) 1 0) kh _ (off19_eq (nxt^[s.val] c) 1 0) _) $$ HK; iintro HK
  iapply (wp_v c (tileIx (nxt^[s.val] c) 1 0) vh _ (off19_eq (nxt^[s.val] c) 1 0) _) $$ HV; iintro HV
  iapply (wp_gput c _ _ ![0, 64] _) $$ Hg; iintro Hg
  iapply (wp_k c (tileIx (nxt^[s.val] c) 2 0) kh _ (off19_eq (nxt^[s.val] c) 2 0) _) $$ HK; iintro HK
  iapply (wp_v c (tileIx (nxt^[s.val] c) 2 0) vh _ (off19_eq (nxt^[s.val] c) 2 0) _) $$ HV; iintro HV
  iapply (wp_gput c _ _ ![0, 128] _) $$ Hg; iintro Hg
  iapply (wp_k c (tileIx (nxt^[s.val] c) 3 0) kh _ (off19_eq (nxt^[s.val] c) 3 0) _) $$ HK; iintro HK
  iapply (wp_v c (tileIx (nxt^[s.val] c) 3 0) vh _ (off19_eq (nxt^[s.val] c) 3 0) _) $$ HV; iintro HV
  iapply (wp_gput c _ _ ![0, 192] _) $$ Hg; iintro Hg
  iapply (wp_k c (tileIx (nxt^[s.val] c) 0 1) kh _ (off19_eq (nxt^[s.val] c) 0 1) _) $$ HK; iintro HK
  iapply (wp_v c (tileIx (nxt^[s.val] c) 0 1) vh _ (off19_eq (nxt^[s.val] c) 0 1) _) $$ HV; iintro HV
  iapply (wp_gput c _ _ ![128, 0] _) $$ Hg; iintro Hg
  iapply (wp_k c (tileIx (nxt^[s.val] c) 1 1) kh _ (off19_eq (nxt^[s.val] c) 1 1) _) $$ HK; iintro HK
  iapply (wp_v c (tileIx (nxt^[s.val] c) 1 1) vh _ (off19_eq (nxt^[s.val] c) 1 1) _) $$ HV; iintro HV
  iapply (wp_gput c _ _ ![128, 64] _) $$ Hg; iintro Hg
  iapply (wp_k c (tileIx (nxt^[s.val] c) 2 1) kh _ (off19_eq (nxt^[s.val] c) 2 1) _) $$ HK; iintro HK
  iapply (wp_v c (tileIx (nxt^[s.val] c) 2 1) vh _ (off19_eq (nxt^[s.val] c) 2 1) _) $$ HV; iintro HV
  iapply (wp_gput c _ _ ![128, 128] _) $$ Hg; iintro Hg
  iapply (wp_k c (tileIx (nxt^[s.val] c) 3 1) kh _ (off19_eq (nxt^[s.val] c) 3 1) _) $$ HK; iintro HK
  iapply (wp_v c (tileIx (nxt^[s.val] c) 3 1) vh _ (off19_eq (nxt^[s.val] c) 3 1) _) $$ HV; iintro HV
  iapply (wp_gput c _ _ ![128, 192] _) $$ Hg; iintro Hg
  iapply (wp_g c _ _ (by decide) _) $$ Hg; iintro Hg
  iapply (wp_o c _ _ (by decide) _) $$ Ho; iintro Ho
  iapply (wp_o c _ _ (by decide) _) $$ Ho; iintro Ho
  iapply (wp_oput c _ _ _ (by decide) _) $$ Ho; iintro Ho
  rw [stageL]
  -- the ends of the copies
  iapply (wp_landed_sR c w K s.val hs _ (sem3 (par s.val) _ (o20 s) _ _) (s.val + 1) 15 _ (amountA (par s.val) _ (o21 s) _)) $$ [HcSR HO HsR]
  · isplitr; · iexact HI
    isplitr; · iexact Hlev
    isplitl [HcSR]; · iexact HcSR
    isplitl [HO]; · iexact HO
    iexact HsR
  iintro ⟨⟨%W1R, HO⟩, HsR, HaR⟩
  iapply (wp_landed_vR c w K s.val hs _ (sem4 (par (s.val + 1)) _ (o23 s) _ _) 15 (by omega) _ (amountA (par (s.val + 1)) _ (o22 s) _)) $$ [HcVR HO HvR]
  · isplitr; · iexact HI
    isplitr; · iexact Hlev
    isplitl [HcVR]; · iexact HcVR
    isplitl [HO]; · iexact HO
    iexact HvR
  iintro ⟨⟨%W2R, HO⟩, HvR, HaN, #HrP1⟩
  unfold WP
  rw [wp_ret]
  imodintro
  iapply Hk
  isplitl [Ht Hx HK HV Ho Hg]
  · isplitl [Ht]; · iexact Ht
    isplitl [Hx]; · iexact Hx
    isplitl [HK]; · iexact HK
    isplitl [HV]; · iexact HV
    isplitl [Ho]; · iexact Ho
    iexists _; iexact Hg
  isplitl [HaN HaL HaR HbL HbN]
  · isplitl [HaN]; · iexact HaN
    isplitl [HaL HaR]
    · iapply (slotR_next (F := F) c s.val _)
      isplitl [HaL]; · iexact HaL
      iexact HaR
    isplitl [HbL]; · iapply (Entails.of_eq eb.symm); iexact HbL
    iexact HbN
  isplitl [HO]; · iexists _; iexact HO
  isplitl [HatB]; · iexact HatB
  isplitl [HsR HsR' HvR HvR']
  · iapply (posR_next (F := F) c s.val)
    isplitl [HsR]; · iexact HsR
    isplitl [HsR']; · iexact HsR'
    isplitl [HvR]; · iexact HvR
    iexact HvR'
  isplitl [HposL]; · iexact HposL
  isplitr
  · isplitr; · iexact HrP1
    iexact HrN
  isplitl [HtB]; · iexact HtB
  isplitl [HtR]; · iexact HtR
  iexact HtL

end Cert.KernelIdeal.Hop
-- ==== Proof.End.lean ====
/-
The trip after the last copy: the group at the far side of the ring is added.
-/
module

public import proofs.«01_k».proof.Proof.Mid

@[expose] public section

noncomputable section

namespace Cert.KernelIdeal.Hop

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (w : Dev nD → S2x512x256.Idx → Elt F .bf16)

set_option maxHeartbeats 4000000 in
set_option maxRecDepth 65536 in
/-- The trip after the last copy: the group at the far side of the ring is added. -/
theorem tripEnd (K : GSem nD τ sig → ℕ) (c : Dev nD) (Q : Unit → sProp 𝕄) (s : Trip) (he : s.val = 16)
    (x : S256x512.Idx → Elt F .bf16) (kh vh : S256x128x64.Idx → Elt F .bf16) (acc : S2x128x512.Idx → Elt F .f32)
    (h0 : tM.IsWhole) (h1 : xM.IsWhole) (h2 : wM.IsWhole) (h3 : kM.IsWhole) (h4 : vM.IsWhole) (h5 : oM.IsWhole) (h6 : aM.IsWhole) (h7 : bM.IsWhole) (h8 : gM.IsWhole)
    (w2) (w1) (w3) :
    iprop(invs w K ∗ levAts L lv ∗ mid w c x kh vh acc s.val 15)
      ⊢ iprop((mid w c x kh vh (addGroup x kh vh (w (prv^[s.val] c)) (prv^[s.val] c) acc) s.val 15 -∗ Q ())
        -∗ WP c (k0_t1_body (F := F) tM h0 xM h1 wM h2 kM h3 vM h4 oM h5 aM h6 bM h7 gM h8 cc0_scratch3 cc0_scratch4 cc0_scratch5 cc0_scratch6 (asWord (nxt c)) w2 (asWord (prv c)) w1 (word 2 c) w3 (SemArray.scalar (sig.barrier 0 rfl)) s ()) Q) := by
  unfold k0_t1_body
  simp only [k0_part7_eq_skeleton, k0_part8_eq_skeleton, k0_part9_eq_skeleton, k0_part10_eq_skeleton, k0_part11_eq_skeleton, k0_part12_eq_skeleton, k0_part13_eq_skeleton]
  unfold k0_part7_skel k0_part8_skel k0_part9_skel k0_part10_skel k0_part11_skel k0_part12_skel k0_part13_skel
  simp only [dif_neg (c1_off s (by omega)), dif_neg (c2_off s (by omega)), dif_neg (c3_off s (by omega)), dif_neg (c4_off s (by omega)), dif_neg (c5_off s (by omega)), dif_neg (c6_off s (by omega)), semSignalWord, semWaitWord, smemLoad, smemLoadElt, Prog.lift, Prog.bind_op, Prog.bind_ret, Prog.pure_eq_ret, Prog.bind_assoc]
  unfold mid bufs
  iintro ⟨#HI, #Hlev, ⟨Ht, Hx, HK, HV, Ho, ⟨%g0, Hg⟩⟩, ⟨Ha, HaN, Hb, HbN⟩, ⟨%W, HO⟩, HatB, HposR, HposL, ⟨#HrP, #HrN⟩, HtB, HtR, HtL⟩ Hk
  -- the groups in hand are added
  obtain ⟨p, hp, hw⟩ := pos_R s c
  iapply (wp_word c 3 p _ hw _ hp _) $$ Ht
  iintro Ht
  simp only [wp_assume_of _ _ _ _ (d := k0_chk4.dec _) (chk4 (prv^[s.val] c))]
  iapply (wp_matR c (par s.val) 0 fullShare (w (prv^[s.val] c)) _ (o13 s) _) $$ Ha; iintro Ha
  iapply (wp_matR c (par s.val) 1 fullShare (w (prv^[s.val] c)) _ (o14 s) _) $$ Ha; iintro Ha
  iapply (wp_x c x _ (by decide) _) $$ Hx; iintro Hx
  iapply (wp_k c (tileIx (prv^[s.val] c) 0 0) kh _ (off15_eq (prv^[s.val] c) 0 0) _) $$ HK; iintro HK
  iapply (wp_v c (tileIx (prv^[s.val] c) 0 0) vh _ (off15_eq (prv^[s.val] c) 0 0) _) $$ HV; iintro HV
  iapply (wp_gput c _ _ ![0, 0] _) $$ Hg; iintro Hg
  iapply (wp_k c (tileIx (prv^[s.val] c) 1 0) kh _ (off15_eq (prv^[s.val] c) 1 0) _) $$ HK; iintro HK
  iapply (wp_v c (tileIx (prv^[s.val] c) 1 0) vh _ (off15_eq (prv^[s.val] c) 1 0) _) $$ HV; iintro HV
  iapply (wp_gput c _ _ ![0, 64] _) $$ Hg; iintro Hg
  iapply (wp_k c (tileIx (prv^[s.val] c) 2 0) kh _ (off15_eq (prv^[s.val] c) 2 0) _) $$ HK; iintro HK
  iapply (wp_v c (tileIx (prv^[s.val] c) 2 0) vh _ (off15_eq (prv^[s.val] c) 2 0) _) $$ HV; iintro HV
  iapply (wp_gput c _ _ ![0, 128] _) $$ Hg; iintro Hg
  iapply (wp_k c (tileIx (prv^[s.val] c) 3 0) kh _ (off15_eq (prv^[s.val] c) 3 0) _) $$ HK; iintro HK
  iapply (wp_v c (tileIx (prv^[s.val] c) 3 0) vh _ (off15_eq (prv^[s.val] c) 3 0) _) $$ HV; iintro HV
  iapply (wp_gput c _ _ ![0, 192] _) $$ Hg; iintro Hg
  iapply (wp_k c (tileIx (prv^[s.val] c) 0 1) kh _ (off15_eq (prv^[s.val] c) 0 1) _) $$ HK; iintro HK
  iapply (wp_v c (tileIx (prv^[s.val] c) 0 1) vh _ (off15_eq (prv^[s.val] c) 0 1) _) $$ HV; iintro HV
  iapply (wp_gput c _ _ ![128, 0] _) $$ Hg; iintro Hg
  iapply (wp_k c (tileIx (prv^[s.val] c) 1 1) kh _ (off15_eq (prv^[s.val] c) 1 1) _) $$ HK; iintro HK
  iapply (wp_v c (tileIx (prv^[s.val] c) 1 1) vh _ (off15_eq (prv^[s.val] c) 1 1) _) $$ HV; iintro HV
  iapply (wp_gput c _ _ ![128, 64] _) $$ Hg; iintro Hg
  iapply (wp_k c (tileIx (prv^[s.val] c) 2 1) kh _ (off15_eq (prv^[s.val] c) 2 1) _) $$ HK; iintro HK
  iapply (wp_v c (tileIx (prv^[s.val] c) 2 1) vh _ (off15_eq (prv^[s.val] c) 2 1) _) $$ HV; iintro HV
  iapply (wp_gput c _ _ ![128, 128] _) $$ Hg; iintro Hg
  iapply (wp_k c (tileIx (prv^[s.val] c) 3 1) kh _ (off15_eq (prv^[s.val] c) 3 1) _) $$ HK; iintro HK
  iapply (wp_v c (tileIx (prv^[s.val] c) 3 1) vh _ (off15_eq (prv^[s.val] c) 3 1) _) $$ HV; iintro HV
  iapply (wp_gput c _ _ ![128, 192] _) $$ Hg; iintro Hg
  iapply (wp_g c _ _ (by decide) _) $$ Hg; iintro Hg
  iapply (wp_o c _ _ (by decide) _) $$ Ho; iintro Ho
  iapply (wp_o c _ _ (by decide) _) $$ Ho; iintro Ho
  iapply (wp_oput c _ _ _ (by decide) _) $$ Ho; iintro Ho
  rw [stageR]
  unfold WP
  rw [wp_ret]
  imodintro
  iapply Hk
  isplitl [Ht Hx HK HV Ho Hg]
  · isplitl [Ht]; · iexact Ht
    isplitl [Hx]; · iexact Hx
    isplitl [HK]; · iexact HK
    isplitl [HV]; · iexact HV
    isplitl [Ho]; · iexact Ho
    iexists _; iexact Hg
  isplitl [Ha HaN Hb HbN]
  · isplitl [Ha]; · iexact Ha
    isplitl [HaN]; · iexact HaN
    isplitl [Hb]; · iexact Hb
    iexact HbN
  isplitl [HO]; · iexists _; iexact HO
  isplitl [HatB]; · iexact HatB
  isplitl [HposR]; · iexact HposR
  isplitl [HposL]; · iexact HposL
  isplitr
  · isplitr; · iexact HrP
    iexact HrN
  isplitl [HtB]; · iexact HtB
  isplitl [HtR]; · iexact HtR
  iexact HtL

end Cert.KernelIdeal.Hop
-- ==== Proof.Body.lean ====
/-
The body of the kernel, whole: the neighbours meet, the slots are filled, the result cleared, the trips of the loop run
one after another, the counters are closed.
-/
module

public import proofs.«01_k».proof.Proof.First
public import proofs.«01_k».proof.Proof.Amid
public import proofs.«01_k».proof.Proof.Last
public import proofs.«01_k».proof.Proof.End
public import Idealize.ShloMosaic.Lib.Ring

@[expose] public section

noncomputable section

namespace Cert.KernelIdeal.Hop

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (w : Dev nD → S2x512x256.Idx → Elt F .bf16)

/-- What a trip adds. -/
def tripSum (x : S256x512.Idx → Elt F .bf16) (kh vh : S256x128x64.Idx → Elt F .bf16) (c : Dev nD) (s : ℕ) (acc : S2x128x512.Idx → Elt F .f32) : S2x128x512.Idx → Elt F .f32 :=
  if 1 ≤ s ∧ s < 16 then addGroup x kh vh (w (nxt^[s] c)) (nxt^[s] c) (addGroup x kh vh (w (prv^[s] c)) (prv^[s] c) acc)
  else addGroup x kh vh (w (prv^[s] c)) (prv^[s] c) acc
/-- The sum after a number of trips. -/
def sumAt (x : S256x512.Idx → Elt F .bf16) (kh vh : S256x128x64.Idx → Elt F .bf16) (c : Dev nD) : ℕ → S2x128x512.Idx → Elt F .f32
  | 0 => k0_pay1
  | s + 1 => tripSum w x kh vh c s (sumAt x kh vh c s)
/-- The whole result a device leaves. -/
def share (x : S256x512.Idx → Elt F .bf16) (kh vh : S256x128x64.Idx → Elt F .bf16) (c : Dev nD) : S2x128x512.Idx → Elt F .f32 := sumAt w x kh vh c 17

/-- The staged blocks and the table. -/
def staged (c : Dev nD) (x : S256x512.Idx → Elt F .bf16) (kh vh : S256x128x64.Idx → Elt F .bf16) (o : S2x128x512.Idx → Elt F .f32) : sProp 𝕄 :=
  iprop(buf (F := F) c cc0_stg0_0 table ∗ buf c cc0_stg1_0 x ∗ buf c cc0_stg2_0 (w c) ∗ buf c cc0_stg3_0 kh ∗ buf c cc0_stg4_0 vh ∗ buf c cc0_stg5_0 o)
/-- The kernel's own buffers, at some contents. -/
def scratch (c : Dev nD) : sProp 𝕄 :=
  iprop((∃ f, buf (F := F) c cc0_scratch0 f) ∗ (∃ f, buf (F := F) c cc0_scratch1 f) ∗ (∃ f, buf (F := F) c cc0_scratch2 f))

/-- The copy semaphores at rest. -/
def copySems (c : Dev nD) : sProp 𝕄 :=
  iprop(semVal (cell c (sR 0)) 0 ∗ semVal (cell c (sR 1)) 0 ∗ semVal (cell c (vR 0)) 0 ∗ semVal (cell c (vR 1)) 0
    ∗ semVal (cell c (sL 0)) 0 ∗ semVal (cell c (sL 1)) 0 ∗ semVal (cell c (vL 0)) 0 ∗ semVal (cell c (vL 1)) 0)

/-- In the kernel: the nine cells are open, the tokens and the credit in hand. -/
def opened (K : GSem nD τ sig → ℕ) (c : Dev nD) : sProp 𝕄 :=
  iprop(invs w K ∗ at_ (barCell c) 0 ∗ posR c 0 ∗ posL c 0 ∗ reached ER (barCell (prv c)) 0 ∗ reached ER (barCell (nxt c)) 0 ∗ tokB c 0 ∗ tokR c 0 ∗ tokL c 0)

def bodyPre (K : GSem nD τ sig → ℕ) (c : Dev nD) (x : S256x512.Idx → Elt F .bf16) (kh vh : S256x128x64.Idx → Elt F .bf16) (W : Waits sig ℕ) : sProp 𝕄 :=
  iprop(opened w K c ∗ levAts L lv ∗ (∃ o, staged w c x kh vh o) ∗ scratch (F := F) c ∗ owes (c : Thread nD τ) (owed c 0 0) W)
def bodyPost (c : Dev nD) (x : S256x512.Idx → Elt F .bf16) (kh vh : S256x128x64.Idx → Elt F .bf16) : sProp 𝕄 :=
  iprop((semVal (barCell c) 0 ∗ copySems c)
    ∗ staged w c x kh vh (share w x kh vh c) ∗ scratch (F := F) c ∗ ∃ W, owes (c : Thread nD τ) (0 : CellTallies nD τ sig ℕ) W)

theorem slots_apart (s s' : Fin 2) (h : s ≠ s') : Disjoint (slotSet s) (slotSet s') := by
  fin_cases s <;> fin_cases s'
  · exact absurd rfl h
  · exact slotSet_disjoint
  · exact slotSet_disjoint.symm
  · exact absurd rfl h
theorem slots_all : Finset.univ.biUnion slotSet = Finset.univ := by
  rw [← slotSet_union]; ext i; simp [Fin.exists_fin_two]

omit [FloatOps F] in
/-- A ring buffer is its two slots. -/
theorem a_slots (c : Dev nD) : iprop(∃ f, buf (F := F) c cc0_scratch0 f) ⊢ iprop((∃ f, aPts (F := F) fullShare c 0 f) ∗ ∃ f, aPts (F := F) fullShare c 1 f) := by
  unfold buf aPts
  exact Ring.slots2_split (ℓ := (c : Thread nD τ).loc cc0_scratch0) (q := fullShare) slotSet slots_apart slots_all _ _ (fun _ => rfl) (fun _ => rfl)
omit [FloatOps F] in
theorem b_slots (c : Dev nD) : iprop(∃ f, buf (F := F) c cc0_scratch1 f) ⊢ iprop((∃ f, bPts (F := F) fullShare c 0 f) ∗ ∃ f, bPts (F := F) fullShare c 1 f) := by
  unfold buf bPts
  exact Ring.slots2_split (ℓ := (c : Thread nD τ).loc cc0_scratch1) (q := fullShare) slotSet slots_apart slots_all _ _ (fun _ => rfl) (fun _ => rfl)
omit [FloatOps F] in
theorem a_whole (c : Dev nD) : iprop((∃ f, aPts (F := F) fullShare c 0 f) ∗ ∃ f, aPts (F := F) fullShare c 1 f) ⊢ iprop(∃ f, buf (F := F) c cc0_scratch0 f) := by
  unfold buf aPts
  exact Ring.slots2_join (ℓ := (c : Thread nD τ).loc cc0_scratch0) (q := fullShare) slotSet slots_apart slots_all _ _ (fun _ => rfl) (fun _ => rfl)
omit [FloatOps F] in
theorem b_whole (c : Dev nD) : iprop((∃ f, bPts (F := F) fullShare c 0 f) ∗ ∃ f, bPts (F := F) fullShare c 1 f) ⊢ iprop(∃ f, buf (F := F) c cc0_scratch1 f) := by
  unfold buf bPts
  exact Ring.slots2_join (ℓ := (c : Thread nD τ).loc cc0_scratch1) (q := fullShare) slotSet slots_apart slots_all _ _ (fun _ => rfl) (fun _ => rfl)

/-! ## The loop -/

/-- Before trip `s`. -/
def before (K : GSem nD τ sig → ℕ) (c : Dev nD) (x : S256x512.Idx → Elt F .bf16) (kh vh : S256x128x64.Idx → Elt F .bf16) (s : ℕ) : sProp 𝕄 :=
  iprop(invs w K ∗ levAts L lv ∗ (if s = 0 then start w c x kh vh k0_pay1 else mid w c x kh vh (sumAt w x kh vh c s) (min s 16) (min s 15)))

theorem before_later (K : GSem nD τ sig → ℕ) (c : Dev nD) (x : S256x512.Idx → Elt F .bf16) (kh vh : S256x128x64.Idx → Elt F .bf16) (s n m : ℕ) (acc : S2x128x512.Idx → Elt F .f32)
    (h0 : s ≠ 0) (hn : min s 16 = n) (hm : min s 15 = m) (ha : sumAt w x kh vh c s = acc) :
    (before w K c x kh vh s : sProp 𝕄) = iprop(invs w K ∗ levAts L lv ∗ mid w c x kh vh acc n m) := by
  unfold before; rw [if_neg h0, hn, hm, ha]

theorem sum_one (x : S256x512.Idx → Elt F .bf16) (kh vh : S256x128x64.Idx → Elt F .bf16) (c : Dev nD) (s : ℕ) (h : ¬ (1 ≤ s ∧ s < 16)) :
    sumAt w x kh vh c (s + 1) = addGroup x kh vh (w (prv^[s] c)) (prv^[s] c) (sumAt w x kh vh c s) := if_neg h
theorem sum_two (x : S256x512.Idx → Elt F .bf16) (kh vh : S256x128x64.Idx → Elt F .bf16) (c : Dev nD) (s : ℕ) (h : 1 ≤ s ∧ s < 16) :
    sumAt w x kh vh c (s + 1) = addGroup x kh vh (w (nxt^[s] c)) (nxt^[s] c) (addGroup x kh vh (w (prv^[s] c)) (prv^[s] c) (sumAt w x kh vh c s)) := if_pos h

theorem trip (K : GSem nD τ sig → ℕ) (c : Dev nD) (s : Trip)
    (x : S256x512.Idx → Elt F .bf16) (kh vh : S256x128x64.Idx → Elt F .bf16)
    (h0 : tM.IsWhole) (h1 : xM.IsWhole) (h2 : wM.IsWhole) (h3 : kM.IsWhole) (h4 : vM.IsWhole) (h5 : oM.IsWhole) (h6 : aM.IsWhole) (h7 : bM.IsWhole) (h8 : gM.IsWhole)
    (w2) (w1) (w3) (u : Unit) :
    (before w K c x kh vh s.val : sProp 𝕄)
      ⊢ WP c (k0_t1_body (F := F) tM h0 xM h1 wM h2 kM h3 vM h4 oM h5 aM h6 bM h7 gM h8 cc0_scratch3 cc0_scratch4 cc0_scratch5 cc0_scratch6 (asWord (nxt c)) w2 (asWord (prv c)) w1 (word 2 c) w3 (SemArray.scalar (sig.barrier 0 rfl)) s u)
          (fun _ => before w K c x kh vh (s.val + 1)) := by
  cases u
  have hs : s.val < 17 := Nat.lt_of_lt_of_eq s.isLt (by decide)
  rcases Nat.eq_zero_or_pos s.val with e0 | hp
  · rw [before_later w K c x kh vh (s.val + 1) (s.val + 1) (s.val + 1) _ (by omega) (by omega) (by omega) (sum_one w x kh vh c s.val (by omega)),
      show before w K c x kh vh s.val = iprop(invs w K ∗ levAts L lv ∗ start w c x kh vh k0_pay1) from by unfold before; rw [if_pos e0],
      show sumAt w x kh vh c s.val = k0_pay1 from by rw [e0]; rfl]
    iintro ⟨#HI, #Hl, H⟩
    iapply (tripZero w K c _ s e0 x kh vh _ h0 h1 h2 h3 h4 h5 h6 h7 h8 w2 w1 w3) $$ [H]
    · isplitr; · iexact HI
      isplitr; · iexact Hl
      iexact H
    iintro H
    isplitr; · iexact HI
    isplitr; · iexact Hl
    iexact H
  rcases Nat.lt_or_ge s.val 15 with h15 | h15
  · rw [before_later w K c x kh vh (s.val + 1) (s.val + 1) (s.val + 1) _ (by omega) (by omega) (by omega) (sum_two w x kh vh c s.val (by omega)),
      before_later w K c x kh vh s.val s.val s.val _ (by omega) (by omega) (by omega) rfl]
    iintro ⟨#HI, #Hl, H⟩
    iapply (tripAmid w K c _ s ⟨hp, h15⟩ x kh vh _ h0 h1 h2 h3 h4 h5 h6 h7 h8 w2 w1 w3) $$ [H]
    · isplitr; · iexact HI
      isplitr; · iexact Hl
      iexact H
    iintro H
    isplitr; · iexact HI
    isplitr; · iexact Hl
    iexact H
  rcases Nat.eq_or_lt_of_le h15 with e15 | h16
  · rw [before_later w K c x kh vh (s.val + 1) (s.val + 1) 15 _ (by omega) (by omega) (by omega) (sum_two w x kh vh c s.val (by omega)),
      before_later w K c x kh vh s.val s.val 15 _ (by omega) (by omega) (by omega) rfl]
    iintro ⟨#HI, #Hl, H⟩
    iapply (tripLast w K c _ s e15.symm x kh vh _ h0 h1 h2 h3 h4 h5 h6 h7 h8 w2 w1 w3) $$ [H]
    · isplitr; · iexact HI
      isplitr; · iexact Hl
      iexact H
    iintro H
    isplitr; · iexact HI
    isplitr; · iexact Hl
    iexact H
  · rw [before_later w K c x kh vh (s.val + 1) s.val 15 _ (by omega) (by omega) (by omega) (sum_one w x kh vh c s.val (by omega)),
      before_later w K c x kh vh s.val s.val 15 _ (by omega) (by omega) (by omega) rfl]
    iintro ⟨#HI, #Hl, H⟩
    iapply (tripEnd w K c _ s (by omega) x kh vh _ h0 h1 h2 h3 h4 h5 h6 h7 h8 w2 w1 w3) $$ [H]
    · isplitr; · iexact HI
      isplitr; · iexact Hl
      iexact H
    iintro H
    isplitr; · iexact HI
    isplitr; · iexact Hl
    iexact H

theorem loop_run (c : Dev nD) (body : Trip → Unit → Prog (TpuEff nD τ sig (Elt F) Λ₀ .tc) Unit) (I : ℕ → sProp 𝕄)
    (h : ∀ (s : Trip) (u : Unit), I s.val ⊢ WP c (body s u) (fun _ => I (s.val + 1))) {Q : Unit → sProp 𝕄} :
    I 0 ⊢ iprop((I 17 -∗ Q ()) -∗ WP c (Scf.Loop.for k0_t1_loop k0_t1_ok ⟨⟩ body) Q) := by
  iintro H Hk
  iapply (Scf.wp_for (frame (Ix := ℕ) (Name := ℕ) (U := UU) (Lvl := ℕ)) (wpE (defs₀ (F := F)) 𝒱₀ (c : Thread nD τ) none) Set.univ _ _ _ _ _ body (fun s _ => I s) h)
  isplitl [H]; · iexact H
  iintro %u H
  rw [show Scf.trips k0_t1_loop.lb k0_t1_loop.ub k0_t1_loop.st = 17 from by decide]
  cases u
  iapply Hk; iexact H

theorem posR_end (c : Dev nD) : (posR (F := F) c 16 : sProp 𝕄) ⊢
    iprop(at_ (F := F) (cell c (sR 0)) 8 ∗ at_ (cell c (sR 1)) 8 ∗ at_ (cell c (vR 1)) 8 ∗ at_ (cell c (vR 0)) 8) := Entails.of_eq rfl
theorem posL_end (c : Dev nD) : (posL (F := F) c 15 : sProp 𝕄) ⊢
    iprop(at_ (F := F) (cell c (sL 1)) 7 ∗ at_ (cell c (sL 0)) 8 ∗ at_ (cell c (vL 0)) 7 ∗ at_ (cell c (vL 1)) 8) := Entails.of_eq rfl
theorem posR_first (c : Dev nD) : (posR (F := F) c 0 : sProp 𝕄) ⊢
    iprop(at_ (F := F) (cell c (sR 0)) 0 ∗ at_ (cell c (sR 1)) 0 ∗ at_ (cell c (vR (par (0 + 1)))) (0 / 2) ∗ at_ (cell c (vR 0)) 0) := Entails.of_eq rfl
theorem posL_first (c : Dev nD) : (posL (F := F) c 0 : sProp 𝕄) ⊢
    iprop(at_ (F := F) (cell c (sL 0)) 0 ∗ at_ (cell c (sL 1)) 0 ∗ at_ (cell c (vL (par (0 + 1)))) (0 / 2) ∗ at_ (cell c (vL 0)) 0) := Entails.of_eq rfl

theorem done (K : GSem nD τ sig → ℕ) (c : Dev nD) (q : DmaSem sig) (hq : 6 ≤ q.val) (R : ℕ) (h : rounds q.val ≤ R) :
    iprop(invs w K ∗ at_ (F := F) (cell c q) R) ⊢ (|={Set.univ}=> semVal (cell c q) 0 : sProp 𝕄) := by
  iintro ⟨#HI, H⟩
  iapply (close w (K (cell c q)) (cell c q) R (fun r hr => later_copy w c q r (h.trans hr)))
  isplitr; · iapply (inv_copy w K c q hq); iexact HI
  iexact H

set_option maxHeartbeats 4000000 in
set_option maxRecDepth 65536 in
theorem body_run (K : GSem nD τ sig → ℕ) (c : Dev nD) (Q : PUnit → sProp 𝕄) (W : Waits sig ℕ)
    (x : S256x512.Idx → Elt F .bf16) (kh vh : S256x128x64.Idx → Elt F .bf16)
    (h0 : tM.IsWhole) (h1 : xM.IsWhole) (h2 : wM.IsWhole) (h3 : kM.IsWhole) (h4 : vM.IsWhole) (h5 : oM.IsWhole) (h6 : aM.IsWhole) (h7 : bM.IsWhole) (h8 : gM.IsWhole) :
    iprop(bodyPre w K c x kh vh W ∗ (bodyPost w c x kh vh -∗ Q ⟨⟩))
      ⊢ WP c (cc0_body (F := F) tM h0 xM h1 wM h2 kM h3 vM h4 oM h5 aM h6 bM h7 gM h8 cc0_scratch3 cc0_scratch4 cc0_scratch5 cc0_scratch6) Q := by
  simp only [cc0_body_eq_skeleton]
  unfold cc0_body_skel
  simp only [k0_part14_eq_skeleton]
  unfold k0_part14_skel
  simp only [semSignalWord, semWaitWord, smemLoad, smemLoadElt, Prog.lift, Prog.bind_op, Prog.bind_ret, Prog.pure_eq_ret, Prog.bind_assoc]
  unfold bodyPre opened staged scratch
  iintro ⟨⟨⟨#HI, HatB, HposR, HposL, #HrP, #HrN, HtB, HtR, HtL⟩, #Hlev, ⟨%o0, Ht, Hx, Hw, HK, HV, Ho⟩, ⟨Ha, Hb, Hg⟩, HO⟩, Hk⟩
  unfold WP
  rw [wp_deviceId]
  iapply (wp_word c 0 c _ (word0 c) _ (off1_eq c) _) $$ Ht
  iintro Ht
  simp only [wp_assume_of _ _ _ _ (d := k0_chk2.dec _) (chk2 (nxt c))]
  iapply (wp_word c 1 c _ (word1 c) _ (off2_eq c) _) $$ Ht
  iintro Ht
  simp only [wp_assume_of _ _ _ _ (d := k0_chk1.dec _) (chk1 (prv c))]
  iapply (wp_word c 2 c _ rfl _ (off3_eq c) _) $$ Ht
  iintro Ht
  simp only [wp_assume_of _ _ _ _ (d := k0_chk3.dec _) (chk3 c)]
  ihave Ha := (a_slots (F := F) c) $$ Ha
  icases Ha with ⟨⟨%fa0, Ha⟩, HaN⟩
  ihave Hb := (b_slots (F := F) c) $$ Hb
  icases Hb with ⟨⟨%fb0, Hb⟩, HbN⟩
  -- the neighbours meet
  ihave HtB := (tokB_take (F := F) c 0 (by decide)) $$ HtB
  unfold payB
  icases HtB with ⟨⟨HdBP, HdBN, HcB⟩, HtB⟩
  ihave HposR := (posR_open (F := F) c 0) $$ HposR
  icases HposR with ⟨HsR, HsR', HvR, HvR'⟩
  ihave HposL := (posL_open (F := F) c 0) $$ HposL
  icases HposL with ⟨HsL, HsL', HvL, HvL'⟩
  ihave HvR := (at_reached (F := F) (cell c (vR (par (0 + 1)))) (0 / 2)) $$ HvR
  icases HvR with ⟨HvR, #HrVR⟩
  ihave HvL := (at_reached (F := F) (cell c (vL (par (0 + 1)))) (0 / 2)) $$ HvL
  icases HvL with ⟨HvL, #HrVL⟩
  iapply (wp_tellP c w K 0 (by decide) 0 _ (dev1_eq (prv c) _) _ (by decide) W) $$ [HO HdBP HaN]
  · isplitr; · iexact HI
    isplitl [HO]; · iexact HO
    isplitl [HdBP]; · iexact HdBP
    isplitl [HaN]
    · iapply (giveT (F := F) c 0)
      isplitl [HaN]; · iexact HaN
      iexact HrVR
    iexact HrP
  iintro HO
  iapply (wp_tellN c w K 0 (by decide) 0 _ (dev2_eq (nxt c) _) _ (by decide) W) $$ [HO HdBN HbN]
  · isplitr; · iexact HI
    isplitl [HO]; · iexact HO
    isplitl [HdBN]; · iexact HdBN
    isplitl [HbN]
    · iapply (giveF (F := F) c 0 (by decide))
      isplitl [HbN]; · iexact HbN
      iexact HrVL
    iexact HrN
  iintro HO
  iapply (wp_barrier c w K 0 (by decide) 0 (by omega) _ (by decide) W) $$ [HcB HO HatB]
  · isplitr; · iexact HI
    isplitr; · iexact Hlev
    isplitl [HcB]; · iexact HcB
    isplitl [HO]; · iexact HO
    iexact HatB
  iintro ⟨HO, HatB, HpF, HpT⟩
  -- the fills
  iapply (wp_w c (w c) _ (by decide) _) $$ Hw; iintro Hw
  iapply (wp_fillR c fa0 (w c) _ rfl _) $$ Ha; iintro Ha
  iapply (wp_w c (w c) _ (by decide) _) $$ Hw; iintro Hw
  iapply (wp_fillL c fb0 (w c) _ rfl _) $$ Hb; iintro Hb
  iapply (wp_o c o0 _ (by decide) _) $$ Ho; iintro Ho
  iapply (wp_oput c o0 _ _ (by decide) _) $$ Ho; iintro Ho
  -- the trips
  unfold WP
  rw [wp_bind]
  iapply (loop_run c _ (before w K c x kh vh) (fun s u => trip w K c s x kh vh h0 h1 h2 h3 h4 h5 h6 h7 h8 _ _ _ u)) $$ [Ht Hx HK HV Ho Hg Ha Hb HpF HpT HO HatB HsR HsR' HvR HvR' HsL HsL' HvL HvL' HtB HtR HtL]
  · rw [show (before w K c x kh vh 0 : sProp 𝕄) = iprop(invs w K ∗ levAts L lv ∗ start w c x kh vh k0_pay1) from rfl]
    isplitr; · iexact HI
    isplitr; · iexact Hlev
    unfold start bufs posR posL
    isplitl [Ht Hx HK HV Ho Hg]
    · isplitl [Ht]; · iexact Ht
      isplitl [Hx]; · iexact Hx
      isplitl [HK]; · iexact HK
      isplitl [HV]; · iexact HV
      isplitl [Ho]; · iexact Ho
      iexact Hg
    isplitl [Ha Hb HpF HpT]
    · isplitl [Ha]; · iexact Ha
      isplitl [HpT]; · iexact HpT
      isplitl [Hb]; · iexact Hb
      iexact HpF
    isplitl [HO]; · iexists _; iexact HO
    isplitl [HatB]; · iexact HatB
    isplitl [HsR HsR' HvR HvR']
    · isplitl [HsR]; · iexact HsR
      isplitl [HsR']; · iexact HsR'
      isplitl [HvR]; · iexact HvR
      iexact HvR'
    isplitl [HsL HsL' HvL HvL']
    · isplitl [HsL]; · iexact HsL
      isplitl [HsL']; · iexact HsL'
      isplitl [HvL]; · iexact HvL
      iexact HvL'
    isplitl [HtB]; · iexact HtB
    isplitl [HtR]; · iexact HtR
    iexact HtL
  rw [before_later w K c x kh vh 17 16 15 (share w x kh vh c) (by decide) (by decide) (by decide) rfl]
  unfold mid bufs
  rw [owed_done]
  iintro ⟨-, -, ⟨Ht, Hx, HK, HV, Ho, Hg⟩, ⟨Ha, HaN, Hb, HbN⟩, HO, HatB, HposR, HposL, -, -, -, -⟩
  ihave HposR := (posR_end (F := F) c) $$ HposR
  icases HposR with ⟨HsR0, HsR1, HvR1, HvR0⟩
  ihave HposL := (posL_end (F := F) c) $$ HposL
  icases HposL with ⟨HsL1, HsL0, HvL0, HvL1⟩
  -- the counters come back empty
  imod (close w (K (barCell c)) (barCell c) 16 (fun r hr => later_bar w c r hr)) $$ [HatB] with HzB
  · isplitr; · iapply (inv_bar w K c); iexact HI
    iexact HatB
  imod (done w K c (sR 0) (by decide) 8 (by decide)) $$ [HsR0] with HzsR0
  · isplitr; · iexact HI
    iexact HsR0
  imod (done w K c (sR 1) (by decide) 8 (by decide)) $$ [HsR1] with HzsR1
  · isplitr; · iexact HI
    iexact HsR1
  imod (done w K c (vR 0) (by decide) 8 (by decide)) $$ [HvR0] with HzvR0
  · isplitr; · iexact HI
    iexact HvR0
  imod (done w K c (vR 1) (by decide) 8 (by decide)) $$ [HvR1] with HzvR1
  · isplitr; · iexact HI
    iexact HvR1
  imod (done w K c (sL 0) (by decide) 8 (by decide)) $$ [HsL0] with HzsL0
  · isplitr; · iexact HI
    iexact HsL0
  imod (done w K c (sL 1) (by decide) 7 (by decide)) $$ [HsL1] with HzsL1
  · isplitr; · iexact HI
    iexact HsL1
  imod (done w K c (vL 0) (by decide) 7 (by decide)) $$ [HvL0] with HzvL0
  · isplitr; · iexact HI
    iexact HvL0
  imod (done w K c (vL 1) (by decide) 8 (by decide)) $$ [HvL1] with HzvL1
  · isplitr; · iexact HI
    iexact HvL1
  rw [wp_ret]
  imodintro
  iapply Hk
  unfold bodyPost staged scratch copySems
  isplitl [HzB HzsR0 HzsR1 HzvR0 HzvR1 HzsL0 HzsL1 HzvL0 HzvL1]
  · isplitl [HzB]; · iexact HzB
    isplitl [HzsR0]; · iexact HzsR0
    isplitl [HzsR1]; · iexact HzsR1
    isplitl [HzvR0]; · iexact HzvR0
    isplitl [HzvR1]; · iexact HzvR1
    isplitl [HzsL0]; · iexact HzsL0
    isplitl [HzsL1]; · iexact HzsL1
    isplitl [HzvL0]; · iexact HzvL0
    iexact HzvL1
  isplitl [Ht Hx Hw HK HV Ho]
  · isplitl [Ht]; · iexact Ht
    isplitl [Hx]; · iexact Hx
    isplitl [Hw]; · iexact Hw
    isplitl [HK]; · iexact HK
    isplitl [HV]; · iexact HV
    iexact Ho
  isplitl [Ha Hb HaN HbN Hg]
  · isplitl [Ha HaN]
    · iapply (a_whole c)
      isplitl [Ha]
      · iexists _; iexact Ha
      · iexact HaN
    isplitl [Hb HbN]
    · iapply (b_whole c)
      isplitl [HbN]
      · iexact HbN
      · iexists _; iexact Hb
    iexact Hg
  iexact HO

end Cert.KernelIdeal.Hop
-- ==== Proof.Region.lean ====
/-
The pallas_call as a region of the launch: what its windows hold, its body's obligation at the one grid point (which is
the run of the body), and the segment it makes, which opens the eight copy semaphores on entry.
-/
module

public import proofs.«01_k».proof.Proof.Body
public import proofs.«01_k».proof.Proof.Gen.KernelIdeal.Points
public import proofs.«01_k».proof.Proof.Gen.KernelIdeal.Regions
public import Idealize.ShloMosaic.Lib.Pipeline.RegionTalk

@[expose] public section

noncomputable section

namespace Cert.KernelIdeal.Hop

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (V : Dev nD → Valuation τ sig (Elt F))

/-! ## What the host code leaves for the kernel -/

def xs (c : Dev nD) : S256x512.Idx → Elt F .bf16 := V c main_v5
def ws (c : Dev nD) : S2x512x256.Idx → Elt F .bf16 := V c main_v9
def ks (c : Dev nD) : S256x128x64.Idx → Elt F .bf16 := V c main_v21
def vs (c : Dev nD) : S256x128x64.Idx → Elt F .bf16 := V c main_v23
/-- What the kernel leaves in the result. -/
def res (c : Dev nD) : S2x128x512.Idx → Elt F .f32 := share (ws V) (xs V c) (ks V c) (vs V c) c

theorem table_rows (i : S4x32.Idx) : lit0 (S4x32.rowMajor i) = word (i 0) (i 1) := by
  unfold word
  congr 1
  apply Fin.ext
  rw [Shape.rowMajor_val_two]
  rfl

/-- The unscoped buffers after the call. -/
def Vend (c : Dev nD) : Valuation τ sig (Elt F) := Function.update (V c) (Proc.devRef .tc main_v24) (res V c)

theorem Vend_result (c : Dev nD) : Vend V c main_v24 = res V c := Function.update_self ..
theorem Vend_other (c : Dev nD) (b : DevRef τ sig) (h : b ≠ Proc.devRef .tc main_v24) : Vend V c b = V c b := Function.update_of_ne h ..

/-! ## The protocol's part of the thread state -/

def opens (c : Dev nD) : sProp 𝕄 :=
  iprop(openTok ER (cell c (sR 0)) ∗ openTok ER (cell c (sR 1)) ∗ openTok ER (cell c (vR 0)) ∗ openTok ER (cell c (vR 1))
    ∗ openTok ER (cell c (sL 0)) ∗ openTok ER (cell c (sL 1)) ∗ openTok ER (cell c (vL 0)) ∗ openTok ER (cell c (vL 1)))
/-- From launch to the call: the barrier is open, the copy cells are dormant. -/
def ghost (w : Dev nD → S2x512x256.Idx → Elt F .bf16) (K : GSem nD τ sig → ℕ) (c : Dev nD) : sProp 𝕄 :=
  iprop(invs w K ∗ at_ (F := F) (barCell c) 0 ∗ opens (F := F) c ∗ reached ER (barCell (prv c)) 0 ∗ reached ER (barCell (nxt c)) 0
    ∗ tokB (F := F) c 0 ∗ tokR (F := F) c 0 ∗ tokL (F := F) c 0)
/-- What is owed at launch: everything. -/
abbrev O₀ (c : Dev nD) : CellTallies nD τ sig ℕ := owed c 0 0

def Tk (c : Dev nD) : sProp 𝕄 := iprop(∃ K, ghost (ws V) K c)
def Xk (c : Dev nD) : sProp 𝕄 := iprop((∃ K, opened (ws V) K c) ∗ levAts L lv)
def Yk (c : Dev nD) : sProp 𝕄 := semVal (barCell c) 0

/-- What the kernel keeps before the point and after it, and what the core owes. -/
def phi (c : Dev nD) : ℕ → sProp 𝕄
  | 0 => iprop(Xk V c ∗ scratch (F := F) c ∗ ∃ r, prngReg c r)
  | _ + 1 => iprop(Yk (F := F) c ∗ copySems (F := F) c ∗ scratch (F := F) c ∗ ∃ r, prngReg c r)
def debt (c : Dev nD) : ℕ → CellTallies nD τ sig ℕ
  | 0 => O₀ c
  | _ + 1 => 0

def dat (c : Dev nD) : Dat τ (Elt F) ℕ ℕ UU ℕ cfg0 c where
  A w := V c ((cfg0.win w).arr.view.loc (c : Thread nD τ)).2
  after w _ := match w with
    | ⟨0, _⟩ => (table : S4x32.Idx → BitVec 32)
    | ⟨1, _⟩ => xs V c
    | ⟨2, _⟩ => ws V c
    | ⟨3, _⟩ => ks V c
    | ⟨4, _⟩ => vs V c
    | ⟨5, _⟩ => res V c
  Φ t := phi V c t.val
  q _ := fullShare
  owed t := debt c t.val

def pdats : (p : Fin 1) → (c : Dev nD) → Dat τ (Elt F) ℕ ℕ UU ℕ (cfgs p) c := fun | 0 => dat V

/-! ## The body's obligation -/

omit [FloatOps F] in
theorem owns_buf (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : b.ty.Contents (Elt F), ⌜f = X⌝ ∗ buf (F := F) c b f) := by
  unfold owns buf; simp only [Memref.view_whole, View.read_whole, View.set_whole]

theorem owed_first (c : Dev nD) : (dat V c).owed t0_0.castSucc = O₀ c := rfl
theorem owed_last (c : Dev nD) : (dat V c).owed t0_0.succ = 0 := rfl

theorem owes_out (c : Dev nD) (t : Fin (cfg0.N + 1)) (O : CellTallies nD τ sig ℕ) (h : (dat V c).owed t = O) :
    ((dat V c).owesAt 0 t : sProp 𝕄) ⊢ iprop(∃ W, owes (c : Thread nD τ) O W) := by
  unfold Dat.owesAt Pipeline.owesWithin
  rw [h]
  iintro ⟨%W, -, HO⟩
  iexists W; iexact HO
theorem owes_back (c : Dev nD) (t : Fin (cfg0.N + 1)) (O : CellTallies nD τ sig ℕ) (h : (dat V c).owed t = O) :
    iprop(∃ W, owes (c : Thread nD τ) O W) ⊢ ((dat V c).owesAt 0 t : sProp 𝕄) := by
  unfold Dat.owesAt Pipeline.owesWithin Dat.bound
  rw [h, show (dat V c).recorded t = Set.univ from rfl]
  iintro ⟨%W, HO⟩
  iexists W
  isplitr; · ipureintro; exact fun _ _ => Or.inl trivial
  iexact HO

section Blocks
variable (c : Dev nD)

theorem before0 (hT : ∀ c, V c main_c = (table : S4x32.Idx → BitVec 32)) (d) : (dat V c).before (0 : Fin 6) t0_0 d = (table : S4x32.Idx → BitVec 32) := by
  unfold Dat.before; rw [if_pos (fetch0_0 t0_0)]
  exact (Memref.read_access_unit_zero (Elt F) main_c (off := fun a => win0_0.index (0 : Fin 1) a * main_c.ty.shape.size a) (funext fun a => by fin_cases a <;> decide) (fun a => by fin_cases a <;> decide) (V c main_c)).trans (hT c)
theorem before1 (d) : (dat V c).before (1 : Fin 6) t0_0 d = xs V c := by
  unfold Dat.before; rw [if_pos (fetch0_1 t0_0)]
  exact (Memref.read_access_unit_zero (Elt F) main_v5 (off := fun a => win0_1.index (0 : Fin 1) a * main_v5.ty.shape.size a) (funext fun a => by fin_cases a <;> decide) (fun a => by fin_cases a <;> decide) (V c main_v5))
theorem before2 (d) : (dat V c).before (2 : Fin 6) t0_0 d = ws V c := by
  unfold Dat.before; rw [if_pos (fetch0_2 t0_0)]
  exact (Memref.read_access_unit_zero (Elt F) main_v9 (off := fun a => win0_2.index (0 : Fin 1) a * main_v9.ty.shape.size a) (funext fun a => by fin_cases a <;> decide) (fun a => by fin_cases a <;> decide) (V c main_v9))
theorem before3 (d) : (dat V c).before (3 : Fin 6) t0_0 d = ks V c := by
  unfold Dat.before; rw [if_pos (fetch0_3 t0_0)]
  exact (Memref.read_access_unit_zero (Elt F) main_v21 (off := fun a => win0_3.index (0 : Fin 1) a * main_v21.ty.shape.size a) (funext fun a => by fin_cases a <;> decide) (fun a => by fin_cases a <;> decide) (V c main_v21))
theorem before4 (d) : (dat V c).before (4 : Fin 6) t0_0 d = vs V c := by
  unfold Dat.before; rw [if_pos (fetch0_4 t0_0)]
  exact (Memref.read_access_unit_zero (Elt F) main_v23 (off := fun a => win0_4.index (0 : Fin 1) a * main_v23.ty.shape.size a) (funext fun a => by fin_cases a <;> decide) (fun a => by fin_cases a <;> decide) (V c main_v23))

theorem result_array : (dat V c).arrAt (5 : Fin 6) cfg0.N = res V c := by
  have hr := (Memref.read_access_unit_zero (Elt F) main_v24 (off := fun a => win0_5.index (0 : Fin 1) a * main_v24.ty.shape.size a) (funext fun a => by fin_cases a <;> decide) (fun a => by fin_cases a <;> decide)
    ((dat V c).arrAt (5 : Fin 6) cfg0.N)).symm
  refine hr.trans ?_
  rw [show cfg0.N = ((0 : Fin 1) : Fin cfg0.N).val + 1 from rfl, (dat V c).arrAt_succ (5 : Fin 6) (0 : Fin 1), show (cfg0.win (5 : Fin 6)).flush (0 : Fin 1) = true from flush0_5 _, if_pos rfl]
  exact View.read_write_univ _ _

end Blocks

/-- What a staging buffer is held at. -/
abbrev stg (c : Dev nD) (b : Ref sig .tc) (X : b.ty.Contents (Elt F)) : sProp 𝕄 := iprop(∃ f : b.ty.Contents (Elt F), ⌜f = X⌝ ∗ buf (F := F) c b f)

def pointPre (c : Dev nD) : sProp 𝕄 :=
  iprop((Xk V c ∗ scratch (F := F) c ∗ ∃ r, prngReg c r) ∗ (dat V c).owesAt 0 t0_0.castSucc
    ∗ (∃ d, stg c cc0_stg0_0 ((dat V c).before (0 : Fin 6) t0_0 d)) ∗ (∃ d, stg c cc0_stg1_0 ((dat V c).before (1 : Fin 6) t0_0 d))
    ∗ (∃ d, stg c cc0_stg2_0 ((dat V c).before (2 : Fin 6) t0_0 d)) ∗ (∃ d, stg c cc0_stg3_0 ((dat V c).before (3 : Fin 6) t0_0 d))
    ∗ (∃ d, stg c cc0_stg4_0 ((dat V c).before (4 : Fin 6) t0_0 d)) ∗ (∃ d, stg c cc0_stg5_0 ((dat V c).before (5 : Fin 6) t0_0 d)))
def pointPost (c : Dev nD) : sProp 𝕄 :=
  iprop((Yk (F := F) c ∗ copySems (F := F) c ∗ scratch (F := F) c ∗ ∃ r, prngReg c r) ∗ (dat V c).owesAt 0 t0_0.succ
    ∗ stg c cc0_stg0_0 (table : S4x32.Idx → BitVec 32) ∗ stg c cc0_stg1_0 (xs V c) ∗ stg c cc0_stg2_0 (ws V c) ∗ stg c cc0_stg3_0 (ks V c)
    ∗ stg c cc0_stg4_0 (vs V c) ∗ stg c cc0_stg5_0 (res V c))

set_option maxRecDepth 8000 in
theorem point_run (hT : ∀ c, V c main_c = (table : S4x32.Idx → BitVec 32)) (c : Dev nD) : pointPre V c ⊢ WP c (bodyAt0 t0_0) (fun _ => pointPost V c) := by
  show _ ⊢ WP c (cc0_body (F := F) tM (Memref.isWhole_whole _) xM (Memref.isWhole_whole _) wM (Memref.isWhole_whole _) kM (Memref.isWhole_whole _)
    vM (Memref.isWhole_whole _) oM (Memref.isWhole_whole _) aM (Memref.isWhole_whole _) bM (Memref.isWhole_whole _) gM (Memref.isWhole_whole _)
    cc0_scratch3 cc0_scratch4 cc0_scratch5 cc0_scratch6) (fun _ => pointPost V c)
  unfold pointPre Xk
  simp only [before0 V c hT, before1, before2, before3, before4]
  iintro ⟨⟨⟨⟨%K, Hg⟩, Hlev⟩, Hs, Hreg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  subst e0; subst e1; subst e2; subst e3; subst e4
  ihave HO := (owes_out V c _ (O₀ c) (owed_first V c)) $$ HO
  icases HO with ⟨%W, HO⟩
  iapply (body_run (ws V) K c (fun _ => pointPost V c) W (xs V c) (ks V c) (vs V c))
  isplitl [Hg Hlev Hs HO H0 H1 H2 H3 H4 H5]
  · unfold bodyPre staged
    isplitl [Hg]; · iexact Hg
    isplitl [Hlev]; · iexact Hlev
    isplitl [H0 H1 H2 H3 H4 H5]
    · iexists f5
      isplitl [H0]; · iexact H0
      isplitl [H1]; · iexact H1
      isplitl [H2]; · iexact H2
      isplitl [H3]; · iexact H3
      isplitl [H4]; · iexact H4
      iexact H5
    isplitl [Hs]; · iexact Hs
    iexact HO
  unfold bodyPost staged pointPost Yk
  iintro ⟨⟨HzB, Hz⟩, ⟨H0, H1, H2, H3, H4, H5⟩, Hs, HO⟩
  isplitl [HzB Hz Hs Hreg]
  · isplitl [HzB]; · iexact HzB
    isplitl [Hz]; · iexact Hz
    isplitl [Hs]; · iexact Hs
    iexact Hreg
  isplitl [HO]; · iapply (owes_back V c _ 0 (owed_last V c)); iexact HO
  isplitl [H0]; · (iexists _; isplitr; · (ipureintro; rfl)); iexact H0
  isplitl [H1]; · (iexists _; isplitr; · (ipureintro; rfl)); iexact H1
  isplitl [H2]; · (iexists _; isplitr; · (ipureintro; rfl)); iexact H2
  isplitl [H3]; · (iexists _; isplitr; · (ipureintro; rfl)); iexact H3
  isplitl [H4]; · (iexists _; isplitr; · (ipureintro; rfl)); iexact H4
  iexists _; isplitr; · (ipureintro; rfl)
  iexact H5

set_option maxRecDepth 8000 in
theorem body_ok (hT : ∀ c, V c main_c = (table : S4x32.Idx → BitVec 32)) (c : Dev nD) : BodyObligation (dat V c) (defs₀ (F := F)) 𝒱₀ 0 Set.univ := fun t => by
  rw [fin_N0 t]
  rw [bigSep_W0, bigSep_W0]
  simp only [owns_buf]
  exact point_run V hT c

/-! ## The segment -/

theorem own_ok : Pipeline.OwnSemFacts spec0 osem := by decide
theorem share_ok (c : Dev nD) (w : Fin 6) : (dat V c).share w = fullShare := by unfold Dat.share; split <;> rfl

omit [FloatOps F] in
theorem ownSems_eq (c : Dev nD) : (Pipeline.ownSems0 (Ix := ℕ) (Name := ℕ) (U := UU) (Lvl := ℕ) (Val := Elt F) (τ := τ) osem c : sProp 𝕄)
    = copySems (F := F) c :=
  bigSep_univ_eq_bigSepL [0, 1, 2, 3, 4, 5, 6, 7] (by decide) (by decide) _

theorem open_one (w : Dev nD → S2x512x256.Idx → Elt F .bf16) (K : GSem nD τ sig → ℕ) (c : Dev nD) (q : DmaSem sig) (hq : 6 ≤ q.val) :
    iprop(invs w K ∗ openTok ER (cell c q) ∗ semVal (cell c q) 0) ⊢ (|={Set.univ}=> at_ (F := F) (cell c q) 0 : sProp 𝕄) := by
  iintro ⟨#HI, Ho, H⟩
  iapply (open_cell w (K (cell c q)) (cell c q))
  isplitr; · iapply (inv_copy w K c q hq); iexact HI
  isplitl [Ho] <;> iassumption

omit [FloatOps F] in
theorem posR_zero (c : Dev nD) : (posR (F := F) c 0 : sProp 𝕄)
    = iprop(at_ (F := F) (cell c (sR 0)) 0 ∗ at_ (F := F) (cell c (sR 1)) 0 ∗ at_ (F := F) (cell c (vR 1)) 0 ∗ at_ (F := F) (cell c (vR 0)) 0) := rfl
omit [FloatOps F] in
theorem posL_zero (c : Dev nD) : (posL (F := F) c 0 : sProp 𝕄)
    = iprop(at_ (F := F) (cell c (sL 0)) 0 ∗ at_ (F := F) (cell c (sL 1)) 0 ∗ at_ (F := F) (cell c (vL 1)) 0 ∗ at_ (F := F) (cell c (vL 0)) 0) := rfl

theorem region_open (c : Dev nD) : iprop(Tk V c ∗ Pipeline.ownSems0 osem c ∗ levAts L lv) ⊢ (|={Set.univ}=> Xk V c : sProp 𝕄) := by
  rw [ownSems_eq]
  unfold Tk Xk copySems
  iintro ⟨⟨%K, Hg⟩, ⟨H0, H1, H2, H3, H4, H5, H6, H7⟩, #Hlev⟩
  unfold ghost opens
  icases Hg with ⟨#HI, HaB, ⟨Ho0, Ho1, Ho2, Ho3, Ho4, Ho5, Ho6, Ho7⟩, #HrP, #HrN, HtB, HtR, HtL⟩
  imod (open_one (ws V) K c (sR 0) (by decide)) $$ [Ho0 H0] with Ha0
  · isplitr; · iexact HI
    isplitl [Ho0] <;> iassumption
  imod (open_one (ws V) K c (sR 1) (by decide)) $$ [Ho1 H1] with Ha1
  · isplitr; · iexact HI
    isplitl [Ho1] <;> iassumption
  imod (open_one (ws V) K c (vR 0) (by decide)) $$ [Ho2 H2] with Ha2
  · isplitr; · iexact HI
    isplitl [Ho2] <;> iassumption
  imod (open_one (ws V) K c (vR 1) (by decide)) $$ [Ho3 H3] with Ha3
  · isplitr; · iexact HI
    isplitl [Ho3] <;> iassumption
  imod (open_one (ws V) K c (sL 0) (by decide)) $$ [Ho4 H4] with Ha4
  · isplitr; · iexact HI
    isplitl [Ho4] <;> iassumption
  imod (open_one (ws V) K c (sL 1) (by decide)) $$ [Ho5 H5] with Ha5
  · isplitr; · iexact HI
    isplitl [Ho5] <;> iassumption
  imod (open_one (ws V) K c (vL 0) (by decide)) $$ [Ho6 H6] with Ha6
  · isplitr; · iexact HI
    isplitl [Ho6] <;> iassumption
  imod (open_one (ws V) K c (vL 1) (by decide)) $$ [Ho7 H7] with Ha7
  · isplitr; · iexact HI
    isplitl [Ho7] <;> iassumption
  imodintro
  isplitr []
  · iexists K
    unfold opened
    isplitr; · iexact HI
    isplitl [HaB]; · iexact HaB
    isplitl [Ha0 Ha1 Ha2 Ha3]
    · iapply (Entails.of_eq (posR_zero (F := F) c).symm)
      isplitl [Ha0]; · iexact Ha0
      isplitl [Ha1]; · iexact Ha1
      isplitl [Ha3]; · iexact Ha3
      iexact Ha2
    isplitl [Ha4 Ha5 Ha6 Ha7]
    · iapply (Entails.of_eq (posL_zero (F := F) c).symm)
      isplitl [Ha4]; · iexact Ha4
      isplitl [Ha5]; · iexact Ha5
      isplitl [Ha7]; · iexact Ha7
      iexact Ha6
    isplitr; · iexact HrP
    isplitr; · iexact HrN
    isplitl [HtB]; · iexact HtB
    isplitl [HtR]; · iexact HtR
    iexact HtL
  iexact Hlev

omit [FloatOps F] in
theorem held_none (c : Dev nD) (W : Valuation τ sig (Elt F)) : (StableHlo.held (c.tc : Thread nD τ) ∅ W : sProp 𝕄) = BI.emp := by
  unfold StableHlo.held; exact BI.bigSep_empty

theorem region_in (c : Dev nD) :
    iprop(Pipeline.scopedRest spec0 c ∗ (∃ r, prngReg c r) ∗ StableHlo.held (c.tc : Thread nD τ) ∅ (V c) ∗ Xk V c) ⊢ (dat V c).Φ 0 := by
  show _ ⊢ phi V c 0
  rw [scopedRest0_eq]
  unfold phi scratch buf
  iintro ⟨Hs, Hp, -, HX⟩
  isplitl [HX]; · iexact HX
  isplitl [Hs]; · iexact Hs
  iexact Hp

theorem region_out (c : Dev nD) : (dat V c).Φ (Fin.last cfg0.N)
    ⊢ iprop(Pipeline.scopedRest spec0 c ∗ (∃ r, prngReg c r) ∗ StableHlo.held (c.tc : Thread nD τ) ∅ (Vend V c) ∗ Pipeline.ownSems0 osem c ∗ Yk (F := F) c) := by
  rw [show (dat V c).Φ (Fin.last cfg0.N) = phi V c 1 from congrArg (phi V c) ((Fin.val_last _).trans N_0), scopedRest0_eq, ownSems_eq, held_none]
  unfold phi scratch buf
  iintro ⟨HY, Hz, Hs, Hp⟩
  isplitl [Hs]; · iexact Hs
  isplitl [Hp]; · iexact Hp
  isplitr; · iempintro
  isplitl [Hz]; · iexact Hz
  iexact HY

/-- Whatever the region owes at a point is owed on an indexed cell, above the staging cells. -/
theorem region_owes (c : Dev nD) (t : Fin (cfg0.N + 1)) (g : GSem nD τ sig) (i : ℕ) (h : 0 < (dat V c).owed t g i) : i ∈ L g ∧ 0 < lv g i := by
  replace h : 0 < debt c t.val g i := h
  rcases t with ⟨_ | n, hn⟩
  · exact owed_above (k := 1) (by omega) (by omega) h
  · exact absurd h (Nat.lt_irrefl 0)

theorem result_mem : Proc.devRef .tc main_v24 ∈ (Pipeline.arrRefs spec0 : Finset (DevRef τ sig)) := by decide

abbrev restRefs : Finset (DevRef τ sig) := Pipeline.ucRefs τ sig \ Pipeline.arrRefs spec0

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

set_option backward.isDefEq.respectTransparency.types false in
def reg (hT : ∀ c, V c main_c = (table : S4x32.Idx → BitVec 32)) : Pipeline.RegionSeg (pcfgs (F := F)) adm (pdats V) 0 defs₀ 𝒱₀ L lv 0 :=
  Pipeline.RegionSeg.ofTalk (pcfgs (F := F)) adm (pdats V) 0 defs₀ 𝒱₀ L lv 0 osem own_ok
    ∅ restRefs (Finset.empty_subset _) kit rfl (fun c => (body_ok V hT c).loose)
    (fun _ => 0) O₀ (fun c => (show (dat V c).owed 0 = O₀ c from rfl).trans (zero_add _).symm)
    (fun c => (show (dat V c).owed (Fin.last cfg0.N) = 0 from congrArg (debt c) ((Fin.val_last _).trans N_0))) (fun _ => rfl) (share_ok V)
    V (Vend V)
    (fun c b hb => Vend_other V c b fun e => (Finset.mem_sdiff.mp (Finset.mem_sdiff.mp hb).1).2 (e ▸ result_mem))
    (Tk V) Yk (Xk V) Yk (region_open V) (region_in V) (region_out V)
    (fun c => by iintro H; imodintro; iexact H)
    (fun _ => 0)
    ⟨fun c w s => Finset.mem_range.mpr (by decide), fun c w s => by fin_cases w <;> exact Nat.le_refl 0, fun c t g i h => region_owes V c t g i h⟩
    (fun _ => iprop(emp))
    (fun c w => rfl)
    (fun c w => by
      fin_cases w
      · exact ((dat V c).arrAt_in (0 : Fin 6) rfl _).trans (Vend_other V c (Proc.devRef .tc main_c) (by decide)).symm
      · exact ((dat V c).arrAt_in (1 : Fin 6) rfl _).trans (Vend_other V c (Proc.devRef .tc main_v5) (by decide)).symm
      · exact ((dat V c).arrAt_in (2 : Fin 6) rfl _).trans (Vend_other V c (Proc.devRef .tc main_v9) (by decide)).symm
      · exact ((dat V c).arrAt_in (3 : Fin 6) rfl _).trans (Vend_other V c (Proc.devRef .tc main_v21) (by decide)).symm
      · exact ((dat V c).arrAt_in (4 : Fin 6) rfl _).trans (Vend_other V c (Proc.devRef .tc main_v23) (by decide)).symm
      · exact (result_array V c).trans (Vend_result V c).symm)

end Cert.KernelIdeal.Hop

end
-- ==== Proof.Launch.lean ====
/-
The launch: the barrier cells made from their counters, the eight copy cells of a device made dormant, the duties' tokens
handed round the ring, the credit of what the neighbours owe; and the run of the whole program from any memory.
-/
module

public import proofs.«01_k».proof.Proof.Region
public import Idealize.ShloMosaic.Lib.Quiescent
public import Idealize.ShloMosaic.Lib.StableHlo.RunRead

@[expose] public section

noncomputable section

namespace Cert.KernelIdeal.Hop

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The cells and the tokens -/

/-- The tokens of a device's own cells: the kind, the trip. -/
abbrev tokAt (k : Fin 6) (s : ℕ) : SemLoc sig × ℕ × Bool := match k with
  | 0 => (.reg barS, s, true) | 1 => (.reg barS, s, false)
  | 2 => (.dma (sR (par s)), s / 2, false) | 3 => (.dma (vR (par (s + 1))), s / 2, false)
  | 4 => (.dma (sL (par s)), s / 2, false) | 5 => (.dma (vL (par (s + 1))), s / 2, false)
/-- A number read off a token, by which it is known. -/
def tokCode : SemLoc sig × ℕ × Bool → ℕ
  | (.reg _, r, b) => if b then r else 16 + r
  | (.dma q, r, _) => if q.val < 8 then 32 + (2 * r + (q.val - 6)) else if q.val < 10 then 48 + (2 * r + (9 - q.val))
      else if q.val < 12 then 64 + (2 * r + (q.val - 10)) else 80 + (2 * r + (13 - q.val))
theorem tokCode_at : ∀ (k : Fin 6) (s : Fin 16), tokCode (tokAt k s.val) = 16 * k.val + s.val := by decide
theorem tok_inj : Function.Injective (fun p : Fin 6 × Fin 16 => tokAt p.1 p.2.val) := fun p q h => by
  have e := congrArg tokCode h
  dsimp only at e
  rw [tokCode_at, tokCode_at] at e
  exact Prod.ext (Fin.ext (by omega)) (Fin.ext (by omega))
def allToks : Finset (GSem nD τ sig × ℕ × Bool) :=
  Finset.univ.map ⟨fun p : Dev nD × Fin 6 × Fin 16 => (((p.1 : Thread nD τ), (tokAt p.2.1 p.2.2.val).1), (tokAt p.2.1 p.2.2.val).2), fun _ _ h =>
    Prod.ext (congrArg (fun t : GSem nD τ sig × ℕ × Bool => t.1.1.1) h)
      (tok_inj (Prod.ext (congrArg (fun t : GSem nD τ sig × ℕ × Bool => t.1.2) h) (congrArg (fun t : GSem nD τ sig × ℕ × Bool => t.2) h)))⟩

theorem cells_apart : Disjoint (barCells : Finset (GSem nD τ sig)) copyCells := by
  rw [Finset.disjoint_left]
  intro g h₁ h₂
  obtain ⟨c, -, rfl⟩ := Finset.mem_map.mp h₁
  obtain ⟨p, -, h⟩ := Finset.mem_map.mp h₂
  exact osem_ne_bar p.2 (congrArg Prod.snd h)

def u₀ : UU :=
  (initOf (Pipeline.cells (Pipeline.pin (pcfgs (F := F)) adm) cellOf_inj) (Pipeline.launchToks (Pipeline.pin (pcfgs (F := F)) adm) cellOf_inj),
    launchOf barCells copyCells allToks)

/-- A resource held by one device alone. -/
def onlyAt (d : Dev nD) (X : sProp 𝕄) (c : Dev nD) : sProp 𝕄 := if c = d then X else iprop(emp)
omit [FloatOps F] in
theorem onlyAt_all (d : Dev nD) (X : sProp 𝕄) : bigSep Finset.univ (onlyAt d X) = X := by
  rw [bigSep_univ_at _ d, bigSep_congr (s := Finset.univ.erase d) (Ψ := fun _ => (BI.emp : sProp 𝕄))
    fun c hc => show onlyAt (F := F) d X c = BI.emp from if_neg (Finset.ne_of_mem_erase hc), BI.bigSep_emp_const, show onlyAt (F := F) d X d = X from if_pos rfl]
  exact BI.equiv_iff.mp sep_emp
def G : Dev nD → sProp 𝕄 := onlyAt 0 (BI.own (ER (launchOf barCells copyCells allToks)))

section Ghost

variable (w : Dev nD → S2x512x256.Idx → Elt F .bf16)

/-- What any device may look up: the names of all the cells, and that every barrier is at its first round. -/
def records (κ : GSem nD τ sig → ℕ) : sProp 𝕄 := iprop(invs w κ ∗ bigSep barCells fun g => reached ER g 0)
instance records_persistent (κ : GSem nD τ sig → ℕ) : BI.Persistent (records w κ) := by unfold records; infer_instance

omit [FloatOps F] in
theorem started (c : Dev nD) : (bigSep barCells fun g => (reached ER g 0 : sProp 𝕄)) ⊢ reached ER (barCell c) 0 :=
  bigSep_elim (Finset.mem_map_of_mem barEmb (Finset.mem_univ c))

/-- A device's tokens of one kind, trip by trip. -/
def tokRow (k : Fin 6) (c : Dev nD) : sProp 𝕄 := bigSep (Finset.Ico 0 16) fun s => dutyTok ER ((c : Thread nD τ), (tokAt k s).1) (tokAt k s).2.1 (tokAt k s).2.2
/-- The tokens a device pays with. -/
def duties (c : Dev nD) : sProp 𝕄 :=
  iprop(tokRow (F := F) 0 (prv c) ∗ tokRow (F := F) 1 (nxt c) ∗ tokRow (F := F) 2 c ∗ tokRow (F := F) 3 (nxt c) ∗ tokRow (F := F) 4 c ∗ tokRow (F := F) 5 (prv c))
def credits (c : Dev nD) : sProp 𝕄 :=
  iprop((bigSep (Finset.Ico 0 16) fun s => cred (tallyAt (barCell c) s 2)) ∗ (bigSep (Finset.Ico 0 16) fun s => cred (tallyAt (cell c (vR (par (s + 1)))) s N))
    ∗ bigSep (Finset.Ico 0 15) fun s => cred (tallyAt (cell c (vL (par (s + 1)))) s N))
/-- What a device alone holds. -/
def own1 (c : Dev nD) : sProp 𝕄 := iprop(atPos ER (barCell c) 0 ∅ 0 ∗ opens (F := F) c ∗ duties (F := F) c)

omit [FloatOps F] in
theorem fewer (Φ : ℕ → sProp 𝕄) : bigSep (Finset.Ico 0 16) Φ ⊢ bigSep (Finset.Ico 0 15) Φ := bigSep_subset (by decide)

omit [FloatOps F] in
/-- Tokens and credit, put together trip by trip. -/
theorem toks_intro (c : Dev nD) : iprop(duties (F := F) c ∗ credits (F := F) c) ⊢ (iprop(tokB (F := F) c 0 ∗ tokR (F := F) c 0 ∗ tokL (F := F) c 0) : sProp 𝕄) := by
  have hB : iprop(tokRow (F := F) 0 (prv c) ∗ tokRow (F := F) 1 (nxt c) ∗ bigSep (Finset.Ico 0 16) fun s => cred (tallyAt (barCell c) s 2)) ⊢ tokB (F := F) c 0 :=
    Entails.of_eq (by unfold tokRow tokB payB; rw [← bigSep_sep', ← bigSep_sep'])
  have hR : iprop(tokRow (F := F) 2 c ∗ tokRow (F := F) 3 (nxt c) ∗ bigSep (Finset.Ico 0 16) fun s => cred (tallyAt (cell c (vR (par (s + 1)))) s N)) ⊢ tokR (F := F) c 0 :=
    Entails.of_eq (by unfold tokRow tokR payR; rw [← bigSep_sep', ← bigSep_sep'])
  have hL : iprop((bigSep (Finset.Ico 0 15) fun s => dutyTok ER (cell c (sL (par s))) (s / 2) false) ∗ (bigSep (Finset.Ico 0 15) fun s => dutyTok ER (cell (prv c) (vL (par (s + 1)))) (s / 2) false)
      ∗ bigSep (Finset.Ico 0 15) fun s => cred (tallyAt (cell c (vL (par (s + 1)))) s N)) ⊢ tokL (F := F) c 0 :=
    Entails.of_eq (by unfold tokL payL; rw [← bigSep_sep', ← bigSep_sep'])
  unfold duties credits
  iintro ⟨⟨H0, H1, H2, H3, H4, H5⟩, HcB, HcR, HcL⟩
  isplitl [H0 H1 HcB]
  · iapply hB
    isplitl [H0]; · iexact H0
    isplitl [H1]; · iexact H1
    iexact HcB
  isplitl [H2 H3 HcR]
  · iapply hR
    isplitl [H2]; · iexact H2
    isplitl [H3]; · iexact H3
    iexact HcR
  iapply hL
  isplitl [H4]; · iapply (fewer (F := F)); unfold tokRow; iexact H4
  isplitl [H5]; · iapply (fewer (F := F)); unfold tokRow; iexact H5
  iexact HcL

theorem ghost_intro (κ : GSem nD τ sig → ℕ) (c : Dev nD) : iprop(records w κ ∗ own1 (F := F) c ∗ credits (F := F) c) ⊢ iprop(∃ K, ghost w K c) := by
  unfold records own1 ghost at_
  iintro ⟨⟨#HI, #HR⟩, ⟨HaB, Ho, Hd⟩, Hcr⟩
  iexists κ
  isplitr; · iexact HI
  isplitl [HaB]
  · isplitl [HaB]; · iexact HaB
    iapply (started (F := F) c); iexact HR
  isplitl [Ho]; · iexact Ho
  isplitr; · iapply (started (F := F) (prv c)); iexact HR
  isplitr; · iapply (started (F := F) (nxt c)); iexact HR
  iapply (toks_intro (F := F) c)
  isplitl [Hd] <;> iassumption

end Ghost

/-- A device's own cells' tokens. -/
def toks (c : Dev nD) : sProp 𝕄 :=
  iprop(tokRow (F := F) 0 c ∗ tokRow (F := F) 1 c ∗ tokRow (F := F) 2 c ∗ tokRow (F := F) 3 c ∗ tokRow (F := F) 4 c ∗ tokRow (F := F) 5 c)

omit [FloatOps F] in
theorem over_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem over_trips (Φ : ℕ → sProp 𝕄) : bigSep Finset.univ (fun s : Fin 16 => Φ s.val) = bigSep (Finset.Ico 0 16) Φ := by
  rw [show Finset.Ico 0 16 = (Finset.univ : Finset (Fin 16)).map Fin.valEmbedding from by decide, bigSep_map]
  rfl

omit [FloatOps F] in
theorem toks_eq : bigSep allToks (fun x => (dutyTok ER x.1 x.2.1 x.2.2 : sProp 𝕄)) = bigSep Finset.univ fun c : Dev nD => toks (F := F) c := by
  unfold allToks; rw [bigSep_map, bigSep_univ_prod]
  refine bigSep_congr fun c _ => ?_
  rw [bigSep_univ_prod, show toks (F := F) c = bigSep Finset.univ fun k : Fin 6 => tokRow (F := F) k c from by unfold toks; exact (over_six (F := F) fun k => tokRow (F := F) k c).symm]
  exact bigSep_congr fun k _ => over_trips (F := F) fun s => dutyTok ER ((c : Thread nD τ), (tokAt k s).1) (tokAt k s).2.1 (tokAt k s).2.2

/-- One step round the ring, and one step back. -/
def fwd : Dev nD ≃ Dev nD := ⟨nxt, prv, prv_nxt, nxt_prv⟩
def back : Dev nD ≃ Dev nD := ⟨prv, nxt, nxt_prv, prv_nxt⟩

omit [FloatOps F] in
/-- Every token goes to the device that pays with it. -/
theorem toks_around : (bigSep Finset.univ fun c : Dev nD => toks (F := F) c) ⊢ (bigSep Finset.univ fun c : Dev nD => duties (F := F) c : sProp 𝕄) := by
  unfold toks duties
  simp only [bigSep_sep']
  rw [bigSep_univ_equiv back (tokRow (F := F) 0), bigSep_univ_equiv fwd (tokRow (F := F) 1), bigSep_univ_equiv fwd (tokRow (F := F) 3), bigSep_univ_equiv back (tokRow (F := F) 5)]
  exact BI.Entails.refl _

/-! ## The credit -/

omit [FloatOps F] in
theorem two_of (g : GSem nD τ sig) (s : ℕ) : iprop(cred (tallyAt g s 1) ∗ cred (tallyAt g s 1)) ⊢ (cred (tallyAt g s 2) : sProp 𝕄) := by
  refine (cred_add _ _).2.trans (Entails.of_eq (congrArg cred ?_))
  unfold tallyAt
  rw [← tallyOn_add, ← Finsupp.single_add]

omit [FloatOps F] in
theorem credits_intro (c : Dev nD) : (Pipeline.launchCred O₀ c : sProp 𝕄) ⊢ credits (F := F) c := by
  rw [show O₀ = fun d : Dev nD => (∑ s ∈ Finset.Ico 0 16, (dR d s + dN d s + dP d s)) + ∑ s ∈ Finset.Ico 0 15, dL d s from rfl]
  rw [Pipeline.launchCred_add, Pipeline.launchCred_sum (Finset.Ico 0 16) (fun s d => dR d s + dN d s + dP d s), Pipeline.launchCred_sum (Finset.Ico 0 15) (fun s d => dL d s)]
  have hR : ∀ s, (Pipeline.launchCred (fun d => dR d s) c : sProp 𝕄) ⊢ cred (tallyAt (cell c (vR (par (s + 1)))) s N) := fun s =>
    Pipeline.launchCred_tallyAt (SemLoc.dma (vR (par (s + 1)))) nxt prv nxt_prv prv_nxt s N c
  have hN : ∀ s, (Pipeline.launchCred (fun d => dN d s) c : sProp 𝕄) ⊢ cred (tallyAt (barCell c) s 1) := fun s =>
    Pipeline.launchCred_tallyAt (SemLoc.reg barS) nxt prv nxt_prv prv_nxt s 1 c
  have hP : ∀ s, (Pipeline.launchCred (fun d => dP d s) c : sProp 𝕄) ⊢ cred (tallyAt (barCell c) s 1) := fun s =>
    Pipeline.launchCred_tallyAt (SemLoc.reg barS) prv nxt prv_nxt nxt_prv s 1 c
  have h1 : ∀ s, (Pipeline.launchCred (fun d => dR d s + dN d s + dP d s) c : sProp 𝕄)
      ⊢ iprop(cred (tallyAt (barCell c) s 2) ∗ cred (tallyAt (cell c (vR (par (s + 1)))) s N)) := fun s => by
    rw [Pipeline.launchCred_add (fun d => dR d s + dN d s), Pipeline.launchCred_add (fun d => dR d s)]
    iintro ⟨⟨HR, HN⟩, HP⟩
    ihave HR := (hR s) $$ HR
    ihave HN := (hN s) $$ HN
    ihave HP := (hP s) $$ HP
    isplitl [HN HP]
    · iapply (two_of (F := F))
      isplitl [HN] <;> iassumption
    iexact HR
  have h2 : ∀ s, (Pipeline.launchCred (fun d => dL d s) c : sProp 𝕄) ⊢ cred (tallyAt (cell c (vL (par (s + 1)))) s N) := fun s =>
    Pipeline.launchCred_tallyAt (SemLoc.dma (vL (par (s + 1)))) prv nxt prv_nxt nxt_prv s N c
  have e1 : (bigSep (Finset.Ico 0 16) fun s => (Pipeline.launchCred (fun d => dR d s + dN d s + dP d s) c : sProp 𝕄))
      ⊢ iprop((bigSep (Finset.Ico 0 16) fun s => cred (tallyAt (barCell c) s 2)) ∗ bigSep (Finset.Ico 0 16) fun s => cred (tallyAt (cell c (vR (par (s + 1)))) s N)) :=
    (bigSep_mono fun s _ => h1 s).trans (Entails.of_eq (bigSep_sep' _ _ _))
  have e2 : (bigSep (Finset.Ico 0 15) fun s => (Pipeline.launchCred (fun d => dL d s) c : sProp 𝕄))
      ⊢ bigSep (Finset.Ico 0 15) fun s => cred (tallyAt (cell c (vL (par (s + 1)))) s N) := bigSep_mono fun s _ => h2 s
  unfold credits
  iintro ⟨H1, H2⟩
  ihave H1 := e1 $$ H1
  icases H1 with ⟨HB, HR⟩
  isplitl [HB]; · iexact HB
  isplitl [HR]; · iexact HR
  iapply e2; iexact H2

/-! ## The run -/

variable (m : (ℓ : Loc nD τ sig) → Buf (Elt F) ℓ) (ρ : Dev nD → PrngReg)

theorem V1_table (c : Dev nD) : V1 m c main_c = (table : S4x32.Idx → BitVec 32) := by
  refine (StableHlo.after_last_write (i := 0) (hostOps0_W.tail) (r := main_c) rfl rfl (by decide) (V0 m c)).trans ?_
  refine (StableHlo.nullary_result _ _ _ _).trans ?_
  funext i
  exact table_rows i

/-- What rides beside the buffers: from launch to the call, and after it. -/
def E : Fin 2 → Dev nD → sProp 𝕄
  | 0 => fun c => iprop(Tk (V1 m) c ∗ (∃ r, prngReg c r) ∗ ∃ W, owes (c : Thread nD τ) (O₀ c) W)
  | 1 => fun c => iprop(semVal (barCell c) 0 ∗ ∃ W, owes (c : Thread nD τ) (0 : CellTallies nD τ sig ℕ) W)

abbrev R0 : Pipeline.RegionSeg (pcfgs (F := F)) adm (pdats (V1 m)) 0 defs₀ 𝒱₀ L lv 0 := reg (V1 m) (V1_table m)

omit [FloatOps F] in
theorem held_parts (c : Dev nD) (W : Valuation τ sig (Elt F)) : (StableHlo.held (c.tc : Thread nD τ) (Pipeline.ucRefs τ sig) W : sProp 𝕄)
    = iprop(StableHlo.held (c.tc : Thread nD τ) (Pipeline.arrRefs spec0) W ∗ StableHlo.held (c.tc : Thread nD τ) restRefs W) :=
  StableHlo.held_sub_split (c.tc : Thread nD τ) (Pipeline.arrRefs_sub_ucRefs spec0 winFacts0.arr_unscoped) W

theorem region_pre (c : Dev nD) : iprop(StableHlo.held (c : Thread nD τ) (Pipeline.ucRefs τ sig) (V1 m c) ∗ E m 0 c) ⊢ (R0 m).pre c := by
  show _ ⊢ iprop(StableHlo.held (c.tc : Thread nD τ) (Pipeline.arrRefs spec0) (V1 m c) ∗ (∃ r, prngReg c r)
    ∗ (StableHlo.held (c.tc : Thread nD τ) restRefs (V1 m c) ∗ emp) ∗ Tk (V1 m) c ∗ ∃ Wd, owes (c : Thread nD τ) (0 + O₀ c) Wd)
  rw [held_parts, zero_add]
  unfold E
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem region_post (c : Dev nD) : (R0 m).post c ⊢ iprop(StableHlo.held (c : Thread nD τ) (Pipeline.ucRefs τ sig) (Vend (V1 m) c) ∗ E m 1 c) := by
  show iprop(StableHlo.held (c.tc : Thread nD τ) (Pipeline.arrRefs spec0) (Vend (V1 m) c) ∗ (∃ r, prngReg c r)
    ∗ (StableHlo.held (c.tc : Thread nD τ) restRefs (Vend (V1 m) c) ∗ emp) ∗ Yk (F := F) c ∗ ∃ Wd, owes (c : Thread nD τ) (0 : CellTallies nD τ sig ℕ) Wd) ⊢ _
  rw [held_parts]
  unfold E Yk
  iintro ⟨Ha, -, ⟨Hr, -⟩, Hb, HO⟩
  isplitl [Ha Hr]
  · isplitl [Ha] <;> iassumption
  isplitl [Hb]; · iexact Hb
  iexact HO

/-- What a device holds at launch beside the protocol's own. -/
def goods (c : Dev nD) : sProp 𝕄 :=
  iprop(StableHlo.held (c : Thread nD τ) (Pipeline.ucRefs τ sig) (V0 m c) ∗ credits (F := F) c ∗ owes (c : Thread nD τ) (O₀ c) ∅ ∗ ∃ r, prngReg c r)
abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (Vend (V1 m) c) ∗ semVal (barCell c) 0)

theorem T₀_intro (κ : GSem nD τ sig → ℕ) (c : Dev nD) : iprop(records (ws (V1 m)) κ ∗ (own1 (F := F) c ∗ goods m c)) ⊢ T₀ m c := by
  unfold goods T₀ E Tk
  iintro ⟨#HR, Hl, Hh, Hcr, HO, Hp⟩
  isplitl [Hh]; · iexact Hh
  isplitl [Hl Hcr]
  · iapply (ghost_intro (ws (V1 m)) κ c)
    isplitr; · iexact HR
    isplitl [Hl] <;> iassumption
  isplitl [Hp]; · iexact Hp
  iexists ∅; iexact HO

omit [FloatOps F] in
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem launch_core (c : Dev nD) :
    iprop(unscopedBufs c (fun b => m ((c : Thread nD τ).loc b)) ∗ unscopedSems0 c ∗ owes (c : Thread nD τ) (O₀ c) ∅ ∗ Pipeline.launchCred O₀ c ∗ prngReg c (ρ c) ∗ G (F := F) c)
      ⊢ (iprop(goods m c ∗ (semVal (barCell c) 0 ∗ G (F := F) c)) : sProp 𝕄) := by
  rw [show unscopedBufs c (fun b => m ((c : Thread nD τ).loc b)) = (StableHlo.held (c : Thread nD τ) (Pipeline.ucRefs τ sig) (V0 m c) : sProp 𝕄) from
    Pipeline.unscopedBufs_held (Ix := ℕ) (Name := ℕ) (U := UU) (Lvl := ℕ) c (V0 m c), unscopedSems_eq]
  unfold goods
  iintro ⟨Hh, Hus, HO, Hcr, Hp, HG⟩
  isplitl [Hh HO Hcr Hp]
  · isplitl [Hh]; · iexact Hh
    isplitl [Hcr]; · iapply (credits_intro (F := F) c); iexact Hcr
    isplitl [HO]; · iexact HO
    iexists (ρ c); iexact Hp
  isplitl [Hus] <;> iassumption

omit [FloatOps F] in
theorem bars_in : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
omit [FloatOps F] in
theorem places_out : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
omit [FloatOps F] in
theorem opens_out : bigSep copyCells (fun g => (openTok ER g : sProp 𝕄)) ⊢ bigSep Finset.univ (fun c : Dev nD => opens (F := F) c) :=
  Entails.of_eq (by
    rw [bigSep_map, bigSep_univ_prod]
    exact bigSep_congr fun c _ => by unfold opens; exact bigSep_univ_eq_bigSepL [0, 1, 2, 3, 4, 5, 6, 7] (by decide) (by decide) _)

omit [FloatOps F] in
theorem parted (Φ Ψ : Dev nD → sProp 𝕄) : bigSep Finset.univ (fun c => iprop(Φ c ∗ Ψ c)) ⊢ iprop(bigSep Finset.univ Φ ∗ bigSep Finset.univ Ψ) :=
  Entails.of_eq (bigSep_sep' Finset.univ Φ Ψ)
omit [FloatOps F] in
theorem joined (Φ Ψ : Dev nD → sProp 𝕄) : iprop(bigSep Finset.univ Φ ∗ bigSep Finset.univ Ψ) ⊢ bigSep Finset.univ (fun c => iprop(Φ c ∗ Ψ c)) :=
  Entails.of_eq (bigSep_sep' Finset.univ Φ Ψ).symm

theorem launch_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(goods m c ∗ (semVal (barCell c) 0 ∗ G (F := F) c)) : sProp 𝕄) from
    bigSep_mono fun c _ => launch_core m ρ c) $$ H
  ihave H2 := (parted (F := F) _ _) $$ H'; icases H2 with ⟨HB, H3⟩
  ihave H4 := (parted (F := F) _ _) $$ H3; icases H4 with ⟨Hv, HG⟩
  ihave Hu := (show bigSep Finset.univ (G (F := F)) ⊢ BI.own (ER (launchOf barCells copyCells allToks)) from Entails.of_eq (onlyAt_all (F := F) 0 (BI.own (ER (launchOf barCells copyCells allToks))))) $$ HG
  imod (Rounds.fund_launch ER (sched (ws (V1 m))) cells_apart (fun g _ h => h) allToks) $$ [Hv Hu] with ⟨%κ, -, #Hinv, #Hr, Hat, Hopen, Htok⟩
  · isplitl [Hv]
    · iapply (bars_in (F := F)) $$ Hv
    · iexact Hu
  imodintro
  iapply (bigSep_with_persistent (R := records (ws (V1 m)) κ) (Φ := fun c => iprop(own1 (F := F) c ∗ goods m c)) fun c _ => T₀_intro m κ c)
  isplitr
  · unfold records invs
    isplitr; · iexact Hinv
    iexact Hr
  iapply (joined (F := F) _ _)
  isplitr [HB]
  · unfold own1
    iapply (joined (F := F) _ _); isplitl [Hat]; · iapply (places_out (F := F)) $$ Hat
    iapply (joined (F := F) _ _); isplitl [Hopen]; · iapply (opens_out (F := F)) $$ Hopen
    iapply (toks_around (F := F))
    iapply (Entails.of_eq (toks_eq (F := F))) $$ Htok
  · iexact HB

theorem unscoped_one : ∀ sm : SemLoc sig, sm.isScoped .tc = false → sm = .reg barS := by decide

theorem Vend_arg (c : Dev nD) (r : Ref sig .tc) (h : r ∉ hostOps0_W) (h' : r ≠ main_v24) : Vend (V1 m) c r = m ((c : Thread nD τ).loc r) :=
  (Vend_other (V1 m) c _ (StableHlo.devRef_ne_of_ne h')).trans (V1_of m c r h)

theorem uc_mem (r : Ref sig .tc) (h : (Proc.devRef (τ := τ) .tc r) ∈ Pipeline.ucRefs τ sig) : (Proc.devRef (τ := τ) .tc r) ∈ Pipeline.ucRefs τ sig := h

set_option backward.isDefEq.respectTransparency.types false in
/-- From any memory with its counters at zero every execution ends, with every buffer the program sees at the contents
    computed here and every counter back at zero. -/
theorem run_all : θ_run defs (onTc (τ := τ) (main (F := F))) ⟨m, fun _ => 0, ρ⟩
    (fun r => (∀ c : Dev nD, ∀ b ∈ Pipeline.ucRefs τ sig, r.2.mem (((c : Thread nD τ).1, b) : Loc nD τ sig) = Vend (V1 m) c b) ∧ r.2.sem = fun _ => 0) :=
  Pipeline.θ_run_regions_kit_dev_sems (pcfgs (F := F)) adm (pdats (V1 m)) 0 cellOf_inj EP defs₀ 𝒱₀ L lv m ρ main
    (segs m 𝒱₀ L lv (E m) 0 (pdats (V1 m)) (R0 m))
    (fun c Q => by
      rewrite [main_chain c, Pipeline.Seg.run_eq_chain,
        show (segs m 𝒱₀ L lv (E m) 0 (pdats (V1 m)) (R0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [onlyAt_all]; iexact HX)
    (T₀ := T₀ m) (Tₙ := Tₙ m)
    (hch := fun c => ⟨.rfl, region_pre m c, (region_post m c).trans (by
      show iprop(StableHlo.held (c : Thread nD τ) (Pipeline.ucRefs τ sig) (Vend (V1 m) c)
          ∗ (semVal (barCell c) 0 ∗ ∃ W, owes (c : Thread nD τ) (0 : CellTallies nD τ sig ℕ) W))
        ⊢ iprop(Tₙ m c ∗ ∃ W, owes (c : Thread nD τ) (0 : CellTallies nD τ sig ℕ) W)
      iintro ⟨Hh, Hb, HO⟩
      isplitr [HO]
      · isplitl [Hh] <;> iassumption
      · iexact HO)⟩)
    (hinit := launch_all m ρ)
    (QY := fun c s => (∀ b ∈ Pipeline.ucRefs τ sig, s.mem (((c : Thread nD τ).1, b) : Loc nD τ sig) = Vend (V1 m) c b) ∧ s.sem (barCell c) = 0)
    (hfin := fun c s' => by
      dsimp only [Tₙ]
      unfold StableHlo.held
      iintro ⟨⟨Hh, Hb0⟩, HSI⟩
      icombine HSI Hb0 gives %hb
      ihave Hr := (pointsTo_read_all (Pipeline.ucRefs τ sig) (fun b => ((c : Thread nD τ).1, b)) (Vend (V1 m) c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1, sem_eq_zero hs fun c sm hsm => by
      obtain rfl := unscoped_one sm hsm
      exact (h c).2⟩)

abbrev seen (r : Ref sig .tc) : Prop := Proc.devRef (τ := τ) .tc r ∈ Pipeline.ucRefs τ sig
theorem seen_of (r : Ref sig .tc) (h : (Proc.devRef (τ := τ) .tc r : DevRef τ sig) ∈ (Pipeline.ucRefs τ sig)) : seen r := h

/-- The run, read at the program's arguments and its result. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_v24) = res (V1 m) c) ∧ r.2.sem = fun _ => 0) :=
  (θ_run defs _ _).mono (fun r h => ⟨fun c =>
    ⟨(h.1 c _ (Finset.mem_filter.mpr ⟨StableHlo.devRef_mem_tcRefs main_arg0, by decide⟩)).trans (Vend_arg m c main_arg0 (by decide) (by decide)),
     (h.1 c _ (Finset.mem_filter.mpr ⟨StableHlo.devRef_mem_tcRefs main_arg1, by decide⟩)).trans (Vend_arg m c main_arg1 (by decide) (by decide)),
     (h.1 c _ (Finset.mem_filter.mpr ⟨StableHlo.devRef_mem_tcRefs main_arg2, by decide⟩)).trans (Vend_arg m c main_arg2 (by decide) (by decide)),
     (h.1 c _ (Finset.mem_filter.mpr ⟨StableHlo.devRef_mem_tcRefs main_arg3, by decide⟩)).trans (Vend_arg m c main_arg3 (by decide) (by decide)),
     (h.1 c _ (Finset.mem_filter.mpr ⟨StableHlo.devRef_mem_tcRefs main_arg4, by decide⟩)).trans (Vend_arg m c main_arg4 (by decide) (by decide)),
     (h.1 c _ (Finset.mem_filter.mpr ⟨StableHlo.devRef_mem_tcRefs main_v24, by decide⟩)).trans (Vend_result (V1 m) c)⟩, h.2⟩) (run_all m ρ)

end Cert.KernelIdeal.Hop

end
-- ==== Proof.Same.lean ====
/-
The printed program of all the hops and its idealization are one text: their bodies, tables and launches agree.
-/
module
public import proofs.«01_k».proof.Defs
public import proofs.«01_k».proof.Proof.Gen.KernelIdeal
public import proofs.«01_k».proof.Proof.Gen.Kernel
@[expose] public section
noncomputable section
namespace Cert.Proof
open Idealize.ShloMosaic Idealize.SL.Sem
variable {F : FTy → Type} [FloatOps F]
set_option maxHeartbeats 1000000
theorem body_same : Cert.Kernel.cc0_body (F := F) = Cert.KernelIdeal.cc0_body (F := F) := rfl
theorem bodies_same : Cert.Kernel.defs₀ (F := F) = Cert.KernelIdeal.defs₀ (F := F) := by
  unfold Cert.Kernel.defs₀ Cert.KernelIdeal.defs₀
  refine congrArg Defs.onTc ?_
  funext l
  match l with
  | ⟨0, _⟩ =>
    funext a
    match a with
    | (t, s) =>
      dsimp only
      exact congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _
theorem defs_same : Cert.Kernel.defs (F := F) = Cert.KernelIdeal.defs (F := F) := by
  unfold Cert.Kernel.defs Cert.KernelIdeal.defs
  rw [bodies_same]; rfl
theorem main_same : Cert.Kernel.main (F := F) = Cert.KernelIdeal.main (F := F) := rfl
end Cert.Proof
-- ==== Proof.Attend.lean ====
/-
Attention over the extended reals, written once for both programs: one query row's softmax against a head's keys,
applied to one column of the head's values; the whole model's heads; and what the heads of one device's group add to
an element of the result.
-/
module

public import Idealize.ShloMosaic.Lib.Pointwise

@[expose] public section

noncomputable section

namespace Cert.Attn

open Idealize.ShloMosaic

/-- A query row's scaled score with key `j`. -/
def score (q : Fin 64 → EReal) (K : Fin 128 → Fin 64 → EReal) (j : Fin 128) : EReal :=
  (∑ d, q d * K j d) * Ideal.ofBits FTy.f32 1040187392#32

/-- The largest score. -/
def peak (q : Fin 64 → EReal) (K : Fin 128 → Fin 64 → EReal) : EReal :=
  Finset.fold max (Ideal.ofBits FTy.f32 4286578688#32) (score q K) Finset.univ

/-- The weight of key `j`, up to the row's normalisation. -/
def raised (q : Fin 64 → EReal) (K : Fin 128 → Fin 64 → EReal) (j : Fin 128) : EReal := Ideal.exp (score q K j - peak q K)

/-- The softmax of the scores against one column of the values. -/
def attend (q : Fin 64 → EReal) (K : Fin 128 → Fin 64 → EReal) (v : Fin 128 → EReal) : EReal :=
  ∑ j, v j * Ideal.div (raised q K j) (∑ k, raised q K k)

/-- Column `d` of head `h`, among the columns of all heads. -/
def col (h : Fin 128) (d : Fin 64) : Fin 8192 := ⟨h.val * 64 + d.val, by omega⟩

/-- Column `k` of device `p`'s group, among the columns of all heads. -/
def gcol (p : Fin 32) (k : Fin 256) : Fin 8192 := ⟨p.val * 256 + k.val, by omega⟩

/-- The head a column of device `p`'s group belongs to. -/
def ghead (p : Fin 32) (k : Fin 256) : Fin 128 := ⟨p.val * 4 + k.val / 64, by omega⟩

/-- A column's place in its head. -/
def gdim (k : Fin 256) : Fin 64 := ⟨k.val % 64, by omega⟩

variable (x : (⟨3, ![64, 128, 512]⟩ : Shape).Idx → EReal) (wq : (⟨2, ![512, 8192]⟩ : Shape).Idx → EReal)
  (ks vs : (⟨4, ![64, 128, 128, 64]⟩ : Shape).Idx → EReal) (wo : (⟨2, ![8192, 512]⟩ : Shape).Idx → EReal)

/-- The context of batch row `b`, query `i`, head `h` in column `d`. -/
def ctx (b : Fin 64) (i : Fin 128) (h : Fin 128) (d : Fin 64) : EReal :=
  attend (fun d' => ∑ e, x (ix3 b i e) * wq (ix2 e (col h d'))) (fun j d' => ks (ix4 b j h d')) (fun j => vs (ix4 b j h d))

/-- What device `p`'s group of heads adds to an element of the result. -/
def contrib (p : Fin 32) (b : Fin 64) (i : Fin 128) (n : Fin 512) : EReal :=
  ∑ k, ctx x wq ks vs b i (ghead p k) (gdim k) * wo (ix2 (gcol p k) n)

/-- A sum over all the heads' columns, group by group. -/
theorem sum_groups (f : Fin 8192 → EReal) : ∑ k, f k = ∑ p : Fin 32, ∑ k : Fin 256, f (gcol p k) := by
  rw [← Fintype.sum_prod_type']
  refine (Fintype.sum_equiv (finProdFinEquiv (m := 32) (n := 256)) _ _ fun pk => ?_).symm
  refine congrArg f (Fin.ext ?_)
  show pk.1.val * 256 + pk.2.val = pk.2.val + 256 * pk.1.val
  omega

end Cert.Attn
-- ==== Proof.GroupValue.lean ====
/-
What a group of four heads adds to the kernel's result, read at an index over the extended reals.
-/
module

public import proofs.«01_k».proof.Proof.Tiles
public import proofs.«01_k».proof.Proof.Attend

@[expose] public section

noncomputable section

namespace Cert.KernelIdeal.Hop

open Cert.KernelIdeal Cert.KernelIdeal.Gen
open Idealize.ShloMosaic
open Cert.Attn

/-- Row `i` of batch row `b`, among a device's rows. -/
def row (b : Fin 2) (i : Fin 128) : Fin 256 := ⟨b.val * 128 + i.val, by omega⟩

/-- Column `d` of head `h`, among a group's columns. -/
def hcol (h : Fin 4) (d : Fin 64) : Fin 256 := ⟨h.val * 64 + d.val, by omega⟩

/-- A column's head in its group. -/
def qhead (k : Fin 256) : Fin 4 := ⟨k.val / 64, by omega⟩

/-- A group's queries at an index. -/
theorem queries_apply (x : S256x512.Idx → EReal) (X : S2x512x256.Idx → EReal) (r : Fin 256) (k : Fin 256) :
    queries (F := Ideal) x X (ix2 r k) = ∑ e, x (ix2 r e) * X (ix3 0 e k) := by
  unfold queries k0_pay25 part
  simp only [pointwise, zero_add]
  rfl

/-- One head's queries at an index. -/
theorem headQ_apply (q : S256x256.Idx → EReal) (b : Fin 2) (h : Fin 4) (i : Fin 128) (d : Fin 64) :
    headQ (F := Ideal) q b h (ix2 i d) = q (ix2 (row b i) (hcol h d)) := by
  fin_cases b <;> fin_cases h <;>
  · refine congrArg q (funext fun a => ?_)
    fin_cases a <;> apply Fin.ext <;> simp [row, hcol] <;> rfl

/-- One head's context at an index. -/
theorem headCtx_apply (q : S128x64.Idx → EReal) (k v : S1x128x64.Idx → EReal) (i : Fin 128) (d : Fin 64) :
    headCtx (F := Ideal) q k v (ix2 i d)
      = attend (fun d' => q (ix2 i d')) (fun j d' => k (ix3 0 j d')) (fun j => v (ix3 0 j d)) := by
  unfold headCtx k0_pay27
  simp only [pointwise]
  simp only [Nat.reduceEqDiff, ↓reduceDIte, OfNat.ofNat_ne_one, zero_add]
  unfold attend raised peak score
  refine Finset.sum_congr rfl fun j _ => ?_
  rw [mul_comm]

/-- The accumulated result after a group is added, at an index, in terms of the group's context. -/
theorem addGroup_ctx (x : S256x512.Idx → EReal) (K V : S256x128x64.Idx → EReal) (X : S2x512x256.Idx → EReal) (d : Fin 32)
    (acc : S2x128x512.Idx → EReal) (b : Fin 2) (i : Fin 128) (n : Fin 512) :
    addGroup (F := Ideal) x K V X d acc (ix3 b i n)
      = acc (ix3 b i n) + ∑ k, context (F := Ideal) x K V X d (ix2 (row b i) k) * X (ix3 1 n k) := by
  unfold addGroup k0_pay3 k0_pay24 part
  simp only [pointwise, zero_add]
  rfl

/-- The accumulated result after a group is added, at an index: each column of the group adds its head's attention times
the column's output weight. -/
theorem addGroup_apply (x : S256x512.Idx → EReal) (K V : S256x128x64.Idx → EReal) (X : S2x512x256.Idx → EReal) (d : Fin 32)
    (acc : S2x128x512.Idx → EReal) (b : Fin 2) (i : Fin 128) (n : Fin 512) :
    addGroup (F := Ideal) x K V X d acc (ix3 b i n)
      = acc (ix3 b i n) + ∑ k : Fin 256,
          attend (fun d' => ∑ e, x (ix2 (row b i) e) * X (ix3 0 e (hcol (qhead k) d')))
            (fun j d' => K (ix3 (tileIx d (qhead k) b) j d')) (fun j => V (ix3 (tileIx d (qhead k) b) j (gdim k))) * X (ix3 1 n k) := by
  rw [addGroup_ctx]
  refine congrArg (acc (ix3 b i n) + ·) (Finset.sum_congr rfl fun k _ => ?_)
  have e : context (F := Ideal) x K V X d (ix2 (row b i) k) = tile (F := Ideal) x K V X d b (qhead k) (ix2 i (gdim k)) := by
    have e0 : (⟨(row b i).val / 128, by have := (row b i).isLt; omega⟩ : Fin 2) = b :=
      Fin.ext (by show (b.val * 128 + i.val) / 128 = b.val; omega)
    have e1 : (⟨(row b i).val % 128, Nat.mod_lt _ (by decide)⟩ : Fin 128) = i :=
      Fin.ext (by show (b.val * 128 + i.val) % 128 = i.val; omega)
    show tile (F := Ideal) x K V X d ⟨(row b i).val / 128, _⟩ (qhead k) (ix2 ⟨(row b i).val % 128, _⟩ (gdim k)) = _
    rw [e0, e1]
  refine congrArg (· * X (ix3 1 n k)) (e.trans ?_)
  unfold tile
  rw [headCtx_apply]
  simp only [headQ_apply, queries_apply]
  rfl

end Cert.KernelIdeal.Hop
-- ==== Proof.HostReads.lean ====
/-
What the host stretch before the call hands the kernel, read at an index: the device's rows, its two weight blocks, and
the key and value tiles of its batch rows, each in terms of the arguments.
-/
module

public import proofs.«01_k».proof.Proof.GroupValue
public import proofs.«01_k».proof.Proof.Gen.KernelIdeal.Regions
public import proofs.«01_k».proof.Proof.Gen.KernelIdeal.Launch

@[expose] public section

noncomputable section

namespace Cert.KernelIdeal.Hop

open Cert.KernelIdeal Cert.KernelIdeal.Gen
open Idealize.ShloMosaic
open Idealize.ShloMosaic.TcCoe
open Cert.Attn

variable (m : (ℓ : Loc nD τ sig) → Buf (Elt Ideal) ℓ)

/-- Batch row `b` of device `c`, among all batch rows. -/
def brow (c : Fin 32) (b : Fin 2) : Fin 64 := ⟨c.val * 2 + b.val, by omega⟩

/-- Head `h` of device `d`'s group, among all heads. -/
def hrow (d : Fin 32) (h : Fin 4) : Fin 128 := ⟨d.val * 4 + h.val, by omega⟩

theorem xs_apply (c : Dev nD) (b : Fin 2) (i : Fin 128) (e : Fin 512) :
    (V1 m c main_v5 : S256x512.Idx → EReal) (ix2 (row b i) e)
      = (m ((c.tc : Thread nD τ).loc main_arg0) : S2x128x512.Idx → EReal) (ix3 b i e) := by
  have h : V1 m c main_v5 = shapeCast S256x512 (m ((c.tc : Thread nD τ).loc main_arg0)) shapeCasts_S2x128x512_S256x512 := by
    unfold V1
    simp only [hostOps0]
    after_results_simp
    rfl
  rw [h]
  simp only [pointwise]
  have e0 : ∀ h, (⟨(row b i).val / 128, h⟩ : Fin 2) = b := fun h => Fin.ext (by show (b.val * 128 + i.val) / 128 = b.val; omega)
  have e1 : ∀ h, (⟨(row b i).val % 128, h⟩ : Fin 128) = i := fun h => Fin.ext (by show (b.val * 128 + i.val) % 128 = i.val; omega)
  rw [e0, e1]

/-- The stack of the two weight blocks. -/
theorem ws_eq (c : Dev nD) : V1 m c main_v9 = concatenate S2x512x256 0
    [⟨S1x512x256, broadcastInDim S1x512x256 ![1, 2] bcast_S512x256_S1x512x256_1_2 (m ((c.tc : Thread nD τ).loc main_arg1))⟩,
     ⟨S1x512x256, broadcastInDim S1x512x256 ![1, 2] bcast_S512x256_S1x512x256_1_2
        (transpose S512x256 [1, 0] (m ((c.tc : Thread nD τ).loc main_arg4)) transposes_S256x512_S512x256_1_0)⟩]
    concatenates_S1x512x256_S1x512x256_S2x512x256_d0 := by
  unfold V1
  simp only [hostOps0]
  after_results_simp
  rfl

theorem ws_apply_in (c : Dev nD) (k : Fin 256) (e : Fin 512) :
    (V1 m c main_v9 : S2x512x256.Idx → EReal) (ix3 0 e k)
      = (m ((c.tc : Thread nD τ).loc main_arg1) : S512x256.Idx → EReal) (ix2 e k) := by
  rw [ws_eq]
  simp only [pointwise]
  rfl

theorem ws_apply_out (c : Dev nD) (p : Fin 2) (hp : p = 1) (k : Fin 256) (n : Fin 512) :
    (V1 m c main_v9 : S2x512x256.Idx → EReal) (ix3 p n k)
      = (m ((c.tc : Thread nD τ).loc main_arg4) : S256x512.Idx → EReal) (ix2 k n) := by
  rw [ws_eq]
  simp only [pointwise]
  rw [dif_neg (by rw [hp]; decide)]
  rfl

/-- Where the slice of a device's batch rows starts. -/
def sliceAt (c : Dev nD) : Fin 4 → ℤ := ![(c.val : ℤ) * 2, 0, 0, 0]

theorem ks_eq (c : Dev nD) : V1 m c main_v21 = shapeCast S256x128x64
    (transpose S128x2x128x64 [2, 0, 1, 3]
      (Host.dynamicSlice S2x128x128x64 (m ((c.tc : Thread nD τ).loc main_arg2)) (sliceAt c) sliceFits_S64x128x128x64_S2x128x128x64)
      transposes_S2x128x128x64_S128x2x128x64_2_0_1_3)
    shapeCasts_S128x2x128x64_S256x128x64 := by
  unfold V1
  simp only [hostOps0]
  after_results_simp
  refine congrArg (fun st => shapeCast S256x128x64 (transpose S128x2x128x64 [2, 0, 1, 3]
      (Host.dynamicSlice S2x128x128x64 (m ((c.tc : Thread nD τ).loc main_arg2)) st sliceFits_S64x128x128x64_S2x128x128x64)
      transposes_S2x128x128x64_S128x2x128x64_2_0_1_3) shapeCasts_S128x2x128x64_S256x128x64) (funext fun k => ?_)
  fin_cases k
  · simp only [Fin.zero_eta, Matrix.cons_val_zero]
    after_results_simp
    revert c; decide
  · simp only [Fin.mk_one, Matrix.cons_val_one]
    after_results_simp
    rfl
  · simp only [Fin.reduceFinMk, Matrix.cons_val]
    after_results_simp
    rfl
  · simp only [Fin.reduceFinMk, Matrix.cons_val]
    after_results_simp
    rfl

/-- The slice is in range, so it starts where it is told. -/
theorem clamped (c : Dev nD) (a : Fin 4) :
    Host.clampedStart S64x128x128x64 S2x128x128x64 rfl (sliceAt c) a = (![c.val * 2, 0, 0, 0] : Fin 4 → ℕ) a := by
  revert c a; decide

theorem ks_apply (c : Dev nD) (d : Fin 32) (h : Fin 4) (b : Fin 2) (j : Fin 128) (e : Fin 64) :
    (V1 m c main_v21 : S256x128x64.Idx → EReal) (ix3 (tileIx d h b) j e)
      = (m ((c.tc : Thread nD τ).loc main_arg2) : S64x128x128x64.Idx → EReal) (ix4 (brow c b) j (hrow d h) e) := by
  rw [ks_eq]
  simp only [pointwise]
  refine congrArg (m ((c.tc : Thread nD τ).loc main_arg2) : S64x128x128x64.Idx → EReal) (funext fun a => ?_)
  fin_cases a <;> apply Fin.ext
  · show Host.clampedStart S64x128x128x64 S2x128x128x64 _ (sliceAt c) 0 + ((d.val * 4 + h.val) * 2 + b.val) % 2 = c.val * 2 + b.val
    rw [clamped]; show c.val * 2 + _ = _; omega
  · show Host.clampedStart S64x128x128x64 S2x128x128x64 _ (sliceAt c) 1 + j.val = j.val
    rw [clamped]; exact Nat.zero_add _
  · show Host.clampedStart S64x128x128x64 S2x128x128x64 _ (sliceAt c) 2 + ((d.val * 4 + h.val) * 2 + b.val) / 2 = d.val * 4 + h.val
    rw [clamped]; show 0 + _ = _; omega
  · show Host.clampedStart S64x128x128x64 S2x128x128x64 _ (sliceAt c) 3 + e.val = e.val
    rw [clamped]; exact Nat.zero_add _

theorem vs_eq (c : Dev nD) : V1 m c main_v23 = shapeCast S256x128x64
    (transpose S128x2x128x64 [2, 0, 1, 3]
      (Host.dynamicSlice S2x128x128x64 (m ((c.tc : Thread nD τ).loc main_arg3)) (sliceAt c) sliceFits_S64x128x128x64_S2x128x128x64)
      transposes_S2x128x128x64_S128x2x128x64_2_0_1_3)
    shapeCasts_S128x2x128x64_S256x128x64 := by
  unfold V1
  simp only [hostOps0]
  after_results_simp
  refine congrArg (fun st => shapeCast S256x128x64 (transpose S128x2x128x64 [2, 0, 1, 3]
      (Host.dynamicSlice S2x128x128x64 (m ((c.tc : Thread nD τ).loc main_arg3)) st sliceFits_S64x128x128x64_S2x128x128x64)
      transposes_S2x128x128x64_S128x2x128x64_2_0_1_3) shapeCasts_S128x2x128x64_S256x128x64) (funext fun k => ?_)
  fin_cases k
  · simp only [Fin.zero_eta, Matrix.cons_val_zero]
    after_results_simp
    revert c; decide
  · simp only [Fin.mk_one, Matrix.cons_val_one]
    after_results_simp
    rfl
  · simp only [Fin.reduceFinMk, Matrix.cons_val]
    after_results_simp
    rfl
  · simp only [Fin.reduceFinMk, Matrix.cons_val]
    after_results_simp
    rfl

theorem vs_apply (c : Dev nD) (d : Fin 32) (h : Fin 4) (b : Fin 2) (j : Fin 128) (e : Fin 64) :
    (V1 m c main_v23 : S256x128x64.Idx → EReal) (ix3 (tileIx d h b) j e)
      = (m ((c.tc : Thread nD τ).loc main_arg3) : S64x128x128x64.Idx → EReal) (ix4 (brow c b) j (hrow d h) e) := by
  rw [vs_eq]
  simp only [pointwise]
  refine congrArg (m ((c.tc : Thread nD τ).loc main_arg3) : S64x128x128x64.Idx → EReal) (funext fun a => ?_)
  fin_cases a <;> apply Fin.ext
  · show Host.clampedStart S64x128x128x64 S2x128x128x64 _ (sliceAt c) 0 + ((d.val * 4 + h.val) * 2 + b.val) % 2 = c.val * 2 + b.val
    rw [clamped]; show c.val * 2 + _ = _; omega
  · show Host.clampedStart S64x128x128x64 S2x128x128x64 _ (sliceAt c) 1 + j.val = j.val
    rw [clamped]; exact Nat.zero_add _
  · show Host.clampedStart S64x128x128x64 S2x128x128x64 _ (sliceAt c) 2 + ((d.val * 4 + h.val) * 2 + b.val) / 2 = d.val * 4 + h.val
    rw [clamped]; show 0 + _ = _; omega
  · show Host.clampedStart S64x128x128x64 S2x128x128x64 _ (sliceAt c) 3 + e.val = e.val
    rw [clamped]; exact Nat.zero_add _

end Cert.KernelIdeal.Hop
-- ==== Proof.RefValue.lean ====
/-
The reference's result at an index, over the extended reals: the attention mask admits every pair of positions, so an
element is the sum, over all the groups of heads, of what each group adds.
-/
module

public import proofs.«01_k».proof.Proof.Gen.ReferenceIdeal.Run
public import proofs.«01_k».proof.Proof.Attend

@[expose] public section

noncomputable section

namespace Cert.ReferenceIdeal.Hop

open Cert.ReferenceIdeal Cert.ReferenceIdeal.Gen
open Idealize.ShloMosaic
open Cert.Attn

/-- Positions below 128 are never more than 128 apart. -/
theorem within (i j : Fin 128) :
    IntOp.cmpi CmpIPredicate.sle (IntOp.absi (IntOp.subi (BitVec.ofNat 32 i.val) (BitVec.ofNat 32 j.val))) 128#32 = 1#1 := by
  have hi := i.isLt
  have hj := j.isLt
  have word : ∀ n : ℕ, n < 128 → (BitVec.ofNat 32 n).toInt = (n : ℤ) := by
    intro n hn; rw [BitVec.toInt_ofNat']; simp only [Int.bmod_def]; omega
  have e : (BitVec.ofNat 32 i.val - BitVec.ofNat 32 j.val).toInt = (i.val : ℤ) - j.val := by
    rw [BitVec.toInt_sub, word _ hi, word _ hj]
    simp only [Int.bmod_def]; omega
  have h : (IntOp.absi (IntOp.subi (BitVec.ofNat 32 i.val) (BitVec.ofNat 32 j.val))).toInt ≤ 128 := by
    unfold IntOp.absi IntOp.subi
    rw [BitVec.msb_eq_toInt]
    split_ifs with h
    · rw [BitVec.toInt_neg, e]; simp only [Int.bmod_def]; omega
    · rw [e]; omega
  show BitVec.ofBool (BitVec.sle _ _) = _
  rw [show BitVec.sle _ (128#32) = true from decide_eq_true h]
  rfl

/-- A row of the mask that admits every position admits some. -/
theorem kept : Finset.fold IntOp.ori (0#1) (fun _ : Fin 128 => 1#1) Finset.univ = 1#1 := by decide +kernel

set_option maxHeartbeats 4000000 in
/-- An element of the result: the sum over the groups. -/
theorem result_apply (m : (ℓ : Loc nD τ sig) → Buf (Elt Ideal) ℓ) (b : Fin 64) (i : Fin 128) (n : Fin 512) :
    Cert.ReferenceIdeal.Value.res_main_v39 (F := Ideal) m 0 (ix3 b i n)
      = ∑ p, contrib (m ((0 : Dev nD).tc.loc main_arg0)) (m ((0 : Dev nD).tc.loc main_arg1)) (m ((0 : Dev nD).tc.loc main_arg2))
            (m ((0 : Dev nD).tc.loc main_arg3)) (m ((0 : Dev nD).tc.loc main_arg4)) p b i n := by
  unfold Cert.ReferenceIdeal.Value.res_main_v39
  simp only [pointwise, id]
  simp only [Nat.reduceEqDiff, ↓reduceDIte, OfNat.ofNat_ne_one, within, kept, ValueIdx.select_one, zero_add]
  refine (sum_groups _).trans ?_
  refine Finset.sum_congr rfl fun p _ => ?_
  have e1 : ∀ (k : Fin 256) (h : (gcol p k).val / 64 < 128), (⟨(gcol p k).val / 64, h⟩ : Fin 128) = ghead p k := fun k h =>
    Fin.ext (by show (p.val * 256 + k.val) / 64 = p.val * 4 + k.val / 64; omega)
  have e2 : ∀ (k : Fin 256) (h : (gcol p k).val % 64 < 64), (⟨(gcol p k).val % 64, h⟩ : Fin 64) = gdim k := fun k h =>
    Fin.ext (by show (p.val * 256 + k.val) % 64 = k.val % 64; omega)
  have e3 : ∀ (k : Fin 256) (d : Fin 64) (h : (gcol p k).val / 64 * 64 + d.val < 8192),
      (⟨(gcol p k).val / 64 * 64 + d.val, h⟩ : Fin 8192) = col (ghead p k) d := fun k d h =>
    Fin.ext (by show (p.val * 256 + k.val) / 64 * 64 + d.val = (p.val * 4 + k.val / 64) * 64 + d.val; omega)
  simp only [e1, e2, e3]
  rfl

end Cert.ReferenceIdeal.Hop
-- ==== Proof.Match.lean ====
/-
The result of all the hops against the reference's: on each device the trips of the loop add every group once.
-/
module

public import proofs.«01_k».proof.Defs
public import proofs.«01_k».proof.Proof.Launch
public import proofs.«01_k».proof.Proof.HostReads
public import proofs.«01_k».proof.Proof.RefValue

@[expose] public section

noncomputable section

namespace Cert.Proof

open Idealize.ShloMosaic
open Idealize.ShloMosaic.TcCoe
open Cert.KernelIdeal Cert.KernelIdeal.Gen Cert.KernelIdeal.Hop
open Cert.Attn

section Group

variable (x : (⟨3, ![64, 128, 512]⟩ : Shape).Idx → EReal) (wq : (⟨2, ![512, 8192]⟩ : Shape).Idx → EReal)
  (ks vs : (⟨4, ![64, 128, 128, 64]⟩ : Shape).Idx → EReal) (wo : (⟨2, ![8192, 512]⟩ : Shape).Idx → EReal)

/-- A group added on device `c`, its inputs being the device's parts of the whole arrays, adds that group's part of the
whole result. -/
theorem group_adds (c d : Fin 32) (xl : S256x512.Idx → EReal) (Kl Vl : S256x128x64.Idx → EReal) (X : S2x512x256.Idx → EReal)
    (hx : ∀ b i e, xl (ix2 (row b i) e) = x (ix3 (brow c b) i e))
    (hq : ∀ e k, X (ix3 0 e k) = wq (ix2 e (gcol d k))) (ho : ∀ n k, X (ix3 1 n k) = wo (ix2 (gcol d k) n))
    (hK : ∀ h b j e, Kl (ix3 (tileIx d h b) j e) = ks (ix4 (brow c b) j (hrow d h) e))
    (hV : ∀ h b j e, Vl (ix3 (tileIx d h b) j e) = vs (ix4 (brow c b) j (hrow d h) e))
    (acc : S2x128x512.Idx → EReal) (b : Fin 2) (i : Fin 128) (n : Fin 512) :
    addGroup (F := Ideal) xl Kl Vl X d acc (ix3 b i n) = acc (ix3 b i n) + contrib x wq ks vs wo d (brow c b) i n := by
  rw [addGroup_apply]
  unfold contrib ctx
  refine congrArg (acc (ix3 b i n) + ·) (Finset.sum_congr rfl fun k _ => ?_)
  have e : ∀ d', gcol d (hcol (qhead k) d') = col (ghead d k) d' := fun d' =>
    Fin.ext (by show d.val * 256 + (k.val / 64 * 64 + d'.val) = (d.val * 4 + k.val / 64) * 64 + d'.val; omega)
  simp only [hx, hq, ho, hK, hV, e]
  rfl

end Group

/-- The order in which a device adds the groups. -/
def turn (c : Fin 32) (k : ℕ) : Fin 32 := if k % 2 = 1 then prv^[(k + 1) / 2] c else nxt^[k / 2] c

theorem turn_inj : ∀ c : Fin 32, Function.Injective (fun k : Fin 32 => turn c k.val) := by decide +kernel

theorem turn_sum (c : Fin 32) (f : Fin 32 → EReal) : ∑ k ∈ Finset.range 32, f (turn c k) = ∑ p, f p := by
  rw [Finset.sum_range]
  exact (Finite.injective_iff_bijective.mp (turn_inj c)).sum_comp f

/-- What adds one group in the first and the last trip, and two in each between, has added every group. -/
theorem trips_sum (c : Fin 32) (f : Fin 32 → EReal) (A : ℕ → EReal) (h0 : A 0 = 0)
    (h1 : ∀ s, ¬ (1 ≤ s ∧ s < 16) → A (s + 1) = A s + f (prv^[s] c))
    (h2 : ∀ s, 1 ≤ s ∧ s < 16 → A (s + 1) = A s + f (prv^[s] c) + f (nxt^[s] c)) : A 17 = ∑ p, f p := by
  have hp : ∀ s, turn c (2 * s + 1) = prv^[s + 1] c := fun s => by
    unfold turn; rw [if_pos (by omega), show (2 * s + 1 + 1) / 2 = s + 1 from by omega]
  have hn : ∀ s, turn c (2 * s) = nxt^[s] c := fun s => by
    unfold turn; rw [if_neg (by omega), show 2 * s / 2 = s from by omega]
  have main : ∀ s, s < 16 → A (s + 1) = ∑ k ∈ Finset.range (2 * s + 1), f (turn c k) := by
    intro s
    induction s with
    | zero => intro _; rw [h1 0 (by omega), h0, zero_add, Finset.sum_range_one]; rfl
    | succ s ih =>
      intro hs
      have e : ∑ k ∈ Finset.range (2 * (s + 1) + 1), f (turn c k) = ∑ k ∈ Finset.range (2 * s + 1), f (turn c k) + f (turn c (2 * s + 1)) + f (turn c (2 * (s + 1))) := by
        rw [Finset.sum_range_succ _ (2 * (s + 1)), show 2 * (s + 1) = 2 * s + 1 + 1 from by omega, Finset.sum_range_succ _ (2 * s + 1)]
      rw [h2 (s + 1) (by omega), ih (by omega), e, hp, hn]
  rw [h1 16 (by omega), main 15 (by omega), ← turn_sum c f, show 32 = 2 * 15 + 1 + 1 from rfl, Finset.sum_range_succ _ (2 * 15 + 1), hp]

/-- What device `c` ends with is its block of the reference's result. -/
theorem result_block (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : ∀ c : Dev Cert.KernelIdeal.nD,
      m (c.tc.loc Cert.KernelIdeal.main_arg0) = Layout.block ⟨3, ![2, 128, 512]⟩ ⟨3, ![64, 128, 512]⟩ 0 32 c (m' ((0 : Dev Cert.ReferenceIdeal.nD).tc.loc Cert.ReferenceIdeal.main_arg0))
      ∧ m (c.tc.loc Cert.KernelIdeal.main_arg1) = Layout.block ⟨2, ![512, 256]⟩ ⟨2, ![512, 8192]⟩ 1 32 c (m' ((0 : Dev Cert.ReferenceIdeal.nD).tc.loc Cert.ReferenceIdeal.main_arg1))
      ∧ m (c.tc.loc Cert.KernelIdeal.main_arg2) = m' ((0 : Dev Cert.ReferenceIdeal.nD).tc.loc Cert.ReferenceIdeal.main_arg2)
      ∧ m (c.tc.loc Cert.KernelIdeal.main_arg3) = m' ((0 : Dev Cert.ReferenceIdeal.nD).tc.loc Cert.ReferenceIdeal.main_arg3)
      ∧ m (c.tc.loc Cert.KernelIdeal.main_arg4) = Layout.block ⟨2, ![256, 512]⟩ ⟨2, ![8192, 512]⟩ 0 32 c (m' ((0 : Dev Cert.ReferenceIdeal.nD).tc.loc Cert.ReferenceIdeal.main_arg4)))
    (c : Dev Cert.KernelIdeal.nD) :
    res (V1 m) c = Layout.block ⟨3, ![2, 128, 512]⟩ ⟨3, ![64, 128, 512]⟩ 0 32 c (Cert.ReferenceIdeal.Value.res_main_v39 (F := Ideal) m' 0) := by
  have add := fun (d : Fin 32) (acc : S2x128x512.Idx → EReal) (b : Fin 2) (i : Fin 128) (n : Fin 512) =>
    group_adds (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3))
      (m' ((0 : Dev Cert.ReferenceIdeal.nD).tc.loc Cert.ReferenceIdeal.main_arg4)) c d (xs (V1 m) c) (Hop.ks (V1 m) c) (Hop.vs (V1 m) c) (ws (V1 m) d)
      (fun b i e => ((xs_apply m c b i e).trans (congrFun (h c).1 _)).trans
        (congrArg (m' ((0 : Dev Cert.ReferenceIdeal.nD).tc.loc Cert.ReferenceIdeal.main_arg0)) (by funext a; fin_cases a <;> rfl)))
      (fun e k => ((ws_apply_in m d k e).trans (congrFun (h d).2.1 _)).trans
        (congrArg (m' ((0 : Dev Cert.ReferenceIdeal.nD).tc.loc Cert.ReferenceIdeal.main_arg1)) (by funext a; fin_cases a <;> rfl)))
      (fun n k => ((ws_apply_out m d 1 rfl k n).trans (congrFun (h d).2.2.2.2 _)).trans
        (congrArg (m' ((0 : Dev Cert.ReferenceIdeal.nD).tc.loc Cert.ReferenceIdeal.main_arg4)) (by funext a; fin_cases a <;> rfl)))
      (fun hh b j e => (ks_apply m c d hh b j e).trans (congrFun (h c).2.2.1 _))
      (fun hh b j e => (vs_apply m c d hh b j e).trans (congrFun (h c).2.2.2.1 _)) acc b i n
  funext y
  obtain ⟨b, i, n, rfl⟩ : ∃ (b : Fin 2) (i : Fin 128) (n : Fin 512), y = ix3 b i n := ⟨y 0, y 1, y 2, by funext a; fin_cases a <;> rfl⟩
  refine Eq.trans ?_ (congrArg (Cert.ReferenceIdeal.Value.res_main_v39 (F := Ideal) m' 0)
    (show ix3 (brow c b) i n = _ from by funext a; fin_cases a <;> rfl))
  refine Eq.trans ?_ (Cert.ReferenceIdeal.Hop.result_apply m' (brow c b) i n).symm
  refine trips_sum c _ (fun s => sumAt (F := Ideal) (ws (V1 m)) (xs (V1 m) c) (Hop.ks (V1 m) c) (Hop.vs (V1 m) c) c s (ix3 b i n)) ?_ ?_ ?_
  · show (k0_pay1 (F := Ideal) : S2x128x512.Idx → EReal) (ix3 b i n) = 0
    unfold k0_pay1
    simp only [pointwise]
  · intro s hs
    exact (congrFun (sum_one (F := Ideal) (ws (V1 m)) (xs (V1 m) c) (Hop.ks (V1 m) c) (Hop.vs (V1 m) c) c s hs) (ix3 b i n)).trans (add _ _ b i n)
  · intro s hs
    exact (congrFun (sum_two (F := Ideal) (ws (V1 m)) (xs (V1 m) c) (Hop.ks (V1 m) c) (Hop.vs (V1 m) c) c s hs) (ix3 b i n)).trans
      ((add _ _ b i n).trans (congrArg (· + _) (add _ _ b i n)))

theorem algebraic : Cert.algebraic_KernelIdeal_ReferenceIdeal := fun m g m' g' _ h =>
  ⟨Cert.ReferenceIdeal.Value.res_main_v39 (F := Ideal) m' 0,
    (θ_run Cert.KernelIdeal.defs _ _).mono (fun _ r c =>
      ⟨(r.1 c).2.2.2.2.2.trans (result_block m m' h c), (r.1 c).1, (r.1 c).2.1, (r.1 c).2.2.1, (r.1 c).2.2.2.1, (r.1 c).2.2.2.2.1⟩)
      (run_main (F := Ideal) m g),
    (θ_run Cert.ReferenceIdeal.defs _ _).mono (fun r hr => hr 0) (Cert.ReferenceIdeal.Value.run m' g')⟩

end Cert.Proof
-- ==== Proof.Slice.Tiles.lean ====
/-
The values one trip of the attention loop computes, as plain functions of what it loads: the two weight blocks that
travel together in a ring slot, a head's tile of the keys and of the values, the eight context tiles of a group of
four heads and two batch rows, and the group's contribution to the result. Every statement is for any float carrier.
-/
module

public import proofs.«01_k».proof.Proof.Gen.SliceIdeal
public import proofs.«01_k».proof.Proof.Gen.SliceIdeal.Skeleton
public import Idealize.ShloMosaic.Lib.VecWindow
public import Idealize.ShloMosaic.Lib.ValueLayout
public import Idealize.ShloMosaic.Lib.Tactic

@[expose] public section

noncomputable section

namespace Cert.SliceIdeal.Hop

open Cert.SliceIdeal Cert.SliceIdeal.Gen
open Idealize.ShloMosaic
open Idealize.ShloMosaic.TcCoe
open Idealize.ShloMosaic.ValueIdx
open Idealize.SL Idealize.SL.RA Idealize.SL.BI

variable {F : FTy → Type} [FloatOps F]

/-! ## A ring slot's contents -/

/-- A block of weights repeated in both slots: each slot's elements of it are the block. -/
def spread {α : Type} (X : S2x512x256.Idx → α) : S2x2x512x256.Idx → α := fun i => X (ix3 (i 1) (i 2) (i 3))

/-- One of the two matrices of a block of weights, as the loads of it return it. -/
def part {α : Type} (X : S2x512x256.Idx → α) (p : Fin 2) : S1x1x512x256.Idx → α := fun y => X (ix3 p (y 2) (y 3))

/-- The elements of slot `b`. -/
def slotSet (b : Fin 2) : Finset S2x2x512x256.Idx := Finset.univ.filter fun i => (i 0).val = b.val

theorem mem_slotSet {b : Fin 2} {i : S2x2x512x256.Idx} : i ∈ slotSet b ↔ (i 0).val = b.val := by simp [slotSet]

theorem slotSet_disjoint : Disjoint (slotSet 0) (slotSet 1) := by
  rw [Finset.disjoint_left]; intro i h0 h1
  rw [mem_slotSet] at h0 h1; rw [h0] at h1; exact absurd h1 (by decide)

theorem slotSet_union : slotSet 0 ∪ slotSet 1 = Finset.univ := by
  ext i; simp only [Finset.mem_union, mem_slotSet, Finset.mem_univ, iff_true]
  have h : (i 0).val < 2 := (i 0).isLt
  show (i 0).val = 0 ∨ (i 0).val = 1
  omega

/-- The box of slot `b` is its elements. -/
theorem slot_box (b : Fin 2) (off : Fin 4 → ℕ) (h : off = ![b.val, 0, 0, 0]) (inb : ∀ a, off a + S1x2x512x256.size a ≤ S2x2x512x256.size a) :
    (Rect.unit (s := S2x2x512x256) off S1x2x512x256.size inb).set = slotSet b := by
  subst h; ext i
  rw [Rect.mem_set_unit, mem_slotSet]
  constructor
  · intro h; have := h 0
    have h0 : ((![b.val, 0, 0, 0] : Fin 4 → ℕ) 0) = b.val := rfl
    have h1 : S1x2x512x256.size 0 = 1 := rfl
    omega
  · intro h a
    fin_cases a
    · show b.val ≤ (i 0).val ∧ (i 0).val < b.val + 1
      rw [h]; omega
    · exact ⟨Nat.zero_le _, by show (i 1).val < 0 + 2; have := (i 1).isLt; change (i 1).val < 2 at this; omega⟩
    · exact ⟨Nat.zero_le _, by show (i 2).val < 0 + 512; have := (i 2).isLt; change (i 2).val < 512 at this; omega⟩
    · exact ⟨Nat.zero_le _, by show (i 3).val < 0 + 256; have := (i 3).isLt; change (i 3).val < 256 at this; omega⟩

/-- The box of one of the two matrices of slot `b` lies in the slot. -/
theorem part_box (b p : Fin 2) (off : Fin 4 → ℕ) (h : off = ![b.val, p.val, 0, 0]) (inb : ∀ a, off a + S1x1x512x256.size a ≤ S2x2x512x256.size a) :
    (Rect.unit (s := S2x2x512x256) off S1x1x512x256.size inb).set ⊆ slotSet b := by
  subst h; intro i hi
  rw [Rect.mem_set_unit] at hi
  have := hi 0
  rw [mem_slotSet]
  have h0 : ((![b.val, p.val, 0, 0] : Fin 4 → ℕ) 0) = b.val := rfl
  have h1 : S1x1x512x256.size 0 = 1 := rfl
  omega

/-- A load of one matrix of a spread block is that matrix. -/
theorem part_read {α : Type} (X : S2x512x256.Idx → α) (b p : Fin 2) (off : Fin 4 → ℕ) (h : off = ![b.val, p.val, 0, 0])
    (inb : ∀ a, off a + S1x1x512x256.size a ≤ S2x2x512x256.size a) :
    VecWindow.window (spread X) off S1x1x512x256.size inb = part X p := by
  subst h; funext y
  refine congrArg X ?_
  have h1 : (y 1).val = 0 := by have := (y 1).isLt; change (y 1).val < 1 at this; omega
  funext a
  fin_cases a <;> apply Fin.ext
  · show p.val + 1 * (y 1).val = p.val; omega
  · show 0 + 1 * (y 2).val = (y 2).val; omega
  · show 0 + 1 * (y 3).val = (y 3).val; omega

/-! ## One head's tile -/

/-- Tile `n` of a stack of 256 head tiles, as the loads of it return it. -/
def headTile {α : Type} (K : S256x128x64.Idx → α) (n : Fin 256) : S1x128x64.Idx → α := fun y => K (ix3 n (y 1) (y 2))

theorem headTile_read {α : Type} (K : S256x128x64.Idx → α) (n : Fin 256) (off : Fin 3 → ℕ) (h : off = ![n.val, 0, 0])
    (inb : ∀ a, off a + S1x128x64.size a ≤ S256x128x64.size a) :
    VecWindow.window K off S1x128x64.size inb = headTile K n := by
  subst h; funext y
  refine congrArg K ?_
  have h1 : (y 0).val = 0 := by have := (y 0).isLt; change (y 0).val < 1 at this; omega
  funext a
  fin_cases a <;> apply Fin.ext
  · show n.val + 1 * (y 0).val = n.val; omega
  · show 0 + 1 * (y 1).val = (y 1).val; omega
  · show 0 + 1 * (y 2).val = (y 2).val; omega

/-- Tile of head `h` (of four) and batch row `b` (of two) of device `d`'s group. -/
def tileIx (d : Fin 32) (h : Fin 4) (b : Fin 2) : Fin 256 := ⟨(d.val * 4 + h.val) * 2 + b.val, by omega⟩

/-- The queries of a group: the rows against its block of the query weights. -/
def queries (x : S256x512.Idx → Elt F .bf16) (X : S2x512x256.Idx → Elt F .bf16) : FVec F S256x256 .f32 := k0_pay24 (part X 0) x

/-- One head's queries, cut out of the group's. -/
def headQ (q : FVec F S256x256 .f32) : Fin 2 → Fin 4 → FVec F S128x64 .bf16
  | 0, 0 => truncf .bf16 (extractStridedSlice S128x64 ![0, 0] q slices_S256x256_o0_0_S128x64) bitsLt_bf16_f32
  | 0, 1 => truncf .bf16 (extractStridedSlice S128x64 ![0, 64] q slices_S256x256_o0_64_S128x64) bitsLt_bf16_f32
  | 0, 2 => truncf .bf16 (extractStridedSlice S128x64 ![0, 128] q slices_S256x256_o0_128_S128x64) bitsLt_bf16_f32
  | 0, 3 => truncf .bf16 (extractStridedSlice S128x64 ![0, 192] q slices_S256x256_o0_192_S128x64) bitsLt_bf16_f32
  | 1, 0 => truncf .bf16 (extractStridedSlice S128x64 ![128, 0] q slices_S256x256_o128_0_S128x64) bitsLt_bf16_f32
  | 1, 1 => truncf .bf16 (extractStridedSlice S128x64 ![128, 64] q slices_S256x256_o128_64_S128x64) bitsLt_bf16_f32
  | 1, 2 => truncf .bf16 (extractStridedSlice S128x64 ![128, 128] q slices_S256x256_o128_128_S128x64) bitsLt_bf16_f32
  | 1, 3 => truncf .bf16 (extractStridedSlice S128x64 ![128, 192] q slices_S256x256_o128_192_S128x64) bitsLt_bf16_f32

/-- One head's context: softmax of the scaled scores, against the values. -/
def headCtx (q : FVec F S128x64 .bf16) (k v : S1x128x64.Idx → Elt F .bf16) : FVec F S128x64 .bf16 := k0_pay26 q k v

/-- The context tile of batch row `b` and head `h` of device `d`'s group. -/
def tile (x : S256x512.Idx → Elt F .bf16) (K V : S256x128x64.Idx → Elt F .bf16) (X : S2x512x256.Idx → Elt F .bf16)
    (d : Fin 32) (b : Fin 2) (h : Fin 4) : FVec F S128x64 .bf16 :=
  headCtx (headQ (queries x X) b h) (headTile K (tileIx d h b)) (headTile V (tileIx d h b))

/-! ## The context of a group, assembled from its eight tiles -/

/-- Eight tiles side by side. -/
def assemble {α : Type} (T : Fin 2 → Fin 4 → S128x64.Idx → α) : S256x256.Idx → α := fun i =>
  T ⟨(i 0).val / 128, by have := (i 0).isLt; change (i 0).val < 256 at this; omega⟩
    ⟨(i 1).val / 64, by have := (i 1).isLt; change (i 1).val < 256 at this; omega⟩
    (ix2 ⟨(i 0).val % 128, Nat.mod_lt _ (by decide)⟩ ⟨(i 1).val % 64, Nat.mod_lt _ (by decide)⟩)

/-- A store of a tile through the context buffer. -/
theorem put_write (f : (cc0_scratch2 : Ref sig .tc).ty.Contents (Elt F)) (off : Fin 2 → ℕ) (inb : ∀ a, off a + S128x64.size a ≤ S256x256.size a)
    (w : S128x64.Idx → Elt F .bf16) :
    ((Memref.whole cc0_scratch2 : Memref sig .tc .vmem S256x256 .bf16).access (Rect.unit (s := S256x256) off S128x64.size inb)).write (Elt F) f w Finset.univ
      = VecWindow.put (s := S256x256) f off S128x64.size w := by
  have h := View.read_writes_cons_put (Val := Elt F) (View.whole (cc0_scratch2 : Ref sig .tc)) f (off := off) (off' := off) (size := S128x64.size) inb w [] rfl
  rw [View.writes_nil] at h
  exact h

theorem put_apply {α : Type} (x : S256x256.Idx → α) (r c : ℕ) (w : S128x64.Idx → α) (i : S256x256.Idx) :
    VecWindow.put x ![r, c] S128x64.size w i
      = if h : (r ≤ (i 0).val ∧ (i 0).val < r + 128) ∧ (c ≤ (i 1).val ∧ (i 1).val < c + 64) then
          w (ix2 ⟨(i 0).val - r, by omega⟩ ⟨(i 1).val - c, by omega⟩) else x i := by
  unfold VecWindow.put
  by_cases h : (r ≤ (i 0).val ∧ (i 0).val < r + 128) ∧ (c ≤ (i 1).val ∧ (i 1).val < c + 64)
  · rw [dif_pos h, dif_pos (fun a => by fin_cases a; exacts [h.1, h.2])]
    exact congrArg w (funext fun a => by fin_cases a <;> rfl)
  · rw [dif_neg h, dif_neg (fun h' => h ⟨h' 0, h' 1⟩)]

/-- Eight tiles put over any contents cover them. -/
theorem put_tiles {α : Type} (f : S256x256.Idx → α) (T : Fin 2 → Fin 4 → S128x64.Idx → α) :
    VecWindow.put (VecWindow.put (VecWindow.put (VecWindow.put (VecWindow.put (VecWindow.put (VecWindow.put (VecWindow.put f
      ![0, 0] S128x64.size (T 0 0)) ![0, 64] S128x64.size (T 0 1)) ![0, 128] S128x64.size (T 0 2)) ![0, 192] S128x64.size (T 0 3))
      ![128, 0] S128x64.size (T 1 0)) ![128, 64] S128x64.size (T 1 1)) ![128, 128] S128x64.size (T 1 2)) ![128, 192] S128x64.size (T 1 3)
      = assemble T := by
  funext i
  have h0 : (i 0).val < 256 := (i 0).isLt
  have h1 : (i 1).val < 256 := (i 1).isLt
  have key : ∀ (b : Fin 2) (h : Fin 4) (p : (128 * b.val ≤ (i 0).val ∧ (i 0).val < 128 * b.val + 128) ∧ (64 * h.val ≤ (i 1).val ∧ (i 1).val < 64 * h.val + 64)),
      T b h (ix2 ⟨(i 0).val - 128 * b.val, by omega⟩ ⟨(i 1).val - 64 * h.val, by omega⟩) = assemble T i := by
    intro b h p
    unfold assemble
    have e0 : (⟨(i 0).val / 128, by omega⟩ : Fin 2) = b := Fin.ext (by show (i 0).val / 128 = b.val; omega)
    have e1 : (⟨(i 1).val / 64, by omega⟩ : Fin 4) = h := Fin.ext (by show (i 1).val / 64 = h.val; omega)
    have e2 : (⟨(i 0).val % 128, Nat.mod_lt _ (by decide)⟩ : Fin 128) = ⟨(i 0).val - 128 * b.val, by omega⟩ := Fin.ext (by show (i 0).val % 128 = _; dsimp only; omega)
    have e3 : (⟨(i 1).val % 64, Nat.mod_lt _ (by decide)⟩ : Fin 64) = ⟨(i 1).val - 64 * h.val, by omega⟩ := Fin.ext (by show (i 1).val % 64 = _; dsimp only; omega)
    rw [e0, e1, e2, e3]
  have S : (S128x64.size : Fin 2 → ℕ) = ![128, 64] := rfl
  repeat rw [put_apply]
  split_ifs with p1 p2 p3 p4 p5 p6 p7 p8
  · exact key 1 3 p1
  · exact key 1 2 p2
  · exact key 1 1 p3
  · exact key 1 0 p4
  · exact key 0 3 p5
  · exact key 0 2 p6
  · exact key 0 1 p7
  · exact key 0 0 p8
  · exfalso; omega

/-- The context of device `d`'s group. -/
def context (x : S256x512.Idx → Elt F .bf16) (K V : S256x128x64.Idx → Elt F .bf16) (X : S2x512x256.Idx → Elt F .bf16)
    (d : Fin 32) : S256x256.Idx → Elt F .bf16 := assemble (tile x K V X d)

/-- The accumulated result after device `d`'s group is added. -/
def addGroup (x : S256x512.Idx → Elt F .bf16) (K V : S256x128x64.Idx → Elt F .bf16) (X : S2x512x256.Idx → Elt F .bf16)
    (d : Fin 32) (acc : S2x128x512.Idx → Elt F .f32) : S2x128x512.Idx → Elt F .f32 :=
  k0_pay2 (k0_pay44 (k0_pay23 (part X 1)) (context x K V X d)) acc

end Cert.SliceIdeal.Hop
-- ==== Proof.Slice.Table.lean ====
/-
The ring the devices stand on, read off the table the kernel is given: a device's two neighbours and its place, the
device standing at each place; with them the offsets, the peers and the side conditions of the body, decided over the
32 devices.
-/
module

public import proofs.«01_k».proof.Proof.Slice.Tiles

@[expose] public section

noncomputable section

namespace Cert.SliceIdeal.Hop

open Cert.SliceIdeal Cert.SliceIdeal.Gen
open Idealize.ShloMosaic
open Idealize.ShloMosaic.TcCoe
open Idealize.ShloMosaic.ValueIdx

/-- The table's words. -/
def word (r : Fin 4) (c : Fin 32) : BitVec 32 := lit0 ⟨r.val * 32 + c.val, by omega⟩

set_option backward.proofsInPublic true in
/-- The neighbour a device's clockwise copies go to. -/
def nxt (c : Dev nD) : Dev nD := ⟨(word 0 c).toNat % 32, Nat.mod_lt _ (by decide)⟩
set_option backward.proofsInPublic true in
/-- The neighbour its counter-clockwise copies go to. -/
def prv (c : Dev nD) : Dev nD := ⟨(word 1 c).toNat % 32, Nat.mod_lt _ (by decide)⟩
/-- Its place on the ring. -/
def place (c : Dev nD) : ℕ := (word 2 c).toNat

theorem prv_nxt (c : Dev nD) : prv (nxt c) = c := by revert c; decide +kernel
theorem nxt_prv (c : Dev nD) : nxt (prv c) = c := by revert c; decide +kernel
theorem nxt_ne_prv (c : Dev nD) : nxt c ≠ prv c := by revert c; decide +kernel
theorem nxt_ne (c : Dev nD) : nxt c ≠ c := by revert c; decide +kernel
theorem prv_ne (c : Dev nD) : prv c ≠ c := by revert c; decide +kernel

/-- A number as a table word. -/
def asWord (d : Dev nD) : BitVec 32 := BitVec.ofNat 32 d.val

theorem word0 (c : Dev nD) : word 0 c = asWord (nxt c) := by revert c; decide +kernel
theorem word1 (c : Dev nD) : word 1 c = asWord (prv c) := by revert c; decide +kernel

/-- The side conditions of the words. -/
theorem chk1 (d : Dev nD) : k0_chk1 (asWord d) := by revert d; decide +kernel
theorem chk2 (d : Dev nD) : k0_chk2 (asWord d) := by revert d; decide +kernel
theorem chk3 (c : Dev nD) : k0_chk3 (word 2 c) := by revert c; decide +kernel
theorem chk4 (d : Dev nD) : k0_chk4 (asWord d) := by revert d; decide +kernel
theorem chk5 (t : Fin k0_t1_loop.trips) (d : Dev nD) : k0_chk5 t (asWord d) := by revert t d; decide +kernel

/-- The peers named by the words. -/
theorem dev1_eq (d : Dev nD) (h) : (⟨k0_dev1 (asWord d), h⟩ : Dev nD) = d := Fin.ext (by revert d; decide +kernel)
theorem dev2_eq (d : Dev nD) (h) : (⟨k0_dev2 (asWord d), h⟩ : Dev nD) = d := Fin.ext (by revert d; decide +kernel)
theorem dev3_eq (d : Dev nD) (h) : (⟨k0_dev3 (asWord d), h⟩ : Dev nD) = d := Fin.ext (by revert d; decide +kernel)
theorem dev4_eq (d : Dev nD) (h) : (⟨k0_dev4 (asWord d), h⟩ : Dev nD) = d := Fin.ext (by revert d; decide +kernel)

/-- Where the words are read. -/
theorem off1_eq (c : Dev nD) : k0_off1 c = ![0, c.val] := by revert c; decide +kernel
theorem off2_eq (c : Dev nD) : k0_off2 c = ![1, c.val] := by revert c; decide +kernel
theorem off3_eq (c : Dev nD) : k0_off3 c = ![2, c.val] := by revert c; decide +kernel

/-- The head tiles of a device's group. -/
theorem off15_eq (d : Dev nD) (h : Fin 4) (b : Fin 2) :
    k0_off15 (asWord d) (BitVec.ofNat 32 h.val) (BitVec.ofNat 32 b.val) = ![(tileIx d h b).val, 0, 0] := by revert d h b; decide +kernel
theorem off19_eq (d : Dev nD) (h : Fin 4) (b : Fin 2) :
    k0_off19 (asWord d) (BitVec.ofNat 32 h.val) (BitVec.ofNat 32 b.val) = ![(tileIx d h b).val, 0, 0] := by revert d h b; decide +kernel

end Cert.SliceIdeal.Hop
-- ==== Proof.Slice.Talk.lean ====
/-
How the devices talk: the entry barrier and the two copies of the first hop, one to each ring neighbour, as a schedule
of rounds over five semaphores of each device. The barrier's two signals hand a device the slots it copies into, one
at each neighbour; a copy's arrival hands its receiver the slot at the sender's weights; its departure hands back the
half share of the slot it was read from.
-/
module

public import proofs.«01_k».proof.Proof.Slice.Table
public import proofs.«01_k».proof.Proof.Gen.SliceIdeal.Launch
public import Idealize.ShloMosaic.Lib.Pipeline.Launch
public import Idealize.ShloMosaic.Lib.Pipeline.Kit

@[expose] public section

noncomputable section

namespace Cert.SliceIdeal.Hop

open Cert.SliceIdeal Cert.SliceIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev tM : Memref sig .tc .smem S4x32 .i32 := Memref.whole cc0_stg0_0
abbrev xM : Memref sig .tc .vmem S256x512 .bf16 := Memref.whole cc0_stg1_0
abbrev wM : Memref sig .tc .vmem S2x512x256 .bf16 := Memref.whole cc0_stg2_0
abbrev kM : Memref sig .tc .vmem S256x128x64 .bf16 := Memref.whole cc0_stg3_0
abbrev vM : Memref sig .tc .vmem S256x128x64 .bf16 := Memref.whole cc0_stg4_0
abbrev oM : Memref sig .tc .vmem S2x128x512 .f32 := Memref.whole cc0_stg5_0
/-- The two rings' slots, clockwise and counter-clockwise, and the context buffer. -/
abbrev aM : Memref sig .tc .vmem S2x2x512x256 .bf16 := Memref.whole cc0_scratch0
abbrev bM : Memref sig .tc .vmem S2x2x512x256 .bf16 := Memref.whole cc0_scratch1
abbrev gM : Memref sig .tc .vmem S256x256 .bf16 := Memref.whole cc0_scratch2

/-- The slot of a ring buffer at offsets `off`, as the copies name it. -/
abbrev slotM (M : Memref sig .tc .vmem S2x2x512x256 .bf16) (off : Fin 4 → ℕ) (h : ∀ a, off a + S1x2x512x256.size a ≤ S2x2x512x256.size a) :
    Memref sig .tc .vmem S2x512x256 .bf16 :=
  (M.slice (Rect.unit (s := S2x2x512x256) off S1x2x512x256.size h) (fun _ => rfl)).squeeze S2x512x256 squeezes_S1x2x512x256_S2x512x256

/-! ## The semaphores -/

abbrev barS : Sem sig := barrier0
abbrev sR : DmaSem sig := ⟨6, by decide⟩
abbrev vR : DmaSem sig := ⟨9, by decide⟩
abbrev sL : DmaSem sig := ⟨10, by decide⟩
abbrev vL : DmaSem sig := ⟨13, by decide⟩

abbrev barCell (c : Dev nD) : GSem nD τ sig := ((c : Thread nD τ), .reg barS)
abbrev sRCell (c : Dev nD) : GSem nD τ sig := ((c : Thread nD τ), .dma sR)
abbrev vRCell (c : Dev nD) : GSem nD τ sig := ((c : Thread nD τ), .dma vR)
abbrev sLCell (c : Dev nD) : GSem nD τ sig := ((c : Thread nD τ), .dma sL)
abbrev vLCell (c : Dev nD) : GSem nD τ sig := ((c : Thread nD τ), .dma vL)

/-- The four the launch hands over with the kernel's own scope. -/
abbrev osem : Fin 8 → SemLoc sig := fun k => .dma ⟨6 + k.val, by have := k.isLt; show 6 + k.val < 14; omega⟩

abbrev slot1 : ∀ a, (![1, 0, 0, 0] : Fin 4 → ℕ) a + S1x2x512x256.size a ≤ S2x2x512x256.size a := by decide
/-- What one copy moves, in the units its semaphores count. -/
abbrev N : ℕ := (slotM aM ![1, 0, 0, 0] slot1).view.dmaCredit
theorem N_pos : 0 < N := View.dmaCredit_pos _ (by decide)

/-! ## The slots as assertions -/

/-- A slot of a ring buffer, at a share, holding `f`. -/
def aPts (q : PosShare TreeShare) (c : Dev nD) (b : Fin 2) (f : S2x2x512x256.Idx → Elt F .bf16) : sProp 𝕄 :=
  ((c : Thread nD τ).loc cc0_scratch0) ↦[slotSet b]{q} f
def bPts (q : PosShare TreeShare) (c : Dev nD) (b : Fin 2) (f : S2x2x512x256.Idx → Elt F .bf16) : sProp 𝕄 :=
  ((c : Thread nD τ).loc cc0_scratch1) ↦[slotSet b]{q} f

omit [FloatOps F] in
instance aPts_storable (q) (c : Dev nD) (b f) : BI.Storable (upEmb : UEmb _ 𝕄) (aPts (F := F) q c b f) := by unfold aPts; infer_instance
omit [FloatOps F] in
instance bPts_storable (q) (c : Dev nD) (b f) : BI.Storable (upEmb : UEmb _ 𝕄) (bPts (F := F) q c b f) := by unfold bPts; infer_instance

omit [FloatOps F] in
/-- A slot at the whole share is the slot at each half. -/
theorem a_halves (c : Dev nD) (b f) : aPts (F := F) fullShare c b f ⊣⊢ iprop(aPts fullShare.left c b f ∗ aPts fullShare.right c b f) := by
  unfold aPts; exact pointsTo_share (PosShare.mem_left_op_right fullShare)
omit [FloatOps F] in
theorem b_halves (c : Dev nD) (b f) : bPts (F := F) fullShare c b f ⊣⊢ iprop(bPts fullShare.left c b f ∗ bPts fullShare.right c b f) := by
  unfold bPts; exact pointsTo_share (PosShare.mem_left_op_right fullShare)

omit [FloatOps F] in
/-- A slot's memref covers its elements. -/
theorem aSet (b : Fin 2) (off) (h : off = ![b.val, 0, 0, 0]) (inb) : (slotM aM off inb).view.set = slotSet b := by
  show ((((View.whole cc0_scratch0).slice _).reshape _ _).set) = _
  rw [View.set_reshape, View.set_slice_whole]; exact slot_box b off h inb
omit [FloatOps F] in
theorem bSet (b : Fin 2) (off) (h : off = ![b.val, 0, 0, 0]) (inb) : (slotM bM off inb).view.set = slotSet b := by
  show ((((View.whole cc0_scratch1).slice _).reshape _ _).set) = _
  rw [View.set_reshape, View.set_slice_whole]; exact slot_box b off h inb

omit [FloatOps F] in
/-- Where the slot's memref places an index. -/
theorem aEmb (b : Fin 2) (off) (h : off = ![b.val, 0, 0, 0]) (inb) (y : S2x512x256.Idx) :
    (slotM aM off inb).view.emb y = ix4 b (y 0) (y 1) (y 2) := by
  subst h
  show (Rect.unit (s := S2x2x512x256) _ S1x2x512x256.size inb).emb (Shape.reshapeEquiv _ y) = _
  have e : Shape.reshapeEquiv (s := S1x2x512x256) (s' := S2x512x256) (by decide) y = ix4 (0 : Fin 1) (y 0) (y 1) (y 2) :=
    (congrArg _ (eq_ix3 y)).trans (reshapeEquiv_ix3_1abc _ (y 0) (y 1) (y 2))
  rw [e]
  funext a; fin_cases a <;> apply Fin.ext
  · show b.val + 1 * 0 = b.val; omega
  · show 0 + 1 * (y 0).val = (y 0).val; omega
  · show 0 + 1 * (y 1).val = (y 1).val; omega
  · show 0 + 1 * (y 2).val = (y 2).val; omega
omit [FloatOps F] in
theorem bEmb (b : Fin 2) (off) (h : off = ![b.val, 0, 0, 0]) (inb) (y : S2x512x256.Idx) :
    (slotM bM off inb).view.emb y = ix4 b (y 0) (y 1) (y 2) := aEmb b off h inb y

/-- What a copy of a slot leaves in the slot it lands in. -/
theorem aLands (b b' : Fin 2) (off off') (h : off = ![b.val, 0, 0, 0]) (h' : off' = ![b'.val, 0, 0, 0]) (inb inb')
    (fd : S2x2x512x256.Idx → Elt F .bf16) (X : S2x512x256.Idx → Elt F .bf16) (i : S2x2x512x256.Idx) (hi : i ∈ (slotM aM off' inb').view.set) :
    (slotM aM off' inb').view.write (Elt F) fd ((slotM aM off inb).view.read (Elt F) (spread X)) Finset.univ i = spread X i := by
  obtain ⟨y, -, rfl⟩ := Finset.mem_map.mp hi
  rw [View.write_emb_of_mem _ _ (Finset.mem_univ y), View.read_apply, cast_cast, cast_eq]
  show spread X ((slotM aM off inb).view.emb y) = spread X ((slotM aM off' inb').view.emb y)
  rw [aEmb b off h inb y, aEmb b' off' h' inb' y]; rfl
theorem bLands (b b' : Fin 2) (off off') (h : off = ![b.val, 0, 0, 0]) (h' : off' = ![b'.val, 0, 0, 0]) (inb inb')
    (fd : S2x2x512x256.Idx → Elt F .bf16) (X : S2x512x256.Idx → Elt F .bf16) (i : S2x2x512x256.Idx) (hi : i ∈ (slotM bM off' inb').view.set) :
    (slotM bM off' inb').view.write (Elt F) fd ((slotM bM off inb).view.read (Elt F) (spread X)) Finset.univ i = spread X i :=
  aLands b b' off off' h h' inb inb' fd X i hi

/-! ## The schedule -/

variable (w : Dev nD → S2x512x256.Idx → Elt F .bf16)

/-- What the barrier hands device `d`: `nxt d`'s clockwise landing slot, `prv d`'s counter-clockwise one. -/
def barPayT (d : Dev nD) : sProp 𝕄 := iprop((∃ f, aPts fullShare (nxt d) 1 f) ∗ reached ER (vRCell (nxt d)) 0)
def barPayF (d : Dev nD) : sProp 𝕄 := iprop((∃ f, bPts fullShare (prv d) 1 f) ∗ reached ER (vLCell (prv d)) 0)

abbrev IsBar (g : GSem nD τ sig) : Prop := g.1.2 = .tc ∧ g.2 = .reg barS
abbrev IsXfer (g : GSem nD τ sig) : Prop := g.1.2 = .tc ∧ (g.2 = .dma sR ∨ g.2 = .dma vR ∨ g.2 = .dma sL ∨ g.2 = .dma vL)

def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPayT g.1.1 else barPayF g.1.1)
    else if g.2 = .dma sR then aPts fullShare.right g.1.1 0 (spread (w g.1.1))
    else if g.2 = .dma vR then aPts fullShare g.1.1 1 (spread (w (prv g.1.1)))
    else if g.2 = .dma sL then bPts fullShare.right g.1.1 0 (spread (w g.1.1))
    else if g.2 = .dma vL then bPts fullShare g.1.1 1 (spread (w (nxt g.1.1)))
    else iprop(emp)
  amount_pos g _ _ _ := by
    by_cases h : g.2 = .reg barS
    · rw [if_pos h]; exact Nat.one_pos
    · rw [if_neg h]; exact N_pos

instance sched_storable (g : GSem nD τ sig) (r : ℕ) (d : Bool) : BI.Storable (upEmb : UEmb _ 𝕄) ((sched (F := F) w).payload g r d) := by
  dsimp only [sched]; unfold barPayT barPayF
  (repeat' split) <;> infer_instance

section Sched
variable (c : Dev nD)

theorem duties_bar : (sched (F := F) w).duties (barCell c) 0 = Finset.univ := by dsimp only [sched]; exact if_pos ⟨rfl, rfl, rfl⟩
theorem duties_xfer (q : DmaSem sig) (hq : q = sR ∨ q = vR ∨ q = sL ∨ q = vL) : (sched (F := F) w).duties ((c : Thread nD τ), .dma q) 0 = {false} := by
  dsimp only [sched]; rw [if_neg (fun h => by cases h.2.2)]
  exact if_pos ⟨rfl, rfl, by rcases hq with rfl | rfl | rfl | rfl <;> simp⟩
theorem duties_later (g : GSem nD τ sig) : ∀ r, 1 ≤ r → (sched (F := F) w).duties g r = ∅ :=
  fun r hr => by dsimp only [sched]; rw [if_neg fun h => by omega, if_neg fun h => by omega]

theorem amount_bar (d : Bool) : (sched (F := F) w).amount (barCell c) 0 d = 1 := by dsimp only [sched]; exact if_pos rfl
theorem amount_xfer (q : DmaSem sig) (d : Bool) : (sched (F := F) w).amount ((c : Thread nD τ), .dma q) 0 d = N := by
  dsimp only [sched]; exact if_neg (fun h => by cases h)

theorem expect_bar : (sched (F := F) w).expect (barCell c) 0 = 2 := by
  unfold Schedule.expect Schedule.amountOf
  rw [duties_bar, Finset.sum_congr rfl fun d _ => amount_bar w c d, Finset.sum_const, Finset.card_univ, Fintype.card_bool, smul_eq_mul]
theorem expect_xfer (q : DmaSem sig) (hq : q = sR ∨ q = vR ∨ q = sL ∨ q = vL) : (sched (F := F) w).expect ((c : Thread nD τ), .dma q) 0 = N := by
  unfold Schedule.expect Schedule.amountOf; rw [duties_xfer w c q hq, Finset.sum_singleton, amount_xfer]

theorem payload_bar_true : (sched (F := F) w).payload (barCell c) 0 true = barPayT c := by dsimp only [sched]; rw [if_pos rfl, if_pos rfl]
theorem payload_bar_false : (sched (F := F) w).payload (barCell c) 0 false = barPayF c := by
  dsimp only [sched]; rw [if_pos rfl]; exact if_neg Bool.false_ne_true
theorem payload_sR (d : Bool) : (sched (F := F) w).payload (sRCell c) 0 d = aPts fullShare.right c 0 (spread (w c)) := by
  dsimp only [sched]; rw [if_neg (fun h => by cases h), if_pos rfl]
theorem payload_vR (d : Bool) : (sched (F := F) w).payload (vRCell c) 0 d = aPts fullShare c 1 (spread (w (prv c))) := by
  dsimp only [sched]; rw [if_neg (fun h => by cases h), if_neg (by decide), if_pos rfl]
theorem payload_sL (d : Bool) : (sched (F := F) w).payload (sLCell c) 0 d = bPts fullShare.right c 0 (spread (w c)) := by
  dsimp only [sched]; rw [if_neg (fun h => by cases h), if_neg (by decide), if_neg (by decide), if_pos rfl]
theorem payload_vL (d : Bool) : (sched (F := F) w).payload (vLCell c) 0 d = bPts fullShare c 1 (spread (w (nxt c))) := by
  dsimp only [sched]; rw [if_neg (fun h => by cases h), if_neg (by decide), if_neg (by decide), if_neg (by decide), if_pos rfl]

theorem rest_bar : bigSep ((sched (F := F) w).duties (barCell c) 0 \ ∅) (fun d => (sched (F := F) w).payload (barCell c) 0 d) = iprop(barPayF c ∗ barPayT c) := by
  rw [Finset.sdiff_empty, duties_bar, bigSep_univ_eq_bigSepL [false, true] (by decide) (by decide), bigSepL_cons_cons, bigSepL_singleton,
    payload_bar_false, payload_bar_true]
  rfl
theorem rest_xfer (q : DmaSem sig) (hq : q = sR ∨ q = vR ∨ q = sL ∨ q = vL) :
    bigSep ((sched (F := F) w).duties ((c : Thread nD τ), .dma q) 0 \ ∅) (fun d => (sched (F := F) w).payload ((c : Thread nD τ), .dma q) 0 d)
      = (sched (F := F) w).payload ((c : Thread nD τ), .dma q) 0 false := by
  rw [Finset.sdiff_empty, duties_xfer w c q hq, bigSep_singleton]

end Sched

/-! ## What a device owes, and the levels its waits are ordered by -/

def O₃ (c : Dev nD) : CellTallies nD τ sig Unit := tallyAt (vLCell (prv c)) () N
def O₂ (c : Dev nD) : CellTallies nD τ sig Unit := O₃ c + tallyAt (vRCell (nxt c)) () N
def O₁ (c : Dev nD) : CellTallies nD τ sig Unit := O₂ c + tallyAt (barCell (nxt c)) () 1
/-- At launch: a unit to each neighbour's barrier, a copy's worth to each neighbour's arrival semaphore. -/
def O₀ (c : Dev nD) : CellTallies nD τ sig Unit := O₁ c + tallyAt (barCell (prv c)) () 1

def L (g : GSem nD τ sig) : Finset Unit := if g.1.2 = .tc then {()} else ∅
def lv (g : GSem nD τ sig) (_ : Unit) : ℕ := if g.2 = .reg barS then 1 else if g.2 = .dma vR ∨ g.2 = .dma vL then 2 else 0

theorem lv_bar (c : Dev nD) (u : Unit) : lv (barCell c) u = 1 := if_pos rfl
theorem lv_vR (c : Dev nD) (u : Unit) : lv (vRCell c) u = 2 := by unfold lv; rw [if_neg (fun h => by cases h), if_pos (Or.inl rfl)]
theorem lv_vL (c : Dev nD) (u : Unit) : lv (vLCell c) u = 2 := by unfold lv; rw [if_neg (fun h => by cases h), if_pos (Or.inr rfl)]

theorem L_of_ne (g : GSem nD τ sig) (h : g.1.2 ≠ .tc) : L g = ∅ := if_neg h
theorem L_tc (c : Dev nD) (sm : SemLoc sig) : L ((c : Thread nD τ), sm) = {()} := if_pos rfl

theorem O₂_pos {c : Dev nD} {g : GSem nD τ sig} {u : Unit} (h : 0 < O₂ c g u) : g = vLCell (prv c) ∨ g = vRCell (nxt c) := by
  unfold O₂ O₃ at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h
theorem O₀_pos {c : Dev nD} {g : GSem nD τ sig} {u : Unit} (h : 0 < O₀ c g u) :
    (g = vLCell (prv c) ∨ g = vRCell (nxt c)) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or] at hn
  obtain ⟨h1, h2⟩ := hn; rw [not_or] at h2
  rw [if_neg (fun h' => h2.1 h'.1), if_neg (fun h' => h2.2 h'.1)] at h
  simp only [Nat.add_zero] at h
  exact h1 (O₂_pos h)

/-- Everything owed at launch is owed above level 0. -/
theorem O₀_lv {c : Dev nD} {g : GSem nD τ sig} {u : Unit} (h : 0 < O₀ c g u) : u ∈ L g ∧ 0 < lv g u := by
  rcases O₀_pos h with (rfl | rfl) | rfl | rfl
  · exact ⟨Finset.mem_singleton_self _, by rw [lv_vL]; decide⟩
  · exact ⟨Finset.mem_singleton_self _, by rw [lv_vR]; decide⟩
  · exact ⟨Finset.mem_singleton_self _, by rw [lv_bar]; decide⟩
  · exact ⟨Finset.mem_singleton_self _, by rw [lv_bar]; decide⟩

omit [FloatOps F] in
/-- At its barrier wait a device owes only the two copies, above the barrier. -/
theorem mayWait_bar (c : Dev nD) : (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> exact Finset.mem_singleton_self _)
    (fun p hp => by rw [Finset.mem_singleton.mp hp]; dsimp only [lv]; rw [if_pos rfl])
    (fun g u hg => by
      rcases O₂_pos hg with rfl | rfl
      · rw [lv_vL]; decide
      · rw [lv_vR]; decide)

end Cert.SliceIdeal.Hop
-- ==== Proof.Slice.Trips.lean ====
/-
The two trips of the loop: which branches each takes, the slots and semaphores it names, the groups it reads the head
tiles of.
-/
module

public import proofs.«01_k».proof.Proof.Slice.Talk

@[expose] public section

noncomputable section

namespace Cert.SliceIdeal.Hop

open Cert.SliceIdeal Cert.SliceIdeal.Gen
open Idealize.ShloMosaic
open Idealize.ShloMosaic.TcCoe
open Idealize.ShloMosaic.ValueIdx
open Idealize.SL Idealize.SL.RA Idealize.SL.BI

abbrev t0 : Fin k0_t1_loop.trips := ⟨0, by decide⟩
abbrev t1 : Fin k0_t1_loop.trips := ⟨1, by decide⟩

theorem c1_0 : k0_cond1 t0 = 1#1 := by decide +kernel
theorem c2_0 : k0_cond2 t0 = 1#1 := by decide +kernel
theorem c3_0 : ¬ k0_cond3 t0 = 1#1 := by decide +kernel
theorem c4_0 : k0_cond4 t0 = 1#1 := by decide +kernel
theorem c5_0 : k0_cond5 t0 = 1#1 := by decide +kernel
theorem c1_1 : ¬ k0_cond1 t1 = 1#1 := by decide +kernel
theorem c2_1 : ¬ k0_cond2 t1 = 1#1 := by decide +kernel
theorem c3_1 : k0_cond3 t1 = 1#1 := by decide +kernel
theorem c4_1 : ¬ k0_cond4 t1 = 1#1 := by decide +kernel
theorem c5_1 : ¬ k0_cond5 t1 = 1#1 := by decide +kernel

theorem o6 : k0_off6 t0 = ![1, 0, 0, 0] := by decide +kernel
theorem o7 : k0_off7 t0 = ![0, 0, 0, 0] := by decide +kernel
theorem o10 : k0_off10 t0 = ![1, 0, 0, 0] := by decide +kernel
theorem o11 : k0_off11 t0 = ![0, 0, 0, 0] := by decide +kernel
theorem o21 : k0_off21 t0 = ![0, 0, 0, 0] := by decide +kernel
theorem o22 : k0_off22 t0 = ![1, 0, 0, 0] := by decide +kernel
theorem o25 : k0_off25 t0 = ![0, 0, 0, 0] := by decide +kernel
theorem o26 : k0_off26 t0 = ![1, 0, 0, 0] := by decide +kernel
theorem o13_0 : k0_off13 t0 = ![0, 0, 0, 0] := by decide +kernel
theorem o14_0 : k0_off14 t0 = ![0, 1, 0, 0] := by decide +kernel
theorem o13_1 : k0_off13 t1 = ![1, 0, 0, 0] := by decide +kernel
theorem o14_1 : k0_off14 t1 = ![1, 1, 0, 0] := by decide +kernel
theorem o17 : k0_off17 t1 = ![1, 0, 0, 0] := by decide +kernel
theorem o18 : k0_off18 t1 = ![1, 1, 0, 0] := by decide +kernel

/-- The semaphores of the four arrays, by slot. -/
theorem sem_at (base : ℕ) (hb) (b : Fin 2) (off : Fin 1 → ℕ) (h : off = ![b.val]) (inb) (e : (Rect.unit (s := S2) off S1.size inb).shape.Squeezes S_) :
    ((((SemArray.consecutive base S2 hb : DmaSems sig S2).slice (Rect.unit (s := S2) off S1.size inb)).squeeze S_ e).sem).val = base + b.val := by
  subst h
  show base + (S2.rowMajor _).val = _
  rw [Shape.rowMajor_val_one]
  congr 1
  generalize Shape.reshapeEquiv _ _ = j
  have h0 : (j 0).val = 0 := by have := (j 0).isLt; have e : S1.size 0 = 1 := rfl; exact Nat.lt_one_iff.mp (by exact this)
  show b.val + 1 * (j 0).val = b.val
  rw [h0]; omega
theorem sem3 (b : Fin 2) (off : Fin 1 → ℕ) (h : off = ![b.val]) (inb) (e : (Rect.unit (s := S2) off S1.size inb).shape.Squeezes S_) :
    ((cc0_scratch3.slice (Rect.unit (s := S2) off S1.size inb)).squeeze S_ e).sem = (⟨6 + b.val, by have := b.isLt; show _ < 14; omega⟩ : DmaSem sig) :=
  Fin.ext (sem_at 6 _ b off h inb e)
theorem sem4 (b : Fin 2) (off : Fin 1 → ℕ) (h : off = ![b.val]) (inb) (e : (Rect.unit (s := S2) off S1.size inb).shape.Squeezes S_) :
    ((cc0_scratch4.slice (Rect.unit (s := S2) off S1.size inb)).squeeze S_ e).sem = (⟨8 + b.val, by have := b.isLt; show _ < 14; omega⟩ : DmaSem sig) :=
  Fin.ext (sem_at 8 _ b off h inb e)
theorem sem5 (b : Fin 2) (off : Fin 1 → ℕ) (h : off = ![b.val]) (inb) (e : (Rect.unit (s := S2) off S1.size inb).shape.Squeezes S_) :
    ((cc0_scratch5.slice (Rect.unit (s := S2) off S1.size inb)).squeeze S_ e).sem = (⟨10 + b.val, by have := b.isLt; show _ < 14; omega⟩ : DmaSem sig) :=
  Fin.ext (sem_at 10 _ b off h inb e)
theorem sem6 (b : Fin 2) (off : Fin 1 → ℕ) (h : off = ![b.val]) (inb) (e : (Rect.unit (s := S2) off S1.size inb).shape.Squeezes S_) :
    ((cc0_scratch6.slice (Rect.unit (s := S2) off S1.size inb)).squeeze S_ e).sem = (⟨12 + b.val, by have := b.isLt; show _ < 14; omega⟩ : DmaSem sig) :=
  Fin.ext (sem_at 12 _ b off h inb e)

/-- The ones the first hop names. -/
theorem o4 : k0_off4 t0 = ![0] := by decide +kernel
theorem o5 : k0_off5 t0 = ![1] := by decide +kernel
theorem o8 : k0_off8 t0 = ![0] := by decide +kernel
theorem o9 : k0_off9 t0 = ![1] := by decide +kernel
theorem o20 : k0_off20 t0 = ![0] := by decide +kernel
theorem o23 : k0_off23 t0 = ![1] := by decide +kernel
theorem o24 : k0_off24 t0 = ![0] := by decide +kernel
theorem o27 : k0_off27 t0 = ![1] := by decide +kernel

/-- The words naming the groups: at the first trip a device's own, at the second its neighbours'. -/
theorem pos_0 (c : Dev nD) : ∃ p : Fin 32, k0_off12 (word 2 c) t0 = ![3, p.val] ∧ word 3 p = asWord c := by revert c; decide +kernel
theorem pos_1 (c : Dev nD) : ∃ p : Fin 32, k0_off12 (word 2 c) t1 = ![3, p.val] ∧ word 3 p = asWord (prv c) := by revert c; decide +kernel
theorem pos_1' (c : Dev nD) : ∃ p : Fin 32, k0_off16 (word 2 c) t1 = ![3, p.val] ∧ word 3 p = asWord (nxt c) := by revert c; decide +kernel

end Cert.SliceIdeal.Hop
-- ==== Proof.Slice.Steps.lean ====
/-
The steps of the kernel's body that touch memory, each as one rule: a word of the table, one matrix of a ring slot,
a whole buffer, and a head's tile (the loads of its keys and values, the dead load and the store of its context).
-/
module

public import proofs.«01_k».proof.Proof.Slice.Trips

@[expose] public section

noncomputable section

namespace Cert.SliceIdeal.Hop

open Cert.SliceIdeal Cert.SliceIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ
abbrev 𝒱₀ : Variants := Variants.none

/-- A program of device `c`'s core leads to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The whole table, as a buffer's contents. -/
def table : S4x32.Idx → BitVec 32 := fun i => word (i 0) (i 1)

/-- A whole buffer of device `c`. -/
def buf (c : Dev nD) (b : Ref sig .tc) (f : b.ty.Contents (Elt F)) : sProp 𝕄 := ((c : Thread nD τ).loc b) ↦{fullShare} f

section
variable (c : Dev nD)

/-- A word of the table. -/
theorem wp_word {α : Type} {Q : α → sProp 𝕄} (r : Fin 4) (p : Fin 32) (v : BitVec 32) (hv : word r p = v) (off : Fin 2 → ℕ) (h : off = ![r.val, p.val]) (inb : ∀ a, off a + S1x1.size a ≤ S4x32.size a)
    {hl : tM.view.LoadsAt (Rect.unit (s := S4x32) off S1x1.size inb).toLoadRect} {k : (S1x1.Idx → Elt F .i32) → Prog (TpuEff nD τ sig (Elt F) Λ₀ .tc) α} :
    buf (F := F) c cc0_stg0_0 table
      ⊢ iprop((buf (F := F) c cc0_stg0_0 table -∗ WP c (k (fun _ => v)) Q)
        -∗ WP c (.op (.load tM (Rect.unit (s := S4x32) off S1x1.size inb).toLoadRect hl) k) Q) := by
  subst h hv
  have e : ((tM.access (Rect.unit (s := S4x32) ![r.val, p.val] S1x1.size inb)).read (Elt F) (table : (cc0_stg0_0 : Ref sig .tc).ty.Contents (Elt F))) = fun _ => word r p := by
    funext j
    have h0 : (j 0).val = 0 := Nat.lt_one_iff.mp (j 0).isLt
    have h1 : (j 1).val = 0 := Nat.lt_one_iff.mp (j 1).isLt
    show word _ _ = _
    congr 1 <;> apply Fin.ext
    · show r.val + 1 * (j 0).val = r.val; omega
    · show p.val + 1 * (j 1).val = p.val; omega
  unfold buf
  iintro H Hk
  iapply (wp_load_rect 𝒱₀ (c : Thread nD τ) none Set.univ (m := tM) (r := Rect.unit (s := S4x32) ![r.val, p.val] S1x1.size inb) (Finset.subset_univ _)) $$ H
  iintro H
  rw [e]
  iapply Hk; iexact H

/-- One matrix of a clockwise slot, and of a counter-clockwise one. -/
theorem wp_matR {α : Type} {Q : α → sProp 𝕄} (b p : Fin 2) (q : PosShare TreeShare) (X : S2x512x256.Idx → Elt F .bf16) (off : Fin 4 → ℕ) (h : off = ![b.val, p.val, 0, 0])
    (inb : ∀ a, off a + S1x1x512x256.size a ≤ S2x2x512x256.size a) {hl : aM.view.LoadsAt (Rect.unit (s := S2x2x512x256) off S1x1x512x256.size inb).toLoadRect}
    {k : (S1x1x512x256.Idx → Elt F .bf16) → Prog (TpuEff nD τ sig (Elt F) Λ₀ .tc) α} :
    aPts q c b (spread X)
      ⊢ iprop((aPts q c b (spread X) -∗ WP c (k (part X p)) Q)
        -∗ WP c (.op (.load aM (Rect.unit (s := S2x2x512x256) off S1x1x512x256.size inb).toLoadRect hl) k) Q) := by
  have e : ((aM.access (Rect.unit (s := S2x2x512x256) off S1x1x512x256.size inb)).read (Elt F) (spread X)) = part X p :=
    part_read X b p off h inb
  have hs : (aM.access (Rect.unit (s := S2x2x512x256) off S1x1x512x256.size inb)).set ⊆ slotSet b := by
    rw [View.set_slice_whole]; exact part_box b p off h inb
  unfold aPts
  iintro H Hk
  iapply (wp_load_rect 𝒱₀ (c : Thread nD τ) none Set.univ (m := aM) (r := Rect.unit (s := S2x2x512x256) off S1x1x512x256.size inb) hs) $$ H
  iintro H
  rw [e]
  iapply Hk; iexact H
theorem wp_matL {α : Type} {Q : α → sProp 𝕄} (b p : Fin 2) (q : PosShare TreeShare) (X : S2x512x256.Idx → Elt F .bf16) (off : Fin 4 → ℕ) (h : off = ![b.val, p.val, 0, 0])
    (inb : ∀ a, off a + S1x1x512x256.size a ≤ S2x2x512x256.size a) {hl : bM.view.LoadsAt (Rect.unit (s := S2x2x512x256) off S1x1x512x256.size inb).toLoadRect}
    {k : (S1x1x512x256.Idx → Elt F .bf16) → Prog (TpuEff nD τ sig (Elt F) Λ₀ .tc) α} :
    bPts q c b (spread X)
      ⊢ iprop((bPts q c b (spread X) -∗ WP c (k (part X p)) Q)
        -∗ WP c (.op (.load bM (Rect.unit (s := S2x2x512x256) off S1x1x512x256.size inb).toLoadRect hl) k) Q) := by
  have e : ((bM.access (Rect.unit (s := S2x2x512x256) off S1x1x512x256.size inb)).read (Elt F) (spread X)) = part X p :=
    part_read X b p off h inb
  have hs : (bM.access (Rect.unit (s := S2x2x512x256) off S1x1x512x256.size inb)).set ⊆ slotSet b := by
    rw [View.set_slice_whole]; exact part_box b p off h inb
  unfold bPts
  iintro H Hk
  iapply (wp_load_rect 𝒱₀ (c : Thread nD τ) none Set.univ (m := bM) (r := Rect.unit (s := S2x2x512x256) off S1x1x512x256.size inb) hs) $$ H
  iintro H
  rw [e]
  iapply Hk; iexact H

/-- The rows, the result, the context. -/
theorem wp_x {α : Type} {Q : α → sProp 𝕄} (f : S256x512.Idx → Elt F .bf16) (off : Fin 2 → ℕ) (h : off = fun _ => 0) (inb : ∀ a, off a + S256x512.size a ≤ S256x512.size a)
    {hl : xM.view.LoadsAt (Rect.unit (s := S256x512) off S256x512.size inb).toLoadRect} {k : (S256x512.Idx → Elt F .bf16) → Prog (TpuEff nD τ sig (Elt F) Λ₀ .tc) α} :
    buf (F := F) c cc0_stg1_0 f
      ⊢ iprop((buf (F := F) c cc0_stg1_0 f -∗ WP c (k f) Q) -∗ WP c (.op (.load xM (Rect.unit (s := S256x512) off S256x512.size inb).toLoadRect hl) k) Q) := by
  have e := Memref.readAt_unit_zero (Elt F) cc0_stg1_0 h inb f
  unfold buf
  iintro H Hk
  iapply (wp_load_rect 𝒱₀ (c : Thread nD τ) none Set.univ (m := xM) (r := Rect.unit (s := S256x512) off S256x512.size inb) (Finset.subset_univ _)) $$ H
  iintro H
  rw [show ((xM.access (Rect.unit (s := S256x512) off S256x512.size inb)).read (Elt F) f) = f from e]
  iapply Hk; iexact H
theorem wp_w {α : Type} {Q : α → sProp 𝕄} (f : S2x512x256.Idx → Elt F .bf16) (off : Fin 3 → ℕ) (h : off = fun _ => 0) (inb : ∀ a, off a + S2x512x256.size a ≤ S2x512x256.size a)
    {hl : wM.view.LoadsAt (Rect.unit (s := S2x512x256) off S2x512x256.size inb).toLoadRect} {k : (S2x512x256.Idx → Elt F .bf16) → Prog (TpuEff nD τ sig (Elt F) Λ₀ .tc) α} :
    buf (F := F) c cc0_stg2_0 f
      ⊢ iprop((buf (F := F) c cc0_stg2_0 f -∗ WP c (k f) Q) -∗ WP c (.op (.load wM (Rect.unit (s := S2x512x256) off S2x512x256.size inb).toLoadRect hl) k) Q) := by
  have e := Memref.readAt_unit_zero (Elt F) cc0_stg2_0 h inb f
  unfold buf
  iintro H Hk
  iapply (wp_load_rect 𝒱₀ (c : Thread nD τ) none Set.univ (m := wM) (r := Rect.unit (s := S2x512x256) off S2x512x256.size inb) (Finset.subset_univ _)) $$ H
  iintro H
  rw [show ((wM.access (Rect.unit (s := S2x512x256) off S2x512x256.size inb)).read (Elt F) f) = f from e]
  iapply Hk; iexact H
theorem wp_o {α : Type} {Q : α → sProp 𝕄} (f : S2x128x512.Idx → Elt F .f32) (off : Fin 3 → ℕ) (h : off = fun _ => 0) (inb : ∀ a, off a + S2x128x512.size a ≤ S2x128x512.size a)
    {hl : oM.view.LoadsAt (Rect.unit (s := S2x128x512) off S2x128x512.size inb).toLoadRect} {k : (S2x128x512.Idx → Elt F .f32) → Prog (TpuEff nD τ sig (Elt F) Λ₀ .tc) α} :
    buf (F := F) c cc0_stg5_0 f
      ⊢ iprop((buf (F := F) c cc0_stg5_0 f -∗ WP c (k f) Q) -∗ WP c (.op (.load oM (Rect.unit (s := S2x128x512) off S2x128x512.size inb).toLoadRect hl) k) Q) := by
  have e := Memref.readAt_unit_zero (Elt F) cc0_stg5_0 h inb f
  unfold buf
  iintro H Hk
  iapply (wp_load_rect 𝒱₀ (c : Thread nD τ) none Set.univ (m := oM) (r := Rect.unit (s := S2x128x512) off S2x128x512.size inb) (Finset.subset_univ _)) $$ H
  iintro H
  rw [show ((oM.access (Rect.unit (s := S2x128x512) off S2x128x512.size inb)).read (Elt F) f) = f from e]
  iapply Hk; iexact H
theorem wp_g {α : Type} {Q : α → sProp 𝕄} (f : S256x256.Idx → Elt F .bf16) (off : Fin 2 → ℕ) (h : off = fun _ => 0) (inb : ∀ a, off a + S256x256.size a ≤ S256x256.size a)
    {hl : gM.view.LoadsAt (Rect.unit (s := S256x256) off S256x256.size inb).toLoadRect} {k : (S256x256.Idx → Elt F .bf16) → Prog (TpuEff nD τ sig (Elt F) Λ₀ .tc) α} :
    buf (F := F) c cc0_scratch2 f
      ⊢ iprop((buf (F := F) c cc0_scratch2 f -∗ WP c (k f) Q) -∗ WP c (.op (.load gM (Rect.unit (s := S256x256) off S256x256.size inb).toLoadRect hl) k) Q) := by
  have e := Memref.readAt_unit_zero (Elt F) cc0_scratch2 h inb f
  unfold buf
  iintro H Hk
  iapply (wp_load_rect 𝒱₀ (c : Thread nD τ) none Set.univ (m := gM) (r := Rect.unit (s := S256x256) off S256x256.size inb) (Finset.subset_univ _)) $$ H
  iintro H
  rw [show ((gM.access (Rect.unit (s := S256x256) off S256x256.size inb)).read (Elt F) f) = f from e]
  iapply Hk; iexact H
theorem wp_oput {α : Type} {Q : α → sProp 𝕄} (f w : S2x128x512.Idx → Elt F .f32) (off : Fin 3 → ℕ) (h : off = fun _ => 0) (inb : ∀ a, off a + S2x128x512.size a ≤ S2x128x512.size a)
    {hx : (oM.access (Rect.unit (s := S2x128x512) off S2x128x512.size inb)).Stores Finset.univ} {hm} {k : PUnit → Prog (TpuEff nD τ sig (Elt F) Λ₀ .tc) α} :
    buf (F := F) c cc0_stg5_0 f
      ⊢ iprop((buf (F := F) c cc0_stg5_0 w -∗ WP c (k ⟨⟩) Q) -∗ WP c (.op (.store oM (Rect.unit (s := S2x128x512) off S2x128x512.size inb) w Finset.univ hx hm) k) Q) := by
  have e := Memref.write_access_unit_zero_univ (Elt F) cc0_stg5_0 h inb f w
  unfold buf
  iintro H Hk
  iapply (wp_store 𝒱₀ (c : Thread nD τ) none Set.univ (m := oM) (r := Rect.unit (s := S2x128x512) off S2x128x512.size inb) (Finset.subset_univ _)) $$ H
  iintro H
  rw [show ((oM.access (Rect.unit (s := S2x128x512) off S2x128x512.size inb)).write (Elt F) f w Finset.univ) = w from e]
  iapply Hk; iexact H

/-- A head's keys, its values, and its context put in place (behind a load whose value is dropped). -/
theorem wp_k {α : Type} {Q : α → sProp 𝕄} (n : Fin 256) (K : S256x128x64.Idx → Elt F .bf16) (off : Fin 3 → ℕ) (h : off = ![n.val, 0, 0]) (inb : ∀ a, off a + S1x128x64.size a ≤ S256x128x64.size a)
    {hl : kM.view.LoadsAt (Rect.unit (s := S256x128x64) off S1x128x64.size inb).toLoadRect} {k : (S1x128x64.Idx → Elt F .bf16) → Prog (TpuEff nD τ sig (Elt F) Λ₀ .tc) α} :
    buf (F := F) c cc0_stg3_0 K
      ⊢ iprop((buf (F := F) c cc0_stg3_0 K -∗ WP c (k (headTile K n)) Q) -∗ WP c (.op (.load kM (Rect.unit (s := S256x128x64) off S1x128x64.size inb).toLoadRect hl) k) Q) := by
  unfold buf
  iintro H Hk
  iapply (wp_load_rect 𝒱₀ (c : Thread nD τ) none Set.univ (m := kM) (r := Rect.unit (s := S256x128x64) off S1x128x64.size inb) (Finset.subset_univ _)) $$ H
  iintro H
  rw [show ((kM.access (Rect.unit (s := S256x128x64) off S1x128x64.size inb)).read (Elt F) K) = headTile K n from headTile_read K n off h inb]
  iapply Hk; iexact H
theorem wp_v {α : Type} {Q : α → sProp 𝕄} (n : Fin 256) (K : S256x128x64.Idx → Elt F .bf16) (off : Fin 3 → ℕ) (h : off = ![n.val, 0, 0]) (inb : ∀ a, off a + S1x128x64.size a ≤ S256x128x64.size a)
    {hl : vM.view.LoadsAt (Rect.unit (s := S256x128x64) off S1x128x64.size inb).toLoadRect} {k : (S1x128x64.Idx → Elt F .bf16) → Prog (TpuEff nD τ sig (Elt F) Λ₀ .tc) α} :
    buf (F := F) c cc0_stg4_0 K
      ⊢ iprop((buf (F := F) c cc0_stg4_0 K -∗ WP c (k (headTile K n)) Q) -∗ WP c (.op (.load vM (Rect.unit (s := S256x128x64) off S1x128x64.size inb).toLoadRect hl) k) Q) := by
  unfold buf
  iintro H Hk
  iapply (wp_load_rect 𝒱₀ (c : Thread nD τ) none Set.univ (m := vM) (r := Rect.unit (s := S256x128x64) off S1x128x64.size inb) (Finset.subset_univ _)) $$ H
  iintro H
  rw [show ((vM.access (Rect.unit (s := S256x128x64) off S1x128x64.size inb)).read (Elt F) K) = headTile K n from headTile_read K n off h inb]
  iapply Hk; iexact H
theorem wp_gput {α : Type} {Q : α → sProp 𝕄} (g : S256x256.Idx → Elt F .bf16) (v : S128x64.Idx → Elt F .bf16) (off : Fin 2 → ℕ) (inb : ∀ a, off a + S128x64.size a ≤ S256x256.size a)
    {hl : gM.view.LoadsAt (Rect.unit (s := S256x256) off S128x64.size inb).toLoadRect} {hx : (gM.access (Rect.unit (s := S256x256) off S128x64.size inb)).Stores Finset.univ} {hm}
    {k : PUnit → Prog (TpuEff nD τ sig (Elt F) Λ₀ .tc) α} :
    buf (F := F) c cc0_scratch2 g
      ⊢ iprop((buf (F := F) c cc0_scratch2 (VecWindow.put g off S128x64.size v) -∗ WP c (k ⟨⟩) Q)
        -∗ WP c (.op (.load gM (Rect.unit (s := S256x256) off S128x64.size inb).toLoadRect hl) fun _ =>
            .op (.store gM (Rect.unit (s := S256x256) off S128x64.size inb) v Finset.univ hx hm) k) Q) := by
  unfold buf
  iintro H Hk
  iapply (wp_load_rect 𝒱₀ (c : Thread nD τ) none Set.univ (m := gM) (r := Rect.unit (s := S256x256) off S128x64.size inb) (Finset.subset_univ _)) $$ H; iintro H
  iapply (wp_store 𝒱₀ (c : Thread nD τ) none Set.univ (m := gM) (r := Rect.unit (s := S256x256) off S128x64.size inb) (Finset.subset_univ _)) $$ H; iintro H
  rw [put_write]
  iapply Hk; iexact H

end

end Cert.SliceIdeal.Hop
-- ==== Proof.Slice.Moves.lean ====
/-
What a device holds of the protocol, and the steps that use it: the first fill of a ring slot, the two copies, the waits.
-/
module

public import proofs.«01_k».proof.Proof.Slice.Steps

@[expose] public section

noncomputable section

namespace Cert.SliceIdeal.Hop

open Cert.SliceIdeal Cert.SliceIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The first fill of a slot -/

/-- A matrix pair with a leading 1. -/
theorem pay45_apply (X : S2x512x256.Idx → Elt F .bf16) (y : S1x2x512x256.Idx) : k0_pay45 (F := F) X y = X (ix3 (y 1) (y 2) (y 3)) := by
  have h0 : (y 0).val = 0 := Nat.lt_one_iff.mp (y 0).isLt
  have e : Shape.reshapeEquiv (s := S1x2x512x256) (s' := S2x512x256) (by decide) (ix3 (y 1) (y 2) (y 3) : S2x512x256.Idx) = y :=
    (reshapeEquiv_ix3_1abc _ (y 1) (y 2) (y 3)).trans (by
      funext a; fin_cases a
      · exact Fin.ext h0.symm
      · rfl
      · rfl
      · rfl)
  show X (Shape.reshapeEquiv _ (Shape.reshapeEquiv _ y)) = _
  rw [Shape.reshapeEquiv_reshapeEquiv]
  conv_lhs => rw [← e]
  rw [Shape.reshapeEquiv_reshapeEquiv, Shape.reshapeEquiv_self]

/-- A write of a pair over a slot leaves the pair there. -/
theorem fill_apply (b : Fin 2) (off : Fin 4 → ℕ) (h : off = ![b.val, 0, 0, 0]) (inb : ∀ a, off a + S1x2x512x256.size a ≤ S2x2x512x256.size a)
    (f : S2x2x512x256.Idx → Elt F .bf16) (X : S2x512x256.Idx → Elt F .bf16) (i : S2x2x512x256.Idx) (hi : i ∈ slotSet b) :
    (aM.access (Rect.unit (s := S2x2x512x256) off S1x2x512x256.size inb)).write (Elt F) f (k0_pay45 (F := F) X) Finset.univ i = spread X i := by
  subst h
  rw [mem_slotSet] at hi
  have e : (aM.access (Rect.unit (s := S2x2x512x256) ![b.val, 0, 0, 0] S1x2x512x256.size inb)).emb (ix4 (⟨0, Nat.one_pos⟩ : Fin 1) (i 1) (i 2) (i 3)) = i := by
    funext a; fin_cases a <;> apply Fin.ext
    · show b.val + 1 * 0 = (i 0).val; omega
    · show 0 + 1 * (i 1).val = (i 1).val; omega
    · show 0 + 1 * (i 2).val = (i 2).val; omega
    · show 0 + 1 * (i 3).val = (i 3).val; omega
  conv_lhs => rw [← e]
  refine (View.write_emb_of_mem (v := aM.access (Rect.unit (s := S2x2x512x256) ![b.val, 0, 0, 0] S1x2x512x256.size inb)) _ _ (Finset.mem_univ _)).trans ?_
  rw [cast_eq, pay45_apply]
  rfl

theorem pay46_apply (X : S2x512x256.Idx → Elt F .bf16) (y : S1x2x512x256.Idx) : k0_pay46 (F := F) X y = X (ix3 (y 1) (y 2) (y 3)) := pay45_apply X y
theorem fill_apply' (b : Fin 2) (off : Fin 4 → ℕ) (h : off = ![b.val, 0, 0, 0]) (inb : ∀ a, off a + S1x2x512x256.size a ≤ S2x2x512x256.size a)
    (f : S2x2x512x256.Idx → Elt F .bf16) (X : S2x512x256.Idx → Elt F .bf16) (i : S2x2x512x256.Idx) (hi : i ∈ slotSet b) :
    (bM.access (Rect.unit (s := S2x2x512x256) off S1x2x512x256.size inb)).write (Elt F) f (k0_pay46 (F := F) X) Finset.univ i = spread X i := by
  subst h
  rw [mem_slotSet] at hi
  have e : (bM.access (Rect.unit (s := S2x2x512x256) ![b.val, 0, 0, 0] S1x2x512x256.size inb)).emb (ix4 (⟨0, Nat.one_pos⟩ : Fin 1) (i 1) (i 2) (i 3)) = i := by
    funext a; fin_cases a <;> apply Fin.ext
    · show b.val + 1 * 0 = (i 0).val; omega
    · show 0 + 1 * (i 1).val = (i 1).val; omega
    · show 0 + 1 * (i 2).val = (i 2).val; omega
    · show 0 + 1 * (i 3).val = (i 3).val; omega
  conv_lhs => rw [← e]
  refine (View.write_emb_of_mem (v := bM.access (Rect.unit (s := S2x2x512x256) ![b.val, 0, 0, 0] S1x2x512x256.size inb)) _ _ (Finset.mem_univ _)).trans ?_
  rw [cast_eq, pay46_apply]
  rfl

section
variable (c : Dev nD)

theorem aPts_congr (q : PosShare TreeShare) (b : Fin 2) (f g : S2x2x512x256.Idx → Elt F .bf16) (h : ∀ i ∈ slotSet b, f i = g i) : aPts q c b f = aPts q c b g := by
  unfold aPts; exact pointsTo_congr h
theorem bPts_congr (q : PosShare TreeShare) (b : Fin 2) (f g : S2x2x512x256.Idx → Elt F .bf16) (h : ∀ i ∈ slotSet b, f i = g i) : bPts q c b f = bPts q c b g := by
  unfold bPts; exact pointsTo_congr h

theorem wp_fillR {α : Type} {Q : α → sProp 𝕄} (f : S2x2x512x256.Idx → Elt F .bf16) (X : S2x512x256.Idx → Elt F .bf16) (off : Fin 4 → ℕ) (h : off = ![0, 0, 0, 0])
    (inb : ∀ a, off a + S1x2x512x256.size a ≤ S2x2x512x256.size a) {hl : aM.view.LoadsAt (Rect.unit (s := S2x2x512x256) off S1x2x512x256.size inb).toLoadRect}
    {hx : (aM.access (Rect.unit (s := S2x2x512x256) off S1x2x512x256.size inb)).Stores Finset.univ} {hm}
    {k : PUnit → Prog (TpuEff nD τ sig (Elt F) Λ₀ .tc) α} :
    aPts (F := F) fullShare c 0 f
      ⊢ iprop((aPts fullShare c 0 (spread X) -∗ WP c (k ⟨⟩) Q)
        -∗ WP c (.op (.load aM (Rect.unit (s := S2x2x512x256) off S1x2x512x256.size inb).toLoadRect hl) fun _ =>
            .op (.store aM (Rect.unit (s := S2x2x512x256) off S1x2x512x256.size inb) (k0_pay45 X) Finset.univ hx hm) k) Q) := by
  have hs : (aM.access (Rect.unit (s := S2x2x512x256) off S1x2x512x256.size inb)).set ⊆ slotSet 0 := by
    rw [View.set_slice_whole]; exact (slot_box 0 off h inb).le
  unfold aPts
  iintro H Hk
  iapply (wp_load_rect 𝒱₀ (c : Thread nD τ) none Set.univ (m := aM) (r := Rect.unit (s := S2x2x512x256) off S1x2x512x256.size inb) hs) $$ H; iintro H
  iapply (wp_store 𝒱₀ (c : Thread nD τ) none Set.univ (m := aM) (r := Rect.unit (s := S2x2x512x256) off S1x2x512x256.size inb) hs) $$ H; iintro H
  iapply Hk
  have e := aPts_congr c fullShare 0 _ _ (fill_apply 0 off h inb f X)
  unfold aPts at e
  iapply (Entails.of_eq e)
  iexact H
theorem wp_fillL {α : Type} {Q : α → sProp 𝕄} (f : S2x2x512x256.Idx → Elt F .bf16) (X : S2x512x256.Idx → Elt F .bf16) (off : Fin 4 → ℕ) (h : off = ![0, 0, 0, 0])
    (inb : ∀ a, off a + S1x2x512x256.size a ≤ S2x2x512x256.size a) {hl : bM.view.LoadsAt (Rect.unit (s := S2x2x512x256) off S1x2x512x256.size inb).toLoadRect}
    {hx : (bM.access (Rect.unit (s := S2x2x512x256) off S1x2x512x256.size inb)).Stores Finset.univ} {hm}
    {k : PUnit → Prog (TpuEff nD τ sig (Elt F) Λ₀ .tc) α} :
    bPts (F := F) fullShare c 0 f
      ⊢ iprop((bPts fullShare c 0 (spread X) -∗ WP c (k ⟨⟩) Q)
        -∗ WP c (.op (.load bM (Rect.unit (s := S2x2x512x256) off S1x2x512x256.size inb).toLoadRect hl) fun _ =>
            .op (.store bM (Rect.unit (s := S2x2x512x256) off S1x2x512x256.size inb) (k0_pay46 X) Finset.univ hx hm) k) Q) := by
  have hs : (bM.access (Rect.unit (s := S2x2x512x256) off S1x2x512x256.size inb)).set ⊆ slotSet 0 := by
    rw [View.set_slice_whole]; exact (slot_box 0 off h inb).le
  unfold bPts
  iintro H Hk
  iapply (wp_load_rect 𝒱₀ (c : Thread nD τ) none Set.univ (m := bM) (r := Rect.unit (s := S2x2x512x256) off S1x2x512x256.size inb) hs) $$ H; iintro H
  iapply (wp_store 𝒱₀ (c : Thread nD τ) none Set.univ (m := bM) (r := Rect.unit (s := S2x2x512x256) off S1x2x512x256.size inb) hs) $$ H; iintro H
  iapply Hk
  have e := bPts_congr c fullShare 0 _ _ (fill_apply' 0 off h inb f X)
  unfold bPts at e
  iapply (Entails.of_eq e)
  iexact H

/-! ## What a device holds of the protocol -/

variable (w : Dev nD → S2x512x256.Idx → Elt F .bf16)

/-- The names: of its own five cells, and of the four cells of its neighbours it pays into. -/
def invs (K : GSem nD τ sig → ℕ) (c : Dev nD) : sProp 𝕄 :=
  iprop(cellInv ER (sched w) (K (barCell c)) (barCell c) ∗ cellInv ER (sched w) (K (sRCell c)) (sRCell c) ∗ cellInv ER (sched w) (K (vRCell c)) (vRCell c)
    ∗ cellInv ER (sched w) (K (sLCell c)) (sLCell c) ∗ cellInv ER (sched w) (K (vLCell c)) (vLCell c)
    ∗ cellInv ER (sched w) (K (barCell (prv c))) (barCell (prv c)) ∗ cellInv ER (sched w) (K (barCell (nxt c))) (barCell (nxt c))
    ∗ cellInv ER (sched w) (K (vRCell (nxt c))) (vRCell (nxt c)) ∗ cellInv ER (sched w) (K (vLCell (prv c))) (vLCell (prv c)))

instance invs_persistent (K : GSem nD τ sig → ℕ) (c : Dev nD) : BI.Persistent (invs w K c) := by unfold invs; infer_instance

/-- The six tokens it pays with. -/
def duties (c : Dev nD) : sProp 𝕄 :=
  iprop(dutyTok ER (barCell (prv c)) 0 true ∗ dutyTok ER (barCell (nxt c)) 0 false
    ∗ dutyTok ER (sRCell c) 0 false ∗ dutyTok ER (vRCell (nxt c)) 0 false ∗ dutyTok ER (sLCell c) 0 false ∗ dutyTok ER (vLCell (prv c)) 0 false)

/-- From launch to the kernel: its barrier cell is open, its four copy semaphores are dormant. -/
def ghost (K : GSem nD τ sig → ℕ) (c : Dev nD) : sProp 𝕄 :=
  iprop(invs w K c ∗ atPos ER (barCell c) 0 ∅ 0
    ∗ openTok ER (sRCell c) ∗ openTok ER (vRCell c) ∗ openTok ER (sLCell c) ∗ openTok ER (vLCell c)
    ∗ reached ER (barCell (prv c)) 0 ∗ reached ER (barCell (nxt c)) 0 ∗ duties (F := F) c)

/-- In the kernel: all five are open. -/
def opened (K : GSem nD τ sig → ℕ) (c : Dev nD) : sProp 𝕄 :=
  iprop(invs w K c ∗ atPos ER (barCell c) 0 ∅ 0
    ∗ atPos ER (sRCell c) 0 ∅ 0 ∗ atPos ER (vRCell c) 0 ∅ 0 ∗ atPos ER (sLCell c) 0 ∅ 0 ∗ atPos ER (vLCell c) 0 ∅ 0
    ∗ reached ER (sRCell c) 0 ∗ reached ER (vRCell c) 0 ∗ reached ER (sLCell c) 0 ∗ reached ER (vLCell c) 0
    ∗ reached ER (barCell (prv c)) 0 ∗ reached ER (barCell (nxt c)) 0 ∗ duties (F := F) c)

theorem close (κ : ℕ) (g : GSem nD τ sig) : iprop(cellInv ER (sched w) κ g ∗ atPos ER g (0 + 1) ∅ 0) ⊢ (|={Set.univ}=> semVal g 0 : sProp 𝕄) :=
  Rounds.cell_close ER (sched w) (Set.mem_univ κ) id (duties_later w g)
theorem open_cell (κ : ℕ) (g : GSem nD τ sig) :
    iprop(cellInv ER (sched w) κ g ∗ openTok ER g ∗ semVal g 0) ⊢ (|={Set.univ}=> iprop(atPos ER g 0 ∅ 0 ∗ reached ER g 0) : sProp 𝕄) := by
  iintro ⟨#HI, Ho, Hs⟩
  iapply (Rounds.cell_open ER (sched w) (g := g) (Set.mem_univ κ))
  isplitr; · iexact HI
  isplitl [Ho]; · iexact Ho
  iexact Hs

/-! ## The two copies -/

variable (K : GSem nD τ sig → ℕ)

theorem amountA (b : Fin 2) (off : Fin 4 → ℕ) (h : off = ![b.val, 0, 0, 0]) (inb) : (slotM aM off inb).view.dmaCredit = N := by subst h; fin_cases b <;> rfl
theorem amountB (b : Fin 2) (off : Fin 4 → ℕ) (h : off = ![b.val, 0, 0, 0]) (inb) : (slotM bM off inb).view.dmaCredit = N := by subst h; fin_cases b <;> rfl

theorem wp_sendR {α : Type} {Q : α → sProp 𝕄} (n : Dev nD) (hn : n = nxt c) (X : S2x512x256.Idx → Elt F .bf16) (hX : X = w c) (off off' : Fin 4 → ℕ) (h : off = ![0, 0, 0, 0]) (h' : off' = ![1, 0, 0, 0]) (inb inb')
    (sS sV : DmaSem sig) (hS : sS = sR) (hV : sV = vR) {hsc hsrc hdst}
    {hsem : DmaTarget.Typed .vmem (.dma sV) (.remote (Dev.tc n : Thread nD τ) (slotM aM off' inb') (.dma sS) hsc)}
    {k : PUnit → Prog (TpuEff nD τ sig (Elt F) Λ₀ .tc) α} (fn : S2x2x512x256.Idx → Elt F .bf16) (W : Waits sig Unit) :
    iprop(cellInv ER (sched w) (K (sRCell c)) (sRCell c) ∗ cellInv ER (sched w) (K (vRCell (nxt c))) (vRCell (nxt c))
        ∗ aPts fullShare.right c 0 (spread X) ∗ aPts fullShare (nxt c) 1 fn ∗ owes (c : Thread nD τ) (O₂ c) W
        ∗ dutyTok ER (sRCell c) 0 false ∗ reached ER (sRCell c) 0 ∗ dutyTok ER (vRCell (nxt c)) 0 false ∗ reached ER (vRCell (nxt c)) 0)
      ⊢ iprop(((cred (tallyAt (sRCell c) () N) ∗ owes (c : Thread nD τ) (O₃ c) W) -∗ WP c (k ⟨⟩) Q)
          -∗ WP c (.op (.enqueueDma (slotM aM off inb) (.remote (Dev.tc n : Thread nD τ) (slotM aM off' inb') (.dma sS) hsc) (.dma sV) hsrc hdst hsem) k) Q) := by
  subst hn hS hV hX
  have hs := aSet 0 off h inb
  have hd := aSet 1 off' h' inb'
  have e := aPts_congr (nxt c) fullShare 1 _ _ (fun i hi => aLands 0 1 off off' h h' inb inb' fn (w c) i (hd.symm ▸ hi))
  unfold aPts
  rw [← hs, ← hd]
  refine Rounds.wp_send_pointsTo 𝒱₀ ER (sched w) (c : Thread nD τ) none (κ₁ := K (sRCell c)) (κ₂ := K (vRCell (nxt c)))
    (c' := (nxt c : Thread nD τ)) (src := slotM aM off inb) (dst := slotM aM off' inb') (sS := .dma sR) (sem := .dma vR) (q := fullShare.right) (fs := spread (w c))
    (r₁ := 0) (r₂ := 0) (d₁ := false) (d₂ := false) (fd := fn)
    ?_ ?_ () () N ?_ ?_ ?_ (O₃ c) rfl (W := W) ?_ ?_
  · rw [duties_xfer w c sR (.inl rfl)]; exact Finset.mem_singleton_self _
  · rw [duties_xfer w (nxt c) vR (.inr (.inl rfl))]; exact Finset.mem_singleton_self _
  · exact amountA 1 off' h' inb'
  · exact amount_xfer w c sR false
  · exact amount_xfer w (nxt c) vR false
  · rw [payload_sR]; unfold aPts; rw [← hs]
  · rw [payload_vR, prv_nxt, ← e]; unfold aPts; rw [← hd]

theorem wp_sendL {α : Type} {Q : α → sProp 𝕄} (n : Dev nD) (hn : n = prv c) (X : S2x512x256.Idx → Elt F .bf16) (hX : X = w c) (off off' : Fin 4 → ℕ) (h : off = ![0, 0, 0, 0]) (h' : off' = ![1, 0, 0, 0]) (inb inb')
    (sS sV : DmaSem sig) (hS : sS = sL) (hV : sV = vL) {hsc hsrc hdst}
    {hsem : DmaTarget.Typed .vmem (.dma sV) (.remote (Dev.tc n : Thread nD τ) (slotM bM off' inb') (.dma sS) hsc)}
    {k : PUnit → Prog (TpuEff nD τ sig (Elt F) Λ₀ .tc) α} (fn : S2x2x512x256.Idx → Elt F .bf16) (W : Waits sig Unit) :
    iprop(cellInv ER (sched w) (K (sLCell c)) (sLCell c) ∗ cellInv ER (sched w) (K (vLCell (prv c))) (vLCell (prv c))
        ∗ bPts fullShare.right c 0 (spread X) ∗ bPts fullShare (prv c) 1 fn ∗ owes (c : Thread nD τ) (O₃ c) W
        ∗ dutyTok ER (sLCell c) 0 false ∗ reached ER (sLCell c) 0 ∗ dutyTok ER (vLCell (prv c)) 0 false ∗ reached ER (vLCell (prv c)) 0)
      ⊢ iprop(((cred (tallyAt (sLCell c) () N) ∗ owes (c : Thread nD τ) (0 : CellTallies nD τ sig Unit) W) -∗ WP c (k ⟨⟩) Q)
          -∗ WP c (.op (.enqueueDma (slotM bM off inb) (.remote (Dev.tc n : Thread nD τ) (slotM bM off' inb') (.dma sS) hsc) (.dma sV) hsrc hdst hsem) k) Q) := by
  subst hn hS hV hX
  have hs := bSet 0 off h inb
  have hd := bSet 1 off' h' inb'
  have e := bPts_congr (prv c) fullShare 1 _ _ (fun i hi => bLands 0 1 off off' h h' inb inb' fn (w c) i (hd.symm ▸ hi))
  unfold bPts
  rw [← hs, ← hd]
  refine Rounds.wp_send_pointsTo 𝒱₀ ER (sched w) (c : Thread nD τ) none (κ₁ := K (sLCell c)) (κ₂ := K (vLCell (prv c)))
    (c' := (prv c : Thread nD τ)) (src := slotM bM off inb) (dst := slotM bM off' inb') (sS := .dma sL) (sem := .dma vL) (q := fullShare.right) (fs := spread (w c))
    (r₁ := 0) (r₂ := 0) (d₁ := false) (d₂ := false) (fd := fn)
    ?_ ?_ () () N ?_ ?_ ?_ 0 (by unfold O₃; rw [zero_add]) (W := W) ?_ ?_
  · rw [duties_xfer w c sL (.inr (.inr (.inl rfl)))]; exact Finset.mem_singleton_self _
  · rw [duties_xfer w (prv c) vL (.inr (.inr (.inr rfl)))]; exact Finset.mem_singleton_self _
  · exact amountB 1 off' h' inb'
  · exact amount_xfer w c sL false
  · exact amount_xfer w (prv c) vL false
  · rw [payload_sL]; unfold bPts; rw [← hs]
  · rw [payload_vL, nxt_prv, ← e]; unfold bPts; rw [← hd]

/-! ## The waits -/

theorem wp_landed {α : Type} {Q : α → sProp 𝕄} (q : DmaSem sig) (hq : q = sR ∨ q = vR ∨ q = sL ∨ q = vL) (q' : DmaSem sig) (e : q' = q) (κ : ℕ) (W : Waits sig Unit)
    {src dst : Memref sig .tc .vmem S2x512x256 .bf16} {hsrc : src.view.WordExact} {hdst : dst.view.WordExact} (hN : dst.view.dmaCredit = N)
    {k : PUnit → Prog (TpuEff nD τ sig (Elt F) Λ₀ .tc) α} :
    iprop(cellInv ER (sched w) κ ((c : Thread nD τ), .dma q) ∗ cred (tallyAt ((c : Thread nD τ), SemLoc.dma q) () N) ∗ owes (c : Thread nD τ) (0 : CellTallies nD τ sig Unit) W
        ∗ atPos ER ((c : Thread nD τ), .dma q) 0 ∅ 0)
      ⊢ iprop(((owes (c : Thread nD τ) (0 : CellTallies nD τ sig Unit) (insert (SemLoc.dma q, ()) W) ∗ atPos ER ((c : Thread nD τ), .dma q) (0 + 1) ∅ 0
            ∗ (sched (F := F) w).payload ((c : Thread nD τ), .dma q) 0 false) -∗ WP c (k ⟨⟩) Q)
          -∗ WP c (.op (.waitDma2 q' src dst hsrc hdst) k) Q) := by
  subst e
  iintro ⟨#HI, Hc, HO, Hat⟩ Hk
  iapply (Rounds.wp_wait_rest_token 𝒱₀ ER (sched w) (c : Thread nD τ) none (κ := κ)
      (wpE_waitDma2_eq 𝒱₀ (c : Thread nD τ) none Set.univ) (Set.mem_univ _) () (O := 0) (W := W) (R := 0) (m := 0) (T := ∅)
      (by rw [Nat.zero_add, hN, expect_xfer w c q' hq])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_xfer w c q' hq)); iexact Hpay

theorem wp_barrier {α : Type} {Q : α → sProp 𝕄} (κ : ℕ) (W : Waits sig Unit) (n : ℕ) (hn : n = 2) {k : PUnit → Prog (TpuEff nD τ sig (Elt F) Λ₀ .tc) α} :
    iprop(cellInv ER (sched w) κ (barCell c) ∗ cred (tallyAt (barCell c) () 2) ∗ owes (c : Thread nD τ) (O₂ c) W ∗ levAts L lv ∗ atPos ER (barCell c) 0 ∅ 0)
      ⊢ iprop(((owes (c : Thread nD τ) (O₂ c) (insert (SemLoc.reg barS, ()) W) ∗ atPos ER (barCell c) (0 + 1) ∅ 0 ∗ barPayF (F := F) c ∗ barPayT c) -∗ WP c (k ⟨⟩) Q)
          -∗ WP c (.op (.semWait barS n) k) Q) := by
  subst hn
  iintro ⟨#HI, Hc, HO, #Hlev, Hat⟩ Hk
  iapply (Rounds.wp_wait_rest_token 𝒱₀ ER (sched w) (c : Thread nD τ) none (κ := κ)
      (wpE_semWait_eq 𝒱₀ (c : Thread nD τ) none Set.univ) (Set.mem_univ _) () (O := O₂ c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar w c)); iexact Hpay

end

end Cert.SliceIdeal.Hop
-- ==== Proof.Slice.Trip0.lean ====
/-
The first trip of the loop: the two copies start, the device's own group is added, the copies are waited for.
-/
module

public import proofs.«01_k».proof.Proof.Slice.Moves

@[expose] public section

noncomputable section

namespace Cert.SliceIdeal.Hop

open Cert.SliceIdeal Cert.SliceIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (w : Dev nD → S2x512x256.Idx → Elt F .bf16)

/-- The clockwise stage's eight stores and its sum are the group's share. -/
theorem stageR (x : S256x512.Idx → Elt F .bf16) (kh vh : S256x128x64.Idx → Elt F .bf16) (X : S2x512x256.Idx → Elt F .bf16) (d : Fin 32) (acc : S2x128x512.Idx → Elt F .f32)
    (g : S256x256.Idx → Elt F .bf16) :
    k0_pay2 (k0_pay44 (k0_pay23 (part X 1))
      (VecWindow.put (VecWindow.put (VecWindow.put (VecWindow.put (VecWindow.put (VecWindow.put (VecWindow.put (VecWindow.put g
        ![0, 0] S128x64.size (k0_pay26 (k0_pay25 (part X 0) x) (headTile kh (tileIx d 0 0)) (headTile vh (tileIx d 0 0))))
        ![0, 64] S128x64.size (k0_pay30 (k0_pay27 (headTile vh (tileIx d 1 0))) (k0_pay28 (k0_pay24 (part X 0) x) (headTile kh (tileIx d 1 0)))
          (k0_pay29 (k0_pay24 (part X 0) x) (headTile kh (tileIx d 1 0)))))
        ![0, 128] S128x64.size (k0_pay32 (k0_pay31 (k0_pay24 (part X 0) x) (headTile kh (tileIx d 2 0)) (headTile vh (tileIx d 2 0)))))
        ![0, 192] S128x64.size (k0_pay33 (k0_pay24 (part X 0) x) (headTile kh (tileIx d 3 0)) (headTile vh (tileIx d 3 0))))
        ![128, 0] S128x64.size (k0_pay35 (k0_pay34 (k0_pay24 (part X 0) x)) (headTile kh (tileIx d 0 1)) (headTile vh (tileIx d 0 1))))
        ![128, 64] S128x64.size (k0_pay39 (k0_pay36 (headTile vh (tileIx d 1 1))) (k0_pay37 (k0_pay24 (part X 0) x) (headTile kh (tileIx d 1 1))) k0_pay38))
        ![128, 128] S128x64.size (k0_pay42 (k0_pay40 (headTile vh (tileIx d 2 1))) (k0_pay41 (k0_pay24 (part X 0) x) (headTile kh (tileIx d 2 1))) (constant S128x64 FTy.f32 0#32)))
        ![128, 192] S128x64.size (k0_pay43 (k0_pay24 (part X 0) x) (headTile kh (tileIx d 3 1)) (headTile vh (tileIx d 3 1))))) acc
      = addGroup x kh vh X d acc := by
  unfold addGroup context
  rw [← put_tiles g (tile x kh vh X d)]
  rfl

set_option maxHeartbeats 1000000 in
set_option maxRecDepth 65536 in
theorem trip0 (K : GSem nD τ sig → ℕ) (c : Dev nD) (Q : Unit → sProp 𝕄) (W : Waits sig Unit)
    (x : S256x512.Idx → Elt F .bf16) (kh vh : S256x128x64.Idx → Elt F .bf16) (acc : S2x128x512.Idx → Elt F .f32)
    (h0 : tM.IsWhole) (h1 : xM.IsWhole) (h2 : wM.IsWhole) (h3 : kM.IsWhole) (h4 : vM.IsWhole) (h5 : oM.IsWhole) (h6 : aM.IsWhole) (h7 : bM.IsWhole) (h8 : gM.IsWhole)
    (w2) (w1) (w3) :
    iprop((invs w K c ∗ buf (F := F) c cc0_stg0_0 table ∗ buf c cc0_stg1_0 x ∗ buf c cc0_stg3_0 kh ∗ buf c cc0_stg4_0 vh ∗ buf c cc0_stg5_0 acc ∗ (∃ g, buf c cc0_scratch2 g))
        ∗ (aPts fullShare c 0 (spread (w c)) ∗ bPts fullShare c 0 (spread (w c)) ∗ barPayF (F := F) c ∗ barPayT (F := F) c ∗ owes (c : Thread nD τ) (O₂ c) W)
        ∗ (atPos ER (sRCell c) 0 ∅ 0 ∗ atPos ER (vRCell c) 0 ∅ 0 ∗ atPos ER (sLCell c) 0 ∅ 0 ∗ atPos ER (vLCell c) 0 ∅ 0)
        ∗ (reached ER (sRCell c) 0 ∗ reached ER (sLCell c) 0)
        ∗ (dutyTok ER (sRCell c) 0 false ∗ dutyTok ER (vRCell (nxt c)) 0 false ∗ dutyTok ER (sLCell c) 0 false ∗ dutyTok ER (vLCell (prv c)) 0 false)
        ∗ (cred (tallyAt (vRCell c) () N) ∗ cred (tallyAt (vLCell c) () N)))
      ⊢ iprop((((buf (F := F) c cc0_stg0_0 table ∗ buf c cc0_stg1_0 x ∗ buf c cc0_stg3_0 kh ∗ buf c cc0_stg4_0 vh ∗ buf c cc0_stg5_0 (addGroup x kh vh (w c) c acc) ∗ (∃ g, buf c cc0_scratch2 g))
          ∗ (aPts fullShare c 0 (spread (w c)) ∗ bPts fullShare c 0 (spread (w c)) ∗ aPts fullShare c 1 (spread (w (prv c))) ∗ bPts fullShare c 1 (spread (w (nxt c))))
          ∗ (∃ W, owes (c : Thread nD τ) (0 : CellTallies nD τ sig Unit) W)
          ∗ (atPos ER (sRCell c) (0 + 1) ∅ 0 ∗ atPos ER (vRCell c) (0 + 1) ∅ 0 ∗ atPos ER (sLCell c) (0 + 1) ∅ 0 ∗ atPos ER (vLCell c) (0 + 1) ∅ 0)) -∗ Q ())
        -∗ WP c (k0_t1_body (F := F) tM h0 xM h1 wM h2 kM h3 vM h4 oM h5 aM h6 bM h7 gM h8 cc0_scratch3 cc0_scratch4 cc0_scratch5 cc0_scratch6 (asWord (nxt c)) w2 (asWord (prv c)) w1 (word 2 c) w3 t0 ()) Q) := by
  unfold k0_t1_body
  simp only [k0_part7_eq_skeleton, k0_part8_eq_skeleton, k0_part9_eq_skeleton, k0_part10_eq_skeleton, k0_part11_eq_skeleton, k0_part12_eq_skeleton, k0_part13_eq_skeleton]
  unfold k0_part7_skel k0_part8_skel k0_part9_skel k0_part10_skel k0_part11_skel k0_part12_skel k0_part13_skel
  simp only [dif_pos c1_0, dif_pos c2_0, dif_neg c3_0, dif_pos c4_0, dif_pos c5_0, smemLoad, smemLoadElt, Prog.lift, Prog.bind_op, Prog.bind_ret, Prog.pure_eq_ret, Prog.bind_assoc]
  unfold invs barPayF barPayT
  iintro ⟨⟨⟨#HIb, #HIsR, #HIvR, #HIsL, #HIvL, #HIbP, #HIbN, #HIvRN, #HIvLP⟩, Ht, Hx, HK, HV, Ho, ⟨%g0, Hg⟩⟩, ⟨Ha, Hb, ⟨⟨%fb, HpF⟩, #HrVL⟩, ⟨⟨%fa, HpT⟩, #HrVR⟩, HO⟩, ⟨HatSR, HatVR, HatSL, HatVL⟩, ⟨#HrSR, #HrSL⟩, ⟨HdSR, HdVR, HdSL, HdVL⟩, ⟨HcVR, HcVL⟩⟩ Hk
  ihave Ha := (a_halves (F := F) c 0 (spread (w c))).1 $$ Ha
  icases Ha with ⟨HaL, HaR⟩
  ihave Hb := (b_halves (F := F) c 0 (spread (w c))).1 $$ Hb
  icases Hb with ⟨HbL, HbR⟩
  -- the two copies start
  iapply (wp_sendR c w K _ (dev3_eq (nxt c) _) (w c) rfl _ _ o7 o6 _ _ _ _ (sem3 0 _ o4 _ _) (sem4 1 _ o5 _ _) fa W) $$ [HaR HpT HO HdSR HdVR]
  · isplitr; · iexact HIsR
    isplitr; · iexact HIvRN
    isplitl [HaR]; · iexact HaR
    isplitl [HpT]; · iexact HpT
    isplitl [HO]; · iexact HO
    isplitl [HdSR]; · iexact HdSR
    isplitr; · iexact HrSR
    isplitl [HdVR]; · iexact HdVR
    iexact HrVR
  iintro ⟨HcSR, HO⟩
  iapply (wp_sendL c w K _ (dev4_eq (prv c) _) (w c) rfl _ _ o11 o10 _ _ _ _ (sem5 0 _ o8 _ _) (sem6 1 _ o9 _ _) fb W) $$ [HbR HpF HO HdSL HdVL]
  · isplitr; · iexact HIsL
    isplitr; · iexact HIvLP
    isplitl [HbR]; · iexact HbR
    isplitl [HpF]; · iexact HpF
    isplitl [HO]; · iexact HO
    isplitl [HdSL]; · iexact HdSL
    isplitr; · iexact HrSL
    isplitl [HdVL]; · iexact HdVL
    iexact HrVL
  iintro ⟨HcSL, HO⟩
  -- the device's own group
  obtain ⟨p, hp, hw⟩ := pos_0 c
  iapply (wp_word c 3 p _ hw _ hp _) $$ Ht
  iintro Ht
  simp only [wp_assume_of _ _ _ _ (d := k0_chk4.dec _) (chk4 c)]
  iapply (wp_matR c 0 0 fullShare.left (w c) _ o13_0 _) $$ HaL; iintro HaL
  iapply (wp_matR c 0 1 fullShare.left (w c) _ o14_0 _) $$ HaL; iintro HaL
  iapply (wp_x c x _ (by decide) _) $$ Hx; iintro Hx
  iapply (wp_k c (tileIx c 0 0) kh _ (off15_eq c 0 0) _) $$ HK; iintro HK
  iapply (wp_v c (tileIx c 0 0) vh _ (off15_eq c 0 0) _) $$ HV; iintro HV
  iapply (wp_gput c _ _ ![0, 0] _) $$ Hg; iintro Hg
  iapply (wp_k c (tileIx c 1 0) kh _ (off15_eq c 1 0) _) $$ HK; iintro HK
  iapply (wp_v c (tileIx c 1 0) vh _ (off15_eq c 1 0) _) $$ HV; iintro HV
  iapply (wp_gput c _ _ ![0, 64] _) $$ Hg; iintro Hg
  iapply (wp_k c (tileIx c 2 0) kh _ (off15_eq c 2 0) _) $$ HK; iintro HK
  iapply (wp_v c (tileIx c 2 0) vh _ (off15_eq c 2 0) _) $$ HV; iintro HV
  iapply (wp_gput c _ _ ![0, 128] _) $$ Hg; iintro Hg
  iapply (wp_k c (tileIx c 3 0) kh _ (off15_eq c 3 0) _) $$ HK; iintro HK
  iapply (wp_v c (tileIx c 3 0) vh _ (off15_eq c 3 0) _) $$ HV; iintro HV
  iapply (wp_gput c _ _ ![0, 192] _) $$ Hg; iintro Hg
  iapply (wp_k c (tileIx c 0 1) kh _ (off15_eq c 0 1) _) $$ HK; iintro HK
  iapply (wp_v c (tileIx c 0 1) vh _ (off15_eq c 0 1) _) $$ HV; iintro HV
  iapply (wp_gput c _ _ ![128, 0] _) $$ Hg; iintro Hg
  iapply (wp_k c (tileIx c 1 1) kh _ (off15_eq c 1 1) _) $$ HK; iintro HK
  iapply (wp_v c (tileIx c 1 1) vh _ (off15_eq c 1 1) _) $$ HV; iintro HV
  iapply (wp_gput c _ _ ![128, 64] _) $$ Hg; iintro Hg
  iapply (wp_k c (tileIx c 2 1) kh _ (off15_eq c 2 1) _) $$ HK; iintro HK
  iapply (wp_v c (tileIx c 2 1) vh _ (off15_eq c 2 1) _) $$ HV; iintro HV
  iapply (wp_gput c _ _ ![128, 128] _) $$ Hg; iintro Hg
  iapply (wp_k c (tileIx c 3 1) kh _ (off15_eq c 3 1) _) $$ HK; iintro HK
  iapply (wp_v c (tileIx c 3 1) vh _ (off15_eq c 3 1) _) $$ HV; iintro HV
  iapply (wp_gput c _ _ ![128, 192] _) $$ Hg; iintro Hg
  iapply (wp_g c _ _ (by decide) _) $$ Hg; iintro Hg
  iapply (wp_o c acc _ (by decide) _) $$ Ho; iintro Ho
  iapply (wp_o c acc _ (by decide) _) $$ Ho; iintro Ho
  iapply (wp_oput c acc _ _ (by decide) _) $$ Ho; iintro Ho
  -- the four copies' ends
  iapply (wp_landed c w sR (.inl rfl) _ (sem3 0 _ o20 _ _) (K (sRCell c)) _ (amountA 0 _ o21 _)) $$ [HcSR HO HatSR]
  · isplitr; · iexact HIsR
    isplitl [HcSR]; · iexact HcSR
    isplitl [HO]; · iexact HO
    iexact HatSR
  rw [payload_sR]
  iintro ⟨HO, HatSR, HaR⟩
  iapply (wp_landed c w vR (.inr (.inl rfl)) _ (sem4 1 _ o23 _ _) (K (vRCell c)) _ (amountA 1 _ o22 _)) $$ [HcVR HO HatVR]
  · isplitr; · iexact HIvR
    isplitl [HcVR]; · iexact HcVR
    isplitl [HO]; · iexact HO
    iexact HatVR
  rw [payload_vR]
  iintro ⟨HO, HatVR, HaN⟩
  iapply (wp_landed c w sL (.inr (.inr (.inl rfl))) _ (sem5 0 _ o24 _ _) (K (sLCell c)) _ (amountB 0 _ o25 _)) $$ [HcSL HO HatSL]
  · isplitr; · iexact HIsL
    isplitl [HcSL]; · iexact HcSL
    isplitl [HO]; · iexact HO
    iexact HatSL
  rw [payload_sL]
  iintro ⟨HO, HatSL, HbR⟩
  iapply (wp_landed c w vL (.inr (.inr (.inr rfl))) _ (sem6 1 _ o27 _ _) (K (vLCell c)) _ (amountB 1 _ o26 _)) $$ [HcVL HO HatVL]
  · isplitr; · iexact HIvL
    isplitl [HcVL]; · iexact HcVL
    isplitl [HO]; · iexact HO
    iexact HatVL
  rw [payload_vL]
  iintro ⟨HO, HatVL, HbN⟩
  rw [stageR]
  unfold WP
  rw [wp_ret]
  imodintro
  iapply Hk
  isplitl [Ht Hx HK HV Ho Hg]
  · isplitl [Ht]; · iexact Ht
    isplitl [Hx]; · iexact Hx
    isplitl [HK]; · iexact HK
    isplitl [HV]; · iexact HV
    isplitl [Ho]; · iexact Ho
    iexists _; iexact Hg
  isplitl [HaL HaR HbL HbR HaN HbN]
  · isplitl [HaL HaR]
    · iapply (a_halves (F := F) c 0 (spread (w c))).2
      isplitl [HaL]; · iexact HaL
      iexact HaR
    isplitl [HbL HbR]
    · iapply (b_halves (F := F) c 0 (spread (w c))).2
      isplitl [HbL]; · iexact HbL
      iexact HbR
    isplitl [HaN]; · iexact HaN
    iexact HbN
  isplitl [HO]
  · iexists _; iexact HO
  isplitl [HatSR]; · iexact HatSR
  isplitl [HatVR]; · iexact HatVR
  isplitl [HatSL]; · iexact HatSL
  iexact HatVL

end Cert.SliceIdeal.Hop
-- ==== Proof.Slice.Trip1.lean ====
/-
The second trip of the loop: the two groups that arrived are added.
-/
module

public import proofs.«01_k».proof.Proof.Slice.Trip0

@[expose] public section

noncomputable section

namespace Cert.SliceIdeal.Hop

open Cert.SliceIdeal Cert.SliceIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (w : Dev nD → S2x512x256.Idx → Elt F .bf16)

/-- The counter-clockwise stage cuts the same expressions at other places. -/
theorem stageL (x : S256x512.Idx → Elt F .bf16) (kh vh : S256x128x64.Idx → Elt F .bf16) (X : S2x512x256.Idx → Elt F .bf16) (d : Fin 32) (acc : S2x128x512.Idx → Elt F .f32)
    (g : S256x256.Idx → Elt F .bf16) :
    k0_pay4 (k0_pay5 (part X 1))
      (VecWindow.put (VecWindow.put (VecWindow.put (VecWindow.put (VecWindow.put (VecWindow.put (VecWindow.put (VecWindow.put g
        ![0, 0] S128x64.size (k0_pay10 (k0_pay7 (headTile vh (tileIx d 0 0))) (k0_pay8 (part X 0) x (headTile kh (tileIx d 0 0))) (k0_pay9 (part X 0) x (headTile kh (tileIx d 0 0)))))
        ![0, 64] S128x64.size (k0_pay11 (k0_pay6 (part X 0) x) (headTile kh (tileIx d 1 0)) (headTile vh (tileIx d 1 0))))
        ![0, 128] S128x64.size (k0_pay13 (k0_pay12 (k0_pay6 (part X 0) x)) (headTile kh (tileIx d 2 0)) (headTile vh (tileIx d 2 0))))
        ![0, 192] S128x64.size (k0_pay16 (k0_pay14 (k0_pay6 (part X 0) x)) (k0_pay15 (headTile kh (tileIx d 3 0))) (headTile vh (tileIx d 3 0))))
        ![128, 0] S128x64.size (k0_pay19 (k0_pay17 (headTile vh (tileIx d 0 1))) (k0_pay18 (k0_pay6 (part X 0) x) (headTile kh (tileIx d 0 1)))))
        ![128, 64] S128x64.size (k0_pay20 (k0_pay6 (part X 0) x) (headTile kh (tileIx d 1 1)) (headTile vh (tileIx d 1 1))))
        ![128, 128] S128x64.size (k0_pay21 (k0_pay6 (part X 0) x) (headTile kh (tileIx d 2 1)) (headTile vh (tileIx d 2 1))))
        ![128, 192] S128x64.size (k0_pay3 (k0_pay22 (k0_pay6 (part X 0) x)) (headTile kh (tileIx d 3 1)) (headTile vh (tileIx d 3 1)))) acc
      = addGroup x kh vh X d acc := by
  unfold addGroup context
  rw [← put_tiles g (tile x kh vh X d)]
  rfl

set_option maxHeartbeats 1000000 in
set_option maxRecDepth 65536 in
theorem trip1 (c : Dev nD) (Q : Unit → sProp 𝕄)
    (x : S256x512.Idx → Elt F .bf16) (kh vh : S256x128x64.Idx → Elt F .bf16) (acc : S2x128x512.Idx → Elt F .f32)
    (h0 : tM.IsWhole) (h1 : xM.IsWhole) (h2 : wM.IsWhole) (h3 : kM.IsWhole) (h4 : vM.IsWhole) (h5 : oM.IsWhole) (h6 : aM.IsWhole) (h7 : bM.IsWhole) (h8 : gM.IsWhole)
    (w2) (w1) (w3) :
    iprop(buf (F := F) c cc0_stg0_0 table ∗ buf c cc0_stg1_0 x ∗ buf c cc0_stg3_0 kh ∗ buf c cc0_stg4_0 vh ∗ buf c cc0_stg5_0 acc ∗ (∃ g, buf c cc0_scratch2 g)
        ∗ aPts fullShare c 1 (spread (w (prv c))) ∗ bPts fullShare c 1 (spread (w (nxt c))))
      ⊢ iprop(((buf (F := F) c cc0_stg0_0 table ∗ buf c cc0_stg1_0 x ∗ buf c cc0_stg3_0 kh ∗ buf c cc0_stg4_0 vh
          ∗ buf c cc0_stg5_0 (addGroup x kh vh (w (nxt c)) (nxt c) (addGroup x kh vh (w (prv c)) (prv c) acc)) ∗ (∃ g, buf c cc0_scratch2 g)
          ∗ aPts fullShare c 1 (spread (w (prv c))) ∗ bPts fullShare c 1 (spread (w (nxt c)))) -∗ Q ())
        -∗ WP c (k0_t1_body (F := F) tM h0 xM h1 wM h2 kM h3 vM h4 oM h5 aM h6 bM h7 gM h8 cc0_scratch3 cc0_scratch4 cc0_scratch5 cc0_scratch6 (asWord (nxt c)) w2 (asWord (prv c)) w1 (word 2 c) w3 t1 ()) Q) := by
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  simp only [dif_neg c1_1, dif_neg c2_1, dif_pos c3_1, dif_neg c4_1, dif_neg c5_1, smemLoad, smemLoadElt, Prog.lift, Prog.bind_op, Prog.bind_ret, Prog.pure_eq_ret, Prog.bind_assoc]
  iintro ⟨Ht, Hx, HK, HV, Ho, ⟨%g0, Hg⟩, Ha, Hb⟩ Hk
  obtain ⟨p, hp, hw⟩ := pos_1 c
  iapply (wp_word c 3 p _ hw _ hp _) $$ Ht
  iintro Ht
  simp only [wp_assume_of _ _ _ _ (d := k0_chk4.dec _) (chk4 (prv c))]
  iapply (wp_matR c 1 0 fullShare (w (prv c)) _ o13_1 _) $$ Ha; iintro Ha
  iapply (wp_matR c 1 1 fullShare (w (prv c)) _ o14_1 _) $$ Ha; iintro Ha
  iapply (wp_x c x _ (by decide) _) $$ Hx; iintro Hx
  iapply (wp_k c (tileIx (prv c) 0 0) kh _ (off15_eq (prv c) 0 0) _) $$ HK; iintro HK
  iapply (wp_v c (tileIx (prv c) 0 0) vh _ (off15_eq (prv c) 0 0) _) $$ HV; iintro HV
  iapply (wp_gput c _ _ ![0, 0] _) $$ Hg; iintro Hg
  iapply (wp_k c (tileIx (prv c) 1 0) kh _ (off15_eq (prv c) 1 0) _) $$ HK; iintro HK
  iapply (wp_v c (tileIx (prv c) 1 0) vh _ (off15_eq (prv c) 1 0) _) $$ HV; iintro HV
  iapply (wp_gput c _ _ ![0, 64] _) $$ Hg; iintro Hg
  iapply (wp_k c (tileIx (prv c) 2 0) kh _ (off15_eq (prv c) 2 0) _) $$ HK; iintro HK
  iapply (wp_v c (tileIx (prv c) 2 0) vh _ (off15_eq (prv c) 2 0) _) $$ HV; iintro HV
  iapply (wp_gput c _ _ ![0, 128] _) $$ Hg; iintro Hg
  iapply (wp_k c (tileIx (prv c) 3 0) kh _ (off15_eq (prv c) 3 0) _) $$ HK; iintro HK
  iapply (wp_v c (tileIx (prv c) 3 0) vh _ (off15_eq (prv c) 3 0) _) $$ HV; iintro HV
  iapply (wp_gput c _ _ ![0, 192] _) $$ Hg; iintro Hg
  iapply (wp_k c (tileIx (prv c) 0 1) kh _ (off15_eq (prv c) 0 1) _) $$ HK; iintro HK
  iapply (wp_v c (tileIx (prv c) 0 1) vh _ (off15_eq (prv c) 0 1) _) $$ HV; iintro HV
  iapply (wp_gput c _ _ ![128, 0] _) $$ Hg; iintro Hg
  iapply (wp_k c (tileIx (prv c) 1 1) kh _ (off15_eq (prv c) 1 1) _) $$ HK; iintro HK
  iapply (wp_v c (tileIx (prv c) 1 1) vh _ (off15_eq (prv c) 1 1) _) $$ HV; iintro HV
  iapply (wp_gput c _ _ ![128, 64] _) $$ Hg; iintro Hg
  iapply (wp_k c (tileIx (prv c) 2 1) kh _ (off15_eq (prv c) 2 1) _) $$ HK; iintro HK
  iapply (wp_v c (tileIx (prv c) 2 1) vh _ (off15_eq (prv c) 2 1) _) $$ HV; iintro HV
  iapply (wp_gput c _ _ ![128, 128] _) $$ Hg; iintro Hg
  iapply (wp_k c (tileIx (prv c) 3 1) kh _ (off15_eq (prv c) 3 1) _) $$ HK; iintro HK
  iapply (wp_v c (tileIx (prv c) 3 1) vh _ (off15_eq (prv c) 3 1) _) $$ HV; iintro HV
  iapply (wp_gput c _ _ ![128, 192] _) $$ Hg; iintro Hg
  iapply (wp_g c _ _ (by decide) _) $$ Hg; iintro Hg
  iapply (wp_o c acc _ (by decide) _) $$ Ho; iintro Ho
  iapply (wp_o c acc _ (by decide) _) $$ Ho; iintro Ho
  iapply (wp_oput c acc _ _ (by decide) _) $$ Ho; iintro Ho
  rw [stageR]
  obtain ⟨p', hp', hw'⟩ := pos_1' c
  iapply (wp_word c 3 p' _ hw' _ hp' _) $$ Ht
  iintro Ht
  simp only [wp_assume_of _ _ _ _ (d := k0_chk5.dec _ _) (chk5 t1 (nxt c))]
  iapply (wp_matL c 1 0 fullShare (w (nxt c)) _ o17 _) $$ Hb; iintro Hb
  iapply (wp_matL c 1 1 fullShare (w (nxt c)) _ o18 _) $$ Hb; iintro Hb
  iapply (wp_x c x _ (by decide) _) $$ Hx; iintro Hx
  iapply (wp_k c (tileIx (nxt c) 0 0) kh _ (off19_eq (nxt c) 0 0) _) $$ HK; iintro HK
  iapply (wp_v c (tileIx (nxt c) 0 0) vh _ (off19_eq (nxt c) 0 0) _) $$ HV; iintro HV
  iapply (wp_gput c _ _ ![0, 0] _) $$ Hg; iintro Hg
  iapply (wp_k c (tileIx (nxt c) 1 0) kh _ (off19_eq (nxt c) 1 0) _) $$ HK; iintro HK
  iapply (wp_v c (tileIx (nxt c) 1 0) vh _ (off19_eq (nxt c) 1 0) _) $$ HV; iintro HV
  iapply (wp_gput c _ _ ![0, 64] _) $$ Hg; iintro Hg
  iapply (wp_k c (tileIx (nxt c) 2 0) kh _ (off19_eq (nxt c) 2 0) _) $$ HK; iintro HK
  iapply (wp_v c (tileIx (nxt c) 2 0) vh _ (off19_eq (nxt c) 2 0) _) $$ HV; iintro HV
  iapply (wp_gput c _ _ ![0, 128] _) $$ Hg; iintro Hg
  iapply (wp_k c (tileIx (nxt c) 3 0) kh _ (off19_eq (nxt c) 3 0) _) $$ HK; iintro HK
  iapply (wp_v c (tileIx (nxt c) 3 0) vh _ (off19_eq (nxt c) 3 0) _) $$ HV; iintro HV
  iapply (wp_gput c _ _ ![0, 192] _) $$ Hg; iintro Hg
  iapply (wp_k c (tileIx (nxt c) 0 1) kh _ (off19_eq (nxt c) 0 1) _) $$ HK; iintro HK
  iapply (wp_v c (tileIx (nxt c) 0 1) vh _ (off19_eq (nxt c) 0 1) _) $$ HV; iintro HV
  iapply (wp_gput c _ _ ![128, 0] _) $$ Hg; iintro Hg
  iapply (wp_k c (tileIx (nxt c) 1 1) kh _ (off19_eq (nxt c) 1 1) _) $$ HK; iintro HK
  iapply (wp_v c (tileIx (nxt c) 1 1) vh _ (off19_eq (nxt c) 1 1) _) $$ HV; iintro HV
  iapply (wp_gput c _ _ ![128, 64] _) $$ Hg; iintro Hg
  iapply (wp_k c (tileIx (nxt c) 2 1) kh _ (off19_eq (nxt c) 2 1) _) $$ HK; iintro HK
  iapply (wp_v c (tileIx (nxt c) 2 1) vh _ (off19_eq (nxt c) 2 1) _) $$ HV; iintro HV
  iapply (wp_gput c _ _ ![128, 128] _) $$ Hg; iintro Hg
  iapply (wp_k c (tileIx (nxt c) 3 1) kh _ (off19_eq (nxt c) 3 1) _) $$ HK; iintro HK
  iapply (wp_v c (tileIx (nxt c) 3 1) vh _ (off19_eq (nxt c) 3 1) _) $$ HV; iintro HV
  iapply (wp_gput c _ _ ![128, 192] _) $$ Hg; iintro Hg
  iapply (wp_g c _ _ (by decide) _) $$ Hg; iintro Hg
  iapply (wp_o c _ _ (by decide) _) $$ Ho; iintro Ho
  iapply (wp_o c _ _ (by decide) _) $$ Ho; iintro Ho
  iapply (wp_oput c _ _ _ (by decide) _) $$ Ho; iintro Ho
  rw [stageL]
  unfold WP
  rw [wp_ret]
  imodintro
  iapply Hk
  isplitl [Ht]; · iexact Ht
  isplitl [Hx]; · iexact Hx
  isplitl [HK]; · iexact HK
  isplitl [HV]; · iexact HV
  isplitl [Ho]; · iexact Ho
  isplitl [Hg]; · iexists _; iexact Hg
  isplitl [Ha]; · iexact Ha
  iexact Hb

end Cert.SliceIdeal.Hop
-- ==== Proof.Slice.Body.lean ====
/-
The kernel's body: the meeting of the neighbours, the fills, the two trips.
-/
module

public import proofs.«01_k».proof.Proof.Slice.Trip1
public import Idealize.ShloMosaic.Lib.Ring

@[expose] public section

noncomputable section

namespace Cert.SliceIdeal.Hop

open Cert.SliceIdeal Cert.SliceIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (w : Dev nD → S2x512x256.Idx → Elt F .bf16)

/-- The whole result a device leaves: its own group, the one before it, the one after it. -/
def share (x : S256x512.Idx → Elt F .bf16) (kh vh : S256x128x64.Idx → Elt F .bf16) (c : Dev nD) : S2x128x512.Idx → Elt F .f32 :=
  addGroup x kh vh (w (nxt c)) (nxt c) (addGroup x kh vh (w (prv c)) (prv c) (addGroup x kh vh (w c) c k0_pay1))

/-- The staged blocks and the table. -/
def staged (c : Dev nD) (x : S256x512.Idx → Elt F .bf16) (kh vh : S256x128x64.Idx → Elt F .bf16) (o : S2x128x512.Idx → Elt F .f32) : sProp 𝕄 :=
  iprop(buf (F := F) c cc0_stg0_0 table ∗ buf c cc0_stg1_0 x ∗ buf c cc0_stg2_0 (w c) ∗ buf c cc0_stg3_0 kh ∗ buf c cc0_stg4_0 vh ∗ buf c cc0_stg5_0 o)
/-- The kernel's own buffers, at some contents. -/
def scratch (c : Dev nD) : sProp 𝕄 :=
  iprop((∃ f, buf (F := F) c cc0_scratch0 f) ∗ (∃ f, buf (F := F) c cc0_scratch1 f) ∗ (∃ f, buf (F := F) c cc0_scratch2 f))

def bodyPre (K : GSem nD τ sig → ℕ) (c : Dev nD) (x : S256x512.Idx → Elt F .bf16) (kh vh : S256x128x64.Idx → Elt F .bf16) (W : Waits sig Unit) : sProp 𝕄 :=
  iprop(opened w K c ∗ (cred (tallyAt (barCell c) () 2) ∗ cred (tallyAt (vRCell c) () N) ∗ cred (tallyAt (vLCell c) () N)) ∗ levAts L lv
    ∗ (∃ o, staged w c x kh vh o) ∗ scratch (F := F) c ∗ owes (c : Thread nD τ) (O₀ c) W)
def bodyPost (c : Dev nD) (x : S256x512.Idx → Elt F .bf16) (kh vh : S256x128x64.Idx → Elt F .bf16) : sProp 𝕄 :=
  iprop((semVal (barCell c) 0 ∗ semVal (sRCell c) 0 ∗ semVal (vRCell c) 0 ∗ semVal (sLCell c) 0 ∗ semVal (vLCell c) 0)
    ∗ staged w c x kh vh (share w x kh vh c) ∗ scratch (F := F) c ∗ ∃ W, owes (c : Thread nD τ) (0 : CellTallies nD τ sig Unit) W)

theorem slots_apart (s s' : Fin 2) (h : s ≠ s') : Disjoint (slotSet s) (slotSet s') := by
  fin_cases s <;> fin_cases s'
  · exact absurd rfl h
  · exact slotSet_disjoint
  · exact slotSet_disjoint.symm
  · exact absurd rfl h
theorem slots_all : Finset.univ.biUnion slotSet = Finset.univ := by
  rw [← slotSet_union]; ext i; simp [Fin.exists_fin_two]

omit [FloatOps F] in
/-- A ring buffer is its two slots. -/
theorem a_slots (c : Dev nD) : iprop(∃ f, buf (F := F) c cc0_scratch0 f) ⊢ iprop((∃ f, aPts (F := F) fullShare c 0 f) ∗ ∃ f, aPts (F := F) fullShare c 1 f) := by
  unfold buf aPts
  exact Ring.slots2_split (ℓ := (c : Thread nD τ).loc cc0_scratch0) (q := fullShare) slotSet slots_apart slots_all _ _ (fun _ => rfl) (fun _ => rfl)
omit [FloatOps F] in
theorem b_slots (c : Dev nD) : iprop(∃ f, buf (F := F) c cc0_scratch1 f) ⊢ iprop((∃ f, bPts (F := F) fullShare c 0 f) ∗ ∃ f, bPts (F := F) fullShare c 1 f) := by
  unfold buf bPts
  exact Ring.slots2_split (ℓ := (c : Thread nD τ).loc cc0_scratch1) (q := fullShare) slotSet slots_apart slots_all _ _ (fun _ => rfl) (fun _ => rfl)
omit [FloatOps F] in
theorem a_whole (c : Dev nD) : iprop((∃ f, aPts (F := F) fullShare c 0 f) ∗ ∃ f, aPts (F := F) fullShare c 1 f) ⊢ iprop(∃ f, buf (F := F) c cc0_scratch0 f) := by
  unfold buf aPts
  exact Ring.slots2_join (ℓ := (c : Thread nD τ).loc cc0_scratch0) (q := fullShare) slotSet slots_apart slots_all _ _ (fun _ => rfl) (fun _ => rfl)
omit [FloatOps F] in
theorem b_whole (c : Dev nD) : iprop((∃ f, bPts (F := F) fullShare c 0 f) ∗ ∃ f, bPts (F := F) fullShare c 1 f) ⊢ iprop(∃ f, buf (F := F) c cc0_scratch1 f) := by
  unfold buf bPts
  exact Ring.slots2_join (ℓ := (c : Thread nD τ).loc cc0_scratch1) (q := fullShare) slotSet slots_apart slots_all _ _ (fun _ => rfl) (fun _ => rfl)

/-- The two trips. -/
theorem loop_eq (body : Fin k0_t1_loop.trips → Unit → Prog (TpuEff nD τ sig (Elt F) Λ₀ .tc) Unit) :
    Scf.Loop.for k0_t1_loop k0_t1_ok ⟨⟩ body = (body t0 () >>= fun u => body t1 u) := by
  have e : List.finRange k0_t1_loop.trips = [t0, t1] := by decide
  refine (Scf.for_eq _ _ _ _ _ _).trans ?_
  show Scf.forFrom body (List.finRange k0_t1_loop.trips) () = _
  rw [e]
  simp only [Scf.forFrom_cons, Scf.forFrom_nil, Prog.bind_ret]
  congr 1
  funext u
  exact Prog.bind_pure _

set_option maxHeartbeats 1000000 in
set_option maxRecDepth 65536 in
theorem body_run (K : GSem nD τ sig → ℕ) (c : Dev nD) (Q : PUnit → sProp 𝕄) (W : Waits sig Unit)
    (x : S256x512.Idx → Elt F .bf16) (kh vh : S256x128x64.Idx → Elt F .bf16)
    (h0 : tM.IsWhole) (h1 : xM.IsWhole) (h2 : wM.IsWhole) (h3 : kM.IsWhole) (h4 : vM.IsWhole) (h5 : oM.IsWhole) (h6 : aM.IsWhole) (h7 : bM.IsWhole) (h8 : gM.IsWhole) :
    iprop(bodyPre w K c x kh vh W ∗ (bodyPost w c x kh vh -∗ Q ⟨⟩))
      ⊢ WP c (cc0_body (F := F) tM h0 xM h1 wM h2 kM h3 vM h4 oM h5 aM h6 bM h7 gM h8 cc0_scratch3 cc0_scratch4 cc0_scratch5 cc0_scratch6) Q := by
  simp only [cc0_body_eq_skeleton]
  unfold cc0_body_skel
  simp only [k0_part14_eq_skeleton]
  unfold k0_part14_skel
  simp only [loop_eq]
  simp only [semSignalWord, semWaitWord, smemLoad, smemLoadElt, Prog.lift, Prog.bind_op, Prog.bind_ret, Prog.pure_eq_ret, Prog.bind_assoc]
  unfold bodyPre opened invs duties staged scratch
  iintro ⟨⟨⟨⟨#HIb, #HIsR, #HIvR, #HIsL, #HIvL, #HIbP, #HIbN, #HIvRN, #HIvLP⟩, HatB, HatSR, HatVR, HatSL, HatVL, #HrSR, #HrVR, #HrSL, #HrVL, #HrBP, #HrBN,
      HdBP, HdBN, HdSR, HdVR, HdSL, HdVL⟩, ⟨HcB, HcVR, HcVL⟩, #Hlev, ⟨%o0, Ht, Hx, Hw, HK, HV, Ho⟩, ⟨Ha, Hb, Hg⟩, HO⟩, Hk⟩
  unfold WP
  rw [wp_deviceId]
  iapply (wp_word c 0 c _ (word0 c) _ (off1_eq c) _) $$ Ht
  iintro Ht
  simp only [wp_assume_of _ _ _ _ (d := k0_chk2.dec _) (chk2 (nxt c))]
  iapply (wp_word c 1 c _ (word1 c) _ (off2_eq c) _) $$ Ht
  iintro Ht
  simp only [wp_assume_of _ _ _ _ (d := k0_chk1.dec _) (chk1 (prv c))]
  iapply (wp_word c 2 c _ rfl _ (off3_eq c) _) $$ Ht
  iintro Ht
  simp only [wp_assume_of _ _ _ _ (d := k0_chk3.dec _) (chk3 c)]
  ihave Ha := (a_slots (F := F) c) $$ Ha
  icases Ha with ⟨⟨%fa0, Ha⟩, HaN⟩
  ihave Hb := (b_slots (F := F) c) $$ Hb
  icases Hb with ⟨⟨%fb0, Hb⟩, HbN⟩
  simp only [dev1_eq (prv c), dev2_eq (nxt c)]
  -- the neighbours meet
  unfold O₀
  iapply (Rounds.wp_signal 𝒱₀ ER (sched w) (c : Thread nD τ) none (dst := (prv c : Thread nD τ)) (κ := K (barCell (prv c)))
      (d := true) (by rw [duties_bar]; exact Finset.mem_univ _) ((amount_bar w (prv c) true).trans (by decide)) () (O₁ c) rfl) $$ [HO HdBP HaN]
  · isplitr; · iexact HIbP
    isplitl [HO]; · iexact HO
    isplitl [HdBP]; · iexact HdBP
    isplitl [HaN]
    · rw [payload_bar_true]; unfold barPayT; rw [nxt_prv]
      isplitl [HaN]; · iexact HaN
      iexact HrVR
    iexact HrBP
  iintro HO
  unfold O₁
  iapply (Rounds.wp_signal 𝒱₀ ER (sched w) (c : Thread nD τ) none (dst := (nxt c : Thread nD τ)) (κ := K (barCell (nxt c)))
      (d := false) (by rw [duties_bar]; exact Finset.mem_univ _) ((amount_bar w (nxt c) false).trans (by decide)) () (O₂ c) rfl) $$ [HO HdBN HbN]
  · isplitr; · iexact HIbN
    isplitl [HO]; · iexact HO
    isplitl [HdBN]; · iexact HdBN
    isplitl [HbN]
    · rw [payload_bar_false]; unfold barPayF; rw [prv_nxt]
      isplitl [HbN]; · iexact HbN
      iexact HrVL
    iexact HrBN
  iintro HO
  iapply (wp_barrier c w (K (barCell c)) W _ (by decide)) $$ [HcB HO HatB]
  · isplitr; · iexact HIb
    isplitl [HcB]; · iexact HcB
    isplitl [HO]; · iexact HO
    isplitr; · iexact Hlev
    iexact HatB
  iintro ⟨HO, HatB, HpF, HpT⟩
  -- the fills
  iapply (wp_w c (w c) _ (by decide) _) $$ Hw; iintro Hw
  iapply (wp_fillR c fa0 (w c) _ rfl _) $$ Ha; iintro Ha
  iapply (wp_w c (w c) _ (by decide) _) $$ Hw; iintro Hw
  iapply (wp_fillL c fb0 (w c) _ rfl _) $$ Hb; iintro Hb
  iapply (wp_o c o0 _ (by decide) _) $$ Ho; iintro Ho
  iapply (wp_oput c o0 _ _ (by decide) _) $$ Ho; iintro Ho
  -- the two trips
  unfold WP
  rw [wp_bind]
  iapply (trip0 w K c _ _ x kh vh k0_pay1 h0 h1 h2 h3 h4 h5 h6 h7 h8 _ _ _) $$ [Ht Hx HK HV Ho Hg Ha Hb HpF HpT HO HatSR HatVR HatSL HatVL HdSR HdVR HdSL HdVL HcVR HcVL]
  · isplitl [Ht Hx HK HV Ho Hg]
    · isplitr
      · unfold invs
        isplitr; · iexact HIb
        isplitr; · iexact HIsR
        isplitr; · iexact HIvR
        isplitr; · iexact HIsL
        isplitr; · iexact HIvL
        isplitr; · iexact HIbP
        isplitr; · iexact HIbN
        isplitr; · iexact HIvRN
        iexact HIvLP
      isplitl [Ht]; · iexact Ht
      isplitl [Hx]; · iexact Hx
      isplitl [HK]; · iexact HK
      isplitl [HV]; · iexact HV
      isplitl [Ho]; · iexact Ho
      iexact Hg
    isplitl [Ha Hb HpF HpT HO]
    · isplitl [Ha]; · iexact Ha
      isplitl [Hb]; · iexact Hb
      isplitl [HpF]; · iexact HpF
      isplitl [HpT]; · iexact HpT
      iexact HO
    isplitl [HatSR HatVR HatSL HatVL]
    · isplitl [HatSR]; · iexact HatSR
      isplitl [HatVR]; · iexact HatVR
      isplitl [HatSL]; · iexact HatSL
      iexact HatVL
    isplitr
    · isplitr; · iexact HrSR
      iexact HrSL
    isplitl [HdSR HdVR HdSL HdVL]
    · isplitl [HdSR]; · iexact HdSR
      isplitl [HdVR]; · iexact HdVR
      isplitl [HdSL]; · iexact HdSL
      iexact HdVL
    isplitl [HcVR]; · iexact HcVR
    iexact HcVL
  iintro ⟨⟨Ht, Hx, HK, HV, Ho, Hg⟩, ⟨Ha, Hb, HaN, HbN⟩, HO, HatSR, HatVR, HatSL, HatVL⟩
  rw [wp_bind]
  iapply (trip1 w c _ x kh vh (addGroup x kh vh (w c) c k0_pay1) h0 h1 h2 h3 h4 h5 h6 h7 h8 _ _ _) $$ [Ht Hx HK HV Ho Hg HaN HbN]
  · isplitl [Ht]; · iexact Ht
    isplitl [Hx]; · iexact Hx
    isplitl [HK]; · iexact HK
    isplitl [HV]; · iexact HV
    isplitl [Ho]; · iexact Ho
    isplitl [Hg]; · iexact Hg
    isplitl [HaN]; · iexact HaN
    iexact HbN
  iintro ⟨Ht, Hx, HK, HV, Ho, Hg, HaN, HbN⟩
  -- the counters come back empty
  imod (close w (K (barCell c)) (barCell c)) $$ [HatB] with HsB
  · isplitr; · iexact HIb
    iexact HatB
  imod (close w (K (sRCell c)) (sRCell c)) $$ [HatSR] with HsSR
  · isplitr; · iexact HIsR
    iexact HatSR
  imod (close w (K (vRCell c)) (vRCell c)) $$ [HatVR] with HsVR
  · isplitr; · iexact HIvR
    iexact HatVR
  imod (close w (K (sLCell c)) (sLCell c)) $$ [HatSL] with HsSL
  · isplitr; · iexact HIsL
    iexact HatSL
  imod (close w (K (vLCell c)) (vLCell c)) $$ [HatVL] with HsVL
  · isplitr; · iexact HIvL
    iexact HatVL
  rw [wp_ret]
  imodintro
  iapply Hk
  unfold bodyPost staged scratch share
  isplitl [HsB HsSR HsVR HsSL HsVL]
  · isplitl [HsB]; · iexact HsB
    isplitl [HsSR]; · iexact HsSR
    isplitl [HsVR]; · iexact HsVR
    isplitl [HsSL]; · iexact HsSL
    iexact HsVL
  isplitl [Ht Hx Hw HK HV Ho]
  · isplitl [Ht]; · iexact Ht
    isplitl [Hx]; · iexact Hx
    isplitl [Hw]; · iexact Hw
    isplitl [HK]; · iexact HK
    isplitl [HV]; · iexact HV
    iexact Ho
  isplitl [Ha Hb HaN HbN Hg]
  · isplitl [Ha HaN]
    · iapply (a_whole c)
      isplitl [Ha]
      · iexists _; iexact Ha
      · iexists _; iexact HaN
    isplitl [Hb HbN]
    · iapply (b_whole c)
      isplitl [Hb]
      · iexists _; iexact Hb
      · iexists _; iexact HbN
    iexact Hg
  iexact HO

end Cert.SliceIdeal.Hop
-- ==== Proof.Slice.Region.lean ====
/-
The pallas_call as a region of the launch: what its windows hold, its body's obligation at the one grid point (which is
the run of the body), and the segment it makes, which opens the four copy semaphores on entry.
-/
module

public import proofs.«01_k».proof.Proof.Slice.Body
public import proofs.«01_k».proof.Proof.Gen.SliceIdeal.Points
public import proofs.«01_k».proof.Proof.Gen.SliceIdeal.Regions
public import Idealize.ShloMosaic.Lib.Pipeline.RegionTalk

@[expose] public section

noncomputable section

namespace Cert.SliceIdeal.Hop

open Cert.SliceIdeal Cert.SliceIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (V : Dev nD → Valuation τ sig (Elt F))

/-! ## What the host code leaves for the kernel -/

def xs (c : Dev nD) : S256x512.Idx → Elt F .bf16 := V c main_v5
def ws (c : Dev nD) : S2x512x256.Idx → Elt F .bf16 := V c main_v9
def ks (c : Dev nD) : S256x128x64.Idx → Elt F .bf16 := V c main_v21
def vs (c : Dev nD) : S256x128x64.Idx → Elt F .bf16 := V c main_v23
/-- What the kernel leaves in the result. -/
def res (c : Dev nD) : S2x128x512.Idx → Elt F .f32 := share (ws V) (xs V c) (ks V c) (vs V c) c

theorem table_rows (i : S4x32.Idx) : lit0 (S4x32.rowMajor i) = word (i 0) (i 1) := by
  unfold word
  congr 1
  apply Fin.ext
  rw [Shape.rowMajor_val_two]
  rfl

/-- The unscoped buffers after the call. -/
def Vend (c : Dev nD) : Valuation τ sig (Elt F) := Function.update (V c) (Proc.devRef .tc main_v24) (res V c)

theorem Vend_result (c : Dev nD) : Vend V c main_v24 = res V c := Function.update_self ..
theorem Vend_other (c : Dev nD) (b : DevRef τ sig) (h : b ≠ Proc.devRef .tc main_v24) : Vend V c b = V c b := Function.update_of_ne h ..

/-! ## The protocol's part of the thread state -/

def credits (c : Dev nD) : sProp 𝕄 :=
  iprop(cred (tallyAt (barCell c) () 2) ∗ cred (tallyAt (vRCell c) () N) ∗ cred (tallyAt (vLCell c) () N))
/-- The copy semaphores the first hop does not use. -/
def idle (c : Dev nD) : sProp 𝕄 :=
  iprop(semVal ((c : Thread nD τ), osem 1) 0 ∗ semVal ((c : Thread nD τ), osem 2) 0 ∗ semVal ((c : Thread nD τ), osem 5) 0 ∗ semVal ((c : Thread nD τ), osem 6) 0)

def Tk (c : Dev nD) : sProp 𝕄 := iprop((∃ K, ghost (ws V) K c) ∗ credits (F := F) c)
def Xk (c : Dev nD) : sProp 𝕄 := iprop((∃ K, opened (ws V) K c) ∗ credits (F := F) c ∗ levAts L lv ∗ idle (F := F) c)
def Yk (c : Dev nD) : sProp 𝕄 := semVal (barCell c) 0
def copySems (c : Dev nD) : sProp 𝕄 := iprop(semVal (sRCell c) 0 ∗ semVal (vRCell c) 0 ∗ semVal (sLCell c) 0 ∗ semVal (vLCell c) 0)

/-- What the kernel keeps before the point and after it, and what the core owes. -/
def phi (c : Dev nD) : ℕ → sProp 𝕄
  | 0 => iprop(Xk V c ∗ scratch (F := F) c ∗ ∃ r, prngReg c r)
  | _ + 1 => iprop(Yk (F := F) c ∗ copySems (F := F) c ∗ idle (F := F) c ∗ scratch (F := F) c ∗ ∃ r, prngReg c r)
def debt (c : Dev nD) : ℕ → CellTallies nD τ sig Unit
  | 0 => O₀ c
  | _ + 1 => 0

def dat (c : Dev nD) : Dat τ (Elt F) Unit ℕ UU ℕ cfg0 c where
  A w := V c ((cfg0.win w).arr.view.loc (c : Thread nD τ)).2
  after w _ := match w with
    | ⟨0, _⟩ => (table : S4x32.Idx → BitVec 32)
    | ⟨1, _⟩ => xs V c
    | ⟨2, _⟩ => ws V c
    | ⟨3, _⟩ => ks V c
    | ⟨4, _⟩ => vs V c
    | ⟨5, _⟩ => res V c
  Φ t := phi V c t.val
  q _ := fullShare
  owed t := debt c t.val

def pdats : (p : Fin 1) → (c : Dev nD) → Dat τ (Elt F) Unit ℕ UU ℕ (cfgs p) c := fun | 0 => dat V

/-! ## The body's obligation -/

omit [FloatOps F] in
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : b.ty.Contents (Elt F), ⌜f = X⌝ ∗ buf (F := F) c b f) := by
  unfold owns buf; simp only [Memref.view_whole, View.read_whole, View.set_whole]

theorem owed_first (c : Dev nD) : (dat V c).owed t0_0.castSucc = O₀ c := rfl
theorem owed_last (c : Dev nD) : (dat V c).owed t0_0.succ = 0 := rfl

theorem owes_out (c : Dev nD) (t : Fin (cfg0.N + 1)) (O : CellTallies nD τ sig Unit) (h : (dat V c).owed t = O) :
    ((dat V c).owesAt () t : sProp 𝕄) ⊢ iprop(∃ W, owes (c : Thread nD τ) O W) := by
  unfold Dat.owesAt Pipeline.owesWithin
  rw [h]
  iintro ⟨%W, -, HO⟩
  iexists W; iexact HO
theorem owes_back (c : Dev nD) (t : Fin (cfg0.N + 1)) (O : CellTallies nD τ sig Unit) (h : (dat V c).owed t = O) :
    iprop(∃ W, owes (c : Thread nD τ) O W) ⊢ ((dat V c).owesAt () t : sProp 𝕄) := by
  unfold Dat.owesAt Pipeline.owesWithin Dat.bound
  rw [h, show (dat V c).recorded t = Set.univ from rfl]
  iintro ⟨%W, HO⟩
  iexists W
  isplitr; · ipureintro; exact fun _ _ => Or.inl trivial
  iexact HO

section Blocks
variable (c : Dev nD)

theorem before0 (hT : ∀ c, V c main_c = (table : S4x32.Idx → BitVec 32)) (d) : (dat V c).before (0 : Fin 6) t0_0 d = (table : S4x32.Idx → BitVec 32) := by
  unfold Dat.before; rw [if_pos (fetch0_0 t0_0)]
  exact (Memref.read_access_unit_zero (Elt F) main_c (off := fun a => win0_0.index (0 : Fin 1) a * main_c.ty.shape.size a) (funext fun a => by fin_cases a <;> decide) (fun a => by fin_cases a <;> decide) (V c main_c)).trans (hT c)
theorem before1 (d) : (dat V c).before (1 : Fin 6) t0_0 d = xs V c := by
  unfold Dat.before; rw [if_pos (fetch0_1 t0_0)]
  exact (Memref.read_access_unit_zero (Elt F) main_v5 (off := fun a => win0_1.index (0 : Fin 1) a * main_v5.ty.shape.size a) (funext fun a => by fin_cases a <;> decide) (fun a => by fin_cases a <;> decide) (V c main_v5))
theorem before2 (d) : (dat V c).before (2 : Fin 6) t0_0 d = ws V c := by
  unfold Dat.before; rw [if_pos (fetch0_2 t0_0)]
  exact (Memref.read_access_unit_zero (Elt F) main_v9 (off := fun a => win0_2.index (0 : Fin 1) a * main_v9.ty.shape.size a) (funext fun a => by fin_cases a <;> decide) (fun a => by fin_cases a <;> decide) (V c main_v9))
theorem before3 (d) : (dat V c).before (3 : Fin 6) t0_0 d = ks V c := by
  unfold Dat.before; rw [if_pos (fetch0_3 t0_0)]
  exact (Memref.read_access_unit_zero (Elt F) main_v21 (off := fun a => win0_3.index (0 : Fin 1) a * main_v21.ty.shape.size a) (funext fun a => by fin_cases a <;> decide) (fun a => by fin_cases a <;> decide) (V c main_v21))
theorem before4 (d) : (dat V c).before (4 : Fin 6) t0_0 d = vs V c := by
  unfold Dat.before; rw [if_pos (fetch0_4 t0_0)]
  exact (Memref.read_access_unit_zero (Elt F) main_v23 (off := fun a => win0_4.index (0 : Fin 1) a * main_v23.ty.shape.size a) (funext fun a => by fin_cases a <;> decide) (fun a => by fin_cases a <;> decide) (V c main_v23))

theorem result_array : (dat V c).arrAt (5 : Fin 6) cfg0.N = res V c := by
  have hr := (Memref.read_access_unit_zero (Elt F) main_v24 (off := fun a => win0_5.index (0 : Fin 1) a * main_v24.ty.shape.size a) (funext fun a => by fin_cases a <;> decide) (fun a => by fin_cases a <;> decide)
    ((dat V c).arrAt (5 : Fin 6) cfg0.N)).symm
  refine hr.trans ?_
  rw [show cfg0.N = ((0 : Fin 1) : Fin cfg0.N).val + 1 from rfl, (dat V c).arrAt_succ (5 : Fin 6) (0 : Fin 1), show (cfg0.win (5 : Fin 6)).flush (0 : Fin 1) = true from flush0_5 _, if_pos rfl]
  exact View.read_write_univ _ _

end Blocks

/-- What a staging buffer is held at. -/
abbrev stg (c : Dev nD) (b : Ref sig .tc) (X : b.ty.Contents (Elt F)) : sProp 𝕄 := iprop(∃ f : b.ty.Contents (Elt F), ⌜f = X⌝ ∗ buf (F := F) c b f)

def pointPre (c : Dev nD) : sProp 𝕄 :=
  iprop((Xk V c ∗ scratch (F := F) c ∗ ∃ r, prngReg c r) ∗ (dat V c).owesAt () t0_0.castSucc
    ∗ (∃ d, stg c cc0_stg0_0 ((dat V c).before (0 : Fin 6) t0_0 d)) ∗ (∃ d, stg c cc0_stg1_0 ((dat V c).before (1 : Fin 6) t0_0 d))
    ∗ (∃ d, stg c cc0_stg2_0 ((dat V c).before (2 : Fin 6) t0_0 d)) ∗ (∃ d, stg c cc0_stg3_0 ((dat V c).before (3 : Fin 6) t0_0 d))
    ∗ (∃ d, stg c cc0_stg4_0 ((dat V c).before (4 : Fin 6) t0_0 d)) ∗ (∃ d, stg c cc0_stg5_0 ((dat V c).before (5 : Fin 6) t0_0 d)))
def pointPost (c : Dev nD) : sProp 𝕄 :=
  iprop((Yk (F := F) c ∗ copySems (F := F) c ∗ idle (F := F) c ∗ scratch (F := F) c ∗ ∃ r, prngReg c r) ∗ (dat V c).owesAt () t0_0.succ
    ∗ stg c cc0_stg0_0 (table : S4x32.Idx → BitVec 32) ∗ stg c cc0_stg1_0 (xs V c) ∗ stg c cc0_stg2_0 (ws V c) ∗ stg c cc0_stg3_0 (ks V c)
    ∗ stg c cc0_stg4_0 (vs V c) ∗ stg c cc0_stg5_0 (res V c))

set_option maxRecDepth 8000 in
theorem point_run (hT : ∀ c, V c main_c = (table : S4x32.Idx → BitVec 32)) (c : Dev nD) : pointPre V c ⊢ WP c (bodyAt0 t0_0) (fun _ => pointPost V c) := by
  show _ ⊢ WP c (cc0_body (F := F) tM (Memref.isWhole_whole _) xM (Memref.isWhole_whole _) wM (Memref.isWhole_whole _) kM (Memref.isWhole_whole _)
    vM (Memref.isWhole_whole _) oM (Memref.isWhole_whole _) aM (Memref.isWhole_whole _) bM (Memref.isWhole_whole _) gM (Memref.isWhole_whole _)
    cc0_scratch3 cc0_scratch4 cc0_scratch5 cc0_scratch6) (fun _ => pointPost V c)
  unfold pointPre Xk credits
  simp only [before0 V c hT, before1, before2, before3, before4]
  iintro ⟨⟨⟨⟨%K, Hg⟩, Hcr, Hlev, Hid⟩, Hs, Hreg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  subst e0; subst e1; subst e2; subst e3; subst e4
  ihave HO := (owes_out V c _ (O₀ c) (owed_first V c)) $$ HO
  icases HO with ⟨%W, HO⟩
  iapply (body_run (ws V) K c (fun _ => pointPost V c) W (xs V c) (ks V c) (vs V c))
  isplitl [Hg Hcr Hlev Hs HO H0 H1 H2 H3 H4 H5]
  · unfold bodyPre staged
    isplitl [Hg]; · iexact Hg
    isplitl [Hcr]; · iexact Hcr
    isplitl [Hlev]; · iexact Hlev
    isplitl [H0 H1 H2 H3 H4 H5]
    · iexists f5
      isplitl [H0]; · iexact H0
      isplitl [H1]; · iexact H1
      isplitl [H2]; · iexact H2
      isplitl [H3]; · iexact H3
      isplitl [H4]; · iexact H4
      iexact H5
    isplitl [Hs]; · iexact Hs
    iexact HO
  unfold bodyPost staged pointPost Yk copySems
  iintro ⟨⟨HzB, Hz⟩, ⟨H0, H1, H2, H3, H4, H5⟩, Hs, HO⟩
  isplitl [HzB Hz Hid Hs Hreg]
  · isplitl [HzB]; · iexact HzB
    isplitl [Hz]; · iexact Hz
    isplitl [Hid]; · iexact Hid
    isplitl [Hs]; · iexact Hs
    iexact Hreg
  isplitl [HO]; · iapply (owes_back V c _ 0 (owed_last V c)); iexact HO
  isplitl [H0]; · (iexists _; isplitr; · (ipureintro; rfl)); iexact H0
  isplitl [H1]; · (iexists _; isplitr; · (ipureintro; rfl)); iexact H1
  isplitl [H2]; · (iexists _; isplitr; · (ipureintro; rfl)); iexact H2
  isplitl [H3]; · (iexists _; isplitr; · (ipureintro; rfl)); iexact H3
  isplitl [H4]; · (iexists _; isplitr; · (ipureintro; rfl)); iexact H4
  iexists _; isplitr; · (ipureintro; rfl)
  iexact H5

set_option maxRecDepth 8000 in
theorem body_ok (hT : ∀ c, V c main_c = (table : S4x32.Idx → BitVec 32)) (c : Dev nD) : BodyObligation (dat V c) (defs₀ (F := F)) 𝒱₀ () Set.univ := fun t => by
  rw [fin_N0 t]
  rw [bigSep_W0, bigSep_W0]
  simp only [owns_buf]
  exact point_run V hT c

/-! ## The segment -/

theorem own_ok : Pipeline.OwnSemFacts spec0 osem := by decide
theorem share_ok (c : Dev nD) (w : Fin 6) : (dat V c).share w = fullShare := by unfold Dat.share; split <;> rfl

omit [FloatOps F] in
theorem ownSems_eq (c : Dev nD) : (Pipeline.ownSems0 (Ix := Unit) (Name := ℕ) (U := UU) (Lvl := ℕ) (Val := Elt F) (τ := τ) osem c : sProp 𝕄)
    = iprop(semVal (sRCell c) 0 ∗ semVal ((c : Thread nD τ), osem 1) 0 ∗ semVal ((c : Thread nD τ), osem 2) 0 ∗ semVal (vRCell c) 0
      ∗ semVal (sLCell c) 0 ∗ semVal ((c : Thread nD τ), osem 5) 0 ∗ semVal ((c : Thread nD τ), osem 6) 0 ∗ semVal (vLCell c) 0) :=
  bigSep_univ_eq_bigSepL [0, 1, 2, 3, 4, 5, 6, 7] (by decide) (by decide) _

theorem region_open (c : Dev nD) : iprop(Tk V c ∗ Pipeline.ownSems0 osem c ∗ levAts L lv) ⊢ (|={Set.univ}=> Xk V c : sProp 𝕄) := by
  rw [ownSems_eq]
  unfold Tk Xk idle
  iintro ⟨⟨⟨%K, Hg⟩, Hcr⟩, ⟨H0, H1, H2, H3, H4, H5, H6, H7⟩, #Hlev⟩
  unfold ghost
  icases Hg with ⟨#HI, HaB, HoSR, HoVR, HoSL, HoVL, #HrP, #HrN, Hd⟩
  ihave HI' := HI
  unfold invs
  icases HI' with ⟨#HIb, #HIsR, #HIvR, #HIsL, #HIvL, -⟩
  imod (open_cell (ws V) (K (sRCell c)) (sRCell c)) $$ [HoSR H0] with ⟨HaSR, #HrSR⟩
  · isplitr; · iexact HIsR
    isplitl [HoSR] <;> iassumption
  imod (open_cell (ws V) (K (vRCell c)) (vRCell c)) $$ [HoVR H3] with ⟨HaVR, #HrVR⟩
  · isplitr; · iexact HIvR
    isplitl [HoVR] <;> iassumption
  imod (open_cell (ws V) (K (sLCell c)) (sLCell c)) $$ [HoSL H4] with ⟨HaSL, #HrSL⟩
  · isplitr; · iexact HIsL
    isplitl [HoSL] <;> iassumption
  imod (open_cell (ws V) (K (vLCell c)) (vLCell c)) $$ [HoVL H7] with ⟨HaVL, #HrVL⟩
  · isplitr; · iexact HIvL
    isplitl [HoVL] <;> iassumption
  imodintro
  isplitl [HaB HaSR HaVR HaSL HaVL Hd]
  · iexists K
    unfold opened invs
    isplitr; · iexact HI
    isplitl [HaB]; · iexact HaB
    isplitl [HaSR]; · iexact HaSR
    isplitl [HaVR]; · iexact HaVR
    isplitl [HaSL]; · iexact HaSL
    isplitl [HaVL]; · iexact HaVL
    isplitr; · iexact HrSR
    isplitr; · iexact HrVR
    isplitr; · iexact HrSL
    isplitr; · iexact HrVL
    isplitr; · iexact HrP
    isplitr; · iexact HrN
    iexact Hd
  isplitl [Hcr]; · iexact Hcr
  isplitr; · iexact Hlev
  isplitl [H1]; · iexact H1
  isplitl [H2]; · iexact H2
  isplitl [H5]; · iexact H5
  iexact H6

omit [FloatOps F] in
theorem held_none (c : Dev nD) (W : Valuation τ sig (Elt F)) : (StableHlo.held (c.tc : Thread nD τ) ∅ W : sProp 𝕄) = BI.emp := by
  unfold StableHlo.held; exact BI.bigSep_empty

theorem region_in (c : Dev nD) :
    iprop(Pipeline.scopedRest spec0 c ∗ (∃ r, prngReg c r) ∗ StableHlo.held (c.tc : Thread nD τ) ∅ (V c) ∗ Xk V c) ⊢ (dat V c).Φ 0 := by
  show _ ⊢ phi V c 0
  rw [scopedRest0_eq]
  unfold phi scratch buf
  iintro ⟨Hs, Hp, -, HX⟩
  isplitl [HX]; · iexact HX
  isplitl [Hs]; · iexact Hs
  iexact Hp

theorem region_out (c : Dev nD) : (dat V c).Φ (Fin.last cfg0.N)
    ⊢ iprop(Pipeline.scopedRest spec0 c ∗ (∃ r, prngReg c r) ∗ StableHlo.held (c.tc : Thread nD τ) ∅ (Vend V c) ∗ Pipeline.ownSems0 osem c ∗ Yk (F := F) c) := by
  rw [show (dat V c).Φ (Fin.last cfg0.N) = phi V c 1 from congrArg (phi V c) ((Fin.val_last _).trans N_0), scopedRest0_eq, ownSems_eq, held_none]
  unfold phi scratch buf copySems idle
  iintro ⟨HY, ⟨H0, H3, H4, H7⟩, ⟨H1, H2, H5, H6⟩, Hs, Hp⟩
  isplitl [Hs]; · iexact Hs
  isplitl [Hp]; · iexact Hp
  isplitr; · iempintro
  isplitr [HY]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HY

/-- Whatever the region owes at a point is owed on an indexed cell, above the staging cells. -/
theorem region_owes (c : Dev nD) (t : Fin (cfg0.N + 1)) (g : GSem nD τ sig) (i : Unit) (h : 0 < (dat V c).owed t g i) : i ∈ L g ∧ 0 < lv g i := by
  replace h : 0 < debt c t.val g i := h
  rcases t with ⟨_ | n, hn⟩
  · exact O₀_lv h
  · exact absurd h (Nat.lt_irrefl 0)

theorem result_mem : Proc.devRef .tc main_v24 ∈ (Pipeline.arrRefs spec0 : Finset (DevRef τ sig)) := by decide

abbrev restRefs : Finset (DevRef τ sig) := Pipeline.ucRefs τ sig \ Pipeline.arrRefs spec0

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

set_option backward.isDefEq.respectTransparency.types false in
def reg (hT : ∀ c, V c main_c = (table : S4x32.Idx → BitVec 32)) : Pipeline.RegionSeg (pcfgs (F := F)) adm (pdats V) () defs₀ 𝒱₀ L lv 0 :=
  Pipeline.RegionSeg.ofTalk (pcfgs (F := F)) adm (pdats V) () defs₀ 𝒱₀ L lv 0 osem own_ok
    ∅ restRefs (Finset.empty_subset _) kit rfl (fun c => (body_ok V hT c).loose)
    (fun _ => 0) O₀ (fun c => (show (dat V c).owed 0 = O₀ c from rfl).trans (zero_add _).symm)
    (fun c => (show (dat V c).owed (Fin.last cfg0.N) = 0 from congrArg (debt c) ((Fin.val_last _).trans N_0))) (fun _ => rfl) (share_ok V)
    V (Vend V)
    (fun c b hb => Vend_other V c b fun e => (Finset.mem_sdiff.mp (Finset.mem_sdiff.mp hb).1).2 (e ▸ result_mem))
    (Tk V) Yk (Xk V) Yk (region_open V) (region_in V) (region_out V)
    (fun c => by iintro H; imodintro; iexact H)
    (fun _ => 0)
    ⟨fun c w s => Finset.mem_singleton_self _, fun c w s => by fin_cases w <;> exact Nat.le_refl 0, fun c t g i h => region_owes V c t g i h⟩
    (fun _ => iprop(emp))
    (fun c w => rfl)
    (fun c w => by
      fin_cases w
      · exact ((dat V c).arrAt_in (0 : Fin 6) rfl _).trans (Vend_other V c (Proc.devRef .tc main_c) (by decide)).symm
      · exact ((dat V c).arrAt_in (1 : Fin 6) rfl _).trans (Vend_other V c (Proc.devRef .tc main_v5) (by decide)).symm
      · exact ((dat V c).arrAt_in (2 : Fin 6) rfl _).trans (Vend_other V c (Proc.devRef .tc main_v9) (by decide)).symm
      · exact ((dat V c).arrAt_in (3 : Fin 6) rfl _).trans (Vend_other V c (Proc.devRef .tc main_v21) (by decide)).symm
      · exact ((dat V c).arrAt_in (4 : Fin 6) rfl _).trans (Vend_other V c (Proc.devRef .tc main_v23) (by decide)).symm
      · exact (result_array V c).trans (Vend_result V c).symm)

end Cert.SliceIdeal.Hop

end
-- ==== Proof.Slice.Launch.lean ====
/-
The launch: the barrier cells made from their counters, the four copy cells of a device made dormant, the duties' tokens
handed round the ring, the credit of what the neighbours owe; and the run of the whole program from any memory.
-/
module

public import proofs.«01_k».proof.Proof.Slice.Region
public import Idealize.ShloMosaic.Lib.Quiescent
public import Idealize.ShloMosaic.Lib.StableHlo.RunRead

@[expose] public section

noncomputable section

namespace Cert.SliceIdeal.Hop

open Cert.SliceIdeal Cert.SliceIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

def barEmb : Dev nD ↪ GSem nD τ sig := ⟨fun c => barCell c, fun _ _ h => congrArg (fun g : GSem nD τ sig => g.1.1) h⟩
/-- The copy semaphores in use. -/
abbrev used : Fin 4 → SemLoc sig := fun | 0 => .dma sR | 1 => .dma vR | 2 => .dma sL | 3 => .dma vL
theorem used_inj : Function.Injective used := by decide
theorem used_ne_bar : ∀ k : Fin 4, used k ≠ .reg barS := by decide
def copyEmb : Dev nD × Fin 4 ↪ GSem nD τ sig :=
  ⟨fun p => ((p.1 : Thread nD τ), used p.2), fun _ _ h => Prod.ext (congrArg (fun g : GSem nD τ sig => g.1.1) h) (used_inj (congrArg Prod.snd h))⟩
abbrev barCells : Finset (GSem nD τ sig) := Finset.univ.map barEmb
abbrev copyCells : Finset (GSem nD τ sig) := Finset.univ.map copyEmb

abbrev tokSem : Fin 6 → SemLoc sig × Bool := fun
  | 0 => (.reg barS, true) | 1 => (.reg barS, false) | 2 => (.dma sR, false) | 3 => (.dma vR, false) | 4 => (.dma sL, false) | 5 => (.dma vL, false)
theorem tokSem_inj : Function.Injective tokSem := by decide
def allToks : Finset (GSem nD τ sig × ℕ × Bool) :=
  Finset.univ.map ⟨fun p : Dev nD × Fin 6 => (((p.1 : Thread nD τ), (tokSem p.2).1), 0, (tokSem p.2).2), fun _ _ h =>
    Prod.ext (congrArg (fun t : GSem nD τ sig × ℕ × Bool => t.1.1.1) h)
      (tokSem_inj (Prod.ext (congrArg (fun t : GSem nD τ sig × ℕ × Bool => t.1.2) h) (congrArg (fun t : GSem nD τ sig × ℕ × Bool => t.2.2) h)))⟩

theorem cells_apart : Disjoint (barCells : Finset (GSem nD τ sig)) copyCells := by
  rw [Finset.disjoint_left]
  intro g h₁ h₂
  obtain ⟨c, -, rfl⟩ := Finset.mem_map.mp h₁
  obtain ⟨p, -, h⟩ := Finset.mem_map.mp h₂
  exact used_ne_bar p.2 (congrArg Prod.snd h)

theorem bar_in (c : Dev nD) : barCell c ∈ (barCells ∪ copyCells : Finset (GSem nD τ sig)) :=
  Finset.mem_union_left _ (Finset.mem_map_of_mem barEmb (Finset.mem_univ c))
theorem copy_in (c : Dev nD) (k : Fin 4) : ((c : Thread nD τ), used k) ∈ (barCells ∪ copyCells : Finset (GSem nD τ sig)) :=
  Finset.mem_union_right _ (Finset.mem_map_of_mem copyEmb (Finset.mem_univ (c, k)))

def u₀ : UU :=
  (initOf (Pipeline.cells (Pipeline.pin (pcfgs (F := F)) adm) cellOf_inj) (Pipeline.launchToks (Pipeline.pin (pcfgs (F := F)) adm) cellOf_inj),
    launchOf barCells copyCells allToks)

/-- A resource held by one device alone. -/
def onlyAt (d : Dev nD) (X : sProp 𝕄) (c : Dev nD) : sProp 𝕄 := if c = d then X else iprop(emp)
omit [FloatOps F] in
theorem onlyAt_all (d : Dev nD) (X : sProp 𝕄) : bigSep Finset.univ (onlyAt d X) = X := by
  rw [bigSep_univ_at _ d, bigSep_congr (s := Finset.univ.erase d) (Ψ := fun _ => (BI.emp : sProp 𝕄))
    fun c hc => show onlyAt (F := F) d X c = BI.emp from if_neg (Finset.ne_of_mem_erase hc), BI.bigSep_emp_const, show onlyAt (F := F) d X d = X from if_pos rfl]
  exact BI.equiv_iff.mp sep_emp
def G : Dev nD → sProp 𝕄 := onlyAt 0 (BI.own (ER (launchOf barCells copyCells allToks)))

section Ghost

variable (w : Dev nD → S2x512x256.Idx → Elt F .bf16)

/-- What any device may look up: the names of all the cells, and that every barrier is at its first round. -/
def records (κ : GSem nD τ sig → ℕ) : sProp 𝕄 :=
  iprop((bigSep (barCells ∪ copyCells) fun g => cellInv ER (sched w) (κ g) g) ∗ bigSep barCells fun g => reached ER g 0)
instance records_persistent (κ : GSem nD τ sig → ℕ) : BI.Persistent (records w κ) := by unfold records; infer_instance

theorem name_of (κ : GSem nD τ sig → ℕ) {g : GSem nD τ sig} (hg : g ∈ (barCells ∪ copyCells : Finset (GSem nD τ sig))) :
    (bigSep (barCells ∪ copyCells) fun g => (cellInv ER (sched w) (κ g) g : sProp 𝕄)) ⊢ cellInv ER (sched w) (κ g) g := bigSep_elim hg
omit [FloatOps F] in
theorem started (c : Dev nD) : (bigSep barCells fun g => (reached ER g 0 : sProp 𝕄)) ⊢ reached ER (barCell c) 0 :=
  bigSep_elim (Finset.mem_map_of_mem barEmb (Finset.mem_univ c))

def opens (c : Dev nD) : sProp 𝕄 := iprop(openTok ER (sRCell c) ∗ openTok ER (vRCell c) ∗ openTok ER (sLCell c) ∗ openTok ER (vLCell c))
/-- What a device alone holds. -/
def own1 (c : Dev nD) : sProp 𝕄 := iprop(atPos ER (barCell c) 0 ∅ 0 ∗ opens (F := F) c ∗ duties (F := F) c)

theorem ghost_intro (κ : GSem nD τ sig → ℕ) (c : Dev nD) : iprop(records w κ ∗ own1 (F := F) c) ⊢ iprop(∃ K, ghost w K c) := by
  unfold records own1 opens ghost invs
  iintro ⟨⟨#HI, #HR⟩, HaB, ⟨HoSR, HoVR, HoSL, HoVL⟩, Hd⟩
  iexists κ
  isplitr
  · isplitr; · iapply (name_of w κ (bar_in c)); iexact HI
    isplitr; · iapply (name_of w κ (copy_in c 0)); iexact HI
    isplitr; · iapply (name_of w κ (copy_in c 1)); iexact HI
    isplitr; · iapply (name_of w κ (copy_in c 2)); iexact HI
    isplitr; · iapply (name_of w κ (copy_in c 3)); iexact HI
    isplitr; · iapply (name_of w κ (bar_in (prv c))); iexact HI
    isplitr; · iapply (name_of w κ (bar_in (nxt c))); iexact HI
    isplitr; · iapply (name_of w κ (copy_in (nxt c) 1)); iexact HI
    iapply (name_of w κ (copy_in (prv c) 3)); iexact HI
  isplitl [HaB]; · iexact HaB
  isplitl [HoSR]; · iexact HoSR
  isplitl [HoVR]; · iexact HoVR
  isplitl [HoSL]; · iexact HoSL
  isplitl [HoVL]; · iexact HoVL
  isplitr; · iapply (started (F := F) (prv c)); iexact HR
  isplitr; · iapply (started (F := F) (nxt c)); iexact HR
  iexact Hd

end Ghost

/-- A device's own cells' tokens. -/
def toks (c : Dev nD) : sProp 𝕄 :=
  iprop(dutyTok ER (barCell c) 0 true ∗ dutyTok ER (barCell c) 0 false
    ∗ dutyTok ER (sRCell c) 0 false ∗ dutyTok ER (vRCell c) 0 false ∗ dutyTok ER (sLCell c) 0 false ∗ dutyTok ER (vLCell c) 0 false)

omit [FloatOps F] in
theorem over_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem over_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem toks_eq : bigSep allToks (fun x => (dutyTok ER x.1 x.2.1 x.2.2 : sProp 𝕄)) = bigSep Finset.univ fun c : Dev nD => toks (F := F) c := by
  unfold allToks; rw [bigSep_map, bigSep_univ_prod]
  exact bigSep_congr fun c _ => by unfold toks; rw [over_six]; rfl

/-- One step round the ring, and one step back. -/
def fwd : Dev nD ≃ Dev nD := ⟨nxt, prv, prv_nxt, nxt_prv⟩
def back : Dev nD ≃ Dev nD := ⟨prv, nxt, nxt_prv, prv_nxt⟩

omit [FloatOps F] in
/-- Every token goes to the device that pays with it. -/
theorem toks_around : (bigSep Finset.univ fun c : Dev nD => toks (F := F) c) ⊢ (bigSep Finset.univ fun c : Dev nD => duties (F := F) c : sProp 𝕄) := by
  unfold toks duties
  simp only [bigSep_sep']
  rw [bigSep_univ_equiv back (fun c : Dev nD => (dutyTok ER (barCell c) 0 true : sProp 𝕄)), bigSep_univ_equiv fwd (fun c : Dev nD => (dutyTok ER (barCell c) 0 false : sProp 𝕄)),
    bigSep_univ_equiv fwd (fun c : Dev nD => (dutyTok ER (vRCell c) 0 false : sProp 𝕄)), bigSep_univ_equiv back (fun c : Dev nD => (dutyTok ER (vLCell c) 0 false : sProp 𝕄))]
  exact BI.Entails.refl _

/-! ## The credit -/

theorem cell_eq (d c : Dev nD) (s s' : SemLoc sig) : (((d : Thread nD τ), s) : GSem nD τ sig) = ((c : Thread nD τ), s') ↔ d = c ∧ s = s' :=
  ⟨fun h => ⟨congrArg (fun g : GSem nD τ sig => g.1.1) h, congrArg Prod.snd h⟩, fun h => by rw [h.1, h.2]⟩

theorem prv_eq (d c : Dev nD) : c = prv d ↔ d = nxt c := ⟨fun h => by rw [h, nxt_prv], fun h => by rw [h, prv_nxt]⟩
theorem nxt_eq (d c : Dev nD) : c = nxt d ↔ d = prv c := ⟨fun h => by rw [h, prv_nxt], fun h => by rw [h, nxt_prv]⟩

theorem owed_at (d c : Dev nD) (s : SemLoc sig) : O₀ d ((c : Thread nD τ), s) () =
    (if d = nxt c ∧ s = .dma vL then N else 0) + (if d = prv c ∧ s = .dma vR then N else 0)
      + (if d = prv c ∧ s = .reg barS then 1 else 0) + (if d = nxt c ∧ s = .reg barS then 1 else 0) := by
  unfold O₀ O₁ O₂ O₃
  simp only [Pi.add_apply, Finsupp.add_apply, tallyAt_apply, and_true, cell_eq, prv_eq d c, nxt_eq d c]

theorem owed_bar (d c : Dev nD) : O₀ d (barCell c) () = (if d = prv c then 1 else 0) + (if d = nxt c then 1 else 0) := by
  rw [owed_at, if_neg (fun h => by cases h.2), if_neg (fun h => by cases h.2), zero_add, zero_add]
  simp only [and_true]
theorem owed_vR (d c : Dev nD) : O₀ d (vRCell c) () = if d = prv c then N else 0 := by
  rw [owed_at, if_neg (fun h => absurd h.2 (by decide)), if_neg (c := d = prv c ∧ SemLoc.dma vR = SemLoc.reg barS) (fun h => by cases h.2), if_neg (c := d = nxt c ∧ SemLoc.dma vR = SemLoc.reg barS) (fun h => by cases h.2), zero_add, add_zero, add_zero]
  simp only [and_true]
theorem owed_vL (d c : Dev nD) : O₀ d (vLCell c) () = if d = nxt c then N else 0 := by
  rw [owed_at, if_neg (c := d = prv c ∧ SemLoc.dma vL = SemLoc.dma vR) (fun h => absurd h.2 (by decide)), if_neg (c := d = prv c ∧ SemLoc.dma vL = SemLoc.reg barS) (fun h => by cases h.2), if_neg (c := d = nxt c ∧ SemLoc.dma vL = SemLoc.reg barS) (fun h => by cases h.2), add_zero, add_zero, add_zero]
  simp only [and_true]

theorem credit_bar (c : Dev nD) : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem credit_vR (c : Dev nD) : tallyOn (vRCell c) (launchCredit (Pipeline.owing O₀) 0 (vRCell c)) = (tallyAt (vRCell c) () N : CellTallies nD τ sig Unit) := by
  unfold tallyAt; refine congrArg _ (Finsupp.ext fun u => ?_); cases u
  rw [Pipeline.launchCredit_owing, Finsupp.single_eq_same, Finset.sum_congr rfl fun d _ => owed_vR d c, Finset.sum_ite_eq' Finset.univ (prv c) fun _ => N, if_pos (Finset.mem_univ _)]
theorem credit_vL (c : Dev nD) : tallyOn (vLCell c) (launchCredit (Pipeline.owing O₀) 0 (vLCell c)) = (tallyAt (vLCell c) () N : CellTallies nD τ sig Unit) := by
  unfold tallyAt; refine congrArg _ (Finsupp.ext fun u => ?_); cases u
  rw [Pipeline.launchCredit_owing, Finsupp.single_eq_same, Finset.sum_congr rfl fun d _ => owed_vL d c, Finset.sum_ite_eq' Finset.univ (nxt c) fun _ => N, if_pos (Finset.mem_univ _)]

omit [FloatOps F] in
theorem credits_intro (c : Dev nD) : (Pipeline.launchCred O₀ c : sProp 𝕄) ⊢ credits (F := F) c := by
  unfold Pipeline.launchCred credits
  rw [bigSep_univ_at _ (SemLoc.reg barS), credit_bar, bigSep_erase (i := SemLoc.dma vR) (Finset.mem_erase.mpr ⟨by decide, Finset.mem_univ _⟩), credit_vR]
  refine sep_mono_right (sep_mono_right ?_)
  rw [← credit_vL]
  exact bigSep_elim (Finset.mem_erase.mpr ⟨by decide, Finset.mem_erase.mpr ⟨by decide, Finset.mem_univ _⟩⟩)

/-! ## The run -/

variable (m : (ℓ : Loc nD τ sig) → Buf (Elt F) ℓ) (ρ : Dev nD → PrngReg)

theorem V1_table (c : Dev nD) : V1 m c main_c = (table : S4x32.Idx → BitVec 32) := by
  refine (StableHlo.after_last_write (i := 0) (hostOps0_W.tail) (r := main_c) rfl rfl (by decide) (V0 m c)).trans ?_
  refine (StableHlo.nullary_result _ _ _ _).trans ?_
  funext i
  exact table_rows i

/-- What rides beside the buffers: from launch to the call, and after it. -/
def E : Fin 2 → Dev nD → sProp 𝕄
  | 0 => fun c => iprop(Tk (V1 m) c ∗ (∃ r, prngReg c r) ∗ ∃ W, owes (c : Thread nD τ) (O₀ c) W)
  | 1 => fun c => iprop(semVal (barCell c) 0 ∗ ∃ W, owes (c : Thread nD τ) (0 : CellTallies nD τ sig Unit) W)

abbrev R0 : Pipeline.RegionSeg (pcfgs (F := F)) adm (pdats (V1 m)) () defs₀ 𝒱₀ L lv 0 := reg (V1 m) (V1_table m)

omit [FloatOps F] in
theorem held_parts (c : Dev nD) (W : Valuation τ sig (Elt F)) : (StableHlo.held (c.tc : Thread nD τ) (Pipeline.ucRefs τ sig) W : sProp 𝕄)
    = iprop(StableHlo.held (c.tc : Thread nD τ) (Pipeline.arrRefs spec0) W ∗ StableHlo.held (c.tc : Thread nD τ) restRefs W) :=
  StableHlo.held_sub_split (c.tc : Thread nD τ) (Pipeline.arrRefs_sub_ucRefs spec0 winFacts0.arr_unscoped) W

theorem region_pre (c : Dev nD) : iprop(StableHlo.held (c : Thread nD τ) (Pipeline.ucRefs τ sig) (V1 m c) ∗ E m 0 c) ⊢ (R0 m).pre c := by
  show _ ⊢ iprop(StableHlo.held (c.tc : Thread nD τ) (Pipeline.arrRefs spec0) (V1 m c) ∗ (∃ r, prngReg c r)
    ∗ (StableHlo.held (c.tc : Thread nD τ) restRefs (V1 m c) ∗ emp) ∗ Tk (V1 m) c ∗ ∃ Wd, owes (c : Thread nD τ) (0 + O₀ c) Wd)
  rw [held_parts, zero_add]
  unfold E
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem region_post (c : Dev nD) : (R0 m).post c ⊢ iprop(StableHlo.held (c : Thread nD τ) (Pipeline.ucRefs τ sig) (Vend (V1 m) c) ∗ E m 1 c) := by
  show iprop(StableHlo.held (c.tc : Thread nD τ) (Pipeline.arrRefs spec0) (Vend (V1 m) c) ∗ (∃ r, prngReg c r)
    ∗ (StableHlo.held (c.tc : Thread nD τ) restRefs (Vend (V1 m) c) ∗ emp) ∗ Yk (F := F) c ∗ ∃ Wd, owes (c : Thread nD τ) (0 : CellTallies nD τ sig Unit) Wd) ⊢ _
  rw [held_parts]
  unfold E Yk
  iintro ⟨Ha, -, ⟨Hr, -⟩, Hb, HO⟩
  isplitl [Ha Hr]
  · isplitl [Ha] <;> iassumption
  isplitl [Hb]; · iexact Hb
  iexact HO

/-- What a device holds at launch beside the protocol's own. -/
def goods (c : Dev nD) : sProp 𝕄 :=
  iprop(StableHlo.held (c : Thread nD τ) (Pipeline.ucRefs τ sig) (V0 m c) ∗ credits (F := F) c ∗ owes (c : Thread nD τ) (O₀ c) ∅ ∗ ∃ r, prngReg c r)
abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (Vend (V1 m) c) ∗ semVal (barCell c) 0)

theorem T₀_intro (κ : GSem nD τ sig → ℕ) (c : Dev nD) : iprop(records (ws (V1 m)) κ ∗ (own1 (F := F) c ∗ goods m c)) ⊢ T₀ m c := by
  unfold goods T₀ E Tk
  iintro ⟨#HR, Hl, Hh, Hcr, HO, Hp⟩
  isplitl [Hh]; · iexact Hh
  isplitl [Hl Hcr]
  · isplitl [Hl]
    · iapply (ghost_intro (ws (V1 m)) κ c)
      isplitr; · iexact HR
      iexact Hl
    iexact Hcr
  isplitl [Hp]; · iexact Hp
  iexists ∅; iexact HO

omit [FloatOps F] in
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem launch_core (c : Dev nD) :
    iprop(unscopedBufs c (fun b => m ((c : Thread nD τ).loc b)) ∗ unscopedSems0 c ∗ owes (c : Thread nD τ) (O₀ c) ∅ ∗ Pipeline.launchCred O₀ c ∗ prngReg c (ρ c) ∗ G (F := F) c)
      ⊢ (iprop(goods m c ∗ (semVal (barCell c) 0 ∗ G (F := F) c)) : sProp 𝕄) := by
  rw [show unscopedBufs c (fun b => m ((c : Thread nD τ).loc b)) = (StableHlo.held (c : Thread nD τ) (Pipeline.ucRefs τ sig) (V0 m c) : sProp 𝕄) from
    Pipeline.unscopedBufs_held (Ix := Unit) (Name := ℕ) (U := UU) (Lvl := ℕ) c (V0 m c), unscopedSems_eq]
  unfold goods
  iintro ⟨Hh, Hus, HO, Hcr, Hp, HG⟩
  isplitl [Hh HO Hcr Hp]
  · isplitl [Hh]; · iexact Hh
    isplitl [Hcr]; · iapply (credits_intro (F := F) c); iexact Hcr
    isplitl [HO]; · iexact HO
    iexists (ρ c); iexact Hp
  isplitl [Hus] <;> iassumption

omit [FloatOps F] in
theorem bars_in : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
omit [FloatOps F] in
theorem places_out : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
omit [FloatOps F] in
theorem opens_out : bigSep copyCells (fun g => (openTok ER g : sProp 𝕄)) ⊢ bigSep Finset.univ (fun c : Dev nD => opens (F := F) c) :=
  Entails.of_eq (by
    rw [bigSep_map, bigSep_univ_prod]
    exact bigSep_congr fun c _ => by unfold opens; rw [over_four]; rfl)

omit [FloatOps F] in
theorem parted (Φ Ψ : Dev nD → sProp 𝕄) : bigSep Finset.univ (fun c => iprop(Φ c ∗ Ψ c)) ⊢ iprop(bigSep Finset.univ Φ ∗ bigSep Finset.univ Ψ) :=
  Entails.of_eq (bigSep_sep' Finset.univ Φ Ψ)
omit [FloatOps F] in
theorem joined (Φ Ψ : Dev nD → sProp 𝕄) : iprop(bigSep Finset.univ Φ ∗ bigSep Finset.univ Ψ) ⊢ bigSep Finset.univ (fun c => iprop(Φ c ∗ Ψ c)) :=
  Entails.of_eq (bigSep_sep' Finset.univ Φ Ψ).symm

theorem launch_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(goods m c ∗ (semVal (barCell c) 0 ∗ G (F := F) c)) : sProp 𝕄) from
    bigSep_mono fun c _ => launch_core m ρ c) $$ H
  ihave H2 := (parted (F := F) _ _) $$ H'; icases H2 with ⟨HB, H3⟩
  ihave H4 := (parted (F := F) _ _) $$ H3; icases H4 with ⟨Hv, HG⟩
  ihave Hu := (show bigSep Finset.univ (G (F := F)) ⊢ BI.own (ER (launchOf barCells copyCells allToks)) from Entails.of_eq (onlyAt_all (F := F) 0 (BI.own (ER (launchOf barCells copyCells allToks))))) $$ HG
  imod (Rounds.fund_launch ER (sched (ws (V1 m))) cells_apart (fun g _ h => h) allToks) $$ [Hv Hu] with ⟨%κ, -, #Hinv, #Hr, Hat, Hopen, Htok⟩
  · isplitl [Hv]
    · iapply (bars_in (F := F)) $$ Hv
    · iexact Hu
  imodintro
  iapply (bigSep_with_persistent (R := records (ws (V1 m)) κ) (Φ := fun c => iprop(own1 (F := F) c ∗ goods m c)) fun c _ => T₀_intro m κ c)
  isplitr
  · unfold records
    isplitr; · iexact Hinv
    iexact Hr
  iapply (joined (F := F) _ _)
  isplitr [HB]
  · unfold own1
    iapply (joined (F := F) _ _); isplitl [Hat]; · iapply (places_out (F := F)) $$ Hat
    iapply (joined (F := F) _ _); isplitl [Hopen]; · iapply (opens_out (F := F)) $$ Hopen
    iapply (toks_around (F := F))
    iapply (Entails.of_eq (toks_eq (F := F))) $$ Htok
  · iexact HB

theorem unscoped_one : ∀ sm : SemLoc sig, sm.isScoped .tc = false → sm = .reg barS := by decide

theorem Vend_arg (c : Dev nD) (r : Ref sig .tc) (h : r ∉ hostOps0_W) (h' : r ≠ main_v24) : Vend (V1 m) c r = m ((c : Thread nD τ).loc r) :=
  (Vend_other (V1 m) c _ (StableHlo.devRef_ne_of_ne h')).trans (V1_of m c r h)

theorem uc_mem (r : Ref sig .tc) (h : (Proc.devRef (τ := τ) .tc r) ∈ Pipeline.ucRefs τ sig) : (Proc.devRef (τ := τ) .tc r) ∈ Pipeline.ucRefs τ sig := h

set_option backward.isDefEq.respectTransparency.types false in
/-- From any memory with its counters at zero every execution ends, with every buffer the program sees at the contents
    computed here and every counter back at zero. -/
theorem run_all : θ_run defs (onTc (τ := τ) (main (F := F))) ⟨m, fun _ => 0, ρ⟩
    (fun r => (∀ c : Dev nD, ∀ b ∈ Pipeline.ucRefs τ sig, r.2.mem (((c : Thread nD τ).1, b) : Loc nD τ sig) = Vend (V1 m) c b) ∧ r.2.sem = fun _ => 0) :=
  Pipeline.θ_run_regions_kit_dev_sems (pcfgs (F := F)) adm (pdats (V1 m)) () cellOf_inj EP defs₀ 𝒱₀ L lv m ρ main
    (segs m 𝒱₀ L lv (E m) () (pdats (V1 m)) (R0 m))
    (fun c Q => by
      rewrite [main_chain c, Pipeline.Seg.run_eq_chain,
        show (segs m 𝒱₀ L lv (E m) () (pdats (V1 m)) (R0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [onlyAt_all]; iexact HX)
    (T₀ := T₀ m) (Tₙ := Tₙ m)
    (hch := fun c => ⟨.rfl, region_pre m c, (region_post m c).trans (by
      show iprop(StableHlo.held (c : Thread nD τ) (Pipeline.ucRefs τ sig) (Vend (V1 m) c)
          ∗ (semVal (barCell c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb, HO⟩
      isplitr [HO]
      · isplitl [Hh] <;> iassumption
      · iexact HO)⟩)
    (hinit := launch_all m ρ)
    (QY := fun c s => (∀ b ∈ Pipeline.ucRefs τ sig, s.mem (((c : Thread nD τ).1, b) : Loc nD τ sig) = Vend (V1 m) c b) ∧ s.sem (barCell c) = 0)
    (hfin := fun c s' => by
      dsimp only [Tₙ]
      unfold StableHlo.held
      iintro ⟨⟨Hh, Hb0⟩, HSI⟩
      icombine HSI Hb0 gives %hb
      ihave Hr := (pointsTo_read_all (Pipeline.ucRefs τ sig) (fun b => ((c : Thread nD τ).1, b)) (Vend (V1 m) c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1, sem_eq_zero hs fun c sm hsm => by
      obtain rfl := unscoped_one sm hsm
      exact (h c).2⟩)

abbrev seen (r : Ref sig .tc) : Prop := Proc.devRef (τ := τ) .tc r ∈ Pipeline.ucRefs τ sig
theorem seen_of (r : Ref sig .tc) (h : (Proc.devRef (τ := τ) .tc r : DevRef τ sig) ∈ (Pipeline.ucRefs τ sig)) : seen r := h

/-- The run, read at the program's arguments and its result. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_v24) = res (V1 m) c) ∧ r.2.sem = fun _ => 0) :=
  (θ_run defs _ _).mono (fun r h => ⟨fun c =>
    ⟨(h.1 c _ (Finset.mem_filter.mpr ⟨StableHlo.devRef_mem_tcRefs main_arg0, by decide⟩)).trans (Vend_arg m c main_arg0 (by decide) (by decide)),
     (h.1 c _ (Finset.mem_filter.mpr ⟨StableHlo.devRef_mem_tcRefs main_arg1, by decide⟩)).trans (Vend_arg m c main_arg1 (by decide) (by decide)),
     (h.1 c _ (Finset.mem_filter.mpr ⟨StableHlo.devRef_mem_tcRefs main_arg2, by decide⟩)).trans (Vend_arg m c main_arg2 (by decide) (by decide)),
     (h.1 c _ (Finset.mem_filter.mpr ⟨StableHlo.devRef_mem_tcRefs main_arg3, by decide⟩)).trans (Vend_arg m c main_arg3 (by decide) (by decide)),
     (h.1 c _ (Finset.mem_filter.mpr ⟨StableHlo.devRef_mem_tcRefs main_arg4, by decide⟩)).trans (Vend_arg m c main_arg4 (by decide) (by decide)),
     (h.1 c _ (Finset.mem_filter.mpr ⟨StableHlo.devRef_mem_tcRefs main_v24, by decide⟩)).trans (Vend_result (V1 m) c)⟩, h.2⟩) (run_all m ρ)

end Cert.SliceIdeal.Hop

end
-- ==== Proof.Slice.Same.lean ====
/-
The printed kernel and its idealization are one text: their bodies, tables and launches agree.
-/
module
public import proofs.«01_k».proof.Defs
public import proofs.«01_k».proof.Proof.Gen.SliceIdeal
public import proofs.«01_k».proof.Proof.Gen.Slice
@[expose] public section
noncomputable section
namespace Cert.Proof.Slice
open Idealize.ShloMosaic Idealize.SL.Sem
variable {F : FTy → Type} [FloatOps F]
set_option maxHeartbeats 1000000
theorem body_same : Cert.Slice.cc0_body (F := F) = Cert.SliceIdeal.cc0_body (F := F) := rfl
theorem bodies_same : Cert.Slice.defs₀ (F := F) = Cert.SliceIdeal.defs₀ (F := F) := by
  unfold Cert.Slice.defs₀ Cert.SliceIdeal.defs₀
  refine congrArg Defs.onTc ?_
  funext l
  match l with
  | ⟨0, _⟩ =>
    funext a
    match a with
    | (t, s) =>
      dsimp only
      exact congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _
theorem defs_same : Cert.Slice.defs (F := F) = Cert.SliceIdeal.defs (F := F) := by
  unfold Cert.Slice.defs Cert.SliceIdeal.defs
  rw [bodies_same]; rfl
theorem main_same : Cert.Slice.main (F := F) = Cert.SliceIdeal.main (F := F) := rfl
end Cert.Proof.Slice
-- ==== Proof.Slice.GroupValue.lean ====
/-
What a group of four heads adds to the kernel's result, read at an index over the extended reals.
-/
module

public import proofs.«01_k».proof.Proof.Slice.Tiles
public import proofs.«01_k».proof.Proof.Attend

@[expose] public section

noncomputable section

namespace Cert.SliceIdeal.Hop

open Cert.SliceIdeal Cert.SliceIdeal.Gen
open Idealize.ShloMosaic
open Cert.Attn

/-- Row `i` of batch row `b`, among a device's rows. -/
def row (b : Fin 2) (i : Fin 128) : Fin 256 := ⟨b.val * 128 + i.val, by omega⟩

/-- Column `d` of head `h`, among a group's columns. -/
def hcol (h : Fin 4) (d : Fin 64) : Fin 256 := ⟨h.val * 64 + d.val, by omega⟩

/-- A column's head in its group. -/
def qhead (k : Fin 256) : Fin 4 := ⟨k.val / 64, by omega⟩

/-- A group's queries at an index. -/
theorem queries_apply (x : S256x512.Idx → EReal) (X : S2x512x256.Idx → EReal) (r : Fin 256) (k : Fin 256) :
    queries (F := Ideal) x X (ix2 r k) = ∑ e, x (ix2 r e) * X (ix3 0 e k) := by
  unfold queries k0_pay24 part
  simp only [pointwise, zero_add]
  rfl

/-- One head's queries at an index. -/
theorem headQ_apply (q : S256x256.Idx → EReal) (b : Fin 2) (h : Fin 4) (i : Fin 128) (d : Fin 64) :
    headQ (F := Ideal) q b h (ix2 i d) = q (ix2 (row b i) (hcol h d)) := by
  fin_cases b <;> fin_cases h <;>
  · refine congrArg q (funext fun a => ?_)
    fin_cases a <;> apply Fin.ext <;> simp [row, hcol] <;> rfl

/-- One head's context at an index. -/
theorem headCtx_apply (q : S128x64.Idx → EReal) (k v : S1x128x64.Idx → EReal) (i : Fin 128) (d : Fin 64) :
    headCtx (F := Ideal) q k v (ix2 i d)
      = attend (fun d' => q (ix2 i d')) (fun j d' => k (ix3 0 j d')) (fun j => v (ix3 0 j d)) := by
  unfold headCtx k0_pay26
  simp only [pointwise]
  simp only [Nat.reduceEqDiff, ↓reduceDIte, OfNat.ofNat_ne_one, zero_add]
  unfold attend raised peak score
  refine Finset.sum_congr rfl fun j _ => ?_
  rw [mul_comm]

/-- The accumulated result after a group is added, at an index, in terms of the group's context. -/
theorem addGroup_ctx (x : S256x512.Idx → EReal) (K V : S256x128x64.Idx → EReal) (X : S2x512x256.Idx → EReal) (d : Fin 32)
    (acc : S2x128x512.Idx → EReal) (b : Fin 2) (i : Fin 128) (n : Fin 512) :
    addGroup (F := Ideal) x K V X d acc (ix3 b i n)
      = acc (ix3 b i n) + ∑ k, context (F := Ideal) x K V X d (ix2 (row b i) k) * X (ix3 1 n k) := by
  unfold addGroup k0_pay2 k0_pay44 k0_pay23 part
  simp only [pointwise, zero_add]
  rfl

/-- The accumulated result after a group is added, at an index: each column of the group adds its head's attention times
the column's output weight. -/
theorem addGroup_apply (x : S256x512.Idx → EReal) (K V : S256x128x64.Idx → EReal) (X : S2x512x256.Idx → EReal) (d : Fin 32)
    (acc : S2x128x512.Idx → EReal) (b : Fin 2) (i : Fin 128) (n : Fin 512) :
    addGroup (F := Ideal) x K V X d acc (ix3 b i n)
      = acc (ix3 b i n) + ∑ k : Fin 256,
          attend (fun d' => ∑ e, x (ix2 (row b i) e) * X (ix3 0 e (hcol (qhead k) d')))
            (fun j d' => K (ix3 (tileIx d (qhead k) b) j d')) (fun j => V (ix3 (tileIx d (qhead k) b) j (gdim k))) * X (ix3 1 n k) := by
  rw [addGroup_ctx]
  refine congrArg (acc (ix3 b i n) + ·) (Finset.sum_congr rfl fun k _ => ?_)
  have e : context (F := Ideal) x K V X d (ix2 (row b i) k) = tile (F := Ideal) x K V X d b (qhead k) (ix2 i (gdim k)) := by
    have e0 : (⟨(row b i).val / 128, by have := (row b i).isLt; omega⟩ : Fin 2) = b :=
      Fin.ext (by show (b.val * 128 + i.val) / 128 = b.val; omega)
    have e1 : (⟨(row b i).val % 128, Nat.mod_lt _ (by decide)⟩ : Fin 128) = i :=
      Fin.ext (by show (b.val * 128 + i.val) % 128 = i.val; omega)
    show tile (F := Ideal) x K V X d ⟨(row b i).val / 128, _⟩ (qhead k) (ix2 ⟨(row b i).val % 128, _⟩ (gdim k)) = _
    rw [e0, e1]
  refine congrArg (· * X (ix3 1 n k)) (e.trans ?_)
  unfold tile
  rw [headCtx_apply]
  simp only [headQ_apply, queries_apply]
  rfl

end Cert.SliceIdeal.Hop
-- ==== Proof.Slice.HostReads.lean ====
/-
What the host stretch before the call hands the kernel, read at an index: the device's rows, its two weight blocks, and
the key and value tiles of its batch rows, each in terms of the arguments.
-/
module

public import proofs.«01_k».proof.Proof.Slice.GroupValue
public import proofs.«01_k».proof.Proof.Gen.SliceIdeal.Regions
public import proofs.«01_k».proof.Proof.Gen.SliceIdeal.Launch

@[expose] public section

noncomputable section

namespace Cert.SliceIdeal.Hop

open Cert.SliceIdeal Cert.SliceIdeal.Gen
open Idealize.ShloMosaic
open Idealize.ShloMosaic.TcCoe
open Cert.Attn

variable (m : (ℓ : Loc nD τ sig) → Buf (Elt Ideal) ℓ)

/-- Batch row `b` of device `c`, among all batch rows. -/
def brow (c : Fin 32) (b : Fin 2) : Fin 64 := ⟨c.val * 2 + b.val, by omega⟩

/-- Head `h` of device `d`'s group, among all heads. -/
def hrow (d : Fin 32) (h : Fin 4) : Fin 128 := ⟨d.val * 4 + h.val, by omega⟩

theorem xs_apply (c : Dev nD) (b : Fin 2) (i : Fin 128) (e : Fin 512) :
    (V1 m c main_v5 : S256x512.Idx → EReal) (ix2 (row b i) e)
      = (m ((c.tc : Thread nD τ).loc main_arg0) : S2x128x512.Idx → EReal) (ix3 b i e) := by
  have h : V1 m c main_v5 = shapeCast S256x512 (m ((c.tc : Thread nD τ).loc main_arg0)) shapeCasts_S2x128x512_S256x512 := by
    unfold V1
    simp only [hostOps0]
    after_results_simp
    rfl
  rw [h]
  simp only [pointwise]
  have e0 : ∀ h, (⟨(row b i).val / 128, h⟩ : Fin 2) = b := fun h => Fin.ext (by show (b.val * 128 + i.val) / 128 = b.val; omega)
  have e1 : ∀ h, (⟨(row b i).val % 128, h⟩ : Fin 128) = i := fun h => Fin.ext (by show (b.val * 128 + i.val) % 128 = i.val; omega)
  rw [e0, e1]

/-- The stack of the two weight blocks. -/
theorem ws_eq (c : Dev nD) : V1 m c main_v9 = concatenate S2x512x256 0
    [⟨S1x512x256, broadcastInDim S1x512x256 ![1, 2] bcast_S512x256_S1x512x256_1_2 (m ((c.tc : Thread nD τ).loc main_arg1))⟩,
     ⟨S1x512x256, broadcastInDim S1x512x256 ![1, 2] bcast_S512x256_S1x512x256_1_2
        (transpose S512x256 [1, 0] (m ((c.tc : Thread nD τ).loc main_arg4)) transposes_S256x512_S512x256_1_0)⟩]
    concatenates_S1x512x256_S1x512x256_S2x512x256_d0 := by
  unfold V1
  simp only [hostOps0]
  after_results_simp
  rfl

theorem ws_apply_in (c : Dev nD) (k : Fin 256) (e : Fin 512) :
    (V1 m c main_v9 : S2x512x256.Idx → EReal) (ix3 0 e k)
      = (m ((c.tc : Thread nD τ).loc main_arg1) : S512x256.Idx → EReal) (ix2 e k) := by
  rw [ws_eq]
  simp only [pointwise]
  rfl

theorem ws_apply_out (c : Dev nD) (p : Fin 2) (hp : p = 1) (k : Fin 256) (n : Fin 512) :
    (V1 m c main_v9 : S2x512x256.Idx → EReal) (ix3 p n k)
      = (m ((c.tc : Thread nD τ).loc main_arg4) : S256x512.Idx → EReal) (ix2 k n) := by
  rw [ws_eq]
  simp only [pointwise]
  rw [dif_neg (by rw [hp]; decide)]
  rfl

/-- Where the slice of a device's batch rows starts. -/
def start (c : Dev nD) : Fin 4 → ℤ := ![(c.val : ℤ) * 2, 0, 0, 0]

theorem ks_eq (c : Dev nD) : V1 m c main_v21 = shapeCast S256x128x64
    (transpose S128x2x128x64 [2, 0, 1, 3]
      (Host.dynamicSlice S2x128x128x64 (m ((c.tc : Thread nD τ).loc main_arg2)) (start c) sliceFits_S64x128x128x64_S2x128x128x64)
      transposes_S2x128x128x64_S128x2x128x64_2_0_1_3)
    shapeCasts_S128x2x128x64_S256x128x64 := by
  unfold V1
  simp only [hostOps0]
  after_results_simp
  refine congrArg (fun st => shapeCast S256x128x64 (transpose S128x2x128x64 [2, 0, 1, 3]
      (Host.dynamicSlice S2x128x128x64 (m ((c.tc : Thread nD τ).loc main_arg2)) st sliceFits_S64x128x128x64_S2x128x128x64)
      transposes_S2x128x128x64_S128x2x128x64_2_0_1_3) shapeCasts_S128x2x128x64_S256x128x64) (funext fun k => ?_)
  fin_cases k
  · simp only [Fin.zero_eta, Matrix.cons_val_zero]
    after_results_simp
    revert c; decide
  · simp only [Fin.mk_one, Matrix.cons_val_one]
    after_results_simp
    rfl
  · simp only [Fin.reduceFinMk, Matrix.cons_val]
    after_results_simp
    rfl
  · simp only [Fin.reduceFinMk, Matrix.cons_val]
    after_results_simp
    rfl

/-- The slice is in range, so it starts where it is told. -/
theorem clamped (c : Dev nD) (a : Fin 4) :
    Host.clampedStart S64x128x128x64 S2x128x128x64 rfl (start c) a = (![c.val * 2, 0, 0, 0] : Fin 4 → ℕ) a := by
  revert c a; decide

theorem ks_apply (c : Dev nD) (d : Fin 32) (h : Fin 4) (b : Fin 2) (j : Fin 128) (e : Fin 64) :
    (V1 m c main_v21 : S256x128x64.Idx → EReal) (ix3 (tileIx d h b) j e)
      = (m ((c.tc : Thread nD τ).loc main_arg2) : S64x128x128x64.Idx → EReal) (ix4 (brow c b) j (hrow d h) e) := by
  rw [ks_eq]
  simp only [pointwise]
  refine congrArg (m ((c.tc : Thread nD τ).loc main_arg2) : S64x128x128x64.Idx → EReal) (funext fun a => ?_)
  fin_cases a <;> apply Fin.ext
  · show Host.clampedStart S64x128x128x64 S2x128x128x64 _ (start c) 0 + ((d.val * 4 + h.val) * 2 + b.val) % 2 = c.val * 2 + b.val
    rw [clamped]; show c.val * 2 + _ = _; omega
  · show Host.clampedStart S64x128x128x64 S2x128x128x64 _ (start c) 1 + j.val = j.val
    rw [clamped]; exact Nat.zero_add _
  · show Host.clampedStart S64x128x128x64 S2x128x128x64 _ (start c) 2 + ((d.val * 4 + h.val) * 2 + b.val) / 2 = d.val * 4 + h.val
    rw [clamped]; show 0 + _ = _; omega
  · show Host.clampedStart S64x128x128x64 S2x128x128x64 _ (start c) 3 + e.val = e.val
    rw [clamped]; exact Nat.zero_add _

theorem vs_eq (c : Dev nD) : V1 m c main_v23 = shapeCast S256x128x64
    (transpose S128x2x128x64 [2, 0, 1, 3]
      (Host.dynamicSlice S2x128x128x64 (m ((c.tc : Thread nD τ).loc main_arg3)) (start c) sliceFits_S64x128x128x64_S2x128x128x64)
      transposes_S2x128x128x64_S128x2x128x64_2_0_1_3)
    shapeCasts_S128x2x128x64_S256x128x64 := by
  unfold V1
  simp only [hostOps0]
  after_results_simp
  refine congrArg (fun st => shapeCast S256x128x64 (transpose S128x2x128x64 [2, 0, 1, 3]
      (Host.dynamicSlice S2x128x128x64 (m ((c.tc : Thread nD τ).loc main_arg3)) st sliceFits_S64x128x128x64_S2x128x128x64)
      transposes_S2x128x128x64_S128x2x128x64_2_0_1_3) shapeCasts_S128x2x128x64_S256x128x64) (funext fun k => ?_)
  fin_cases k
  · simp only [Fin.zero_eta, Matrix.cons_val_zero]
    after_results_simp
    revert c; decide
  · simp only [Fin.mk_one, Matrix.cons_val_one]
    after_results_simp
    rfl
  · simp only [Fin.reduceFinMk, Matrix.cons_val]
    after_results_simp
    rfl
  · simp only [Fin.reduceFinMk, Matrix.cons_val]
    after_results_simp
    rfl

theorem vs_apply (c : Dev nD) (d : Fin 32) (h : Fin 4) (b : Fin 2) (j : Fin 128) (e : Fin 64) :
    (V1 m c main_v23 : S256x128x64.Idx → EReal) (ix3 (tileIx d h b) j e)
      = (m ((c.tc : Thread nD τ).loc main_arg3) : S64x128x128x64.Idx → EReal) (ix4 (brow c b) j (hrow d h) e) := by
  rw [vs_eq]
  simp only [pointwise]
  refine congrArg (m ((c.tc : Thread nD τ).loc main_arg3) : S64x128x128x64.Idx → EReal) (funext fun a => ?_)
  fin_cases a <;> apply Fin.ext
  · show Host.clampedStart S64x128x128x64 S2x128x128x64 _ (start c) 0 + ((d.val * 4 + h.val) * 2 + b.val) % 2 = c.val * 2 + b.val
    rw [clamped]; show c.val * 2 + _ = _; omega
  · show Host.clampedStart S64x128x128x64 S2x128x128x64 _ (start c) 1 + j.val = j.val
    rw [clamped]; exact Nat.zero_add _
  · show Host.clampedStart S64x128x128x64 S2x128x128x64 _ (start c) 2 + ((d.val * 4 + h.val) * 2 + b.val) / 2 = d.val * 4 + h.val
    rw [clamped]; show 0 + _ = _; omega
  · show Host.clampedStart S64x128x128x64 S2x128x128x64 _ (start c) 3 + e.val = e.val
    rw [clamped]; exact Nat.zero_add _

end Cert.SliceIdeal.Hop
-- ==== Proof.Slice.RefValue.lean ====
/-
The reference's result at an index, over the extended reals: the attention mask admits every pair of positions, so an
element is the sum, over the groups of heads near its batch row's device on the ring, of what each group adds.
-/
module

public import proofs.«01_k».proof.Proof.Gen.NearIdeal.Run
public import proofs.«01_k».proof.Proof.Attend

@[expose] public section

noncomputable section

namespace Cert.NearIdeal.Hop

open Cert.NearIdeal Cert.NearIdeal.Gen
open Idealize.ShloMosaic
open Cert.Attn

/-- Positions below 128 are never more than 128 apart. -/
theorem within (i j : Fin 128) :
    IntOp.cmpi CmpIPredicate.sle (IntOp.absi (IntOp.subi (BitVec.ofNat 32 i.val) (BitVec.ofNat 32 j.val))) 128#32 = 1#1 := by
  have hi := i.isLt
  have hj := j.isLt
  have word : ∀ n : ℕ, n < 128 → (BitVec.ofNat 32 n).toInt = (n : ℤ) := by
    intro n hn; rw [BitVec.toInt_ofNat']; simp only [Int.bmod_def]; omega
  have e : (BitVec.ofNat 32 i.val - BitVec.ofNat 32 j.val).toInt = (i.val : ℤ) - j.val := by
    rw [BitVec.toInt_sub, word _ hi, word _ hj]
    simp only [Int.bmod_def]; omega
  have h : (IntOp.absi (IntOp.subi (BitVec.ofNat 32 i.val) (BitVec.ofNat 32 j.val))).toInt ≤ 128 := by
    unfold IntOp.absi IntOp.subi
    rw [BitVec.msb_eq_toInt]
    split_ifs with h
    · rw [BitVec.toInt_neg, e]; simp only [Int.bmod_def]; omega
    · rw [e]; omega
  show BitVec.ofBool (BitVec.sle _ _) = _
  rw [show BitVec.sle _ (128#32) = true from decide_eq_true h]
  rfl

/-- A row of the mask that admits every position admits some. -/
theorem kept : Finset.fold IntOp.ori (0#1) (fun _ : Fin 128 => 1#1) Finset.univ = 1#1 := by decide +kernel

/-- Whether the places of two devices on the ring are at most one apart, as the reference computes it. -/
def nearBit (c p : Fin 32) : BitVec 1 :=
  IntOp.ori (IntOp.cmpi CmpIPredicate.sle (IntOp.absi (IntOp.subi (lit0 c) (lit0 p))) 1#32)
    (IntOp.cmpi CmpIPredicate.eq (IntOp.absi (IntOp.subi (lit0 c) (lit0 p))) 31#32)

/-- The device a batch row is on. -/
def owner (b : Fin 64) : Fin 32 := ⟨b.val / 2, by omega⟩

set_option maxHeartbeats 4000000 in
/-- An element of the result: the sum over the groups near its batch row's device. -/
theorem result_apply (m : (ℓ : Loc nD τ sig) → Buf (Elt Ideal) ℓ) (b : Fin 64) (i : Fin 128) (n : Fin 512) :
    Cert.NearIdeal.Value.res_main_v56 (F := Ideal) m 0 (ix3 b i n)
      = ∑ p, Scalar.select (nearBit (owner b) p)
          (contrib (m ((0 : Dev nD).tc.loc main_arg0)) (m ((0 : Dev nD).tc.loc main_arg1)) (m ((0 : Dev nD).tc.loc main_arg2))
            (m ((0 : Dev nD).tc.loc main_arg3)) (m ((0 : Dev nD).tc.loc main_arg4)) p b i n) (0 : EReal) := by
  unfold Cert.NearIdeal.Value.res_main_v56
  simp only [pointwise, id]
  simp only [Nat.reduceEqDiff, ↓reduceDIte, OfNat.ofNat_ne_one, within, kept, ValueIdx.select_one, zero_add]
  refine (sum_groups _).trans ?_
  refine Finset.sum_congr rfl fun p _ => ?_
  have e1 : ∀ (k : Fin 256) (h : (gcol p k).val / 64 < 128), (⟨(gcol p k).val / 64, h⟩ : Fin 128) = ghead p k := fun k h =>
    Fin.ext (by show (p.val * 256 + k.val) / 64 = p.val * 4 + k.val / 64; omega)
  have e2 : ∀ (k : Fin 256) (h : (gcol p k).val % 64 < 64), (⟨(gcol p k).val % 64, h⟩ : Fin 64) = gdim k := fun k h =>
    Fin.ext (by show (p.val * 256 + k.val) % 64 = k.val % 64; omega)
  have e3 : ∀ (k : Fin 256) (d : Fin 64) (h : (gcol p k).val / 64 * 64 + d.val < 8192),
      (⟨(gcol p k).val / 64 * 64 + d.val, h⟩ : Fin 8192) = col (ghead p k) d := fun k d h =>
    Fin.ext (by show (p.val * 256 + k.val) / 64 * 64 + d.val = (p.val * 4 + k.val / 64) * 64 + d.val; omega)
  have e4 : ∀ (k : Fin 256) (h : (gcol p k).val / 64 / 4 < 32), S32.rowMajor (ix1 ⟨(gcol p k).val / 64 / 4, h⟩) = p := fun k h =>
    Fin.ext ((Shape.rowMajor_val_one _).trans (by have := k.isLt; show (p.val * 256 + k.val) / 64 / 4 = p.val; omega))
  have e5 : ∀ (h : b.val / 2 < 32), S32.rowMajor (ix1 ⟨b.val / 2, h⟩) = owner b := fun h => Fin.ext (Shape.rowMajor_val_one _)
  simp only [e1, e2, e3]
  simp only [e4, e5]
  have pull : ∀ (c : BitVec 1) (f : Fin 256 → EReal), ∑ k, Scalar.select c (f k) (0 : EReal) = Scalar.select c (∑ k, f k) 0 := by
    intro c f; unfold Scalar.select; split_ifs
    · rfl
    · exact Finset.sum_const_zero
  exact pull (nearBit (owner b) p) _

end Cert.NearIdeal.Hop
-- ==== Proof.Slice.Match.lean ====
/-
The kernel's result against the reference's: on each device the three groups at hand after one hop are the groups the
reference keeps for that device's batch rows.
-/
module

public import proofs.«01_k».proof.Defs
public import proofs.«01_k».proof.Proof.Slice.Launch
public import proofs.«01_k».proof.Proof.Slice.HostReads
public import proofs.«01_k».proof.Proof.Slice.RefValue

@[expose] public section

noncomputable section

namespace Cert.Proof.Slice

open Idealize.ShloMosaic
open Idealize.ShloMosaic.TcCoe
open Cert.SliceIdeal Cert.SliceIdeal.Gen Cert.SliceIdeal.Hop
open Cert.Attn

section Group

variable (x : (⟨3, ![64, 128, 512]⟩ : Shape).Idx → EReal) (wq : (⟨2, ![512, 8192]⟩ : Shape).Idx → EReal)
  (ks vs : (⟨4, ![64, 128, 128, 64]⟩ : Shape).Idx → EReal) (wo : (⟨2, ![8192, 512]⟩ : Shape).Idx → EReal)

/-- A group added on device `c`, its inputs being the device's parts of the whole arrays, adds that group's part of the
whole result. -/
theorem group_adds (c d : Fin 32) (xl : S256x512.Idx → EReal) (Kl Vl : S256x128x64.Idx → EReal) (X : S2x512x256.Idx → EReal)
    (hx : ∀ b i e, xl (ix2 (row b i) e) = x (ix3 (brow c b) i e))
    (hq : ∀ e k, X (ix3 0 e k) = wq (ix2 e (gcol d k))) (ho : ∀ n k, X (ix3 1 n k) = wo (ix2 (gcol d k) n))
    (hK : ∀ h b j e, Kl (ix3 (tileIx d h b) j e) = ks (ix4 (brow c b) j (hrow d h) e))
    (hV : ∀ h b j e, Vl (ix3 (tileIx d h b) j e) = vs (ix4 (brow c b) j (hrow d h) e))
    (acc : S2x128x512.Idx → EReal) (b : Fin 2) (i : Fin 128) (n : Fin 512) :
    addGroup (F := Ideal) xl Kl Vl X d acc (ix3 b i n) = acc (ix3 b i n) + contrib x wq ks vs wo d (brow c b) i n := by
  rw [addGroup_apply]
  unfold contrib ctx
  refine congrArg (acc (ix3 b i n) + ·) (Finset.sum_congr rfl fun k _ => ?_)
  have e : ∀ d', gcol d (hcol (qhead k) d') = col (ghead d k) d' := fun d' =>
    Fin.ext (by show d.val * 256 + (k.val / 64 * 64 + d'.val) = (d.val * 4 + k.val / 64) * 64 + d'.val; omega)
  simp only [hx, hq, ho, hK, hV, e]
  rfl

end Group

/-- The devices whose places on the ring are at most one from a device's. -/
theorem near_iff (c p : Fin 32) : Cert.NearIdeal.Hop.nearBit c p = 1#1 ↔ p = c ∨ p = prv c ∨ p = nxt c := by
  revert c p; decide +kernel

/-- A sum over the groups near a device has three terms. -/
theorem sum_near (c : Fin 32) (f : Fin 32 → EReal) :
    ∑ p, Scalar.select (Cert.NearIdeal.Hop.nearBit c p) (f p) (0 : EReal) = f c + f (prv c) + f (nxt c) := by
  have h : ∀ p, Scalar.select (Cert.NearIdeal.Hop.nearBit c p) (f p) (0 : EReal) = if p ∈ ({c, prv c, nxt c} : Finset (Fin 32)) then f p else 0 := by
    intro p
    unfold Scalar.select
    refine if_congr ?_ rfl rfl
    rw [Finset.mem_insert, Finset.mem_insert, Finset.mem_singleton]
    exact near_iff c p
  rw [Finset.sum_congr rfl fun p _ => h p, Finset.sum_ite_mem, Finset.univ_inter, Finset.sum_insert, Finset.sum_insert, Finset.sum_singleton, add_assoc]
  · rw [Finset.mem_singleton]; exact fun h => nxt_ne_prv c h.symm
  · rw [Finset.mem_insert, Finset.mem_singleton]
    exact fun h => h.elim (fun h => prv_ne c h.symm) fun h => nxt_ne c h.symm

/-- What device `c` ends with is its block of the reference's result. -/
theorem result_block (m : (ℓ : Loc Cert.SliceIdeal.nD Cert.SliceIdeal.τ Cert.SliceIdeal.sig) → Buf (Elt Ideal) ℓ)
    (m' : (ℓ : Loc Cert.NearIdeal.nD Cert.NearIdeal.τ Cert.NearIdeal.sig) → Buf (Elt Ideal) ℓ)
    (h : ∀ c : Dev Cert.SliceIdeal.nD,
      m (c.tc.loc Cert.SliceIdeal.main_arg0) = Layout.block ⟨3, ![2, 128, 512]⟩ ⟨3, ![64, 128, 512]⟩ 0 32 c (m' ((0 : Dev Cert.NearIdeal.nD).tc.loc Cert.NearIdeal.main_arg0))
      ∧ m (c.tc.loc Cert.SliceIdeal.main_arg1) = Layout.block ⟨2, ![512, 256]⟩ ⟨2, ![512, 8192]⟩ 1 32 c (m' ((0 : Dev Cert.NearIdeal.nD).tc.loc Cert.NearIdeal.main_arg1))
      ∧ m (c.tc.loc Cert.SliceIdeal.main_arg2) = m' ((0 : Dev Cert.NearIdeal.nD).tc.loc Cert.NearIdeal.main_arg2)
      ∧ m (c.tc.loc Cert.SliceIdeal.main_arg3) = m' ((0 : Dev Cert.NearIdeal.nD).tc.loc Cert.NearIdeal.main_arg3)
      ∧ m (c.tc.loc Cert.SliceIdeal.main_arg4) = Layout.block ⟨2, ![256, 512]⟩ ⟨2, ![8192, 512]⟩ 0 32 c (m' ((0 : Dev Cert.NearIdeal.nD).tc.loc Cert.NearIdeal.main_arg4)))
    (c : Dev Cert.SliceIdeal.nD) :
    res (V1 m) c = Layout.block ⟨3, ![2, 128, 512]⟩ ⟨3, ![64, 128, 512]⟩ 0 32 c (Cert.NearIdeal.Value.res_main_v56 (F := Ideal) m' 0) := by
  have add := fun (d : Fin 32) (acc : S2x128x512.Idx → EReal) (b : Fin 2) (i : Fin 128) (n : Fin 512) =>
    group_adds (m' ((0 : Dev Cert.NearIdeal.nD).tc.loc Cert.NearIdeal.main_arg0)) (m' ((0 : Dev Cert.NearIdeal.nD).tc.loc Cert.NearIdeal.main_arg1))
      (m' ((0 : Dev Cert.NearIdeal.nD).tc.loc Cert.NearIdeal.main_arg2)) (m' ((0 : Dev Cert.NearIdeal.nD).tc.loc Cert.NearIdeal.main_arg3))
      (m' ((0 : Dev Cert.NearIdeal.nD).tc.loc Cert.NearIdeal.main_arg4)) c d (xs (V1 m) c) (Hop.ks (V1 m) c) (Hop.vs (V1 m) c) (ws (V1 m) d)
      (fun b i e => ((xs_apply m c b i e).trans (congrFun (h c).1 _)).trans
        (congrArg (m' ((0 : Dev Cert.NearIdeal.nD).tc.loc Cert.NearIdeal.main_arg0)) (by funext a; fin_cases a <;> rfl)))
      (fun e k => ((ws_apply_in m d k e).trans (congrFun (h d).2.1 _)).trans
        (congrArg (m' ((0 : Dev Cert.NearIdeal.nD).tc.loc Cert.NearIdeal.main_arg1)) (by funext a; fin_cases a <;> rfl)))
      (fun n k => ((ws_apply_out m d 1 rfl k n).trans (congrFun (h d).2.2.2.2 _)).trans
        (congrArg (m' ((0 : Dev Cert.NearIdeal.nD).tc.loc Cert.NearIdeal.main_arg4)) (by funext a; fin_cases a <;> rfl)))
      (fun hh b j e => (ks_apply m c d hh b j e).trans (congrFun (h c).2.2.1 _))
      (fun hh b j e => (vs_apply m c d hh b j e).trans (congrFun (h c).2.2.2.1 _)) acc b i n
  funext y
  obtain ⟨b, i, n, rfl⟩ : ∃ (b : Fin 2) (i : Fin 128) (n : Fin 512), y = ix3 b i n := ⟨y 0, y 1, y 2, by funext a; fin_cases a <;> rfl⟩
  unfold res share
  refine ((add _ _ b i n).trans (congrArg (· + _) ((add _ _ b i n).trans (congrArg (· + _) (add _ _ b i n))))).trans ?_
  refine Eq.trans ?_ (congrArg (Cert.NearIdeal.Value.res_main_v56 (F := Ideal) m' 0)
    (show ix3 (brow c b) i n = _ from by funext a; fin_cases a <;> rfl))
  refine Eq.trans ?_ (Cert.NearIdeal.Hop.result_apply m' (brow c b) i n).symm
  have ho : Cert.NearIdeal.Hop.owner (brow c b) = c := Fin.ext (by show (c.val * 2 + b.val) / 2 = c.val; omega)
  rw [ho, sum_near]
  refine congrArg (· + _ + _) ?_
  refine (congrArg (· + _) (show (k0_pay1 (F := Ideal) : S2x128x512.Idx → EReal) (ix3 b i n) = 0 from ?_)).trans (zero_add _)
  unfold k0_pay1
  simp only [pointwise]

theorem algebraic : Cert.algebraic_SliceIdeal_NearIdeal := fun m g m' g' _ h =>
  ⟨Cert.NearIdeal.Value.res_main_v56 (F := Ideal) m' 0,
    (θ_run Cert.SliceIdeal.defs _ _).mono (fun _ r c =>
      ⟨(r.1 c).2.2.2.2.2.trans (result_block m m' h c), (r.1 c).1, (r.1 c).2.1, (r.1 c).2.2.1, (r.1 c).2.2.2.1, (r.1 c).2.2.2.2.1⟩)
      (run_main (F := Ideal) m g),
    (θ_run Cert.NearIdeal.defs _ _).mono (fun r hr => hr 0) (Cert.NearIdeal.Value.run m' g')⟩

end Cert.Proof.Slice
-- ==== Proof.lean ====
/-
The certificate's proof.
-/
module

public import proofs.«01_k».proof.Defs
public import proofs.«01_k».proof.Proof.Launch
public import proofs.«01_k».proof.Proof.Same
public import proofs.«01_k».proof.Proof.Match
public import proofs.«01_k».proof.Proof.Slice.Launch
public import proofs.«01_k».proof.Proof.Slice.Same
public import proofs.«01_k».proof.Proof.Slice.Match
public import Idealize.ShloMosaic.Lib.Quiescent
public import proofs.«01_k».proof.Proof.Gen.Kernel
public import proofs.«01_k».proof.Proof.Gen.ReferenceIdeal
public import proofs.«01_k».proof.Proof.Gen.ReferenceIdeal.Run
public import proofs.«01_k».proof.Proof.Gen.Slice
public import proofs.«01_k».proof.Proof.Gen.NearIdeal
public import proofs.«01_k».proof.Proof.Gen.NearIdeal.Run
public import Idealize.ShloMosaic.Lib.Claim

@[expose] public section

noncomputable section

namespace Cert.Proof

open Idealize.ShloMosaic Idealize.SL.Sem

theorem frame_kernel : Cert.quiescent_Kernel := fun m ρ _ =>
  (congrArg₂ (fun d p => θ_run d (onTc (τ := Cert.KernelIdeal.τ) p) ⟨m, fun _ => 0, ρ⟩ _) defs_same main_same).mpr
    ((θ_run Cert.KernelIdeal.defs _ _).mono (fun _ h => ⟨fun c => ⟨(h.1 c).1, (h.1 c).2.1, (h.1 c).2.2.1, (h.1 c).2.2.2.1, (h.1 c).2.2.2.2.1⟩, h.2⟩)
      (Cert.KernelIdeal.Hop.run_main (F := Bits) m ρ))

theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Cert.KernelIdeal.Hop.run_main (F := Ideal) m ρ)

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

theorem frame_slice : Cert.quiescent_Slice := fun m ρ _ =>
  (congrArg₂ (fun d p => θ_run d (onTc (τ := Cert.SliceIdeal.τ) p) ⟨m, fun _ => 0, ρ⟩ _) Slice.defs_same Slice.main_same).mpr
    ((θ_run Cert.SliceIdeal.defs _ _).mono (fun _ h => ⟨fun c => ⟨(h.1 c).1, (h.1 c).2.1, (h.1 c).2.2.1, (h.1 c).2.2.2.1, (h.1 c).2.2.2.2.1⟩, h.2⟩)
      (Cert.SliceIdeal.Hop.run_main (F := Bits) m ρ))

theorem frame_slice_ideal : Cert.quiescent_SliceIdeal := fun m ρ _ =>
  (θ_run Cert.SliceIdeal.defs _ _).mono (fun _ h => ⟨fun c => ⟨(h.1 c).1, (h.1 c).2.1, (h.1 c).2.2.1, (h.1 c).2.2.2.1, (h.1 c).2.2.2.2.1⟩, h.2⟩)
    (Cert.SliceIdeal.Hop.run_main (F := Ideal) m ρ)

theorem frame_near : Cert.quiescent_NearIdeal := fun m ρ _ =>
  (θ_run Cert.NearIdeal.defs _ _).mono (fun r h => ⟨fun c => (h c).2, sem_eq_zero_of_no_sems rfl r.2⟩) (Cert.NearIdeal.Value.run m ρ)

theorem claim : Cert.Claim :=
  ⟨_, _, _, _, _, _, frame_kernel, frame_ideal, frame_reference, frame_slice, frame_slice_ideal, frame_near, trivial, algebraic, trivial, Slice.algebraic⟩

end Cert.Proof

end
